-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal) (hPre_pre := hPre_pre)
    ∧ preserves_Kernel_KernelIdeal
    ∧ algebraic_KernelIdeal_ReferenceIdeal (hKernelIdeal := hKernelIdeal) (hReferenceIdeal := hReferenceIdeal) (hPre_pre := hPre_pre)
-- ==== Pre_pre.lean ====
abbrev S1536x2048 : Shape := ⟨2, ![1536, 2048]⟩
abbrev S2048x1024 : Shape := ⟨2, ![2048, 1024]⟩
abbrev S16x1024 : Shape := ⟨2, ![16, 1024]⟩
abbrev S16x8192 : Shape := ⟨2, ![16, 8192]⟩
abbrev S24x2048x32 : Shape := ⟨3, ![24, 2048, 32]⟩
abbrev S24x32 : Shape := ⟨2, ![24, 32]⟩
abbrev S24x32x8192 : Shape := ⟨3, ![24, 32, 8192]⟩
abbrev S24x8192 : Shape := ⟨2, ![24, 8192]⟩
abbrev S24 : Shape := ⟨1, ![24]⟩
abbrev S15 : Shape := ⟨1, ![15]⟩
abbrev S14 : Shape := ⟨1, ![14]⟩
abbrev S_ : Shape := ⟨0, ![]⟩

class Facts : Prop where
  bcast_S_S14 : S_.BroadcastsInDim S14 (![] : Fin 0 → Fin S14.rank)
  reducesTo_S14_S_d0 : S14.ReducesTo [0] S_
  h_S_ : 0 < S_.numel

variable [Facts]

def fn {F : FTy → Type} [FloatOps F] (main_arg0 : FVec F S1536x2048 .bf16) (main_arg1 : IVec S2048x1024 32) (main_arg2 : IVec S16x1024 32) (main_arg3 : FVec F S16x8192 .f32) (main_arg4 : FVec F S24x2048x32 .fp8e4m3) (main_arg5 : FVec F S24x32 .f32) (main_arg6 : FVec F S24x32x8192 .fp8e4m3) (main_arg7 : FVec F S24x8192 .f32) (main_arg8 : FVec F S24 .f32) (main_arg9 : IVec S15 32) (main_arg10 : IVec S14 32) : IVec S_ 1 :=
  let main_c : IVec S_ 32 := constantI S_ 32 24#32
  let main_v0 : IVec S14 32 := broadcastInDim S14 ![] bcast_S_S14 main_c
  let main_v1 : IVec S14 1 := cmpi .slt main_arg10 main_v0
  let main_c_0 : IVec S_ 1 := constantI S_ 1 1#1
  let main_v2 : IVec S_ 1 := (fun x v => Host.reduce IntOp.andi x v reducesTo_S14_S_d0 h_S_) main_v1 main_c_0
  main_v2
-- ==== Kernel.lean ====
abbrev S1536x2048 : Shape := ⟨2, ![1536, 2048]⟩
abbrev S2048x1024 : Shape := ⟨2, ![2048, 1024]⟩
abbrev S16x1024 : Shape := ⟨2, ![16, 1024]⟩
abbrev S16x8192 : Shape := ⟨2, ![16, 8192]⟩
abbrev S24x2048x32 : Shape := ⟨3, ![24, 2048, 32]⟩
abbrev S24x32 : Shape := ⟨2, ![24, 32]⟩
abbrev S24x32x8192 : Shape := ⟨3, ![24, 32, 8192]⟩
abbrev S24x8192 : Shape := ⟨2, ![24, 8192]⟩
abbrev S24 : Shape := ⟨1, ![24]⟩
abbrev S15 : Shape := ⟨1, ![15]⟩
abbrev S14 : Shape := ⟨1, ![14]⟩
abbrev S24x32x2048 : Shape := ⟨3, ![24, 32, 2048]⟩
abbrev S1536x8192 : Shape := ⟨2, ![1536, 8192]⟩
abbrev S32x1536 : Shape := ⟨2, ![32, 1536]⟩
abbrev S1x1536 : Shape := ⟨2, ![1, 1536]⟩
abbrev S256x2048 : Shape := ⟨2, ![256, 2048]⟩
abbrev S2048x128 : Shape := ⟨2, ![2048, 128]⟩
abbrev S16x128 : Shape := ⟨2, ![16, 128]⟩
abbrev S256x1024 : Shape := ⟨2, ![256, 1024]⟩
abbrev S32x256 : Shape := ⟨2, ![32, 256]⟩
abbrev S1x256 : Shape := ⟨2, ![1, 256]⟩
abbrev S2048x8192 : Shape := ⟨2, ![2048, 8192]⟩
abbrev S256x8192 : Shape := ⟨2, ![256, 8192]⟩
abbrev S512x8192 : Shape := ⟨2, ![512, 8192]⟩
abbrev S512x2048 : Shape := ⟨2, ![512, 2048]⟩
abbrev S8x512 : Shape := ⟨2, ![8, 512]⟩
abbrev S256x512 : Shape := ⟨2, ![256, 512]⟩
abbrev S256x128 : Shape := ⟨2, ![256, 128]⟩
abbrev S192 : Shape := ⟨1, ![192]⟩
abbrev S2 : Shape := ⟨1, ![2]⟩
abbrev S1 : Shape := ⟨1, ![1]⟩
abbrev S_ : Shape := ⟨0, ![]⟩
abbrev S32x2048 : Shape := ⟨2, ![32, 2048]⟩
abbrev S1x32x2048 : Shape := ⟨3, ![1, 32, 2048]⟩
abbrev S32x8192 : Shape := ⟨2, ![32, 8192]⟩
abbrev S1x32x8192 : Shape := ⟨3, ![1, 32, 8192]⟩
abbrev S64x2048 : Shape := ⟨2, ![64, 2048]⟩
abbrev S64x8192 : Shape := ⟨2, ![64, 8192]⟩
abbrev S1x512 : Shape := ⟨2, ![1, 512]⟩
abbrev S1x8192 : Shape := ⟨2, ![1, 8192]⟩
abbrev S1x32 : Shape := ⟨2, ![1, 32]⟩
abbrev S256 : Shape := ⟨1, ![256]⟩
abbrev S256x1 : Shape := ⟨2, ![256, 1]⟩
abbrev S128x256 : Shape := ⟨2, ![128, 256]⟩
abbrev S32x1024 : Shape := ⟨2, ![32, 1024]⟩
abbrev S32x128 : Shape := ⟨2, ![32, 128]⟩
abbrev S64x128 : Shape := ⟨2, ![64, 128]⟩
abbrev S16x128x1 : Shape := ⟨3, ![16, 128, 1]⟩
abbrev S64x128x1 : Shape := ⟨3, ![64, 128, 1]⟩
abbrev S1x128 : Shape := ⟨2, ![1, 128]⟩
abbrev S128x128 : Shape := ⟨2, ![128, 128]⟩
abbrev S512x1024 : Shape := ⟨2, ![512, 1024]⟩
abbrev S8x1024 : Shape := ⟨2, ![8, 1024]⟩
abbrev S1x1024 : Shape := ⟨2, ![1, 1024]⟩
abbrev S8x128 : Shape := ⟨2, ![8, 128]⟩

abbrev nBuf : Space → Nat
  | .hbm => 19
  | .vmem => 34
  | .smem => 5
  | _ => 0

abbrev bufTy : (tb : Table) → Fin (tcTables nBuf tb) → BufTy
  | .hbm, ⟨0, _⟩ => ⟨S1536x2048, .bf16⟩
  | .hbm, ⟨1, _⟩ => ⟨S2048x1024, .i32⟩
  | .hbm, ⟨2, _⟩ => ⟨S16x1024, .i32⟩
  | .hbm, ⟨3, _⟩ => ⟨S16x8192, .f32⟩
  | .hbm, ⟨4, _⟩ => ⟨S24x2048x32, .fp8e4m3⟩
  | .hbm, ⟨5, _⟩ => ⟨S24x32, .f32⟩
  | .hbm, ⟨6, _⟩ => ⟨S24x32x8192, .fp8e4m3⟩
  | .hbm, ⟨7, _⟩ => ⟨S24x8192, .f32⟩
  | .hbm, ⟨8, _⟩ => ⟨S24, .f32⟩
  | .hbm, ⟨9, _⟩ => ⟨S15, .i32⟩
  | .hbm, ⟨10, _⟩ => ⟨S14, .i32⟩
  | .hbm, ⟨11, _⟩ => ⟨S24x32x2048, .fp8e4m3⟩
  | .hbm, ⟨12, _⟩ => ⟨S1536x8192, .bf16⟩
  | .hbm, ⟨13, _⟩ => ⟨S32x1536, .f32⟩
  | .hbm, ⟨14, _⟩ => ⟨S1536x8192, .f32⟩
  | .hbm, ⟨15, _⟩ => ⟨S32x1536, .fp8e4m3⟩
  | .hbm, ⟨16, _⟩ => ⟨S1x1536, .f32⟩
  | .hbm, ⟨17, _⟩ => ⟨S1536x8192, .fp8e4m3⟩
  | .hbm, ⟨18, _⟩ => ⟨S1x1536, .f32⟩
  | .local _ .vmem, ⟨0, _⟩ => ⟨S256x2048, .bf16⟩
  | .local _ .vmem, ⟨1, _⟩ => ⟨S256x2048, .bf16⟩
  | .local _ .vmem, ⟨2, _⟩ => ⟨S2048x128, .i32⟩
  | .local _ .vmem, ⟨3, _⟩ => ⟨S2048x128, .i32⟩
  | .local _ .vmem, ⟨4, _⟩ => ⟨S16x128, .i32⟩
  | .local _ .vmem, ⟨5, _⟩ => ⟨S16x128, .i32⟩
  | .local _ .vmem, ⟨6, _⟩ => ⟨S16x1024, .f32⟩
  | .local _ .vmem, ⟨7, _⟩ => ⟨S16x1024, .f32⟩
  | .local _ .vmem, ⟨8, _⟩ => ⟨S24x32, .f32⟩
  | .local _ .vmem, ⟨9, _⟩ => ⟨S24x8192, .f32⟩
  | .local _ .vmem, ⟨10, _⟩ => ⟨S256x1024, .bf16⟩
  | .local _ .vmem, ⟨11, _⟩ => ⟨S256x1024, .bf16⟩
  | .local _ .vmem, ⟨12, _⟩ => ⟨S32x256, .f32⟩
  | .local _ .vmem, ⟨13, _⟩ => ⟨S32x256, .f32⟩
  | .local _ .vmem, ⟨14, _⟩ => ⟨S256x1024, .f32⟩
  | .local _ .vmem, ⟨15, _⟩ => ⟨S256x1024, .f32⟩
  | .local _ .vmem, ⟨16, _⟩ => ⟨S32x256, .fp8e4m3⟩
  | .local _ .vmem, ⟨17, _⟩ => ⟨S32x256, .fp8e4m3⟩
  | .local _ .vmem, ⟨18, _⟩ => ⟨S1x256, .f32⟩
  | .local _ .vmem, ⟨19, _⟩ => ⟨S1x256, .f32⟩
  | .local _ .vmem, ⟨20, _⟩ => ⟨S256x1024, .fp8e4m3⟩
  | .local _ .vmem, ⟨21, _⟩ => ⟨S256x1024, .fp8e4m3⟩
  | .local _ .vmem, ⟨22, _⟩ => ⟨S1x256, .f32⟩
  | .local _ .vmem, ⟨23, _⟩ => ⟨S1x256, .f32⟩
  | .local _ .vmem, ⟨24, _⟩ => ⟨S2048x8192, .bf16⟩
  | .local _ .vmem, ⟨25, _⟩ => ⟨S256x8192, .f32⟩
  | .local _ .vmem, ⟨26, _⟩ => ⟨S512x8192, .fp8e4m3⟩
  | .local _ .vmem, ⟨27, _⟩ => ⟨S512x2048, .fp8e4m3⟩
  | .local _ .vmem, ⟨28, _⟩ => ⟨S16x8192, .f32⟩
  | .local _ .vmem, ⟨29, _⟩ => ⟨S8x512, .f32⟩
  | .local _ .vmem, ⟨30, _⟩ => ⟨S256x512, .fp8e4m3⟩
  | .local _ .vmem, ⟨31, _⟩ => ⟨S256x128, .f32⟩
  | .local _ .vmem, ⟨32, _⟩ => ⟨S256x128, .f32⟩
  | .local _ .vmem, ⟨33, _⟩ => ⟨S256x128, .f32⟩
  | .local _ .smem, ⟨0, _⟩ => ⟨S15, .i32⟩
  | .local _ .smem, ⟨1, _⟩ => ⟨S14, .i32⟩
  | .local _ .smem, ⟨2, _⟩ => ⟨S24, .f32⟩
  | .local _ .smem, ⟨3, _⟩ => ⟨S192, .i32⟩
  | .local _ .smem, ⟨4, _⟩ => ⟨S192, .i32⟩
  | _, _ => ⟨S1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v1_4 : Ref sig .tc := ⟨.hbm, 16, rfl⟩
abbrev main_v1_5 : Ref sig .tc := ⟨.hbm, 17, rfl⟩
abbrev main_v1_6 : Ref sig .tc := ⟨.hbm, 18, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_scratch8 : Ref sig .tc := ⟨.vmem, 32, rfl⟩
abbrev cc0_scratch9 : Ref sig .tc := ⟨.vmem, 33, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_scratch10 : Ref sig .tc := ⟨.smem, 3, rfl⟩
abbrev cc0_scratch11 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![7, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_off1 (v24 : BitVec 32) : Fin 3 → Nat :=
  let c0_i32_13 : BitVec 32 := 0#32
  let v25 : BitVec 32 := Scalar.maxsi v24 c0_i32_13
  let c0_i32_17 : BitVec 32 := 0#32
  let c0_i32_18 : BitVec 32 := 0#32
  ![v25.toNat, 0, 0]

def k0_off2 (v24 : BitVec 32) : Fin 3 → Nat :=
  let c0_i32_13 : BitVec 32 := 0#32
  let v25 : BitVec 32 := Scalar.maxsi v24 c0_i32_13
  let c0_i32_21 : BitVec 32 := 0#32
  let c0_i32_22 : BitVec 32 := 0#32
  ![v25.toNat, 0, 0]

def k0_chk1 (i : grid0.Coords) (v24 : BitVec 32) : Prop :=
  (∀ (k0_h1 : k0_cond1 i = 1#1), ∀ a, (k0_off1 v24) a + S1x32x2048.size a ≤ S24x32x2048.size a) ∧
  (∀ (k0_h1 : k0_cond1 i = 1#1), ∀ (hinb : ∀ a, (k0_off1 v24) a + S1x32x2048.size a ≤ S24x32x2048.size a), (Rect.unit (s := S24x32x2048) (k0_off1 v24) S1x32x2048.size hinb).WholeWords (EltTy.packing .fp8e4m3)) ∧
  (∀ (k0_h1 : k0_cond1 i = 1#1), ∀ a, (k0_off2 v24) a + S1x32x8192.size a ≤ S24x32x8192.size a) ∧
  (∀ (k0_h1 : k0_cond1 i = 1#1), ∀ (hinb : ∀ a, (k0_off2 v24) a + S1x32x8192.size a ≤ S24x32x8192.size a), (Rect.unit (s := S24x32x8192) (k0_off2 v24) S1x32x8192.size hinb).WholeWords (EltTy.packing .fp8e4m3))
theorem k0_off1_inb : ∀ (i : grid0.Coords) (v24 : BitVec 32) (k0_hw1 : k0_chk1 i v24), ∀ (k0_h1 : k0_cond1 i = 1#1), ∀ a, (k0_off1 v24) a + S1x32x2048.size a ≤ S24x32x2048.size a := fun i v24 k0_hw1 k0_h1 => k0_hw1.1 k0_h1
theorem k0_off1_wordsfp8e4m3 : ∀ (i : grid0.Coords) (v24 : BitVec 32) (k0_hw1 : k0_chk1 i v24), ∀ (k0_h1 : k0_cond1 i = 1#1), (Rect.unit (s := S24x32x2048) (k0_off1 v24) S1x32x2048.size (k0_off1_inb i v24 k0_hw1 k0_h1)).WholeWords (EltTy.packing .fp8e4m3) := fun i v24 k0_hw1 k0_h1 => k0_hw1.2.1 k0_h1 (k0_off1_inb i v24 k0_hw1 k0_h1)
theorem k0_off2_inb : ∀ (i : grid0.Coords) (v24 : BitVec 32) (k0_hw1 : k0_chk1 i v24), ∀ (k0_h1 : k0_cond1 i = 1#1), ∀ a, (k0_off2 v24) a + S1x32x8192.size a ≤ S24x32x8192.size a := fun i v24 k0_hw1 k0_h1 => k0_hw1.2.2.1 k0_h1
theorem k0_off2_wordsfp8e4m3 : ∀ (i : grid0.Coords) (v24 : BitVec 32) (k0_hw1 : k0_chk1 i v24), ∀ (k0_h1 : k0_cond1 i = 1#1), (Rect.unit (s := S24x32x8192) (k0_off2 v24) S1x32x8192.size (k0_off2_inb i v24 k0_hw1 k0_h1)).WholeWords (EltTy.packing .fp8e4m3) := fun i v24 k0_hw1 k0_h1 => k0_hw1.2.2.2 k0_h1 (k0_off2_inb i v24 k0_hw1 k0_h1)

def k0_off3 (v36 : BitVec 32) : Fin 3 → Nat :=
  let c0_i32_23 : BitVec 32 := 0#32
  let v37 : BitVec 32 := Scalar.maxsi v36 c0_i32_23
  let c0_i32_26 : BitVec 32 := 0#32
  let c0_i32_27 : BitVec 32 := 0#32
  ![v37.toNat, 0, 0]

def k0_off4 (v36 : BitVec 32) : Fin 3 → Nat :=
  let c0_i32_23 : BitVec 32 := 0#32
  let v37 : BitVec 32 := Scalar.maxsi v36 c0_i32_23
  let c0_i32_31 : BitVec 32 := 0#32
  let c0_i32_32 : BitVec 32 := 0#32
  ![v37.toNat, 0, 0]

def k0_chk2 (i : grid0.Coords) (v36 : BitVec 32) : Prop :=
  (∀ (k0_h1 : k0_cond1 i = 1#1), ∀ a, (k0_off3 v36) a + S1x32x2048.size a ≤ S24x32x2048.size a) ∧
  (∀ (k0_h1 : k0_cond1 i = 1#1), ∀ (hinb : ∀ a, (k0_off3 v36) a + S1x32x2048.size a ≤ S24x32x2048.size a), (Rect.unit (s := S24x32x2048) (k0_off3 v36) S1x32x2048.size hinb).WholeWords (EltTy.packing .fp8e4m3)) ∧
  (∀ (k0_h1 : k0_cond1 i = 1#1), ∀ a, (k0_off4 v36) a + S1x32x8192.size a ≤ S24x32x8192.size a) ∧
  (∀ (k0_h1 : k0_cond1 i = 1#1), ∀ (hinb : ∀ a, (k0_off4 v36) a + S1x32x8192.size a ≤ S24x32x8192.size a), (Rect.unit (s := S24x32x8192) (k0_off4 v36) S1x32x8192.size hinb).WholeWords (EltTy.packing .fp8e4m3))
theorem k0_off3_inb : ∀ (i : grid0.Coords) (v36 : BitVec 32) (k0_hw2 : k0_chk2 i v36), ∀ (k0_h1 : k0_cond1 i = 1#1), ∀ a, (k0_off3 v36) a + S1x32x2048.size a ≤ S24x32x2048.size a := fun i v36 k0_hw2 k0_h1 => k0_hw2.1 k0_h1
theorem k0_off3_wordsfp8e4m3 : ∀ (i : grid0.Coords) (v36 : BitVec 32) (k0_hw2 : k0_chk2 i v36), ∀ (k0_h1 : k0_cond1 i = 1#1), (Rect.unit (s := S24x32x2048) (k0_off3 v36) S1x32x2048.size (k0_off3_inb i v36 k0_hw2 k0_h1)).WholeWords (EltTy.packing .fp8e4m3) := fun i v36 k0_hw2 k0_h1 => k0_hw2.2.1 k0_h1 (k0_off3_inb i v36 k0_hw2 k0_h1)
theorem k0_off4_inb : ∀ (i : grid0.Coords) (v36 : BitVec 32) (k0_hw2 : k0_chk2 i v36), ∀ (k0_h1 : k0_cond1 i = 1#1), ∀ a, (k0_off4 v36) a + S1x32x8192.size a ≤ S24x32x8192.size a := fun i v36 k0_hw2 k0_h1 => k0_hw2.2.2.1 k0_h1
theorem k0_off4_wordsfp8e4m3 : ∀ (i : grid0.Coords) (v36 : BitVec 32) (k0_hw2 : k0_chk2 i v36), ∀ (k0_h1 : k0_cond1 i = 1#1), (Rect.unit (s := S24x32x8192) (k0_off4 v36) S1x32x8192.size (k0_off4_inb i v36 k0_hw2 k0_h1)).WholeWords (EltTy.packing .fp8e4m3) := fun i v36 k0_hw2 k0_h1 => k0_hw2.2.2.2 k0_h1 (k0_off4_inb i v36 k0_hw2 k0_h1)

def k0_off5 (v48 : BitVec 32) : Fin 3 → Nat :=
  let c0_i32_33 : BitVec 32 := 0#32
  let v49 : BitVec 32 := Scalar.maxsi v48 c0_i32_33
  let c0_i32_36 : BitVec 32 := 0#32
  let c0_i32_37 : BitVec 32 := 0#32
  ![v49.toNat, 0, 0]

def k0_off6 (v48 : BitVec 32) : Fin 3 → Nat :=
  let c0_i32_33 : BitVec 32 := 0#32
  let v49 : BitVec 32 := Scalar.maxsi v48 c0_i32_33
  let c0_i32_41 : BitVec 32 := 0#32
  let c0_i32_42 : BitVec 32 := 0#32
  ![v49.toNat, 0, 0]

def k0_chk3 (i : grid0.Coords) (v48 : BitVec 32) : Prop :=
  (∀ (k0_h1 : k0_cond1 i = 1#1), ∀ a, (k0_off5 v48) a + S1x32x2048.size a ≤ S24x32x2048.size a) ∧
  (∀ (k0_h1 : k0_cond1 i = 1#1), ∀ (hinb : ∀ a, (k0_off5 v48) a + S1x32x2048.size a ≤ S24x32x2048.size a), (Rect.unit (s := S24x32x2048) (k0_off5 v48) S1x32x2048.size hinb).WholeWords (EltTy.packing .fp8e4m3)) ∧
  (∀ (k0_h1 : k0_cond1 i = 1#1), ∀ a, (k0_off6 v48) a + S1x32x8192.size a ≤ S24x32x8192.size a) ∧
  (∀ (k0_h1 : k0_cond1 i = 1#1), ∀ (hinb : ∀ a, (k0_off6 v48) a + S1x32x8192.size a ≤ S24x32x8192.size a), (Rect.unit (s := S24x32x8192) (k0_off6 v48) S1x32x8192.size hinb).WholeWords (EltTy.packing .fp8e4m3))
theorem k0_off5_inb : ∀ (i : grid0.Coords) (v48 : BitVec 32) (k0_hw3 : k0_chk3 i v48), ∀ (k0_h1 : k0_cond1 i = 1#1), ∀ a, (k0_off5 v48) a + S1x32x2048.size a ≤ S24x32x2048.size a := fun i v48 k0_hw3 k0_h1 => k0_hw3.1 k0_h1
theorem k0_off5_wordsfp8e4m3 : ∀ (i : grid0.Coords) (v48 : BitVec 32) (k0_hw3 : k0_chk3 i v48), ∀ (k0_h1 : k0_cond1 i = 1#1), (Rect.unit (s := S24x32x2048) (k0_off5 v48) S1x32x2048.size (k0_off5_inb i v48 k0_hw3 k0_h1)).WholeWords (EltTy.packing .fp8e4m3) := fun i v48 k0_hw3 k0_h1 => k0_hw3.2.1 k0_h1 (k0_off5_inb i v48 k0_hw3 k0_h1)
theorem k0_off6_inb : ∀ (i : grid0.Coords) (v48 : BitVec 32) (k0_hw3 : k0_chk3 i v48), ∀ (k0_h1 : k0_cond1 i = 1#1), ∀ a, (k0_off6 v48) a + S1x32x8192.size a ≤ S24x32x8192.size a := fun i v48 k0_hw3 k0_h1 => k0_hw3.2.2.1 k0_h1
theorem k0_off6_wordsfp8e4m3 : ∀ (i : grid0.Coords) (v48 : BitVec 32) (k0_hw3 : k0_chk3 i v48), ∀ (k0_h1 : k0_cond1 i = 1#1), (Rect.unit (s := S24x32x8192) (k0_off6 v48) S1x32x8192.size (k0_off6_inb i v48 k0_hw3 k0_h1)).WholeWords (EltTy.packing .fp8e4m3) := fun i v48 k0_hw3 k0_h1 => k0_hw3.2.2.2 k0_h1 (k0_off6_inb i v48 k0_hw3 k0_h1)

def k0_off7 (v60 : BitVec 32) : Fin 3 → Nat :=
  let c0_i32_43 : BitVec 32 := 0#32
  let v61 : BitVec 32 := Scalar.maxsi v60 c0_i32_43
  let c0_i32_46 : BitVec 32 := 0#32
  let c0_i32_47 : BitVec 32 := 0#32
  ![v61.toNat, 0, 0]

def k0_off8 (v60 : BitVec 32) : Fin 3 → Nat :=
  let c0_i32_43 : BitVec 32 := 0#32
  let v61 : BitVec 32 := Scalar.maxsi v60 c0_i32_43
  let c0_i32_51 : BitVec 32 := 0#32
  let c0_i32_52 : BitVec 32 := 0#32
  ![v61.toNat, 0, 0]

def k0_chk4 (i : grid0.Coords) (v60 : BitVec 32) : Prop :=
  (∀ (k0_h1 : k0_cond1 i = 1#1), ∀ a, (k0_off7 v60) a + S1x32x2048.size a ≤ S24x32x2048.size a) ∧
  (∀ (k0_h1 : k0_cond1 i = 1#1), ∀ (hinb : ∀ a, (k0_off7 v60) a + S1x32x2048.size a ≤ S24x32x2048.size a), (Rect.unit (s := S24x32x2048) (k0_off7 v60) S1x32x2048.size hinb).WholeWords (EltTy.packing .fp8e4m3)) ∧
  (∀ (k0_h1 : k0_cond1 i = 1#1), ∀ a, (k0_off8 v60) a + S1x32x8192.size a ≤ S24x32x8192.size a) ∧
  (∀ (k0_h1 : k0_cond1 i = 1#1), ∀ (hinb : ∀ a, (k0_off8 v60) a + S1x32x8192.size a ≤ S24x32x8192.size a), (Rect.unit (s := S24x32x8192) (k0_off8 v60) S1x32x8192.size hinb).WholeWords (EltTy.packing .fp8e4m3))
theorem k0_off7_inb : ∀ (i : grid0.Coords) (v60 : BitVec 32) (k0_hw4 : k0_chk4 i v60), ∀ (k0_h1 : k0_cond1 i = 1#1), ∀ a, (k0_off7 v60) a + S1x32x2048.size a ≤ S24x32x2048.size a := fun i v60 k0_hw4 k0_h1 => k0_hw4.1 k0_h1
theorem k0_off7_wordsfp8e4m3 : ∀ (i : grid0.Coords) (v60 : BitVec 32) (k0_hw4 : k0_chk4 i v60), ∀ (k0_h1 : k0_cond1 i = 1#1), (Rect.unit (s := S24x32x2048) (k0_off7 v60) S1x32x2048.size (k0_off7_inb i v60 k0_hw4 k0_h1)).WholeWords (EltTy.packing .fp8e4m3) := fun i v60 k0_hw4 k0_h1 => k0_hw4.2.1 k0_h1 (k0_off7_inb i v60 k0_hw4 k0_h1)
theorem k0_off8_inb : ∀ (i : grid0.Coords) (v60 : BitVec 32) (k0_hw4 : k0_chk4 i v60), ∀ (k0_h1 : k0_cond1 i = 1#1), ∀ a, (k0_off8 v60) a + S1x32x8192.size a ≤ S24x32x8192.size a := fun i v60 k0_hw4 k0_h1 => k0_hw4.2.2.1 k0_h1
theorem k0_off8_wordsfp8e4m3 : ∀ (i : grid0.Coords) (v60 : BitVec 32) (k0_hw4 : k0_chk4 i v60), ∀ (k0_h1 : k0_cond1 i = 1#1), (Rect.unit (s := S24x32x8192) (k0_off8 v60) S1x32x8192.size (k0_off8_inb i v60 k0_hw4 k0_h1)).WholeWords (EltTy.packing .fp8e4m3) := fun i v60 k0_hw4 k0_h1 => k0_hw4.2.2.2 k0_h1 (k0_off8_inb i v60 k0_hw4 k0_h1)

def k0_off9 (v72 : BitVec 32) : Fin 3 → Nat :=
  let c0_i32_53 : BitVec 32 := 0#32
  let v73 : BitVec 32 := Scalar.maxsi v72 c0_i32_53
  let c0_i32_56 : BitVec 32 := 0#32
  let c0_i32_57 : BitVec 32 := 0#32
  ![v73.toNat, 0, 0]

def k0_off10 (v72 : BitVec 32) : Fin 3 → Nat :=
  let c0_i32_53 : BitVec 32 := 0#32
  let v73 : BitVec 32 := Scalar.maxsi v72 c0_i32_53
  let c0_i32_61 : BitVec 32 := 0#32
  let c0_i32_62 : BitVec 32 := 0#32
  ![v73.toNat, 0, 0]

def k0_chk5 (i : grid0.Coords) (v72 : BitVec 32) : Prop :=
  (∀ (k0_h1 : k0_cond1 i = 1#1), ∀ a, (k0_off9 v72) a + S1x32x2048.size a ≤ S24x32x2048.size a) ∧
  (∀ (k0_h1 : k0_cond1 i = 1#1), ∀ (hinb : ∀ a, (k0_off9 v72) a + S1x32x2048.size a ≤ S24x32x2048.size a), (Rect.unit (s := S24x32x2048) (k0_off9 v72) S1x32x2048.size hinb).WholeWords (EltTy.packing .fp8e4m3)) ∧
  (∀ (k0_h1 : k0_cond1 i = 1#1), ∀ a, (k0_off10 v72) a + S1x32x8192.size a ≤ S24x32x8192.size a) ∧
  (∀ (k0_h1 : k0_cond1 i = 1#1), ∀ (hinb : ∀ a, (k0_off10 v72) a + S1x32x8192.size a ≤ S24x32x8192.size a), (Rect.unit (s := S24x32x8192) (k0_off10 v72) S1x32x8192.size hinb).WholeWords (EltTy.packing .fp8e4m3))
theorem k0_off9_inb : ∀ (i : grid0.Coords) (v72 : BitVec 32) (k0_hw5 : k0_chk5 i v72), ∀ (k0_h1 : k0_cond1 i = 1#1), ∀ a, (k0_off9 v72) a + S1x32x2048.size a ≤ S24x32x2048.size a := fun i v72 k0_hw5 k0_h1 => k0_hw5.1 k0_h1
theorem k0_off9_wordsfp8e4m3 : ∀ (i : grid0.Coords) (v72 : BitVec 32) (k0_hw5 : k0_chk5 i v72), ∀ (k0_h1 : k0_cond1 i = 1#1), (Rect.unit (s := S24x32x2048) (k0_off9 v72) S1x32x2048.size (k0_off9_inb i v72 k0_hw5 k0_h1)).WholeWords (EltTy.packing .fp8e4m3) := fun i v72 k0_hw5 k0_h1 => k0_hw5.2.1 k0_h1 (k0_off9_inb i v72 k0_hw5 k0_h1)
theorem k0_off10_inb : ∀ (i : grid0.Coords) (v72 : BitVec 32) (k0_hw5 : k0_chk5 i v72), ∀ (k0_h1 : k0_cond1 i = 1#1), ∀ a, (k0_off10 v72) a + S1x32x8192.size a ≤ S24x32x8192.size a := fun i v72 k0_hw5 k0_h1 => k0_hw5.2.2.1 k0_h1
theorem k0_off10_wordsfp8e4m3 : ∀ (i : grid0.Coords) (v72 : BitVec 32) (k0_hw5 : k0_chk5 i v72), ∀ (k0_h1 : k0_cond1 i = 1#1), (Rect.unit (s := S24x32x8192) (k0_off10 v72) S1x32x8192.size (k0_off10_inb i v72 k0_hw5 k0_h1)).WholeWords (EltTy.packing .fp8e4m3) := fun i v72 k0_hw5 k0_h1 => k0_hw5.2.2.2 k0_h1 (k0_off10_inb i v72 k0_hw5 k0_h1)

def k0_off11 (v84 : BitVec 32) : Fin 3 → Nat :=
  let c0_i32_63 : BitVec 32 := 0#32
  let v85 : BitVec 32 := Scalar.maxsi v84 c0_i32_63
  let c0_i32_66 : BitVec 32 := 0#32
  let c0_i32_67 : BitVec 32 := 0#32
  ![v85.toNat, 0, 0]

def k0_off12 (v84 : BitVec 32) : Fin 3 → Nat :=
  let c0_i32_63 : BitVec 32 := 0#32
  let v85 : BitVec 32 := Scalar.maxsi v84 c0_i32_63
  let c0_i32_71 : BitVec 32 := 0#32
  let c0_i32_72 : BitVec 32 := 0#32
  ![v85.toNat, 0, 0]

def k0_chk6 (i : grid0.Coords) (v84 : BitVec 32) : Prop :=
  (∀ (k0_h1 : k0_cond1 i = 1#1), ∀ a, (k0_off11 v84) a + S1x32x2048.size a ≤ S24x32x2048.size a) ∧
  (∀ (k0_h1 : k0_cond1 i = 1#1), ∀ (hinb : ∀ a, (k0_off11 v84) a + S1x32x2048.size a ≤ S24x32x2048.size a), (Rect.unit (s := S24x32x2048) (k0_off11 v84) S1x32x2048.size hinb).WholeWords (EltTy.packing .fp8e4m3)) ∧
  (∀ (k0_h1 : k0_cond1 i = 1#1), ∀ a, (k0_off12 v84) a + S1x32x8192.size a ≤ S24x32x8192.size a) ∧
  (∀ (k0_h1 : k0_cond1 i = 1#1), ∀ (hinb : ∀ a, (k0_off12 v84) a + S1x32x8192.size a ≤ S24x32x8192.size a), (Rect.unit (s := S24x32x8192) (k0_off12 v84) S1x32x8192.size hinb).WholeWords (EltTy.packing .fp8e4m3))
theorem k0_off11_inb : ∀ (i : grid0.Coords) (v84 : BitVec 32) (k0_hw6 : k0_chk6 i v84), ∀ (k0_h1 : k0_cond1 i = 1#1), ∀ a, (k0_off11 v84) a + S1x32x2048.size a ≤ S24x32x2048.size a := fun i v84 k0_hw6 k0_h1 => k0_hw6.1 k0_h1
theorem k0_off11_wordsfp8e4m3 : ∀ (i : grid0.Coords) (v84 : BitVec 32) (k0_hw6 : k0_chk6 i v84), ∀ (k0_h1 : k0_cond1 i = 1#1), (Rect.unit (s := S24x32x2048) (k0_off11 v84) S1x32x2048.size (k0_off11_inb i v84 k0_hw6 k0_h1)).WholeWords (EltTy.packing .fp8e4m3) := fun i v84 k0_hw6 k0_h1 => k0_hw6.2.1 k0_h1 (k0_off11_inb i v84 k0_hw6 k0_h1)
theorem k0_off12_inb : ∀ (i : grid0.Coords) (v84 : BitVec 32) (k0_hw6 : k0_chk6 i v84), ∀ (k0_h1 : k0_cond1 i = 1#1), ∀ a, (k0_off12 v84) a + S1x32x8192.size a ≤ S24x32x8192.size a := fun i v84 k0_hw6 k0_h1 => k0_hw6.2.2.1 k0_h1
theorem k0_off12_wordsfp8e4m3 : ∀ (i : grid0.Coords) (v84 : BitVec 32) (k0_hw6 : k0_chk6 i v84), ∀ (k0_h1 : k0_cond1 i = 1#1), (Rect.unit (s := S24x32x8192) (k0_off12 v84) S1x32x8192.size (k0_off12_inb i v84 k0_hw6 k0_h1)).WholeWords (EltTy.packing .fp8e4m3) := fun i v84 k0_hw6 k0_h1 => k0_hw6.2.2.2 k0_h1 (k0_off12_inb i v84 k0_hw6 k0_h1)

def k0_off13 (v96 : BitVec 32) : Fin 3 → Nat :=
  let c0_i32_73 : BitVec 32 := 0#32
  let v97 : BitVec 32 := Scalar.maxsi v96 c0_i32_73
  let c0_i32_76 : BitVec 32 := 0#32
  let c0_i32_77 : BitVec 32 := 0#32
  ![v97.toNat, 0, 0]

def k0_off14 (v96 : BitVec 32) : Fin 3 → Nat :=
  let c0_i32_73 : BitVec 32 := 0#32
  let v97 : BitVec 32 := Scalar.maxsi v96 c0_i32_73
  let c0_i32_81 : BitVec 32 := 0#32
  let c0_i32_82 : BitVec 32 := 0#32
  ![v97.toNat, 0, 0]

def k0_chk7 (i : grid0.Coords) (v96 : BitVec 32) : Prop :=
  (∀ (k0_h1 : k0_cond1 i = 1#1), ∀ a, (k0_off13 v96) a + S1x32x2048.size a ≤ S24x32x2048.size a) ∧
  (∀ (k0_h1 : k0_cond1 i = 1#1), ∀ (hinb : ∀ a, (k0_off13 v96) a + S1x32x2048.size a ≤ S24x32x2048.size a), (Rect.unit (s := S24x32x2048) (k0_off13 v96) S1x32x2048.size hinb).WholeWords (EltTy.packing .fp8e4m3)) ∧
  (∀ (k0_h1 : k0_cond1 i = 1#1), ∀ a, (k0_off14 v96) a + S1x32x8192.size a ≤ S24x32x8192.size a) ∧
  (∀ (k0_h1 : k0_cond1 i = 1#1), ∀ (hinb : ∀ a, (k0_off14 v96) a + S1x32x8192.size a ≤ S24x32x8192.size a), (Rect.unit (s := S24x32x8192) (k0_off14 v96) S1x32x8192.size hinb).WholeWords (EltTy.packing .fp8e4m3))
theorem k0_off13_inb : ∀ (i : grid0.Coords) (v96 : BitVec 32) (k0_hw7 : k0_chk7 i v96), ∀ (k0_h1 : k0_cond1 i = 1#1), ∀ a, (k0_off13 v96) a + S1x32x2048.size a ≤ S24x32x2048.size a := fun i v96 k0_hw7 k0_h1 => k0_hw7.1 k0_h1
theorem k0_off13_wordsfp8e4m3 : ∀ (i : grid0.Coords) (v96 : BitVec 32) (k0_hw7 : k0_chk7 i v96), ∀ (k0_h1 : k0_cond1 i = 1#1), (Rect.unit (s := S24x32x2048) (k0_off13 v96) S1x32x2048.size (k0_off13_inb i v96 k0_hw7 k0_h1)).WholeWords (EltTy.packing .fp8e4m3) := fun i v96 k0_hw7 k0_h1 => k0_hw7.2.1 k0_h1 (k0_off13_inb i v96 k0_hw7 k0_h1)
theorem k0_off14_inb : ∀ (i : grid0.Coords) (v96 : BitVec 32) (k0_hw7 : k0_chk7 i v96), ∀ (k0_h1 : k0_cond1 i = 1#1), ∀ a, (k0_off14 v96) a + S1x32x8192.size a ≤ S24x32x8192.size a := fun i v96 k0_hw7 k0_h1 => k0_hw7.2.2.1 k0_h1
theorem k0_off14_wordsfp8e4m3 : ∀ (i : grid0.Coords) (v96 : BitVec 32) (k0_hw7 : k0_chk7 i v96), ∀ (k0_h1 : k0_cond1 i = 1#1), (Rect.unit (s := S24x32x8192) (k0_off14 v96) S1x32x8192.size (k0_off14_inb i v96 k0_hw7 k0_h1)).WholeWords (EltTy.packing .fp8e4m3) := fun i v96 k0_hw7 k0_h1 => k0_hw7.2.2.2 k0_h1 (k0_off14_inb i v96 k0_hw7 k0_h1)

def k0_off15 (v108 : BitVec 32) : Fin 3 → Nat :=
  let c0_i32_83 : BitVec 32 := 0#32
  let v109 : BitVec 32 := Scalar.maxsi v108 c0_i32_83
  let c0_i32_86 : BitVec 32 := 0#32
  let c0_i32_87 : BitVec 32 := 0#32
  ![v109.toNat, 0, 0]

def k0_off16 (v108 : BitVec 32) : Fin 3 → Nat :=
  let c0_i32_83 : BitVec 32 := 0#32
  let v109 : BitVec 32 := Scalar.maxsi v108 c0_i32_83
  let c0_i32_91 : BitVec 32 := 0#32
  let c0_i32_92 : BitVec 32 := 0#32
  ![v109.toNat, 0, 0]

def k0_chk8 (i : grid0.Coords) (v108 : BitVec 32) : Prop :=
  (∀ (k0_h1 : k0_cond1 i = 1#1), ∀ a, (k0_off15 v108) a + S1x32x2048.size a ≤ S24x32x2048.size a) ∧
  (∀ (k0_h1 : k0_cond1 i = 1#1), ∀ (hinb : ∀ a, (k0_off15 v108) a + S1x32x2048.size a ≤ S24x32x2048.size a), (Rect.unit (s := S24x32x2048) (k0_off15 v108) S1x32x2048.size hinb).WholeWords (EltTy.packing .fp8e4m3)) ∧
  (∀ (k0_h1 : k0_cond1 i = 1#1), ∀ a, (k0_off16 v108) a + S1x32x8192.size a ≤ S24x32x8192.size a) ∧
  (∀ (k0_h1 : k0_cond1 i = 1#1), ∀ (hinb : ∀ a, (k0_off16 v108) a + S1x32x8192.size a ≤ S24x32x8192.size a), (Rect.unit (s := S24x32x8192) (k0_off16 v108) S1x32x8192.size hinb).WholeWords (EltTy.packing .fp8e4m3))
theorem k0_off15_inb : ∀ (i : grid0.Coords) (v108 : BitVec 32) (k0_hw8 : k0_chk8 i v108), ∀ (k0_h1 : k0_cond1 i = 1#1), ∀ a, (k0_off15 v108) a + S1x32x2048.size a ≤ S24x32x2048.size a := fun i v108 k0_hw8 k0_h1 => k0_hw8.1 k0_h1
theorem k0_off15_wordsfp8e4m3 : ∀ (i : grid0.Coords) (v108 : BitVec 32) (k0_hw8 : k0_chk8 i v108), ∀ (k0_h1 : k0_cond1 i = 1#1), (Rect.unit (s := S24x32x2048) (k0_off15 v108) S1x32x2048.size (k0_off15_inb i v108 k0_hw8 k0_h1)).WholeWords (EltTy.packing .fp8e4m3) := fun i v108 k0_hw8 k0_h1 => k0_hw8.2.1 k0_h1 (k0_off15_inb i v108 k0_hw8 k0_h1)
theorem k0_off16_inb : ∀ (i : grid0.Coords) (v108 : BitVec 32) (k0_hw8 : k0_chk8 i v108), ∀ (k0_h1 : k0_cond1 i = 1#1), ∀ a, (k0_off16 v108) a + S1x32x8192.size a ≤ S24x32x8192.size a := fun i v108 k0_hw8 k0_h1 => k0_hw8.2.2.1 k0_h1
theorem k0_off16_wordsfp8e4m3 : ∀ (i : grid0.Coords) (v108 : BitVec 32) (k0_hw8 : k0_chk8 i v108), ∀ (k0_h1 : k0_cond1 i = 1#1), (Rect.unit (s := S24x32x8192) (k0_off16 v108) S1x32x8192.size (k0_off16_inb i v108 k0_hw8 k0_h1)).WholeWords (EltTy.packing .fp8e4m3) := fun i v108 k0_hw8 k0_h1 => k0_hw8.2.2.2 k0_h1 (k0_off16_inb i v108 k0_hw8 k0_h1)

def k0_off17 (v120 : BitVec 32) : Fin 3 → Nat :=
  let c0_i32_93 : BitVec 32 := 0#32
  let v121 : BitVec 32 := Scalar.maxsi v120 c0_i32_93
  let c0_i32_96 : BitVec 32 := 0#32
  let c0_i32_97 : BitVec 32 := 0#32
  ![v121.toNat, 0, 0]

def k0_off18 (v120 : BitVec 32) : Fin 3 → Nat :=
  let c0_i32_93 : BitVec 32 := 0#32
  let v121 : BitVec 32 := Scalar.maxsi v120 c0_i32_93
  let c0_i32_101 : BitVec 32 := 0#32
  let c0_i32_102 : BitVec 32 := 0#32
  ![v121.toNat, 0, 0]

def k0_chk9 (i : grid0.Coords) (v120 : BitVec 32) : Prop :=
  (∀ (k0_h1 : k0_cond1 i = 1#1), ∀ a, (k0_off17 v120) a + S1x32x2048.size a ≤ S24x32x2048.size a) ∧
  (∀ (k0_h1 : k0_cond1 i = 1#1), ∀ (hinb : ∀ a, (k0_off17 v120) a + S1x32x2048.size a ≤ S24x32x2048.size a), (Rect.unit (s := S24x32x2048) (k0_off17 v120) S1x32x2048.size hinb).WholeWords (EltTy.packing .fp8e4m3)) ∧
  (∀ (k0_h1 : k0_cond1 i = 1#1), ∀ a, (k0_off18 v120) a + S1x32x8192.size a ≤ S24x32x8192.size a) ∧
  (∀ (k0_h1 : k0_cond1 i = 1#1), ∀ (hinb : ∀ a, (k0_off18 v120) a + S1x32x8192.size a ≤ S24x32x8192.size a), (Rect.unit (s := S24x32x8192) (k0_off18 v120) S1x32x8192.size hinb).WholeWords (EltTy.packing .fp8e4m3))
theorem k0_off17_inb : ∀ (i : grid0.Coords) (v120 : BitVec 32) (k0_hw9 : k0_chk9 i v120), ∀ (k0_h1 : k0_cond1 i = 1#1), ∀ a, (k0_off17 v120) a + S1x32x2048.size a ≤ S24x32x2048.size a := fun i v120 k0_hw9 k0_h1 => k0_hw9.1 k0_h1
theorem k0_off17_wordsfp8e4m3 : ∀ (i : grid0.Coords) (v120 : BitVec 32) (k0_hw9 : k0_chk9 i v120), ∀ (k0_h1 : k0_cond1 i = 1#1), (Rect.unit (s := S24x32x2048) (k0_off17 v120) S1x32x2048.size (k0_off17_inb i v120 k0_hw9 k0_h1)).WholeWords (EltTy.packing .fp8e4m3) := fun i v120 k0_hw9 k0_h1 => k0_hw9.2.1 k0_h1 (k0_off17_inb i v120 k0_hw9 k0_h1)
theorem k0_off18_inb : ∀ (i : grid0.Coords) (v120 : BitVec 32) (k0_hw9 : k0_chk9 i v120), ∀ (k0_h1 : k0_cond1 i = 1#1), ∀ a, (k0_off18 v120) a + S1x32x8192.size a ≤ S24x32x8192.size a := fun i v120 k0_hw9 k0_h1 => k0_hw9.2.2.1 k0_h1
theorem k0_off18_wordsfp8e4m3 : ∀ (i : grid0.Coords) (v120 : BitVec 32) (k0_hw9 : k0_chk9 i v120), ∀ (k0_h1 : k0_cond1 i = 1#1), (Rect.unit (s := S24x32x8192) (k0_off18 v120) S1x32x8192.size (k0_off18_inb i v120 k0_hw9 k0_h1)).WholeWords (EltTy.packing .fp8e4m3) := fun i v120 k0_hw9 k0_h1 => k0_hw9.2.2.2 k0_h1 (k0_off18_inb i v120 k0_hw9 k0_h1)

def k0_off19 (v132 : BitVec 32) : Fin 3 → Nat :=
  let c0_i32_103 : BitVec 32 := 0#32
  let v133 : BitVec 32 := Scalar.maxsi v132 c0_i32_103
  let c0_i32_106 : BitVec 32 := 0#32
  let c0_i32_107 : BitVec 32 := 0#32
  ![v133.toNat, 0, 0]

def k0_off20 (v132 : BitVec 32) : Fin 3 → Nat :=
  let c0_i32_103 : BitVec 32 := 0#32
  let v133 : BitVec 32 := Scalar.maxsi v132 c0_i32_103
  let c0_i32_111 : BitVec 32 := 0#32
  let c0_i32_112 : BitVec 32 := 0#32
  ![v133.toNat, 0, 0]

def k0_chk10 (i : grid0.Coords) (v132 : BitVec 32) : Prop :=
  (∀ (k0_h1 : k0_cond1 i = 1#1), ∀ a, (k0_off19 v132) a + S1x32x2048.size a ≤ S24x32x2048.size a) ∧
  (∀ (k0_h1 : k0_cond1 i = 1#1), ∀ (hinb : ∀ a, (k0_off19 v132) a + S1x32x2048.size a ≤ S24x32x2048.size a), (Rect.unit (s := S24x32x2048) (k0_off19 v132) S1x32x2048.size hinb).WholeWords (EltTy.packing .fp8e4m3)) ∧
  (∀ (k0_h1 : k0_cond1 i = 1#1), ∀ a, (k0_off20 v132) a + S1x32x8192.size a ≤ S24x32x8192.size a) ∧
  (∀ (k0_h1 : k0_cond1 i = 1#1), ∀ (hinb : ∀ a, (k0_off20 v132) a + S1x32x8192.size a ≤ S24x32x8192.size a), (Rect.unit (s := S24x32x8192) (k0_off20 v132) S1x32x8192.size hinb).WholeWords (EltTy.packing .fp8e4m3))
theorem k0_off19_inb : ∀ (i : grid0.Coords) (v132 : BitVec 32) (k0_hw10 : k0_chk10 i v132), ∀ (k0_h1 : k0_cond1 i = 1#1), ∀ a, (k0_off19 v132) a + S1x32x2048.size a ≤ S24x32x2048.size a := fun i v132 k0_hw10 k0_h1 => k0_hw10.1 k0_h1
theorem k0_off19_wordsfp8e4m3 : ∀ (i : grid0.Coords) (v132 : BitVec 32) (k0_hw10 : k0_chk10 i v132), ∀ (k0_h1 : k0_cond1 i = 1#1), (Rect.unit (s := S24x32x2048) (k0_off19 v132) S1x32x2048.size (k0_off19_inb i v132 k0_hw10 k0_h1)).WholeWords (EltTy.packing .fp8e4m3) := fun i v132 k0_hw10 k0_h1 => k0_hw10.2.1 k0_h1 (k0_off19_inb i v132 k0_hw10 k0_h1)
theorem k0_off20_inb : ∀ (i : grid0.Coords) (v132 : BitVec 32) (k0_hw10 : k0_chk10 i v132), ∀ (k0_h1 : k0_cond1 i = 1#1), ∀ a, (k0_off20 v132) a + S1x32x8192.size a ≤ S24x32x8192.size a := fun i v132 k0_hw10 k0_h1 => k0_hw10.2.2.1 k0_h1
theorem k0_off20_wordsfp8e4m3 : ∀ (i : grid0.Coords) (v132 : BitVec 32) (k0_hw10 : k0_chk10 i v132), ∀ (k0_h1 : k0_cond1 i = 1#1), (Rect.unit (s := S24x32x8192) (k0_off20 v132) S1x32x8192.size (k0_off20_inb i v132 k0_hw10 k0_h1)).WholeWords (EltTy.packing .fp8e4m3) := fun i v132 k0_hw10 k0_h1 => k0_hw10.2.2.2 k0_h1 (k0_off20_inb i v132 k0_hw10 k0_h1)

def k0_off21 (v144 : BitVec 32) : Fin 3 → Nat :=
  let c0_i32_113 : BitVec 32 := 0#32
  let v145 : BitVec 32 := Scalar.maxsi v144 c0_i32_113
  let c0_i32_116 : BitVec 32 := 0#32
  let c0_i32_117 : BitVec 32 := 0#32
  ![v145.toNat, 0, 0]

def k0_off22 (v144 : BitVec 32) : Fin 3 → Nat :=
  let c0_i32_113 : BitVec 32 := 0#32
  let v145 : BitVec 32 := Scalar.maxsi v144 c0_i32_113
  let c0_i32_121 : BitVec 32 := 0#32
  let c0_i32_122 : BitVec 32 := 0#32
  ![v145.toNat, 0, 0]

def k0_chk11 (i : grid0.Coords) (v144 : BitVec 32) : Prop :=
  (∀ (k0_h1 : k0_cond1 i = 1#1), ∀ a, (k0_off21 v144) a + S1x32x2048.size a ≤ S24x32x2048.size a) ∧
  (∀ (k0_h1 : k0_cond1 i = 1#1), ∀ (hinb : ∀ a, (k0_off21 v144) a + S1x32x2048.size a ≤ S24x32x2048.size a), (Rect.unit (s := S24x32x2048) (k0_off21 v144) S1x32x2048.size hinb).WholeWords (EltTy.packing .fp8e4m3)) ∧
  (∀ (k0_h1 : k0_cond1 i = 1#1), ∀ a, (k0_off22 v144) a + S1x32x8192.size a ≤ S24x32x8192.size a) ∧
  (∀ (k0_h1 : k0_cond1 i = 1#1), ∀ (hinb : ∀ a, (k0_off22 v144) a + S1x32x8192.size a ≤ S24x32x8192.size a), (Rect.unit (s := S24x32x8192) (k0_off22 v144) S1x32x8192.size hinb).WholeWords (EltTy.packing .fp8e4m3))
theorem k0_off21_inb : ∀ (i : grid0.Coords) (v144 : BitVec 32) (k0_hw11 : k0_chk11 i v144), ∀ (k0_h1 : k0_cond1 i = 1#1), ∀ a, (k0_off21 v144) a + S1x32x2048.size a ≤ S24x32x2048.size a := fun i v144 k0_hw11 k0_h1 => k0_hw11.1 k0_h1
theorem k0_off21_wordsfp8e4m3 : ∀ (i : grid0.Coords) (v144 : BitVec 32) (k0_hw11 : k0_chk11 i v144), ∀ (k0_h1 : k0_cond1 i = 1#1), (Rect.unit (s := S24x32x2048) (k0_off21 v144) S1x32x2048.size (k0_off21_inb i v144 k0_hw11 k0_h1)).WholeWords (EltTy.packing .fp8e4m3) := fun i v144 k0_hw11 k0_h1 => k0_hw11.2.1 k0_h1 (k0_off21_inb i v144 k0_hw11 k0_h1)
theorem k0_off22_inb : ∀ (i : grid0.Coords) (v144 : BitVec 32) (k0_hw11 : k0_chk11 i v144), ∀ (k0_h1 : k0_cond1 i = 1#1), ∀ a, (k0_off22 v144) a + S1x32x8192.size a ≤ S24x32x8192.size a := fun i v144 k0_hw11 k0_h1 => k0_hw11.2.2.1 k0_h1
theorem k0_off22_wordsfp8e4m3 : ∀ (i : grid0.Coords) (v144 : BitVec 32) (k0_hw11 : k0_chk11 i v144), ∀ (k0_h1 : k0_cond1 i = 1#1), (Rect.unit (s := S24x32x8192) (k0_off22 v144) S1x32x8192.size (k0_off22_inb i v144 k0_hw11 k0_h1)).WholeWords (EltTy.packing .fp8e4m3) := fun i v144 k0_hw11 k0_h1 => k0_hw11.2.2.2 k0_h1 (k0_off22_inb i v144 k0_hw11 k0_h1)

def k0_off23 (v156 : BitVec 32) : Fin 3 → Nat :=
  let c0_i32_123 : BitVec 32 := 0#32
  let v157 : BitVec 32 := Scalar.maxsi v156 c0_i32_123
  let c0_i32_126 : BitVec 32 := 0#32
  let c0_i32_127 : BitVec 32 := 0#32
  ![v157.toNat, 0, 0]

def k0_off24 (v156 : BitVec 32) : Fin 3 → Nat :=
  let c0_i32_123 : BitVec 32 := 0#32
  let v157 : BitVec 32 := Scalar.maxsi v156 c0_i32_123
  let c0_i32_131 : BitVec 32 := 0#32
  let c0_i32_132 : BitVec 32 := 0#32
  ![v157.toNat, 0, 0]

def k0_chk12 (i : grid0.Coords) (v156 : BitVec 32) : Prop :=
  (∀ (k0_h1 : k0_cond1 i = 1#1), ∀ a, (k0_off23 v156) a + S1x32x2048.size a ≤ S24x32x2048.size a) ∧
  (∀ (k0_h1 : k0_cond1 i = 1#1), ∀ (hinb : ∀ a, (k0_off23 v156) a + S1x32x2048.size a ≤ S24x32x2048.size a), (Rect.unit (s := S24x32x2048) (k0_off23 v156) S1x32x2048.size hinb).WholeWords (EltTy.packing .fp8e4m3)) ∧
  (∀ (k0_h1 : k0_cond1 i = 1#1), ∀ a, (k0_off24 v156) a + S1x32x8192.size a ≤ S24x32x8192.size a) ∧
  (∀ (k0_h1 : k0_cond1 i = 1#1), ∀ (hinb : ∀ a, (k0_off24 v156) a + S1x32x8192.size a ≤ S24x32x8192.size a), (Rect.unit (s := S24x32x8192) (k0_off24 v156) S1x32x8192.size hinb).WholeWords (EltTy.packing .fp8e4m3))
theorem k0_off23_inb : ∀ (i : grid0.Coords) (v156 : BitVec 32) (k0_hw12 : k0_chk12 i v156), ∀ (k0_h1 : k0_cond1 i = 1#1), ∀ a, (k0_off23 v156) a + S1x32x2048.size a ≤ S24x32x2048.size a := fun i v156 k0_hw12 k0_h1 => k0_hw12.1 k0_h1
theorem k0_off23_wordsfp8e4m3 : ∀ (i : grid0.Coords) (v156 : BitVec 32) (k0_hw12 : k0_chk12 i v156), ∀ (k0_h1 : k0_cond1 i = 1#1), (Rect.unit (s := S24x32x2048) (k0_off23 v156) S1x32x2048.size (k0_off23_inb i v156 k0_hw12 k0_h1)).WholeWords (EltTy.packing .fp8e4m3) := fun i v156 k0_hw12 k0_h1 => k0_hw12.2.1 k0_h1 (k0_off23_inb i v156 k0_hw12 k0_h1)
theorem k0_off24_inb : ∀ (i : grid0.Coords) (v156 : BitVec 32) (k0_hw12 : k0_chk12 i v156), ∀ (k0_h1 : k0_cond1 i = 1#1), ∀ a, (k0_off24 v156) a + S1x32x8192.size a ≤ S24x32x8192.size a := fun i v156 k0_hw12 k0_h1 => k0_hw12.2.2.1 k0_h1
theorem k0_off24_wordsfp8e4m3 : ∀ (i : grid0.Coords) (v156 : BitVec 32) (k0_hw12 : k0_chk12 i v156), ∀ (k0_h1 : k0_cond1 i = 1#1), (Rect.unit (s := S24x32x8192) (k0_off24 v156) S1x32x8192.size (k0_off24_inb i v156 k0_hw12 k0_h1)).WholeWords (EltTy.packing .fp8e4m3) := fun i v156 k0_hw12 k0_h1 => k0_hw12.2.2.2 k0_h1 (k0_off24_inb i v156 k0_hw12 k0_h1)

def k0_off25 (v168 : BitVec 32) : Fin 3 → Nat :=
  let c0_i32_133 : BitVec 32 := 0#32
  let v169 : BitVec 32 := Scalar.maxsi v168 c0_i32_133
  let c0_i32_136 : BitVec 32 := 0#32
  let c0_i32_137 : BitVec 32 := 0#32
  ![v169.toNat, 0, 0]

def k0_off26 (v168 : BitVec 32) : Fin 3 → Nat :=
  let c0_i32_133 : BitVec 32 := 0#32
  let v169 : BitVec 32 := Scalar.maxsi v168 c0_i32_133
  let c0_i32_141 : BitVec 32 := 0#32
  let c0_i32_142 : BitVec 32 := 0#32
  ![v169.toNat, 0, 0]

def k0_chk13 (i : grid0.Coords) (v168 : BitVec 32) : Prop :=
  (∀ (k0_h1 : k0_cond1 i = 1#1), ∀ a, (k0_off25 v168) a + S1x32x2048.size a ≤ S24x32x2048.size a) ∧
  (∀ (k0_h1 : k0_cond1 i = 1#1), ∀ (hinb : ∀ a, (k0_off25 v168) a + S1x32x2048.size a ≤ S24x32x2048.size a), (Rect.unit (s := S24x32x2048) (k0_off25 v168) S1x32x2048.size hinb).WholeWords (EltTy.packing .fp8e4m3)) ∧
  (∀ (k0_h1 : k0_cond1 i = 1#1), ∀ a, (k0_off26 v168) a + S1x32x8192.size a ≤ S24x32x8192.size a) ∧
  (∀ (k0_h1 : k0_cond1 i = 1#1), ∀ (hinb : ∀ a, (k0_off26 v168) a + S1x32x8192.size a ≤ S24x32x8192.size a), (Rect.unit (s := S24x32x8192) (k0_off26 v168) S1x32x8192.size hinb).WholeWords (EltTy.packing .fp8e4m3))
theorem k0_off25_inb : ∀ (i : grid0.Coords) (v168 : BitVec 32) (k0_hw13 : k0_chk13 i v168), ∀ (k0_h1 : k0_cond1 i = 1#1), ∀ a, (k0_off25 v168) a + S1x32x2048.size a ≤ S24x32x2048.size a := fun i v168 k0_hw13 k0_h1 => k0_hw13.1 k0_h1
theorem k0_off25_wordsfp8e4m3 : ∀ (i : grid0.Coords) (v168 : BitVec 32) (k0_hw13 : k0_chk13 i v168), ∀ (k0_h1 : k0_cond1 i = 1#1), (Rect.unit (s := S24x32x2048) (k0_off25 v168) S1x32x2048.size (k0_off25_inb i v168 k0_hw13 k0_h1)).WholeWords (EltTy.packing .fp8e4m3) := fun i v168 k0_hw13 k0_h1 => k0_hw13.2.1 k0_h1 (k0_off25_inb i v168 k0_hw13 k0_h1)
theorem k0_off26_inb : ∀ (i : grid0.Coords) (v168 : BitVec 32) (k0_hw13 : k0_chk13 i v168), ∀ (k0_h1 : k0_cond1 i = 1#1), ∀ a, (k0_off26 v168) a + S1x32x8192.size a ≤ S24x32x8192.size a := fun i v168 k0_hw13 k0_h1 => k0_hw13.2.2.1 k0_h1
theorem k0_off26_wordsfp8e4m3 : ∀ (i : grid0.Coords) (v168 : BitVec 32) (k0_hw13 : k0_chk13 i v168), ∀ (k0_h1 : k0_cond1 i = 1#1), (Rect.unit (s := S24x32x8192) (k0_off26 v168) S1x32x8192.size (k0_off26_inb i v168 k0_hw13 k0_h1)).WholeWords (EltTy.packing .fp8e4m3) := fun i v168 k0_hw13 k0_h1 => k0_hw13.2.2.2 k0_h1 (k0_off26_inb i v168 k0_hw13 k0_h1)

def k0_off27 (v180 : BitVec 32) : Fin 3 → Nat :=
  let c0_i32_143 : BitVec 32 := 0#32
  let v181 : BitVec 32 := Scalar.maxsi v180 c0_i32_143
  let c0_i32_146 : BitVec 32 := 0#32
  let c0_i32_147 : BitVec 32 := 0#32
  ![v181.toNat, 0, 0]

def k0_off28 (v180 : BitVec 32) : Fin 3 → Nat :=
  let c0_i32_143 : BitVec 32 := 0#32
  let v181 : BitVec 32 := Scalar.maxsi v180 c0_i32_143
  let c0_i32_151 : BitVec 32 := 0#32
  let c0_i32_152 : BitVec 32 := 0#32
  ![v181.toNat, 0, 0]

def k0_chk14 (i : grid0.Coords) (v180 : BitVec 32) : Prop :=
  (∀ (k0_h1 : k0_cond1 i = 1#1), ∀ a, (k0_off27 v180) a + S1x32x2048.size a ≤ S24x32x2048.size a) ∧
  (∀ (k0_h1 : k0_cond1 i = 1#1), ∀ (hinb : ∀ a, (k0_off27 v180) a + S1x32x2048.size a ≤ S24x32x2048.size a), (Rect.unit (s := S24x32x2048) (k0_off27 v180) S1x32x2048.size hinb).WholeWords (EltTy.packing .fp8e4m3)) ∧
  (∀ (k0_h1 : k0_cond1 i = 1#1), ∀ a, (k0_off28 v180) a + S1x32x8192.size a ≤ S24x32x8192.size a) ∧
  (∀ (k0_h1 : k0_cond1 i = 1#1), ∀ (hinb : ∀ a, (k0_off28 v180) a + S1x32x8192.size a ≤ S24x32x8192.size a), (Rect.unit (s := S24x32x8192) (k0_off28 v180) S1x32x8192.size hinb).WholeWords (EltTy.packing .fp8e4m3))
theorem k0_off27_inb : ∀ (i : grid0.Coords) (v180 : BitVec 32) (k0_hw14 : k0_chk14 i v180), ∀ (k0_h1 : k0_cond1 i = 1#1), ∀ a, (k0_off27 v180) a + S1x32x2048.size a ≤ S24x32x2048.size a := fun i v180 k0_hw14 k0_h1 => k0_hw14.1 k0_h1
theorem k0_off27_wordsfp8e4m3 : ∀ (i : grid0.Coords) (v180 : BitVec 32) (k0_hw14 : k0_chk14 i v180), ∀ (k0_h1 : k0_cond1 i = 1#1), (Rect.unit (s := S24x32x2048) (k0_off27 v180) S1x32x2048.size (k0_off27_inb i v180 k0_hw14 k0_h1)).WholeWords (EltTy.packing .fp8e4m3) := fun i v180 k0_hw14 k0_h1 => k0_hw14.2.1 k0_h1 (k0_off27_inb i v180 k0_hw14 k0_h1)
theorem k0_off28_inb : ∀ (i : grid0.Coords) (v180 : BitVec 32) (k0_hw14 : k0_chk14 i v180), ∀ (k0_h1 : k0_cond1 i = 1#1), ∀ a, (k0_off28 v180) a + S1x32x8192.size a ≤ S24x32x8192.size a := fun i v180 k0_hw14 k0_h1 => k0_hw14.2.2.1 k0_h1
theorem k0_off28_wordsfp8e4m3 : ∀ (i : grid0.Coords) (v180 : BitVec 32) (k0_hw14 : k0_chk14 i v180), ∀ (k0_h1 : k0_cond1 i = 1#1), (Rect.unit (s := S24x32x8192) (k0_off28 v180) S1x32x8192.size (k0_off28_inb i v180 k0_hw14 k0_h1)).WholeWords (EltTy.packing .fp8e4m3) := fun i v180 k0_hw14 k0_h1 => k0_hw14.2.2.2 k0_h1 (k0_off28_inb i v180 k0_hw14 k0_h1)

def k0_off29 (v227 : BitVec 32) : Fin 2 → Nat :=
  let c0_i32_167 : BitVec 32 := 0#32
  let v228 : BitVec 32 := Scalar.maxsi v227 c0_i32_167
  let v242 : Index := Scalar.indexCast v228
  let c0_175 : Index := 0#32
  ![v242.toNat, 0]

def k0_off30 (v227 : BitVec 32) : Fin 1 → Nat :=
  let c0_i32_167 : BitVec 32 := 0#32
  let v228 : BitVec 32 := Scalar.maxsi v227 c0_i32_167
  let v244 : Index := Scalar.indexCast v228
  ![v244.toNat]

def k0_chk15 (i : grid0.Coords) (v227 : BitVec 32) : Prop :=
  (∀ (k0_h1 : k0_cond1 i = 1#1), ∀ a, (k0_off29 v227) a + S1x8192.size a ≤ S24x8192.size a) ∧
  (∀ (k0_h1 : k0_cond1 i = 1#1), ∀ a, (k0_off30 v227) a + S1.size a ≤ S24.size a)
theorem k0_off29_inb : ∀ (i : grid0.Coords) (v227 : BitVec 32) (k0_hw15 : k0_chk15 i v227), ∀ (k0_h1 : k0_cond1 i = 1#1), ∀ a, (k0_off29 v227) a + S1x8192.size a ≤ S24x8192.size a := fun i v227 k0_hw15 k0_h1 => k0_hw15.1 k0_h1
theorem k0_off30_inb : ∀ (i : grid0.Coords) (v227 : BitVec 32) (k0_hw15 : k0_chk15 i v227), ∀ (k0_h1 : k0_cond1 i = 1#1), ∀ a, (k0_off30 v227) a + S1.size a ≤ S24.size a := fun i v227 k0_hw15 k0_h1 => k0_hw15.2 k0_h1

def k0_off31 (v251 : BitVec 32) : Fin 2 → Nat :=
  let c0_i32_179 : BitVec 32 := 0#32
  let v252 : BitVec 32 := Scalar.maxsi v251 c0_i32_179
  let v266 : Index := Scalar.indexCast v252
  let c0_187 : Index := 0#32
  ![v266.toNat, 0]

def k0_off32 (v251 : BitVec 32) : Fin 1 → Nat :=
  let c0_i32_179 : BitVec 32 := 0#32
  let v252 : BitVec 32 := Scalar.maxsi v251 c0_i32_179
  let v268 : Index := Scalar.indexCast v252
  ![v268.toNat]

def k0_chk16 (i : grid0.Coords) (v251 : BitVec 32) : Prop :=
  (∀ (k0_h1 : k0_cond1 i = 1#1), ∀ a, (k0_off31 v251) a + S1x8192.size a ≤ S24x8192.size a) ∧
  (∀ (k0_h1 : k0_cond1 i = 1#1), ∀ a, (k0_off32 v251) a + S1.size a ≤ S24.size a)
theorem k0_off31_inb : ∀ (i : grid0.Coords) (v251 : BitVec 32) (k0_hw16 : k0_chk16 i v251), ∀ (k0_h1 : k0_cond1 i = 1#1), ∀ a, (k0_off31 v251) a + S1x8192.size a ≤ S24x8192.size a := fun i v251 k0_hw16 k0_h1 => k0_hw16.1 k0_h1
theorem k0_off32_inb : ∀ (i : grid0.Coords) (v251 : BitVec 32) (k0_hw16 : k0_chk16 i v251), ∀ (k0_h1 : k0_cond1 i = 1#1), ∀ a, (k0_off32 v251) a + S1.size a ≤ S24.size a := fun i v251 k0_hw16 k0_h1 => k0_hw16.2 k0_h1

def k0_off33 (v275 : BitVec 32) : Fin 2 → Nat :=
  let c0_i32_191 : BitVec 32 := 0#32
  let v276 : BitVec 32 := Scalar.maxsi v275 c0_i32_191
  let v290 : Index := Scalar.indexCast v276
  let c0_198 : Index := 0#32
  ![v290.toNat, 0]

def k0_off34 (v275 : BitVec 32) : Fin 1 → Nat :=
  let c0_i32_191 : BitVec 32 := 0#32
  let v276 : BitVec 32 := Scalar.maxsi v275 c0_i32_191
  let v292 : Index := Scalar.indexCast v276
  ![v292.toNat]

def k0_chk17 (i : grid0.Coords) (v275 : BitVec 32) : Prop :=
  (∀ (k0_h1 : k0_cond1 i = 1#1), ∀ a, (k0_off33 v275) a + S1x8192.size a ≤ S24x8192.size a) ∧
  (∀ (k0_h1 : k0_cond1 i = 1#1), ∀ a, (k0_off34 v275) a + S1.size a ≤ S24.size a)
theorem k0_off33_inb : ∀ (i : grid0.Coords) (v275 : BitVec 32) (k0_hw17 : k0_chk17 i v275), ∀ (k0_h1 : k0_cond1 i = 1#1), ∀ a, (k0_off33 v275) a + S1x8192.size a ≤ S24x8192.size a := fun i v275 k0_hw17 k0_h1 => k0_hw17.1 k0_h1
theorem k0_off34_inb : ∀ (i : grid0.Coords) (v275 : BitVec 32) (k0_hw17 : k0_chk17 i v275), ∀ (k0_h1 : k0_cond1 i = 1#1), ∀ a, (k0_off34 v275) a + S1.size a ≤ S24.size a := fun i v275 k0_hw17 k0_h1 => k0_hw17.2 k0_h1

def k0_off35 (v299 : BitVec 32) : Fin 2 → Nat :=
  let c0_i32_202 : BitVec 32 := 0#32
  let v300 : BitVec 32 := Scalar.maxsi v299 c0_i32_202
  let v314 : Index := Scalar.indexCast v300
  let c0_209 : Index := 0#32
  ![v314.toNat, 0]

def k0_off36 (v299 : BitVec 32) : Fin 1 → Nat :=
  let c0_i32_202 : BitVec 32 := 0#32
  let v300 : BitVec 32 := Scalar.maxsi v299 c0_i32_202
  let v316 : Index := Scalar.indexCast v300
  ![v316.toNat]

def k0_chk18 (i : grid0.Coords) (v299 : BitVec 32) : Prop :=
  (∀ (k0_h1 : k0_cond1 i = 1#1), ∀ a, (k0_off35 v299) a + S1x8192.size a ≤ S24x8192.size a) ∧
  (∀ (k0_h1 : k0_cond1 i = 1#1), ∀ a, (k0_off36 v299) a + S1.size a ≤ S24.size a)
theorem k0_off35_inb : ∀ (i : grid0.Coords) (v299 : BitVec 32) (k0_hw18 : k0_chk18 i v299), ∀ (k0_h1 : k0_cond1 i = 1#1), ∀ a, (k0_off35 v299) a + S1x8192.size a ≤ S24x8192.size a := fun i v299 k0_hw18 k0_h1 => k0_hw18.1 k0_h1
theorem k0_off36_inb : ∀ (i : grid0.Coords) (v299 : BitVec 32) (k0_hw18 : k0_chk18 i v299), ∀ (k0_h1 : k0_cond1 i = 1#1), ∀ a, (k0_off36 v299) a + S1.size a ≤ S24.size a := fun i v299 k0_hw18 k0_h1 => k0_hw18.2 k0_h1

def k0_off37 (v323 : BitVec 32) : Fin 2 → Nat :=
  let c0_i32_213 : BitVec 32 := 0#32
  let v324 : BitVec 32 := Scalar.maxsi v323 c0_i32_213
  let v338 : Index := Scalar.indexCast v324
  let c0_220 : Index := 0#32
  ![v338.toNat, 0]

def k0_off38 (v323 : BitVec 32) : Fin 1 → Nat :=
  let c0_i32_213 : BitVec 32 := 0#32
  let v324 : BitVec 32 := Scalar.maxsi v323 c0_i32_213
  let v340 : Index := Scalar.indexCast v324
  ![v340.toNat]

def k0_chk19 (i : grid0.Coords) (v323 : BitVec 32) : Prop :=
  (∀ (k0_h1 : k0_cond1 i = 1#1), ∀ a, (k0_off37 v323) a + S1x8192.size a ≤ S24x8192.size a) ∧
  (∀ (k0_h1 : k0_cond1 i = 1#1), ∀ a, (k0_off38 v323) a + S1.size a ≤ S24.size a)
theorem k0_off37_inb : ∀ (i : grid0.Coords) (v323 : BitVec 32) (k0_hw19 : k0_chk19 i v323), ∀ (k0_h1 : k0_cond1 i = 1#1), ∀ a, (k0_off37 v323) a + S1x8192.size a ≤ S24x8192.size a := fun i v323 k0_hw19 k0_h1 => k0_hw19.1 k0_h1
theorem k0_off38_inb : ∀ (i : grid0.Coords) (v323 : BitVec 32) (k0_hw19 : k0_chk19 i v323), ∀ (k0_h1 : k0_cond1 i = 1#1), ∀ a, (k0_off38 v323) a + S1.size a ≤ S24.size a := fun i v323 k0_hw19 k0_h1 => k0_hw19.2 k0_h1

def k0_off39 (v347 : BitVec 32) : Fin 2 → Nat :=
  let c0_i32_224 : BitVec 32 := 0#32
  let v348 : BitVec 32 := Scalar.maxsi v347 c0_i32_224
  let v362 : Index := Scalar.indexCast v348
  let c0_231 : Index := 0#32
  ![v362.toNat, 0]

def k0_off40 (v347 : BitVec 32) : Fin 1 → Nat :=
  let c0_i32_224 : BitVec 32 := 0#32
  let v348 : BitVec 32 := Scalar.maxsi v347 c0_i32_224
  let v364 : Index := Scalar.indexCast v348
  ![v364.toNat]

def k0_chk20 (i : grid0.Coords) (v347 : BitVec 32) : Prop :=
  (∀ (k0_h1 : k0_cond1 i = 1#1), ∀ a, (k0_off39 v347) a + S1x8192.size a ≤ S24x8192.size a) ∧
  (∀ (k0_h1 : k0_cond1 i = 1#1), ∀ a, (k0_off40 v347) a + S1.size a ≤ S24.size a)
theorem k0_off39_inb : ∀ (i : grid0.Coords) (v347 : BitVec 32) (k0_hw20 : k0_chk20 i v347), ∀ (k0_h1 : k0_cond1 i = 1#1), ∀ a, (k0_off39 v347) a + S1x8192.size a ≤ S24x8192.size a := fun i v347 k0_hw20 k0_h1 => k0_hw20.1 k0_h1
theorem k0_off40_inb : ∀ (i : grid0.Coords) (v347 : BitVec 32) (k0_hw20 : k0_chk20 i v347), ∀ (k0_h1 : k0_cond1 i = 1#1), ∀ a, (k0_off40 v347) a + S1.size a ≤ S24.size a := fun i v347 k0_hw20 k0_h1 => k0_hw20.2 k0_h1

def k0_off41 (v371 : BitVec 32) : Fin 2 → Nat :=
  let c0_i32_235 : BitVec 32 := 0#32
  let v372 : BitVec 32 := Scalar.maxsi v371 c0_i32_235
  let v386 : Index := Scalar.indexCast v372
  let c0_243 : Index := 0#32
  ![v386.toNat, 0]

def k0_off42 (v371 : BitVec 32) : Fin 1 → Nat :=
  let c0_i32_235 : BitVec 32 := 0#32
  let v372 : BitVec 32 := Scalar.maxsi v371 c0_i32_235
  let v388 : Index := Scalar.indexCast v372
  ![v388.toNat]

def k0_chk21 (i : grid0.Coords) (v371 : BitVec 32) : Prop :=
  (∀ (k0_h1 : k0_cond1 i = 1#1), ∀ a, (k0_off41 v371) a + S1x8192.size a ≤ S24x8192.size a) ∧
  (∀ (k0_h1 : k0_cond1 i = 1#1), ∀ a, (k0_off42 v371) a + S1.size a ≤ S24.size a)
theorem k0_off41_inb : ∀ (i : grid0.Coords) (v371 : BitVec 32) (k0_hw21 : k0_chk21 i v371), ∀ (k0_h1 : k0_cond1 i = 1#1), ∀ a, (k0_off41 v371) a + S1x8192.size a ≤ S24x8192.size a := fun i v371 k0_hw21 k0_h1 => k0_hw21.1 k0_h1
theorem k0_off42_inb : ∀ (i : grid0.Coords) (v371 : BitVec 32) (k0_hw21 : k0_chk21 i v371), ∀ (k0_h1 : k0_cond1 i = 1#1), ∀ a, (k0_off42 v371) a + S1.size a ≤ S24.size a := fun i v371 k0_hw21 k0_h1 => k0_hw21.2 k0_h1

def k0_off43 (v395 : BitVec 32) : Fin 2 → Nat :=
  let c0_i32_247 : BitVec 32 := 0#32
  let v396 : BitVec 32 := Scalar.maxsi v395 c0_i32_247
  let v410 : Index := Scalar.indexCast v396
  let c0_254 : Index := 0#32
  ![v410.toNat, 0]

def k0_off44 (v395 : BitVec 32) : Fin 1 → Nat :=
  let c0_i32_247 : BitVec 32 := 0#32
  let v396 : BitVec 32 := Scalar.maxsi v395 c0_i32_247
  let v412 : Index := Scalar.indexCast v396
  ![v412.toNat]

def k0_chk22 (i : grid0.Coords) (v395 : BitVec 32) : Prop :=
  (∀ (k0_h1 : k0_cond1 i = 1#1), ∀ a, (k0_off43 v395) a + S1x8192.size a ≤ S24x8192.size a) ∧
  (∀ (k0_h1 : k0_cond1 i = 1#1), ∀ a, (k0_off44 v395) a + S1.size a ≤ S24.size a)
theorem k0_off43_inb : ∀ (i : grid0.Coords) (v395 : BitVec 32) (k0_hw22 : k0_chk22 i v395), ∀ (k0_h1 : k0_cond1 i = 1#1), ∀ a, (k0_off43 v395) a + S1x8192.size a ≤ S24x8192.size a := fun i v395 k0_hw22 k0_h1 => k0_hw22.1 k0_h1
theorem k0_off44_inb : ∀ (i : grid0.Coords) (v395 : BitVec 32) (k0_hw22 : k0_chk22 i v395), ∀ (k0_h1 : k0_cond1 i = 1#1), ∀ a, (k0_off44 v395) a + S1.size a ≤ S24.size a := fun i v395 k0_hw22 k0_h1 => k0_hw22.2 k0_h1

def k0_off45 (v419 : BitVec 32) : Fin 2 → Nat :=
  let c0_i32_258 : BitVec 32 := 0#32
  let v420 : BitVec 32 := Scalar.maxsi v419 c0_i32_258
  let v434 : Index := Scalar.indexCast v420
  let c0_265 : Index := 0#32
  ![v434.toNat, 0]

def k0_off46 (v419 : BitVec 32) : Fin 1 → Nat :=
  let c0_i32_258 : BitVec 32 := 0#32
  let v420 : BitVec 32 := Scalar.maxsi v419 c0_i32_258
  let v436 : Index := Scalar.indexCast v420
  ![v436.toNat]

def k0_chk23 (i : grid0.Coords) (v419 : BitVec 32) : Prop :=
  (∀ (k0_h1 : k0_cond1 i = 1#1), ∀ a, (k0_off45 v419) a + S1x8192.size a ≤ S24x8192.size a) ∧
  (∀ (k0_h1 : k0_cond1 i = 1#1), ∀ a, (k0_off46 v419) a + S1.size a ≤ S24.size a)
theorem k0_off45_inb : ∀ (i : grid0.Coords) (v419 : BitVec 32) (k0_hw23 : k0_chk23 i v419), ∀ (k0_h1 : k0_cond1 i = 1#1), ∀ a, (k0_off45 v419) a + S1x8192.size a ≤ S24x8192.size a := fun i v419 k0_hw23 k0_h1 => k0_hw23.1 k0_h1
theorem k0_off46_inb : ∀ (i : grid0.Coords) (v419 : BitVec 32) (k0_hw23 : k0_chk23 i v419), ∀ (k0_h1 : k0_cond1 i = 1#1), ∀ a, (k0_off46 v419) a + S1.size a ≤ S24.size a := fun i v419 k0_hw23 k0_h1 => k0_hw23.2 k0_h1

def k0_off47 (v443 : BitVec 32) : Fin 2 → Nat :=
  let c0_i32_269 : BitVec 32 := 0#32
  let v444 : BitVec 32 := Scalar.maxsi v443 c0_i32_269
  let v458 : Index := Scalar.indexCast v444
  let c0_276 : Index := 0#32
  ![v458.toNat, 0]

def k0_off48 (v443 : BitVec 32) : Fin 1 → Nat :=
  let c0_i32_269 : BitVec 32 := 0#32
  let v444 : BitVec 32 := Scalar.maxsi v443 c0_i32_269
  let v460 : Index := Scalar.indexCast v444
  ![v460.toNat]

def k0_chk24 (i : grid0.Coords) (v443 : BitVec 32) : Prop :=
  (∀ (k0_h1 : k0_cond1 i = 1#1), ∀ a, (k0_off47 v443) a + S1x8192.size a ≤ S24x8192.size a) ∧
  (∀ (k0_h1 : k0_cond1 i = 1#1), ∀ a, (k0_off48 v443) a + S1.size a ≤ S24.size a)
theorem k0_off47_inb : ∀ (i : grid0.Coords) (v443 : BitVec 32) (k0_hw24 : k0_chk24 i v443), ∀ (k0_h1 : k0_cond1 i = 1#1), ∀ a, (k0_off47 v443) a + S1x8192.size a ≤ S24x8192.size a := fun i v443 k0_hw24 k0_h1 => k0_hw24.1 k0_h1
theorem k0_off48_inb : ∀ (i : grid0.Coords) (v443 : BitVec 32) (k0_hw24 : k0_chk24 i v443), ∀ (k0_h1 : k0_cond1 i = 1#1), ∀ a, (k0_off48 v443) a + S1.size a ≤ S24.size a := fun i v443 k0_hw24 k0_h1 => k0_hw24.2 k0_h1

def k0_off49 (v467 : BitVec 32) : Fin 2 → Nat :=
  let c0_i32_280 : BitVec 32 := 0#32
  let v468 : BitVec 32 := Scalar.maxsi v467 c0_i32_280
  let v482 : Index := Scalar.indexCast v468
  let c0_287 : Index := 0#32
  ![v482.toNat, 0]

def k0_off50 (v467 : BitVec 32) : Fin 1 → Nat :=
  let c0_i32_280 : BitVec 32 := 0#32
  let v468 : BitVec 32 := Scalar.maxsi v467 c0_i32_280
  let v484 : Index := Scalar.indexCast v468
  ![v484.toNat]

def k0_chk25 (i : grid0.Coords) (v467 : BitVec 32) : Prop :=
  (∀ (k0_h1 : k0_cond1 i = 1#1), ∀ a, (k0_off49 v467) a + S1x8192.size a ≤ S24x8192.size a) ∧
  (∀ (k0_h1 : k0_cond1 i = 1#1), ∀ a, (k0_off50 v467) a + S1.size a ≤ S24.size a)
theorem k0_off49_inb : ∀ (i : grid0.Coords) (v467 : BitVec 32) (k0_hw25 : k0_chk25 i v467), ∀ (k0_h1 : k0_cond1 i = 1#1), ∀ a, (k0_off49 v467) a + S1x8192.size a ≤ S24x8192.size a := fun i v467 k0_hw25 k0_h1 => k0_hw25.1 k0_h1
theorem k0_off50_inb : ∀ (i : grid0.Coords) (v467 : BitVec 32) (k0_hw25 : k0_chk25 i v467), ∀ (k0_h1 : k0_cond1 i = 1#1), ∀ a, (k0_off50 v467) a + S1.size a ≤ S24.size a := fun i v467 k0_hw25 k0_h1 => k0_hw25.2 k0_h1

def k0_off51 (v491 : BitVec 32) : Fin 2 → Nat :=
  let c0_i32_291 : BitVec 32 := 0#32
  let v492 : BitVec 32 := Scalar.maxsi v491 c0_i32_291
  let v506 : Index := Scalar.indexCast v492
  let c0_298 : Index := 0#32
  ![v506.toNat, 0]

def k0_off52 (v491 : BitVec 32) : Fin 1 → Nat :=
  let c0_i32_291 : BitVec 32 := 0#32
  let v492 : BitVec 32 := Scalar.maxsi v491 c0_i32_291
  let v508 : Index := Scalar.indexCast v492
  ![v508.toNat]

def k0_chk26 (i : grid0.Coords) (v491 : BitVec 32) : Prop :=
  (∀ (k0_h1 : k0_cond1 i = 1#1), ∀ a, (k0_off51 v491) a + S1x8192.size a ≤ S24x8192.size a) ∧
  (∀ (k0_h1 : k0_cond1 i = 1#1), ∀ a, (k0_off52 v491) a + S1.size a ≤ S24.size a)
theorem k0_off51_inb : ∀ (i : grid0.Coords) (v491 : BitVec 32) (k0_hw26 : k0_chk26 i v491), ∀ (k0_h1 : k0_cond1 i = 1#1), ∀ a, (k0_off51 v491) a + S1x8192.size a ≤ S24x8192.size a := fun i v491 k0_hw26 k0_h1 => k0_hw26.1 k0_h1
theorem k0_off52_inb : ∀ (i : grid0.Coords) (v491 : BitVec 32) (k0_hw26 : k0_chk26 i v491), ∀ (k0_h1 : k0_cond1 i = 1#1), ∀ a, (k0_off52 v491) a + S1.size a ≤ S24.size a := fun i v491 k0_hw26 k0_h1 => k0_hw26.2 k0_h1

def k0_off53 (v515 : BitVec 32) : Fin 2 → Nat :=
  let c0_i32_302 : BitVec 32 := 0#32
  let v516 : BitVec 32 := Scalar.maxsi v515 c0_i32_302
  let v530 : Index := Scalar.indexCast v516
  let c0_309 : Index := 0#32
  ![v530.toNat, 0]

def k0_off54 (v515 : BitVec 32) : Fin 1 → Nat :=
  let c0_i32_302 : BitVec 32 := 0#32
  let v516 : BitVec 32 := Scalar.maxsi v515 c0_i32_302
  let v532 : Index := Scalar.indexCast v516
  ![v532.toNat]

def k0_chk27 (i : grid0.Coords) (v515 : BitVec 32) : Prop :=
  (∀ (k0_h1 : k0_cond1 i = 1#1), ∀ a, (k0_off53 v515) a + S1x8192.size a ≤ S24x8192.size a) ∧
  (∀ (k0_h1 : k0_cond1 i = 1#1), ∀ a, (k0_off54 v515) a + S1.size a ≤ S24.size a)
theorem k0_off53_inb : ∀ (i : grid0.Coords) (v515 : BitVec 32) (k0_hw27 : k0_chk27 i v515), ∀ (k0_h1 : k0_cond1 i = 1#1), ∀ a, (k0_off53 v515) a + S1x8192.size a ≤ S24x8192.size a := fun i v515 k0_hw27 k0_h1 => k0_hw27.1 k0_h1
theorem k0_off54_inb : ∀ (i : grid0.Coords) (v515 : BitVec 32) (k0_hw27 : k0_chk27 i v515), ∀ (k0_h1 : k0_cond1 i = 1#1), ∀ a, (k0_off54 v515) a + S1.size a ≤ S24.size a := fun i v515 k0_hw27 k0_h1 => k0_hw27.2 k0_h1

def k0_off55 (v539 : BitVec 32) : Fin 2 → Nat :=
  let c0_i32_313 : BitVec 32 := 0#32
  let v540 : BitVec 32 := Scalar.maxsi v539 c0_i32_313
  let v554 : Index := Scalar.indexCast v540
  let c0_319 : Index := 0#32
  ![v554.toNat, 0]

def k0_off56 (v539 : BitVec 32) : Fin 1 → Nat :=
  let c0_i32_313 : BitVec 32 := 0#32
  let v540 : BitVec 32 := Scalar.maxsi v539 c0_i32_313
  let v556 : Index := Scalar.indexCast v540
  ![v556.toNat]

def k0_chk28 (i : grid0.Coords) (v539 : BitVec 32) : Prop :=
  (∀ (k0_h1 : k0_cond1 i = 1#1), ∀ a, (k0_off55 v539) a + S1x8192.size a ≤ S24x8192.size a) ∧
  (∀ (k0_h1 : k0_cond1 i = 1#1), ∀ a, (k0_off56 v539) a + S1.size a ≤ S24.size a)
theorem k0_off55_inb : ∀ (i : grid0.Coords) (v539 : BitVec 32) (k0_hw28 : k0_chk28 i v539), ∀ (k0_h1 : k0_cond1 i = 1#1), ∀ a, (k0_off55 v539) a + S1x8192.size a ≤ S24x8192.size a := fun i v539 k0_hw28 k0_h1 => k0_hw28.1 k0_h1
theorem k0_off56_inb : ∀ (i : grid0.Coords) (v539 : BitVec 32) (k0_hw28 : k0_chk28 i v539), ∀ (k0_h1 : k0_cond1 i = 1#1), ∀ a, (k0_off56 v539) a + S1.size a ≤ S24.size a := fun i v539 k0_hw28 k0_h1 => k0_hw28.2 k0_h1

def k0_off57 (v571 : BitVec 32) : Fin 2 → Nat :=
  let c0_i32_327 : BitVec 32 := 0#32
  let v572 : BitVec 32 := Scalar.maxsi v571 c0_i32_327
  let v573 : Index := Scalar.indexCast v572
  let c0_328 : Index := 0#32
  ![v573.toNat, 0]

def k0_chk29 (i : grid0.Coords) (v571 : BitVec 32) : Prop :=
  (∀ (k0_h1 : k0_cond1 i = 1#1), ∀ a, (k0_off57 v571) a + S1x32.size a ≤ S24x32.size a)
theorem k0_off57_inb : ∀ (i : grid0.Coords) (v571 : BitVec 32) (k0_hw29 : k0_chk29 i v571), ∀ (k0_h1 : k0_cond1 i = 1#1), ∀ a, (k0_off57 v571) a + S1x32.size a ≤ S24x32.size a := fun i v571 k0_hw29 k0_h1 => k0_hw29 k0_h1

def k0_off58 (v578 : BitVec 32) : Fin 2 → Nat :=
  let c0_i32_332 : BitVec 32 := 0#32
  let v579 : BitVec 32 := Scalar.maxsi v578 c0_i32_332
  let v580 : Index := Scalar.indexCast v579
  let c0_333 : Index := 0#32
  ![v580.toNat, 0]

def k0_chk30 (i : grid0.Coords) (v578 : BitVec 32) : Prop :=
  (∀ (k0_h1 : k0_cond1 i = 1#1), ∀ a, (k0_off58 v578) a + S1x32.size a ≤ S24x32.size a)
theorem k0_off58_inb : ∀ (i : grid0.Coords) (v578 : BitVec 32) (k0_hw30 : k0_chk30 i v578), ∀ (k0_h1 : k0_cond1 i = 1#1), ∀ a, (k0_off58 v578) a + S1x32.size a ≤ S24x32.size a := fun i v578 k0_hw30 k0_h1 => k0_hw30 k0_h1

def k0_off59 (v585 : BitVec 32) : Fin 2 → Nat :=
  let c0_i32_336 : BitVec 32 := 0#32
  let v586 : BitVec 32 := Scalar.maxsi v585 c0_i32_336
  let v587 : Index := Scalar.indexCast v586
  let c0_337 : Index := 0#32
  ![v587.toNat, 0]

def k0_chk31 (i : grid0.Coords) (v585 : BitVec 32) : Prop :=
  (∀ (k0_h1 : k0_cond1 i = 1#1), ∀ a, (k0_off59 v585) a + S1x32.size a ≤ S24x32.size a)
theorem k0_off59_inb : ∀ (i : grid0.Coords) (v585 : BitVec 32) (k0_hw31 : k0_chk31 i v585), ∀ (k0_h1 : k0_cond1 i = 1#1), ∀ a, (k0_off59 v585) a + S1x32.size a ≤ S24x32.size a := fun i v585 k0_hw31 k0_h1 => k0_hw31 k0_h1

def k0_off60 (v592 : BitVec 32) : Fin 2 → Nat :=
  let c0_i32_340 : BitVec 32 := 0#32
  let v593 : BitVec 32 := Scalar.maxsi v592 c0_i32_340
  let v594 : Index := Scalar.indexCast v593
  let c0_341 : Index := 0#32
  ![v594.toNat, 0]

def k0_chk32 (i : grid0.Coords) (v592 : BitVec 32) : Prop :=
  (∀ (k0_h1 : k0_cond1 i = 1#1), ∀ a, (k0_off60 v592) a + S1x32.size a ≤ S24x32.size a)
theorem k0_off60_inb : ∀ (i : grid0.Coords) (v592 : BitVec 32) (k0_hw32 : k0_chk32 i v592), ∀ (k0_h1 : k0_cond1 i = 1#1), ∀ a, (k0_off60 v592) a + S1x32.size a ≤ S24x32.size a := fun i v592 k0_hw32 k0_h1 => k0_hw32 k0_h1

def k0_off61 (v599 : BitVec 32) : Fin 2 → Nat :=
  let c0_i32_344 : BitVec 32 := 0#32
  let v600 : BitVec 32 := Scalar.maxsi v599 c0_i32_344
  let v601 : Index := Scalar.indexCast v600
  let c0_345 : Index := 0#32
  ![v601.toNat, 0]

def k0_chk33 (i : grid0.Coords) (v599 : BitVec 32) : Prop :=
  (∀ (k0_h1 : k0_cond1 i = 1#1), ∀ a, (k0_off61 v599) a + S1x32.size a ≤ S24x32.size a)
theorem k0_off61_inb : ∀ (i : grid0.Coords) (v599 : BitVec 32) (k0_hw33 : k0_chk33 i v599), ∀ (k0_h1 : k0_cond1 i = 1#1), ∀ a, (k0_off61 v599) a + S1x32.size a ≤ S24x32.size a := fun i v599 k0_hw33 k0_h1 => k0_hw33 k0_h1

def k0_off62 (v606 : BitVec 32) : Fin 2 → Nat :=
  let c0_i32_348 : BitVec 32 := 0#32
  let v607 : BitVec 32 := Scalar.maxsi v606 c0_i32_348
  let v608 : Index := Scalar.indexCast v607
  let c0_349 : Index := 0#32
  ![v608.toNat, 0]

def k0_chk34 (i : grid0.Coords) (v606 : BitVec 32) : Prop :=
  (∀ (k0_h1 : k0_cond1 i = 1#1), ∀ a, (k0_off62 v606) a + S1x32.size a ≤ S24x32.size a)
theorem k0_off62_inb : ∀ (i : grid0.Coords) (v606 : BitVec 32) (k0_hw34 : k0_chk34 i v606), ∀ (k0_h1 : k0_cond1 i = 1#1), ∀ a, (k0_off62 v606) a + S1x32.size a ≤ S24x32.size a := fun i v606 k0_hw34 k0_h1 => k0_hw34 k0_h1

def k0_off63 (v613 : BitVec 32) : Fin 2 → Nat :=
  let c0_i32_352 : BitVec 32 := 0#32
  let v614 : BitVec 32 := Scalar.maxsi v613 c0_i32_352
  let v615 : Index := Scalar.indexCast v614
  let c0_353 : Index := 0#32
  ![v615.toNat, 0]

def k0_chk35 (i : grid0.Coords) (v613 : BitVec 32) : Prop :=
  (∀ (k0_h1 : k0_cond1 i = 1#1), ∀ a, (k0_off63 v613) a + S1x32.size a ≤ S24x32.size a)
theorem k0_off63_inb : ∀ (i : grid0.Coords) (v613 : BitVec 32) (k0_hw35 : k0_chk35 i v613), ∀ (k0_h1 : k0_cond1 i = 1#1), ∀ a, (k0_off63 v613) a + S1x32.size a ≤ S24x32.size a := fun i v613 k0_hw35 k0_h1 => k0_hw35 k0_h1

def k0_off64 (v620 : BitVec 32) : Fin 2 → Nat :=
  let c0_i32_356 : BitVec 32 := 0#32
  let v621 : BitVec 32 := Scalar.maxsi v620 c0_i32_356
  let v622 : Index := Scalar.indexCast v621
  let c0_357 : Index := 0#32
  ![v622.toNat, 0]

def k0_chk36 (i : grid0.Coords) (v620 : BitVec 32) : Prop :=
  (∀ (k0_h1 : k0_cond1 i = 1#1), ∀ a, (k0_off64 v620) a + S1x32.size a ≤ S24x32.size a)
theorem k0_off64_inb : ∀ (i : grid0.Coords) (v620 : BitVec 32) (k0_hw36 : k0_chk36 i v620), ∀ (k0_h1 : k0_cond1 i = 1#1), ∀ a, (k0_off64 v620) a + S1x32.size a ≤ S24x32.size a := fun i v620 k0_hw36 k0_h1 => k0_hw36 k0_h1

def k0_off65 (v627 : BitVec 32) : Fin 2 → Nat :=
  let c0_i32_360 : BitVec 32 := 0#32
  let v628 : BitVec 32 := Scalar.maxsi v627 c0_i32_360
  let v629 : Index := Scalar.indexCast v628
  let c0_361 : Index := 0#32
  ![v629.toNat, 0]

def k0_chk37 (i : grid0.Coords) (v627 : BitVec 32) : Prop :=
  (∀ (k0_h1 : k0_cond1 i = 1#1), ∀ a, (k0_off65 v627) a + S1x32.size a ≤ S24x32.size a)
theorem k0_off65_inb : ∀ (i : grid0.Coords) (v627 : BitVec 32) (k0_hw37 : k0_chk37 i v627), ∀ (k0_h1 : k0_cond1 i = 1#1), ∀ a, (k0_off65 v627) a + S1x32.size a ≤ S24x32.size a := fun i v627 k0_hw37 k0_h1 => k0_hw37 k0_h1

def k0_off66 (v634 : BitVec 32) : Fin 2 → Nat :=
  let c0_i32_364 : BitVec 32 := 0#32
  let v635 : BitVec 32 := Scalar.maxsi v634 c0_i32_364
  let v636 : Index := Scalar.indexCast v635
  let c0_365 : Index := 0#32
  ![v636.toNat, 0]

def k0_chk38 (i : grid0.Coords) (v634 : BitVec 32) : Prop :=
  (∀ (k0_h1 : k0_cond1 i = 1#1), ∀ a, (k0_off66 v634) a + S1x32.size a ≤ S24x32.size a)
theorem k0_off66_inb : ∀ (i : grid0.Coords) (v634 : BitVec 32) (k0_hw38 : k0_chk38 i v634), ∀ (k0_h1 : k0_cond1 i = 1#1), ∀ a, (k0_off66 v634) a + S1x32.size a ≤ S24x32.size a := fun i v634 k0_hw38 k0_h1 => k0_hw38 k0_h1

def k0_off67 (v641 : BitVec 32) : Fin 2 → Nat :=
  let c0_i32_368 : BitVec 32 := 0#32
  let v642 : BitVec 32 := Scalar.maxsi v641 c0_i32_368
  let v643 : Index := Scalar.indexCast v642
  let c0_369 : Index := 0#32
  ![v643.toNat, 0]

def k0_chk39 (i : grid0.Coords) (v641 : BitVec 32) : Prop :=
  (∀ (k0_h1 : k0_cond1 i = 1#1), ∀ a, (k0_off67 v641) a + S1x32.size a ≤ S24x32.size a)
theorem k0_off67_inb : ∀ (i : grid0.Coords) (v641 : BitVec 32) (k0_hw39 : k0_chk39 i v641), ∀ (k0_h1 : k0_cond1 i = 1#1), ∀ a, (k0_off67 v641) a + S1x32.size a ≤ S24x32.size a := fun i v641 k0_hw39 k0_h1 => k0_hw39 k0_h1

def k0_off68 (v648 : BitVec 32) : Fin 2 → Nat :=
  let c0_i32_372 : BitVec 32 := 0#32
  let v649 : BitVec 32 := Scalar.maxsi v648 c0_i32_372
  let v650 : Index := Scalar.indexCast v649
  let c0_373 : Index := 0#32
  ![v650.toNat, 0]

def k0_chk40 (i : grid0.Coords) (v648 : BitVec 32) : Prop :=
  (∀ (k0_h1 : k0_cond1 i = 1#1), ∀ a, (k0_off68 v648) a + S1x32.size a ≤ S24x32.size a)
theorem k0_off68_inb : ∀ (i : grid0.Coords) (v648 : BitVec 32) (k0_hw40 : k0_chk40 i v648), ∀ (k0_h1 : k0_cond1 i = 1#1), ∀ a, (k0_off68 v648) a + S1x32.size a ≤ S24x32.size a := fun i v648 k0_hw40 k0_h1 => k0_hw40 k0_h1

def k0_off69 (v655 : BitVec 32) : Fin 2 → Nat :=
  let c0_i32_376 : BitVec 32 := 0#32
  let v656 : BitVec 32 := Scalar.maxsi v655 c0_i32_376
  let v657 : Index := Scalar.indexCast v656
  let c0_377 : Index := 0#32
  ![v657.toNat, 0]

def k0_chk41 (i : grid0.Coords) (v655 : BitVec 32) : Prop :=
  (∀ (k0_h1 : k0_cond1 i = 1#1), ∀ a, (k0_off69 v655) a + S1x32.size a ≤ S24x32.size a)
theorem k0_off69_inb : ∀ (i : grid0.Coords) (v655 : BitVec 32) (k0_hw41 : k0_chk41 i v655), ∀ (k0_h1 : k0_cond1 i = 1#1), ∀ a, (k0_off69 v655) a + S1x32.size a ≤ S24x32.size a := fun i v655 k0_hw41 k0_h1 => k0_hw41 k0_h1

def k0_off70 (v662 : BitVec 32) : Fin 2 → Nat :=
  let c0_i32_380 : BitVec 32 := 0#32
  let v663 : BitVec 32 := Scalar.maxsi v662 c0_i32_380
  let v664 : Index := Scalar.indexCast v663
  let c0_381 : Index := 0#32
  ![v664.toNat, 0]

def k0_chk42 (i : grid0.Coords) (v662 : BitVec 32) : Prop :=
  (∀ (k0_h1 : k0_cond1 i = 1#1), ∀ a, (k0_off70 v662) a + S1x32.size a ≤ S24x32.size a)
theorem k0_off70_inb : ∀ (i : grid0.Coords) (v662 : BitVec 32) (k0_hw42 : k0_chk42 i v662), ∀ (k0_h1 : k0_cond1 i = 1#1), ∀ a, (k0_off70 v662) a + S1x32.size a ≤ S24x32.size a := fun i v662 k0_hw42 k0_h1 => k0_hw42 k0_h1

def k0_off71 (v669 : BitVec 32) : Fin 2 → Nat :=
  let c0_i32_384 : BitVec 32 := 0#32
  let v670 : BitVec 32 := Scalar.maxsi v669 c0_i32_384
  let v671 : Index := Scalar.indexCast v670
  let c0_385 : Index := 0#32
  ![v671.toNat, 0]

def k0_chk43 (i : grid0.Coords) (v669 : BitVec 32) : Prop :=
  (∀ (k0_h1 : k0_cond1 i = 1#1), ∀ a, (k0_off71 v669) a + S1x32.size a ≤ S24x32.size a)
theorem k0_off71_inb : ∀ (i : grid0.Coords) (v669 : BitVec 32) (k0_hw43 : k0_chk43 i v669), ∀ (k0_h1 : k0_cond1 i = 1#1), ∀ a, (k0_off71 v669) a + S1x32.size a ≤ S24x32.size a := fun i v669 k0_hw43 k0_h1 => k0_hw43 k0_h1

def k0_off72 (v676 : BitVec 32) : Fin 2 → Nat :=
  let c0_i32_389 : BitVec 32 := 0#32
  let v677 : BitVec 32 := Scalar.maxsi v676 c0_i32_389
  let v678 : Index := Scalar.indexCast v677
  let c0_390 : Index := 0#32
  ![v678.toNat, 0]

def k0_chk44 (i : grid0.Coords) (v676 : BitVec 32) : Prop :=
  (∀ (k0_h1 : k0_cond1 i = 1#1), ∀ a, (k0_off72 v676) a + S1x32.size a ≤ S24x32.size a)
theorem k0_off72_inb : ∀ (i : grid0.Coords) (v676 : BitVec 32) (k0_hw44 : k0_chk44 i v676), ∀ (k0_h1 : k0_cond1 i = 1#1), ∀ a, (k0_off72 v676) a + S1x32.size a ≤ S24x32.size a := fun i v676 k0_hw44 k0_h1 => k0_hw44 k0_h1

@[reducible] def k0_t1_loop : Scf.Loop 32 :=
  let c0_i32_392 : BitVec 32 := 0#32
  let c192_i32_393 : BitVec 32 := 192#32
  let v683 : BitVec 32 := Scalar.addi c0_i32_392 c192_i32_393
  let c1_i32_394 : BitVec 32 := 1#32
  ⟨c0_i32_392, v683, c1_i32_394⟩
def k0_off73 (k0_t1 : Fin k0_t1_loop.trips) : Fin 1 → Nat :=
  let c0_i32_392 : BitVec 32 := 0#32
  let c1_i32_394 : BitVec 32 := 1#32
  let arg33 : BitVec 32 := Scf.iv c0_i32_392 c1_i32_394 k0_t1
  let v1008 : Index := Scalar.indexCast arg33
  ![v1008.toNat]
def k0_off74 (v684 : BitVec 32) : Fin 3 → Nat :=
  let c0_i32_397 : BitVec 32 := 0#32
  let v685 : BitVec 32 := Scalar.maxsi v684 c0_i32_397
  let c0_i32_401 : BitVec 32 := 0#32
  let c0_i32_402 : BitVec 32 := 0#32
  ![v685.toNat, 0, 0]

def k0_off75 (v684 : BitVec 32) : Fin 3 → Nat :=
  let c0_i32_397 : BitVec 32 := 0#32
  let v685 : BitVec 32 := Scalar.maxsi v684 c0_i32_397
  let c0_i32_406 : BitVec 32 := 0#32
  let c0_i32_407 : BitVec 32 := 0#32
  ![v685.toNat, 0, 0]

def k0_chk45 (i : grid0.Coords) (v684 : BitVec 32) : Prop :=
  (∀ (k0_h1 : k0_cond1 i = 1#1), ∀ a, (k0_off74 v684) a + S1x32x2048.size a ≤ S24x32x2048.size a) ∧
  (∀ (k0_h1 : k0_cond1 i = 1#1), ∀ (hinb : ∀ a, (k0_off74 v684) a + S1x32x2048.size a ≤ S24x32x2048.size a), (Rect.unit (s := S24x32x2048) (k0_off74 v684) S1x32x2048.size hinb).WholeWords (EltTy.packing .fp8e4m3)) ∧
  (∀ (k0_h1 : k0_cond1 i = 1#1), ∀ a, (k0_off75 v684) a + S1x32x8192.size a ≤ S24x32x8192.size a) ∧
  (∀ (k0_h1 : k0_cond1 i = 1#1), ∀ (hinb : ∀ a, (k0_off75 v684) a + S1x32x8192.size a ≤ S24x32x8192.size a), (Rect.unit (s := S24x32x8192) (k0_off75 v684) S1x32x8192.size hinb).WholeWords (EltTy.packing .fp8e4m3))
theorem k0_off74_inb : ∀ (i : grid0.Coords) (v684 : BitVec 32) (k0_hw45 : k0_chk45 i v684), ∀ (k0_h1 : k0_cond1 i = 1#1), ∀ a, (k0_off74 v684) a + S1x32x2048.size a ≤ S24x32x2048.size a := fun i v684 k0_hw45 k0_h1 => k0_hw45.1 k0_h1
theorem k0_off74_wordsfp8e4m3 : ∀ (i : grid0.Coords) (v684 : BitVec 32) (k0_hw45 : k0_chk45 i v684), ∀ (k0_h1 : k0_cond1 i = 1#1), (Rect.unit (s := S24x32x2048) (k0_off74 v684) S1x32x2048.size (k0_off74_inb i v684 k0_hw45 k0_h1)).WholeWords (EltTy.packing .fp8e4m3) := fun i v684 k0_hw45 k0_h1 => k0_hw45.2.1 k0_h1 (k0_off74_inb i v684 k0_hw45 k0_h1)
theorem k0_off75_inb : ∀ (i : grid0.Coords) (v684 : BitVec 32) (k0_hw45 : k0_chk45 i v684), ∀ (k0_h1 : k0_cond1 i = 1#1), ∀ a, (k0_off75 v684) a + S1x32x8192.size a ≤ S24x32x8192.size a := fun i v684 k0_hw45 k0_h1 => k0_hw45.2.2.1 k0_h1
theorem k0_off75_wordsfp8e4m3 : ∀ (i : grid0.Coords) (v684 : BitVec 32) (k0_hw45 : k0_chk45 i v684), ∀ (k0_h1 : k0_cond1 i = 1#1), (Rect.unit (s := S24x32x8192) (k0_off75 v684) S1x32x8192.size (k0_off75_inb i v684 k0_hw45 k0_h1)).WholeWords (EltTy.packing .fp8e4m3) := fun i v684 k0_hw45 k0_h1 => k0_hw45.2.2.2 k0_h1 (k0_off75_inb i v684 k0_hw45 k0_h1)

def k0_off76 (v696 : BitVec 32) : Fin 3 → Nat :=
  let c0_i32_409 : BitVec 32 := 0#32
  let v697 : BitVec 32 := Scalar.maxsi v696 c0_i32_409
  let c0_i32_413 : BitVec 32 := 0#32
  let c0_i32_414 : BitVec 32 := 0#32
  ![v697.toNat, 0, 0]

def k0_off77 (v696 : BitVec 32) : Fin 3 → Nat :=
  let c0_i32_409 : BitVec 32 := 0#32
  let v697 : BitVec 32 := Scalar.maxsi v696 c0_i32_409
  let c0_i32_418 : BitVec 32 := 0#32
  let c0_i32_419 : BitVec 32 := 0#32
  ![v697.toNat, 0, 0]

def k0_chk46 (i : grid0.Coords) (v696 : BitVec 32) : Prop :=
  (∀ (k0_h1 : k0_cond1 i = 1#1), ∀ a, (k0_off76 v696) a + S1x32x2048.size a ≤ S24x32x2048.size a) ∧
  (∀ (k0_h1 : k0_cond1 i = 1#1), ∀ (hinb : ∀ a, (k0_off76 v696) a + S1x32x2048.size a ≤ S24x32x2048.size a), (Rect.unit (s := S24x32x2048) (k0_off76 v696) S1x32x2048.size hinb).WholeWords (EltTy.packing .fp8e4m3)) ∧
  (∀ (k0_h1 : k0_cond1 i = 1#1), ∀ a, (k0_off77 v696) a + S1x32x8192.size a ≤ S24x32x8192.size a) ∧
  (∀ (k0_h1 : k0_cond1 i = 1#1), ∀ (hinb : ∀ a, (k0_off77 v696) a + S1x32x8192.size a ≤ S24x32x8192.size a), (Rect.unit (s := S24x32x8192) (k0_off77 v696) S1x32x8192.size hinb).WholeWords (EltTy.packing .fp8e4m3))
theorem k0_off76_inb : ∀ (i : grid0.Coords) (v696 : BitVec 32) (k0_hw46 : k0_chk46 i v696), ∀ (k0_h1 : k0_cond1 i = 1#1), ∀ a, (k0_off76 v696) a + S1x32x2048.size a ≤ S24x32x2048.size a := fun i v696 k0_hw46 k0_h1 => k0_hw46.1 k0_h1
theorem k0_off76_wordsfp8e4m3 : ∀ (i : grid0.Coords) (v696 : BitVec 32) (k0_hw46 : k0_chk46 i v696), ∀ (k0_h1 : k0_cond1 i = 1#1), (Rect.unit (s := S24x32x2048) (k0_off76 v696) S1x32x2048.size (k0_off76_inb i v696 k0_hw46 k0_h1)).WholeWords (EltTy.packing .fp8e4m3) := fun i v696 k0_hw46 k0_h1 => k0_hw46.2.1 k0_h1 (k0_off76_inb i v696 k0_hw46 k0_h1)
theorem k0_off77_inb : ∀ (i : grid0.Coords) (v696 : BitVec 32) (k0_hw46 : k0_chk46 i v696), ∀ (k0_h1 : k0_cond1 i = 1#1), ∀ a, (k0_off77 v696) a + S1x32x8192.size a ≤ S24x32x8192.size a := fun i v696 k0_hw46 k0_h1 => k0_hw46.2.2.1 k0_h1
theorem k0_off77_wordsfp8e4m3 : ∀ (i : grid0.Coords) (v696 : BitVec 32) (k0_hw46 : k0_chk46 i v696), ∀ (k0_h1 : k0_cond1 i = 1#1), (Rect.unit (s := S24x32x8192) (k0_off77 v696) S1x32x8192.size (k0_off77_inb i v696 k0_hw46 k0_h1)).WholeWords (EltTy.packing .fp8e4m3) := fun i v696 k0_hw46 k0_h1 => k0_hw46.2.2.2 k0_h1 (k0_off77_inb i v696 k0_hw46 k0_h1)

def k0_off78 (v708 : BitVec 32) : Fin 3 → Nat :=
  let c0_i32_421 : BitVec 32 := 0#32
  let v709 : BitVec 32 := Scalar.maxsi v708 c0_i32_421
  let c0_i32_425 : BitVec 32 := 0#32
  let c0_i32_426 : BitVec 32 := 0#32
  ![v709.toNat, 0, 0]

def k0_off79 (v708 : BitVec 32) : Fin 3 → Nat :=
  let c0_i32_421 : BitVec 32 := 0#32
  let v709 : BitVec 32 := Scalar.maxsi v708 c0_i32_421
  let c0_i32_430 : BitVec 32 := 0#32
  let c0_i32_431 : BitVec 32 := 0#32
  ![v709.toNat, 0, 0]

def k0_chk47 (i : grid0.Coords) (v708 : BitVec 32) : Prop :=
  (∀ (k0_h1 : k0_cond1 i = 1#1), ∀ a, (k0_off78 v708) a + S1x32x2048.size a ≤ S24x32x2048.size a) ∧
  (∀ (k0_h1 : k0_cond1 i = 1#1), ∀ (hinb : ∀ a, (k0_off78 v708) a + S1x32x2048.size a ≤ S24x32x2048.size a), (Rect.unit (s := S24x32x2048) (k0_off78 v708) S1x32x2048.size hinb).WholeWords (EltTy.packing .fp8e4m3)) ∧
  (∀ (k0_h1 : k0_cond1 i = 1#1), ∀ a, (k0_off79 v708) a + S1x32x8192.size a ≤ S24x32x8192.size a) ∧
  (∀ (k0_h1 : k0_cond1 i = 1#1), ∀ (hinb : ∀ a, (k0_off79 v708) a + S1x32x8192.size a ≤ S24x32x8192.size a), (Rect.unit (s := S24x32x8192) (k0_off79 v708) S1x32x8192.size hinb).WholeWords (EltTy.packing .fp8e4m3))
theorem k0_off78_inb : ∀ (i : grid0.Coords) (v708 : BitVec 32) (k0_hw47 : k0_chk47 i v708), ∀ (k0_h1 : k0_cond1 i = 1#1), ∀ a, (k0_off78 v708) a + S1x32x2048.size a ≤ S24x32x2048.size a := fun i v708 k0_hw47 k0_h1 => k0_hw47.1 k0_h1
theorem k0_off78_wordsfp8e4m3 : ∀ (i : grid0.Coords) (v708 : BitVec 32) (k0_hw47 : k0_chk47 i v708), ∀ (k0_h1 : k0_cond1 i = 1#1), (Rect.unit (s := S24x32x2048) (k0_off78 v708) S1x32x2048.size (k0_off78_inb i v708 k0_hw47 k0_h1)).WholeWords (EltTy.packing .fp8e4m3) := fun i v708 k0_hw47 k0_h1 => k0_hw47.2.1 k0_h1 (k0_off78_inb i v708 k0_hw47 k0_h1)
theorem k0_off79_inb : ∀ (i : grid0.Coords) (v708 : BitVec 32) (k0_hw47 : k0_chk47 i v708), ∀ (k0_h1 : k0_cond1 i = 1#1), ∀ a, (k0_off79 v708) a + S1x32x8192.size a ≤ S24x32x8192.size a := fun i v708 k0_hw47 k0_h1 => k0_hw47.2.2.1 k0_h1
theorem k0_off79_wordsfp8e4m3 : ∀ (i : grid0.Coords) (v708 : BitVec 32) (k0_hw47 : k0_chk47 i v708), ∀ (k0_h1 : k0_cond1 i = 1#1), (Rect.unit (s := S24x32x8192) (k0_off79 v708) S1x32x8192.size (k0_off79_inb i v708 k0_hw47 k0_h1)).WholeWords (EltTy.packing .fp8e4m3) := fun i v708 k0_hw47 k0_h1 => k0_hw47.2.2.2 k0_h1 (k0_off79_inb i v708 k0_hw47 k0_h1)

def k0_off80 (v720 : BitVec 32) : Fin 3 → Nat :=
  let c0_i32_433 : BitVec 32 := 0#32
  let v721 : BitVec 32 := Scalar.maxsi v720 c0_i32_433
  let c0_i32_437 : BitVec 32 := 0#32
  let c0_i32_438 : BitVec 32 := 0#32
  ![v721.toNat, 0, 0]

def k0_off81 (v720 : BitVec 32) : Fin 3 → Nat :=
  let c0_i32_433 : BitVec 32 := 0#32
  let v721 : BitVec 32 := Scalar.maxsi v720 c0_i32_433
  let c0_i32_442 : BitVec 32 := 0#32
  let c0_i32_443 : BitVec 32 := 0#32
  ![v721.toNat, 0, 0]

def k0_chk48 (i : grid0.Coords) (v720 : BitVec 32) : Prop :=
  (∀ (k0_h1 : k0_cond1 i = 1#1), ∀ a, (k0_off80 v720) a + S1x32x2048.size a ≤ S24x32x2048.size a) ∧
  (∀ (k0_h1 : k0_cond1 i = 1#1), ∀ (hinb : ∀ a, (k0_off80 v720) a + S1x32x2048.size a ≤ S24x32x2048.size a), (Rect.unit (s := S24x32x2048) (k0_off80 v720) S1x32x2048.size hinb).WholeWords (EltTy.packing .fp8e4m3)) ∧
  (∀ (k0_h1 : k0_cond1 i = 1#1), ∀ a, (k0_off81 v720) a + S1x32x8192.size a ≤ S24x32x8192.size a) ∧
  (∀ (k0_h1 : k0_cond1 i = 1#1), ∀ (hinb : ∀ a, (k0_off81 v720) a + S1x32x8192.size a ≤ S24x32x8192.size a), (Rect.unit (s := S24x32x8192) (k0_off81 v720) S1x32x8192.size hinb).WholeWords (EltTy.packing .fp8e4m3))
theorem k0_off80_inb : ∀ (i : grid0.Coords) (v720 : BitVec 32) (k0_hw48 : k0_chk48 i v720), ∀ (k0_h1 : k0_cond1 i = 1#1), ∀ a, (k0_off80 v720) a + S1x32x2048.size a ≤ S24x32x2048.size a := fun i v720 k0_hw48 k0_h1 => k0_hw48.1 k0_h1
theorem k0_off80_wordsfp8e4m3 : ∀ (i : grid0.Coords) (v720 : BitVec 32) (k0_hw48 : k0_chk48 i v720), ∀ (k0_h1 : k0_cond1 i = 1#1), (Rect.unit (s := S24x32x2048) (k0_off80 v720) S1x32x2048.size (k0_off80_inb i v720 k0_hw48 k0_h1)).WholeWords (EltTy.packing .fp8e4m3) := fun i v720 k0_hw48 k0_h1 => k0_hw48.2.1 k0_h1 (k0_off80_inb i v720 k0_hw48 k0_h1)
theorem k0_off81_inb : ∀ (i : grid0.Coords) (v720 : BitVec 32) (k0_hw48 : k0_chk48 i v720), ∀ (k0_h1 : k0_cond1 i = 1#1), ∀ a, (k0_off81 v720) a + S1x32x8192.size a ≤ S24x32x8192.size a := fun i v720 k0_hw48 k0_h1 => k0_hw48.2.2.1 k0_h1
theorem k0_off81_wordsfp8e4m3 : ∀ (i : grid0.Coords) (v720 : BitVec 32) (k0_hw48 : k0_chk48 i v720), ∀ (k0_h1 : k0_cond1 i = 1#1), (Rect.unit (s := S24x32x8192) (k0_off81 v720) S1x32x8192.size (k0_off81_inb i v720 k0_hw48 k0_h1)).WholeWords (EltTy.packing .fp8e4m3) := fun i v720 k0_hw48 k0_h1 => k0_hw48.2.2.2 k0_h1 (k0_off81_inb i v720 k0_hw48 k0_h1)

def k0_off82 (v732 : BitVec 32) : Fin 3 → Nat :=
  let c0_i32_445 : BitVec 32 := 0#32
  let v733 : BitVec 32 := Scalar.maxsi v732 c0_i32_445
  let c0_i32_449 : BitVec 32 := 0#32
  let c0_i32_450 : BitVec 32 := 0#32
  ![v733.toNat, 0, 0]

def k0_off83 (v732 : BitVec 32) : Fin 3 → Nat :=
  let c0_i32_445 : BitVec 32 := 0#32
  let v733 : BitVec 32 := Scalar.maxsi v732 c0_i32_445
  let c0_i32_454 : BitVec 32 := 0#32
  let c0_i32_455 : BitVec 32 := 0#32
  ![v733.toNat, 0, 0]

def k0_chk49 (i : grid0.Coords) (v732 : BitVec 32) : Prop :=
  (∀ (k0_h1 : k0_cond1 i = 1#1), ∀ a, (k0_off82 v732) a + S1x32x2048.size a ≤ S24x32x2048.size a) ∧
  (∀ (k0_h1 : k0_cond1 i = 1#1), ∀ (hinb : ∀ a, (k0_off82 v732) a + S1x32x2048.size a ≤ S24x32x2048.size a), (Rect.unit (s := S24x32x2048) (k0_off82 v732) S1x32x2048.size hinb).WholeWords (EltTy.packing .fp8e4m3)) ∧
  (∀ (k0_h1 : k0_cond1 i = 1#1), ∀ a, (k0_off83 v732) a + S1x32x8192.size a ≤ S24x32x8192.size a) ∧
  (∀ (k0_h1 : k0_cond1 i = 1#1), ∀ (hinb : ∀ a, (k0_off83 v732) a + S1x32x8192.size a ≤ S24x32x8192.size a), (Rect.unit (s := S24x32x8192) (k0_off83 v732) S1x32x8192.size hinb).WholeWords (EltTy.packing .fp8e4m3))
theorem k0_off82_inb : ∀ (i : grid0.Coords) (v732 : BitVec 32) (k0_hw49 : k0_chk49 i v732), ∀ (k0_h1 : k0_cond1 i = 1#1), ∀ a, (k0_off82 v732) a + S1x32x2048.size a ≤ S24x32x2048.size a := fun i v732 k0_hw49 k0_h1 => k0_hw49.1 k0_h1
theorem k0_off82_wordsfp8e4m3 : ∀ (i : grid0.Coords) (v732 : BitVec 32) (k0_hw49 : k0_chk49 i v732), ∀ (k0_h1 : k0_cond1 i = 1#1), (Rect.unit (s := S24x32x2048) (k0_off82 v732) S1x32x2048.size (k0_off82_inb i v732 k0_hw49 k0_h1)).WholeWords (EltTy.packing .fp8e4m3) := fun i v732 k0_hw49 k0_h1 => k0_hw49.2.1 k0_h1 (k0_off82_inb i v732 k0_hw49 k0_h1)
theorem k0_off83_inb : ∀ (i : grid0.Coords) (v732 : BitVec 32) (k0_hw49 : k0_chk49 i v732), ∀ (k0_h1 : k0_cond1 i = 1#1), ∀ a, (k0_off83 v732) a + S1x32x8192.size a ≤ S24x32x8192.size a := fun i v732 k0_hw49 k0_h1 => k0_hw49.2.2.1 k0_h1
theorem k0_off83_wordsfp8e4m3 : ∀ (i : grid0.Coords) (v732 : BitVec 32) (k0_hw49 : k0_chk49 i v732), ∀ (k0_h1 : k0_cond1 i = 1#1), (Rect.unit (s := S24x32x8192) (k0_off83 v732) S1x32x8192.size (k0_off83_inb i v732 k0_hw49 k0_h1)).WholeWords (EltTy.packing .fp8e4m3) := fun i v732 k0_hw49 k0_h1 => k0_hw49.2.2.2 k0_h1 (k0_off83_inb i v732 k0_hw49 k0_h1)

def k0_off84 (v744 : BitVec 32) : Fin 3 → Nat :=
  let c0_i32_457 : BitVec 32 := 0#32
  let v745 : BitVec 32 := Scalar.maxsi v744 c0_i32_457
  let c0_i32_461 : BitVec 32 := 0#32
  let c0_i32_462 : BitVec 32 := 0#32
  ![v745.toNat, 0, 0]

def k0_off85 (v744 : BitVec 32) : Fin 3 → Nat :=
  let c0_i32_457 : BitVec 32 := 0#32
  let v745 : BitVec 32 := Scalar.maxsi v744 c0_i32_457
  let c0_i32_466 : BitVec 32 := 0#32
  let c0_i32_467 : BitVec 32 := 0#32
  ![v745.toNat, 0, 0]

def k0_chk50 (i : grid0.Coords) (v744 : BitVec 32) : Prop :=
  (∀ (k0_h1 : k0_cond1 i = 1#1), ∀ a, (k0_off84 v744) a + S1x32x2048.size a ≤ S24x32x2048.size a) ∧
  (∀ (k0_h1 : k0_cond1 i = 1#1), ∀ (hinb : ∀ a, (k0_off84 v744) a + S1x32x2048.size a ≤ S24x32x2048.size a), (Rect.unit (s := S24x32x2048) (k0_off84 v744) S1x32x2048.size hinb).WholeWords (EltTy.packing .fp8e4m3)) ∧
  (∀ (k0_h1 : k0_cond1 i = 1#1), ∀ a, (k0_off85 v744) a + S1x32x8192.size a ≤ S24x32x8192.size a) ∧
  (∀ (k0_h1 : k0_cond1 i = 1#1), ∀ (hinb : ∀ a, (k0_off85 v744) a + S1x32x8192.size a ≤ S24x32x8192.size a), (Rect.unit (s := S24x32x8192) (k0_off85 v744) S1x32x8192.size hinb).WholeWords (EltTy.packing .fp8e4m3))
theorem k0_off84_inb : ∀ (i : grid0.Coords) (v744 : BitVec 32) (k0_hw50 : k0_chk50 i v744), ∀ (k0_h1 : k0_cond1 i = 1#1), ∀ a, (k0_off84 v744) a + S1x32x2048.size a ≤ S24x32x2048.size a := fun i v744 k0_hw50 k0_h1 => k0_hw50.1 k0_h1
theorem k0_off84_wordsfp8e4m3 : ∀ (i : grid0.Coords) (v744 : BitVec 32) (k0_hw50 : k0_chk50 i v744), ∀ (k0_h1 : k0_cond1 i = 1#1), (Rect.unit (s := S24x32x2048) (k0_off84 v744) S1x32x2048.size (k0_off84_inb i v744 k0_hw50 k0_h1)).WholeWords (EltTy.packing .fp8e4m3) := fun i v744 k0_hw50 k0_h1 => k0_hw50.2.1 k0_h1 (k0_off84_inb i v744 k0_hw50 k0_h1)
theorem k0_off85_inb : ∀ (i : grid0.Coords) (v744 : BitVec 32) (k0_hw50 : k0_chk50 i v744), ∀ (k0_h1 : k0_cond1 i = 1#1), ∀ a, (k0_off85 v744) a + S1x32x8192.size a ≤ S24x32x8192.size a := fun i v744 k0_hw50 k0_h1 => k0_hw50.2.2.1 k0_h1
theorem k0_off85_wordsfp8e4m3 : ∀ (i : grid0.Coords) (v744 : BitVec 32) (k0_hw50 : k0_chk50 i v744), ∀ (k0_h1 : k0_cond1 i = 1#1), (Rect.unit (s := S24x32x8192) (k0_off85 v744) S1x32x8192.size (k0_off85_inb i v744 k0_hw50 k0_h1)).WholeWords (EltTy.packing .fp8e4m3) := fun i v744 k0_hw50 k0_h1 => k0_hw50.2.2.2 k0_h1 (k0_off85_inb i v744 k0_hw50 k0_h1)

def k0_off86 (v756 : BitVec 32) : Fin 3 → Nat :=
  let c0_i32_469 : BitVec 32 := 0#32
  let v757 : BitVec 32 := Scalar.maxsi v756 c0_i32_469
  let c0_i32_473 : BitVec 32 := 0#32
  let c0_i32_474 : BitVec 32 := 0#32
  ![v757.toNat, 0, 0]

def k0_off87 (v756 : BitVec 32) : Fin 3 → Nat :=
  let c0_i32_469 : BitVec 32 := 0#32
  let v757 : BitVec 32 := Scalar.maxsi v756 c0_i32_469
  let c0_i32_478 : BitVec 32 := 0#32
  let c0_i32_479 : BitVec 32 := 0#32
  ![v757.toNat, 0, 0]

def k0_chk51 (i : grid0.Coords) (v756 : BitVec 32) : Prop :=
  (∀ (k0_h1 : k0_cond1 i = 1#1), ∀ a, (k0_off86 v756) a + S1x32x2048.size a ≤ S24x32x2048.size a) ∧
  (∀ (k0_h1 : k0_cond1 i = 1#1), ∀ (hinb : ∀ a, (k0_off86 v756) a + S1x32x2048.size a ≤ S24x32x2048.size a), (Rect.unit (s := S24x32x2048) (k0_off86 v756) S1x32x2048.size hinb).WholeWords (EltTy.packing .fp8e4m3)) ∧
  (∀ (k0_h1 : k0_cond1 i = 1#1), ∀ a, (k0_off87 v756) a + S1x32x8192.size a ≤ S24x32x8192.size a) ∧
  (∀ (k0_h1 : k0_cond1 i = 1#1), ∀ (hinb : ∀ a, (k0_off87 v756) a + S1x32x8192.size a ≤ S24x32x8192.size a), (Rect.unit (s := S24x32x8192) (k0_off87 v756) S1x32x8192.size hinb).WholeWords (EltTy.packing .fp8e4m3))
theorem k0_off86_inb : ∀ (i : grid0.Coords) (v756 : BitVec 32) (k0_hw51 : k0_chk51 i v756), ∀ (k0_h1 : k0_cond1 i = 1#1), ∀ a, (k0_off86 v756) a + S1x32x2048.size a ≤ S24x32x2048.size a := fun i v756 k0_hw51 k0_h1 => k0_hw51.1 k0_h1
theorem k0_off86_wordsfp8e4m3 : ∀ (i : grid0.Coords) (v756 : BitVec 32) (k0_hw51 : k0_chk51 i v756), ∀ (k0_h1 : k0_cond1 i = 1#1), (Rect.unit (s := S24x32x2048) (k0_off86 v756) S1x32x2048.size (k0_off86_inb i v756 k0_hw51 k0_h1)).WholeWords (EltTy.packing .fp8e4m3) := fun i v756 k0_hw51 k0_h1 => k0_hw51.2.1 k0_h1 (k0_off86_inb i v756 k0_hw51 k0_h1)
theorem k0_off87_inb : ∀ (i : grid0.Coords) (v756 : BitVec 32) (k0_hw51 : k0_chk51 i v756), ∀ (k0_h1 : k0_cond1 i = 1#1), ∀ a, (k0_off87 v756) a + S1x32x8192.size a ≤ S24x32x8192.size a := fun i v756 k0_hw51 k0_h1 => k0_hw51.2.2.1 k0_h1
theorem k0_off87_wordsfp8e4m3 : ∀ (i : grid0.Coords) (v756 : BitVec 32) (k0_hw51 : k0_chk51 i v756), ∀ (k0_h1 : k0_cond1 i = 1#1), (Rect.unit (s := S24x32x8192) (k0_off87 v756) S1x32x8192.size (k0_off87_inb i v756 k0_hw51 k0_h1)).WholeWords (EltTy.packing .fp8e4m3) := fun i v756 k0_hw51 k0_h1 => k0_hw51.2.2.2 k0_h1 (k0_off87_inb i v756 k0_hw51 k0_h1)

def k0_off88 (v768 : BitVec 32) : Fin 3 → Nat :=
  let c0_i32_481 : BitVec 32 := 0#32
  let v769 : BitVec 32 := Scalar.maxsi v768 c0_i32_481
  let c0_i32_485 : BitVec 32 := 0#32
  let c0_i32_486 : BitVec 32 := 0#32
  ![v769.toNat, 0, 0]

def k0_off89 (v768 : BitVec 32) : Fin 3 → Nat :=
  let c0_i32_481 : BitVec 32 := 0#32
  let v769 : BitVec 32 := Scalar.maxsi v768 c0_i32_481
  let c0_i32_490 : BitVec 32 := 0#32
  let c0_i32_491 : BitVec 32 := 0#32
  ![v769.toNat, 0, 0]

def k0_chk52 (i : grid0.Coords) (v768 : BitVec 32) : Prop :=
  (∀ (k0_h1 : k0_cond1 i = 1#1), ∀ a, (k0_off88 v768) a + S1x32x2048.size a ≤ S24x32x2048.size a) ∧
  (∀ (k0_h1 : k0_cond1 i = 1#1), ∀ (hinb : ∀ a, (k0_off88 v768) a + S1x32x2048.size a ≤ S24x32x2048.size a), (Rect.unit (s := S24x32x2048) (k0_off88 v768) S1x32x2048.size hinb).WholeWords (EltTy.packing .fp8e4m3)) ∧
  (∀ (k0_h1 : k0_cond1 i = 1#1), ∀ a, (k0_off89 v768) a + S1x32x8192.size a ≤ S24x32x8192.size a) ∧
  (∀ (k0_h1 : k0_cond1 i = 1#1), ∀ (hinb : ∀ a, (k0_off89 v768) a + S1x32x8192.size a ≤ S24x32x8192.size a), (Rect.unit (s := S24x32x8192) (k0_off89 v768) S1x32x8192.size hinb).WholeWords (EltTy.packing .fp8e4m3))
theorem k0_off88_inb : ∀ (i : grid0.Coords) (v768 : BitVec 32) (k0_hw52 : k0_chk52 i v768), ∀ (k0_h1 : k0_cond1 i = 1#1), ∀ a, (k0_off88 v768) a + S1x32x2048.size a ≤ S24x32x2048.size a := fun i v768 k0_hw52 k0_h1 => k0_hw52.1 k0_h1
theorem k0_off88_wordsfp8e4m3 : ∀ (i : grid0.Coords) (v768 : BitVec 32) (k0_hw52 : k0_chk52 i v768), ∀ (k0_h1 : k0_cond1 i = 1#1), (Rect.unit (s := S24x32x2048) (k0_off88 v768) S1x32x2048.size (k0_off88_inb i v768 k0_hw52 k0_h1)).WholeWords (EltTy.packing .fp8e4m3) := fun i v768 k0_hw52 k0_h1 => k0_hw52.2.1 k0_h1 (k0_off88_inb i v768 k0_hw52 k0_h1)
theorem k0_off89_inb : ∀ (i : grid0.Coords) (v768 : BitVec 32) (k0_hw52 : k0_chk52 i v768), ∀ (k0_h1 : k0_cond1 i = 1#1), ∀ a, (k0_off89 v768) a + S1x32x8192.size a ≤ S24x32x8192.size a := fun i v768 k0_hw52 k0_h1 => k0_hw52.2.2.1 k0_h1
theorem k0_off89_wordsfp8e4m3 : ∀ (i : grid0.Coords) (v768 : BitVec 32) (k0_hw52 : k0_chk52 i v768), ∀ (k0_h1 : k0_cond1 i = 1#1), (Rect.unit (s := S24x32x8192) (k0_off89 v768) S1x32x8192.size (k0_off89_inb i v768 k0_hw52 k0_h1)).WholeWords (EltTy.packing .fp8e4m3) := fun i v768 k0_hw52 k0_h1 => k0_hw52.2.2.2 k0_h1 (k0_off89_inb i v768 k0_hw52 k0_h1)

def k0_off90 (v780 : BitVec 32) : Fin 3 → Nat :=
  let c0_i32_493 : BitVec 32 := 0#32
  let v781 : BitVec 32 := Scalar.maxsi v780 c0_i32_493
  let c0_i32_497 : BitVec 32 := 0#32
  let c0_i32_498 : BitVec 32 := 0#32
  ![v781.toNat, 0, 0]

def k0_off91 (v780 : BitVec 32) : Fin 3 → Nat :=
  let c0_i32_493 : BitVec 32 := 0#32
  let v781 : BitVec 32 := Scalar.maxsi v780 c0_i32_493
  let c0_i32_502 : BitVec 32 := 0#32
  let c0_i32_503 : BitVec 32 := 0#32
  ![v781.toNat, 0, 0]

def k0_chk53 (i : grid0.Coords) (v780 : BitVec 32) : Prop :=
  (∀ (k0_h1 : k0_cond1 i = 1#1), ∀ a, (k0_off90 v780) a + S1x32x2048.size a ≤ S24x32x2048.size a) ∧
  (∀ (k0_h1 : k0_cond1 i = 1#1), ∀ (hinb : ∀ a, (k0_off90 v780) a + S1x32x2048.size a ≤ S24x32x2048.size a), (Rect.unit (s := S24x32x2048) (k0_off90 v780) S1x32x2048.size hinb).WholeWords (EltTy.packing .fp8e4m3)) ∧
  (∀ (k0_h1 : k0_cond1 i = 1#1), ∀ a, (k0_off91 v780) a + S1x32x8192.size a ≤ S24x32x8192.size a) ∧
  (∀ (k0_h1 : k0_cond1 i = 1#1), ∀ (hinb : ∀ a, (k0_off91 v780) a + S1x32x8192.size a ≤ S24x32x8192.size a), (Rect.unit (s := S24x32x8192) (k0_off91 v780) S1x32x8192.size hinb).WholeWords (EltTy.packing .fp8e4m3))
theorem k0_off90_inb : ∀ (i : grid0.Coords) (v780 : BitVec 32) (k0_hw53 : k0_chk53 i v780), ∀ (k0_h1 : k0_cond1 i = 1#1), ∀ a, (k0_off90 v780) a + S1x32x2048.size a ≤ S24x32x2048.size a := fun i v780 k0_hw53 k0_h1 => k0_hw53.1 k0_h1
theorem k0_off90_wordsfp8e4m3 : ∀ (i : grid0.Coords) (v780 : BitVec 32) (k0_hw53 : k0_chk53 i v780), ∀ (k0_h1 : k0_cond1 i = 1#1), (Rect.unit (s := S24x32x2048) (k0_off90 v780) S1x32x2048.size (k0_off90_inb i v780 k0_hw53 k0_h1)).WholeWords (EltTy.packing .fp8e4m3) := fun i v780 k0_hw53 k0_h1 => k0_hw53.2.1 k0_h1 (k0_off90_inb i v780 k0_hw53 k0_h1)
theorem k0_off91_inb : ∀ (i : grid0.Coords) (v780 : BitVec 32) (k0_hw53 : k0_chk53 i v780), ∀ (k0_h1 : k0_cond1 i = 1#1), ∀ a, (k0_off91 v780) a + S1x32x8192.size a ≤ S24x32x8192.size a := fun i v780 k0_hw53 k0_h1 => k0_hw53.2.2.1 k0_h1
theorem k0_off91_wordsfp8e4m3 : ∀ (i : grid0.Coords) (v780 : BitVec 32) (k0_hw53 : k0_chk53 i v780), ∀ (k0_h1 : k0_cond1 i = 1#1), (Rect.unit (s := S24x32x8192) (k0_off91 v780) S1x32x8192.size (k0_off91_inb i v780 k0_hw53 k0_h1)).WholeWords (EltTy.packing .fp8e4m3) := fun i v780 k0_hw53 k0_h1 => k0_hw53.2.2.2 k0_h1 (k0_off91_inb i v780 k0_hw53 k0_h1)

def k0_off92 (v792 : BitVec 32) : Fin 3 → Nat :=
  let c0_i32_505 : BitVec 32 := 0#32
  let v793 : BitVec 32 := Scalar.maxsi v792 c0_i32_505
  let c0_i32_509 : BitVec 32 := 0#32
  let c0_i32_510 : BitVec 32 := 0#32
  ![v793.toNat, 0, 0]

def k0_off93 (v792 : BitVec 32) : Fin 3 → Nat :=
  let c0_i32_505 : BitVec 32 := 0#32
  let v793 : BitVec 32 := Scalar.maxsi v792 c0_i32_505
  let c0_i32_514 : BitVec 32 := 0#32
  let c0_i32_515 : BitVec 32 := 0#32
  ![v793.toNat, 0, 0]

def k0_chk54 (i : grid0.Coords) (v792 : BitVec 32) : Prop :=
  (∀ (k0_h1 : k0_cond1 i = 1#1), ∀ a, (k0_off92 v792) a + S1x32x2048.size a ≤ S24x32x2048.size a) ∧
  (∀ (k0_h1 : k0_cond1 i = 1#1), ∀ (hinb : ∀ a, (k0_off92 v792) a + S1x32x2048.size a ≤ S24x32x2048.size a), (Rect.unit (s := S24x32x2048) (k0_off92 v792) S1x32x2048.size hinb).WholeWords (EltTy.packing .fp8e4m3)) ∧
  (∀ (k0_h1 : k0_cond1 i = 1#1), ∀ a, (k0_off93 v792) a + S1x32x8192.size a ≤ S24x32x8192.size a) ∧
  (∀ (k0_h1 : k0_cond1 i = 1#1), ∀ (hinb : ∀ a, (k0_off93 v792) a + S1x32x8192.size a ≤ S24x32x8192.size a), (Rect.unit (s := S24x32x8192) (k0_off93 v792) S1x32x8192.size hinb).WholeWords (EltTy.packing .fp8e4m3))
theorem k0_off92_inb : ∀ (i : grid0.Coords) (v792 : BitVec 32) (k0_hw54 : k0_chk54 i v792), ∀ (k0_h1 : k0_cond1 i = 1#1), ∀ a, (k0_off92 v792) a + S1x32x2048.size a ≤ S24x32x2048.size a := fun i v792 k0_hw54 k0_h1 => k0_hw54.1 k0_h1
theorem k0_off92_wordsfp8e4m3 : ∀ (i : grid0.Coords) (v792 : BitVec 32) (k0_hw54 : k0_chk54 i v792), ∀ (k0_h1 : k0_cond1 i = 1#1), (Rect.unit (s := S24x32x2048) (k0_off92 v792) S1x32x2048.size (k0_off92_inb i v792 k0_hw54 k0_h1)).WholeWords (EltTy.packing .fp8e4m3) := fun i v792 k0_hw54 k0_h1 => k0_hw54.2.1 k0_h1 (k0_off92_inb i v792 k0_hw54 k0_h1)
theorem k0_off93_inb : ∀ (i : grid0.Coords) (v792 : BitVec 32) (k0_hw54 : k0_chk54 i v792), ∀ (k0_h1 : k0_cond1 i = 1#1), ∀ a, (k0_off93 v792) a + S1x32x8192.size a ≤ S24x32x8192.size a := fun i v792 k0_hw54 k0_h1 => k0_hw54.2.2.1 k0_h1
theorem k0_off93_wordsfp8e4m3 : ∀ (i : grid0.Coords) (v792 : BitVec 32) (k0_hw54 : k0_chk54 i v792), ∀ (k0_h1 : k0_cond1 i = 1#1), (Rect.unit (s := S24x32x8192) (k0_off93 v792) S1x32x8192.size (k0_off93_inb i v792 k0_hw54 k0_h1)).WholeWords (EltTy.packing .fp8e4m3) := fun i v792 k0_hw54 k0_h1 => k0_hw54.2.2.2 k0_h1 (k0_off93_inb i v792 k0_hw54 k0_h1)

def k0_off94 (v804 : BitVec 32) : Fin 3 → Nat :=
  let c0_i32_517 : BitVec 32 := 0#32
  let v805 : BitVec 32 := Scalar.maxsi v804 c0_i32_517
  let c0_i32_521 : BitVec 32 := 0#32
  let c0_i32_522 : BitVec 32 := 0#32
  ![v805.toNat, 0, 0]

def k0_off95 (v804 : BitVec 32) : Fin 3 → Nat :=
  let c0_i32_517 : BitVec 32 := 0#32
  let v805 : BitVec 32 := Scalar.maxsi v804 c0_i32_517
  let c0_i32_526 : BitVec 32 := 0#32
  let c0_i32_527 : BitVec 32 := 0#32
  ![v805.toNat, 0, 0]

def k0_chk55 (i : grid0.Coords) (v804 : BitVec 32) : Prop :=
  (∀ (k0_h1 : k0_cond1 i = 1#1), ∀ a, (k0_off94 v804) a + S1x32x2048.size a ≤ S24x32x2048.size a) ∧
  (∀ (k0_h1 : k0_cond1 i = 1#1), ∀ (hinb : ∀ a, (k0_off94 v804) a + S1x32x2048.size a ≤ S24x32x2048.size a), (Rect.unit (s := S24x32x2048) (k0_off94 v804) S1x32x2048.size hinb).WholeWords (EltTy.packing .fp8e4m3)) ∧
  (∀ (k0_h1 : k0_cond1 i = 1#1), ∀ a, (k0_off95 v804) a + S1x32x8192.size a ≤ S24x32x8192.size a) ∧
  (∀ (k0_h1 : k0_cond1 i = 1#1), ∀ (hinb : ∀ a, (k0_off95 v804) a + S1x32x8192.size a ≤ S24x32x8192.size a), (Rect.unit (s := S24x32x8192) (k0_off95 v804) S1x32x8192.size hinb).WholeWords (EltTy.packing .fp8e4m3))
theorem k0_off94_inb : ∀ (i : grid0.Coords) (v804 : BitVec 32) (k0_hw55 : k0_chk55 i v804), ∀ (k0_h1 : k0_cond1 i = 1#1), ∀ a, (k0_off94 v804) a + S1x32x2048.size a ≤ S24x32x2048.size a := fun i v804 k0_hw55 k0_h1 => k0_hw55.1 k0_h1
theorem k0_off94_wordsfp8e4m3 : ∀ (i : grid0.Coords) (v804 : BitVec 32) (k0_hw55 : k0_chk55 i v804), ∀ (k0_h1 : k0_cond1 i = 1#1), (Rect.unit (s := S24x32x2048) (k0_off94 v804) S1x32x2048.size (k0_off94_inb i v804 k0_hw55 k0_h1)).WholeWords (EltTy.packing .fp8e4m3) := fun i v804 k0_hw55 k0_h1 => k0_hw55.2.1 k0_h1 (k0_off94_inb i v804 k0_hw55 k0_h1)
theorem k0_off95_inb : ∀ (i : grid0.Coords) (v804 : BitVec 32) (k0_hw55 : k0_chk55 i v804), ∀ (k0_h1 : k0_cond1 i = 1#1), ∀ a, (k0_off95 v804) a + S1x32x8192.size a ≤ S24x32x8192.size a := fun i v804 k0_hw55 k0_h1 => k0_hw55.2.2.1 k0_h1
theorem k0_off95_wordsfp8e4m3 : ∀ (i : grid0.Coords) (v804 : BitVec 32) (k0_hw55 : k0_chk55 i v804), ∀ (k0_h1 : k0_cond1 i = 1#1), (Rect.unit (s := S24x32x8192) (k0_off95 v804) S1x32x8192.size (k0_off95_inb i v804 k0_hw55 k0_h1)).WholeWords (EltTy.packing .fp8e4m3) := fun i v804 k0_hw55 k0_h1 => k0_hw55.2.2.2 k0_h1 (k0_off95_inb i v804 k0_hw55 k0_h1)

def k0_off96 (v816 : BitVec 32) : Fin 3 → Nat :=
  let c0_i32_529 : BitVec 32 := 0#32
  let v817 : BitVec 32 := Scalar.maxsi v816 c0_i32_529
  let c0_i32_533 : BitVec 32 := 0#32
  let c0_i32_534 : BitVec 32 := 0#32
  ![v817.toNat, 0, 0]

def k0_off97 (v816 : BitVec 32) : Fin 3 → Nat :=
  let c0_i32_529 : BitVec 32 := 0#32
  let v817 : BitVec 32 := Scalar.maxsi v816 c0_i32_529
  let c0_i32_538 : BitVec 32 := 0#32
  let c0_i32_539 : BitVec 32 := 0#32
  ![v817.toNat, 0, 0]

def k0_chk56 (i : grid0.Coords) (v816 : BitVec 32) : Prop :=
  (∀ (k0_h1 : k0_cond1 i = 1#1), ∀ a, (k0_off96 v816) a + S1x32x2048.size a ≤ S24x32x2048.size a) ∧
  (∀ (k0_h1 : k0_cond1 i = 1#1), ∀ (hinb : ∀ a, (k0_off96 v816) a + S1x32x2048.size a ≤ S24x32x2048.size a), (Rect.unit (s := S24x32x2048) (k0_off96 v816) S1x32x2048.size hinb).WholeWords (EltTy.packing .fp8e4m3)) ∧
  (∀ (k0_h1 : k0_cond1 i = 1#1), ∀ a, (k0_off97 v816) a + S1x32x8192.size a ≤ S24x32x8192.size a) ∧
  (∀ (k0_h1 : k0_cond1 i = 1#1), ∀ (hinb : ∀ a, (k0_off97 v816) a + S1x32x8192.size a ≤ S24x32x8192.size a), (Rect.unit (s := S24x32x8192) (k0_off97 v816) S1x32x8192.size hinb).WholeWords (EltTy.packing .fp8e4m3))
theorem k0_off96_inb : ∀ (i : grid0.Coords) (v816 : BitVec 32) (k0_hw56 : k0_chk56 i v816), ∀ (k0_h1 : k0_cond1 i = 1#1), ∀ a, (k0_off96 v816) a + S1x32x2048.size a ≤ S24x32x2048.size a := fun i v816 k0_hw56 k0_h1 => k0_hw56.1 k0_h1
theorem k0_off96_wordsfp8e4m3 : ∀ (i : grid0.Coords) (v816 : BitVec 32) (k0_hw56 : k0_chk56 i v816), ∀ (k0_h1 : k0_cond1 i = 1#1), (Rect.unit (s := S24x32x2048) (k0_off96 v816) S1x32x2048.size (k0_off96_inb i v816 k0_hw56 k0_h1)).WholeWords (EltTy.packing .fp8e4m3) := fun i v816 k0_hw56 k0_h1 => k0_hw56.2.1 k0_h1 (k0_off96_inb i v816 k0_hw56 k0_h1)
theorem k0_off97_inb : ∀ (i : grid0.Coords) (v816 : BitVec 32) (k0_hw56 : k0_chk56 i v816), ∀ (k0_h1 : k0_cond1 i = 1#1), ∀ a, (k0_off97 v816) a + S1x32x8192.size a ≤ S24x32x8192.size a := fun i v816 k0_hw56 k0_h1 => k0_hw56.2.2.1 k0_h1
theorem k0_off97_wordsfp8e4m3 : ∀ (i : grid0.Coords) (v816 : BitVec 32) (k0_hw56 : k0_chk56 i v816), ∀ (k0_h1 : k0_cond1 i = 1#1), (Rect.unit (s := S24x32x8192) (k0_off97 v816) S1x32x8192.size (k0_off97_inb i v816 k0_hw56 k0_h1)).WholeWords (EltTy.packing .fp8e4m3) := fun i v816 k0_hw56 k0_h1 => k0_hw56.2.2.2 k0_h1 (k0_off97_inb i v816 k0_hw56 k0_h1)

def k0_off98 (v828 : BitVec 32) : Fin 3 → Nat :=
  let c0_i32_541 : BitVec 32 := 0#32
  let v829 : BitVec 32 := Scalar.maxsi v828 c0_i32_541
  let c0_i32_545 : BitVec 32 := 0#32
  let c0_i32_546 : BitVec 32 := 0#32
  ![v829.toNat, 0, 0]

def k0_off99 (v828 : BitVec 32) : Fin 3 → Nat :=
  let c0_i32_541 : BitVec 32 := 0#32
  let v829 : BitVec 32 := Scalar.maxsi v828 c0_i32_541
  let c0_i32_550 : BitVec 32 := 0#32
  let c0_i32_551 : BitVec 32 := 0#32
  ![v829.toNat, 0, 0]

def k0_chk57 (i : grid0.Coords) (v828 : BitVec 32) : Prop :=
  (∀ (k0_h1 : k0_cond1 i = 1#1), ∀ a, (k0_off98 v828) a + S1x32x2048.size a ≤ S24x32x2048.size a) ∧
  (∀ (k0_h1 : k0_cond1 i = 1#1), ∀ (hinb : ∀ a, (k0_off98 v828) a + S1x32x2048.size a ≤ S24x32x2048.size a), (Rect.unit (s := S24x32x2048) (k0_off98 v828) S1x32x2048.size hinb).WholeWords (EltTy.packing .fp8e4m3)) ∧
  (∀ (k0_h1 : k0_cond1 i = 1#1), ∀ a, (k0_off99 v828) a + S1x32x8192.size a ≤ S24x32x8192.size a) ∧
  (∀ (k0_h1 : k0_cond1 i = 1#1), ∀ (hinb : ∀ a, (k0_off99 v828) a + S1x32x8192.size a ≤ S24x32x8192.size a), (Rect.unit (s := S24x32x8192) (k0_off99 v828) S1x32x8192.size hinb).WholeWords (EltTy.packing .fp8e4m3))
theorem k0_off98_inb : ∀ (i : grid0.Coords) (v828 : BitVec 32) (k0_hw57 : k0_chk57 i v828), ∀ (k0_h1 : k0_cond1 i = 1#1), ∀ a, (k0_off98 v828) a + S1x32x2048.size a ≤ S24x32x2048.size a := fun i v828 k0_hw57 k0_h1 => k0_hw57.1 k0_h1
theorem k0_off98_wordsfp8e4m3 : ∀ (i : grid0.Coords) (v828 : BitVec 32) (k0_hw57 : k0_chk57 i v828), ∀ (k0_h1 : k0_cond1 i = 1#1), (Rect.unit (s := S24x32x2048) (k0_off98 v828) S1x32x2048.size (k0_off98_inb i v828 k0_hw57 k0_h1)).WholeWords (EltTy.packing .fp8e4m3) := fun i v828 k0_hw57 k0_h1 => k0_hw57.2.1 k0_h1 (k0_off98_inb i v828 k0_hw57 k0_h1)
theorem k0_off99_inb : ∀ (i : grid0.Coords) (v828 : BitVec 32) (k0_hw57 : k0_chk57 i v828), ∀ (k0_h1 : k0_cond1 i = 1#1), ∀ a, (k0_off99 v828) a + S1x32x8192.size a ≤ S24x32x8192.size a := fun i v828 k0_hw57 k0_h1 => k0_hw57.2.2.1 k0_h1
theorem k0_off99_wordsfp8e4m3 : ∀ (i : grid0.Coords) (v828 : BitVec 32) (k0_hw57 : k0_chk57 i v828), ∀ (k0_h1 : k0_cond1 i = 1#1), (Rect.unit (s := S24x32x8192) (k0_off99 v828) S1x32x8192.size (k0_off99_inb i v828 k0_hw57 k0_h1)).WholeWords (EltTy.packing .fp8e4m3) := fun i v828 k0_hw57 k0_h1 => k0_hw57.2.2.2 k0_h1 (k0_off99_inb i v828 k0_hw57 k0_h1)

def k0_off100 (v840 : BitVec 32) : Fin 3 → Nat :=
  let c0_i32_553 : BitVec 32 := 0#32
  let v841 : BitVec 32 := Scalar.maxsi v840 c0_i32_553
  let c0_i32_557 : BitVec 32 := 0#32
  let c0_i32_558 : BitVec 32 := 0#32
  ![v841.toNat, 0, 0]

def k0_off101 (v840 : BitVec 32) : Fin 3 → Nat :=
  let c0_i32_553 : BitVec 32 := 0#32
  let v841 : BitVec 32 := Scalar.maxsi v840 c0_i32_553
  let c0_i32_562 : BitVec 32 := 0#32
  let c0_i32_563 : BitVec 32 := 0#32
  ![v841.toNat, 0, 0]

def k0_chk58 (i : grid0.Coords) (v840 : BitVec 32) : Prop :=
  (∀ (k0_h1 : k0_cond1 i = 1#1), ∀ a, (k0_off100 v840) a + S1x32x2048.size a ≤ S24x32x2048.size a) ∧
  (∀ (k0_h1 : k0_cond1 i = 1#1), ∀ (hinb : ∀ a, (k0_off100 v840) a + S1x32x2048.size a ≤ S24x32x2048.size a), (Rect.unit (s := S24x32x2048) (k0_off100 v840) S1x32x2048.size hinb).WholeWords (EltTy.packing .fp8e4m3)) ∧
  (∀ (k0_h1 : k0_cond1 i = 1#1), ∀ a, (k0_off101 v840) a + S1x32x8192.size a ≤ S24x32x8192.size a) ∧
  (∀ (k0_h1 : k0_cond1 i = 1#1), ∀ (hinb : ∀ a, (k0_off101 v840) a + S1x32x8192.size a ≤ S24x32x8192.size a), (Rect.unit (s := S24x32x8192) (k0_off101 v840) S1x32x8192.size hinb).WholeWords (EltTy.packing .fp8e4m3))
theorem k0_off100_inb : ∀ (i : grid0.Coords) (v840 : BitVec 32) (k0_hw58 : k0_chk58 i v840), ∀ (k0_h1 : k0_cond1 i = 1#1), ∀ a, (k0_off100 v840) a + S1x32x2048.size a ≤ S24x32x2048.size a := fun i v840 k0_hw58 k0_h1 => k0_hw58.1 k0_h1
theorem k0_off100_wordsfp8e4m3 : ∀ (i : grid0.Coords) (v840 : BitVec 32) (k0_hw58 : k0_chk58 i v840), ∀ (k0_h1 : k0_cond1 i = 1#1), (Rect.unit (s := S24x32x2048) (k0_off100 v840) S1x32x2048.size (k0_off100_inb i v840 k0_hw58 k0_h1)).WholeWords (EltTy.packing .fp8e4m3) := fun i v840 k0_hw58 k0_h1 => k0_hw58.2.1 k0_h1 (k0_off100_inb i v840 k0_hw58 k0_h1)
theorem k0_off101_inb : ∀ (i : grid0.Coords) (v840 : BitVec 32) (k0_hw58 : k0_chk58 i v840), ∀ (k0_h1 : k0_cond1 i = 1#1), ∀ a, (k0_off101 v840) a + S1x32x8192.size a ≤ S24x32x8192.size a := fun i v840 k0_hw58 k0_h1 => k0_hw58.2.2.1 k0_h1
theorem k0_off101_wordsfp8e4m3 : ∀ (i : grid0.Coords) (v840 : BitVec 32) (k0_hw58 : k0_chk58 i v840), ∀ (k0_h1 : k0_cond1 i = 1#1), (Rect.unit (s := S24x32x8192) (k0_off101 v840) S1x32x8192.size (k0_off101_inb i v840 k0_hw58 k0_h1)).WholeWords (EltTy.packing .fp8e4m3) := fun i v840 k0_hw58 k0_h1 => k0_hw58.2.2.2 k0_h1 (k0_off101_inb i v840 k0_hw58 k0_h1)

def k0_cond3 (i : grid0.Coords) : BitVec 1 :=
  let arg0 : BitVec 32 := BitVec.ofNat 32 (i 0).val
  let c0_i32_5 : BitVec 32 := 0#32
  let v10 : BitVec 1 := Scalar.cmpi .sgt arg0 c0_i32_5
  let v11 : BitVec 32 := Scalar.extui v10
  let c0_i32_6 : BitVec 32 := 0#32
  let v12 : BitVec 1 := Scalar.cmpi .ne v11 c0_i32_6
  v12

def k0_mult1 (i : grid0.Coords) : BitVec 32 :=
  let arg1 : BitVec 32 := BitVec.ofNat 32 (i 1).val
  let c1024_i32 : BitVec 32 := 1024#32
  let v24 : BitVec 32 := Scalar.muli arg1 c1024_i32
  v24
def k0_off102 (i : grid0.Coords) : Fin 2 → Nat :=
  let c0 : Index := 0#32
  let arg1 : BitVec 32 := BitVec.ofNat 32 (i 1).val
  let c1024_i32 : BitVec 32 := 1024#32
  let v24 : BitVec 32 := Scalar.muli arg1 c1024_i32
  let v25 : BitVec 32 := v24
  let v26 : Index := Scalar.indexCast v25
  ![0, v26.toNat]
def k0_off103 (i : grid0.Coords) : Fin 2 → Nat :=
  let c32 : Index := 32#32
  let arg1 : BitVec 32 := BitVec.ofNat 32 (i 1).val
  let c1024_i32 : BitVec 32 := 1024#32
  let v24 : BitVec 32 := Scalar.muli arg1 c1024_i32
  let v25 : BitVec 32 := v24
  let v37 : Index := Scalar.indexCast v25
  ![32, v37.toNat]
def k0_off104 (i : grid0.Coords) : Fin 2 → Nat :=
  let c64 : Index := 64#32
  let arg1 : BitVec 32 := BitVec.ofNat 32 (i 1).val
  let c1024_i32 : BitVec 32 := 1024#32
  let v24 : BitVec 32 := Scalar.muli arg1 c1024_i32
  let v25 : BitVec 32 := v24
  let v48 : Index := Scalar.indexCast v25
  ![64, v48.toNat]
def k0_off105 (i : grid0.Coords) : Fin 2 → Nat :=
  let c96 : Index := 96#32
  let arg1 : BitVec 32 := BitVec.ofNat 32 (i 1).val
  let c1024_i32 : BitVec 32 := 1024#32
  let v24 : BitVec 32 := Scalar.muli arg1 c1024_i32
  let v25 : BitVec 32 := v24
  let v59 : Index := Scalar.indexCast v25
  ![96, v59.toNat]
def k0_off106 (i : grid0.Coords) : Fin 2 → Nat :=
  let c128 : Index := 128#32
  let arg1 : BitVec 32 := BitVec.ofNat 32 (i 1).val
  let c1024_i32 : BitVec 32 := 1024#32
  let v24 : BitVec 32 := Scalar.muli arg1 c1024_i32
  let v25 : BitVec 32 := v24
  let v70 : Index := Scalar.indexCast v25
  ![128, v70.toNat]
def k0_off107 (i : grid0.Coords) : Fin 2 → Nat :=
  let c160 : Index := 160#32
  let arg1 : BitVec 32 := BitVec.ofNat 32 (i 1).val
  let c1024_i32 : BitVec 32 := 1024#32
  let v24 : BitVec 32 := Scalar.muli arg1 c1024_i32
  let v25 : BitVec 32 := v24
  let v81 : Index := Scalar.indexCast v25
  ![160, v81.toNat]
def k0_off108 (i : grid0.Coords) : Fin 2 → Nat :=
  let c192 : Index := 192#32
  let arg1 : BitVec 32 := BitVec.ofNat 32 (i 1).val
  let c1024_i32 : BitVec 32 := 1024#32
  let v24 : BitVec 32 := Scalar.muli arg1 c1024_i32
  let v25 : BitVec 32 := v24
  let v92 : Index := Scalar.indexCast v25
  ![192, v92.toNat]
def k0_off109 (i : grid0.Coords) : Fin 2 → Nat :=
  let c224 : Index := 224#32
  let arg1 : BitVec 32 := BitVec.ofNat 32 (i 1).val
  let c1024_i32 : BitVec 32 := 1024#32
  let v24 : BitVec 32 := Scalar.muli arg1 c1024_i32
  let v25 : BitVec 32 := v24
  let v103 : Index := Scalar.indexCast v25
  ![224, v103.toNat]
def k0_cond4 (i : grid0.Coords) : BitVec 1 :=
  let arg0 : BitVec 32 := BitVec.ofNat 32 (i 0).val
  let c0_i32_7 : BitVec 32 := 0#32
  let v13 : BitVec 1 := Scalar.cmpi .eq arg0 c0_i32_7
  let v14 : BitVec 32 := Scalar.extui v13
  let c0_i32_8 : BitVec 32 := 0#32
  let v15 : BitVec 1 := Scalar.cmpi .ne v14 c0_i32_8
  v15

def k0_mult2 (i : grid0.Coords) : BitVec 32 :=
  let arg1 : BitVec 32 := BitVec.ofNat 32 (i 1).val
  let c1024_i32 : BitVec 32 := 1024#32
  let v76 : BitVec 32 := Scalar.muli arg1 c1024_i32
  let c0_i32_25 : BitVec 32 := 0#32
  let v77 : BitVec 32 := Scalar.addi v76 c0_i32_25
  v77
def k0_off110 (i : grid0.Coords) (c0_i32_25 : BitVec 32) : Fin 2 → Nat :=
  let c0_43 : Index := 0#32
  let arg1 : BitVec 32 := BitVec.ofNat 32 (i 1).val
  let c1024_i32 : BitVec 32 := 1024#32
  let v76 : BitVec 32 := Scalar.muli arg1 c1024_i32
  let v77 : BitVec 32 := Scalar.addi v76 c0_i32_25
  let v78 : BitVec 32 := v77
  let v131 : Index := Scalar.indexCast v78
  ![0, v131.toNat]
def k0_off111 (i : grid0.Coords) (c0_i32_25 : BitVec 32) : Fin 2 → Nat :=
  let c128_60 : Index := 128#32
  let arg1 : BitVec 32 := BitVec.ofNat 32 (i 1).val
  let c1024_i32 : BitVec 32 := 1024#32
  let v76 : BitVec 32 := Scalar.muli arg1 c1024_i32
  let v77 : BitVec 32 := Scalar.addi v76 c0_i32_25
  let v78 : BitVec 32 := v77
  let v186 : Index := Scalar.indexCast v78
  ![128, v186.toNat]
def k0_off112 (i : grid0.Coords) (c0_i32_25 : BitVec 32) : Fin 2 → Nat :=
  let c256_77 : Index := 256#32
  let arg1 : BitVec 32 := BitVec.ofNat 32 (i 1).val
  let c1024_i32 : BitVec 32 := 1024#32
  let v76 : BitVec 32 := Scalar.muli arg1 c1024_i32
  let v77 : BitVec 32 := Scalar.addi v76 c0_i32_25
  let v78 : BitVec 32 := v77
  let v241 : Index := Scalar.indexCast v78
  ![256, v241.toNat]
def k0_off113 (i : grid0.Coords) (c0_i32_25 : BitVec 32) : Fin 2 → Nat :=
  let c384_94 : Index := 384#32
  let arg1 : BitVec 32 := BitVec.ofNat 32 (i 1).val
  let c1024_i32 : BitVec 32 := 1024#32
  let v76 : BitVec 32 := Scalar.muli arg1 c1024_i32
  let v77 : BitVec 32 := Scalar.addi v76 c0_i32_25
  let v78 : BitVec 32 := v77
  let v296 : Index := Scalar.indexCast v78
  ![384, v296.toNat]
def k0_off114 (i : grid0.Coords) (c0_i32_25 : BitVec 32) : Fin 2 → Nat :=
  let c512_111 : Index := 512#32
  let arg1 : BitVec 32 := BitVec.ofNat 32 (i 1).val
  let c1024_i32 : BitVec 32 := 1024#32
  let v76 : BitVec 32 := Scalar.muli arg1 c1024_i32
  let v77 : BitVec 32 := Scalar.addi v76 c0_i32_25
  let v78 : BitVec 32 := v77
  let v351 : Index := Scalar.indexCast v78
  ![512, v351.toNat]
def k0_off115 (i : grid0.Coords) (c0_i32_25 : BitVec 32) : Fin 2 → Nat :=
  let c640_128 : Index := 640#32
  let arg1 : BitVec 32 := BitVec.ofNat 32 (i 1).val
  let c1024_i32 : BitVec 32 := 1024#32
  let v76 : BitVec 32 := Scalar.muli arg1 c1024_i32
  let v77 : BitVec 32 := Scalar.addi v76 c0_i32_25
  let v78 : BitVec 32 := v77
  let v406 : Index := Scalar.indexCast v78
  ![640, v406.toNat]
def k0_off116 (i : grid0.Coords) (c0_i32_25 : BitVec 32) : Fin 2 → Nat :=
  let c768_145 : Index := 768#32
  let arg1 : BitVec 32 := BitVec.ofNat 32 (i 1).val
  let c1024_i32 : BitVec 32 := 1024#32
  let v76 : BitVec 32 := Scalar.muli arg1 c1024_i32
  let v77 : BitVec 32 := Scalar.addi v76 c0_i32_25
  let v78 : BitVec 32 := v77
  let v461 : Index := Scalar.indexCast v78
  ![768, v461.toNat]
def k0_off117 (i : grid0.Coords) (c0_i32_25 : BitVec 32) : Fin 2 → Nat :=
  let c896_162 : Index := 896#32
  let arg1 : BitVec 32 := BitVec.ofNat 32 (i 1).val
  let c1024_i32 : BitVec 32 := 1024#32
  let v76 : BitVec 32 := Scalar.muli arg1 c1024_i32
  let v77 : BitVec 32 := Scalar.addi v76 c0_i32_25
  let v78 : BitVec 32 := v77
  let v516 : Index := Scalar.indexCast v78
  ![896, v516.toNat]
def k0_off118 (i : grid0.Coords) (c0_i32_25 : BitVec 32) : Fin 2 → Nat :=
  let c1024_179 : Index := 1024#32
  let arg1 : BitVec 32 := BitVec.ofNat 32 (i 1).val
  let c1024_i32 : BitVec 32 := 1024#32
  let v76 : BitVec 32 := Scalar.muli arg1 c1024_i32
  let v77 : BitVec 32 := Scalar.addi v76 c0_i32_25
  let v78 : BitVec 32 := v77
  let v571 : Index := Scalar.indexCast v78
  ![1024, v571.toNat]
def k0_off119 (i : grid0.Coords) (c0_i32_25 : BitVec 32) : Fin 2 → Nat :=
  let c1152_196 : Index := 1152#32
  let arg1 : BitVec 32 := BitVec.ofNat 32 (i 1).val
  let c1024_i32 : BitVec 32 := 1024#32
  let v76 : BitVec 32 := Scalar.muli arg1 c1024_i32
  let v77 : BitVec 32 := Scalar.addi v76 c0_i32_25
  let v78 : BitVec 32 := v77
  let v626 : Index := Scalar.indexCast v78
  ![1152, v626.toNat]
def k0_off120 (i : grid0.Coords) (c0_i32_25 : BitVec 32) : Fin 2 → Nat :=
  let c1280_213 : Index := 1280#32
  let arg1 : BitVec 32 := BitVec.ofNat 32 (i 1).val
  let c1024_i32 : BitVec 32 := 1024#32
  let v76 : BitVec 32 := Scalar.muli arg1 c1024_i32
  let v77 : BitVec 32 := Scalar.addi v76 c0_i32_25
  let v78 : BitVec 32 := v77
  let v681 : Index := Scalar.indexCast v78
  ![1280, v681.toNat]
def k0_off121 (i : grid0.Coords) (c0_i32_25 : BitVec 32) : Fin 2 → Nat :=
  let c1408_230 : Index := 1408#32
  let arg1 : BitVec 32 := BitVec.ofNat 32 (i 1).val
  let c1024_i32 : BitVec 32 := 1024#32
  let v76 : BitVec 32 := Scalar.muli arg1 c1024_i32
  let v77 : BitVec 32 := Scalar.addi v76 c0_i32_25
  let v78 : BitVec 32 := v77
  let v736 : Index := Scalar.indexCast v78
  ![1408, v736.toNat]
def k0_off122 (i : grid0.Coords) (c0_i32_25 : BitVec 32) : Fin 2 → Nat :=
  let c1536_247 : Index := 1536#32
  let arg1 : BitVec 32 := BitVec.ofNat 32 (i 1).val
  let c1024_i32 : BitVec 32 := 1024#32
  let v76 : BitVec 32 := Scalar.muli arg1 c1024_i32
  let v77 : BitVec 32 := Scalar.addi v76 c0_i32_25
  let v78 : BitVec 32 := v77
  let v791 : Index := Scalar.indexCast v78
  ![1536, v791.toNat]
def k0_off123 (i : grid0.Coords) (c0_i32_25 : BitVec 32) : Fin 2 → Nat :=
  let c1664_264 : Index := 1664#32
  let arg1 : BitVec 32 := BitVec.ofNat 32 (i 1).val
  let c1024_i32 : BitVec 32 := 1024#32
  let v76 : BitVec 32 := Scalar.muli arg1 c1024_i32
  let v77 : BitVec 32 := Scalar.addi v76 c0_i32_25
  let v78 : BitVec 32 := v77
  let v846 : Index := Scalar.indexCast v78
  ![1664, v846.toNat]
def k0_off124 (i : grid0.Coords) (c0_i32_25 : BitVec 32) : Fin 2 → Nat :=
  let c1792_281 : Index := 1792#32
  let arg1 : BitVec 32 := BitVec.ofNat 32 (i 1).val
  let c1024_i32 : BitVec 32 := 1024#32
  let v76 : BitVec 32 := Scalar.muli arg1 c1024_i32
  let v77 : BitVec 32 := Scalar.addi v76 c0_i32_25
  let v78 : BitVec 32 := v77
  let v901 : Index := Scalar.indexCast v78
  ![1792, v901.toNat]
def k0_off125 (i : grid0.Coords) (c0_i32_25 : BitVec 32) : Fin 2 → Nat :=
  let c1920_298 : Index := 1920#32
  let arg1 : BitVec 32 := BitVec.ofNat 32 (i 1).val
  let c1024_i32 : BitVec 32 := 1024#32
  let v76 : BitVec 32 := Scalar.muli arg1 c1024_i32
  let v77 : BitVec 32 := Scalar.addi v76 c0_i32_25
  let v78 : BitVec 32 := v77
  let v956 : Index := Scalar.indexCast v78
  ![1920, v956.toNat]
def k0_mult3 (i : grid0.Coords) : BitVec 32 :=
  let arg1 : BitVec 32 := BitVec.ofNat 32 (i 1).val
  let c1024_i32_308 : BitVec 32 := 1024#32
  let v986 : BitVec 32 := Scalar.muli arg1 c1024_i32_308
  let c128_i32_309 : BitVec 32 := 128#32
  let v987 : BitVec 32 := Scalar.addi v986 c128_i32_309
  v987
def k0_mult4 (i : grid0.Coords) : BitVec 32 :=
  let arg1 : BitVec 32 := BitVec.ofNat 32 (i 1).val
  let c1024_i32_624 : BitVec 32 := 1024#32
  let v1896 : BitVec 32 := Scalar.muli arg1 c1024_i32_624
  let c256_i32 : BitVec 32 := 256#32
  let v1897 : BitVec 32 := Scalar.addi v1896 c256_i32
  v1897
def k0_mult5 (i : grid0.Coords) : BitVec 32 :=
  let arg1 : BitVec 32 := BitVec.ofNat 32 (i 1).val
  let c1024_i32_939 : BitVec 32 := 1024#32
  let v2806 : BitVec 32 := Scalar.muli arg1 c1024_i32_939
  let c384_i32 : BitVec 32 := 384#32
  let v2807 : BitVec 32 := Scalar.addi v2806 c384_i32
  v2807
def k0_mult6 (i : grid0.Coords) : BitVec 32 :=
  let arg1 : BitVec 32 := BitVec.ofNat 32 (i 1).val
  let c1024_i32_1255 : BitVec 32 := 1024#32
  let v3716 : BitVec 32 := Scalar.muli arg1 c1024_i32_1255
  let c512_i32 : BitVec 32 := 512#32
  let v3717 : BitVec 32 := Scalar.addi v3716 c512_i32
  v3717
def k0_mult7 (i : grid0.Coords) : BitVec 32 :=
  let arg1 : BitVec 32 := BitVec.ofNat 32 (i 1).val
  let c1024_i32_1571 : BitVec 32 := 1024#32
  let v4626 : BitVec 32 := Scalar.muli arg1 c1024_i32_1571
  let c640_i32 : BitVec 32 := 640#32
  let v4627 : BitVec 32 := Scalar.addi v4626 c640_i32
  v4627
def k0_mult8 (i : grid0.Coords) : BitVec 32 :=
  let arg1 : BitVec 32 := BitVec.ofNat 32 (i 1).val
  let c1024_i32_1887 : BitVec 32 := 1024#32
  let v5536 : BitVec 32 := Scalar.muli arg1 c1024_i32_1887
  let c768_i32 : BitVec 32 := 768#32
  let v5537 : BitVec 32 := Scalar.addi v5536 c768_i32
  v5537
def k0_mult9 (i : grid0.Coords) : BitVec 32 :=
  let arg1 : BitVec 32 := BitVec.ofNat 32 (i 1).val
  let c1024_i32_2203 : BitVec 32 := 1024#32
  let v6446 : BitVec 32 := Scalar.muli arg1 c1024_i32_2203
  let c896_i32 : BitVec 32 := 896#32
  let v6447 : BitVec 32 := Scalar.addi v6446 c896_i32
  v6447
def k0_cond6 (i : grid0.Coords) : BitVec 1 :=
  let arg0 : BitVec 32 := BitVec.ofNat 32 (i 0).val
  let c6_i32_11 : BitVec 32 := 6#32
  let v21 : BitVec 1 := Scalar.cmpi .slt arg0 c6_i32_11
  let v22 : BitVec 32 := Scalar.extui v21
  let c0_i32_12 : BitVec 32 := 0#32
  let v23 : BitVec 1 := Scalar.cmpi .ne v22 c0_i32_12
  v23

def k0_mult10 (i : grid0.Coords) : BitVec 32 :=
  let arg1 : BitVec 32 := BitVec.ofNat 32 (i 1).val
  let c1024_i32 : BitVec 32 := 1024#32
  let v24 : BitVec 32 := Scalar.muli arg1 c1024_i32
  v24
def k0_off126 (i : grid0.Coords) : Fin 2 → Nat :=
  let c0_14 : Index := 0#32
  let arg1 : BitVec 32 := BitVec.ofNat 32 (i 1).val
  let c1024_i32 : BitVec 32 := 1024#32
  let v24 : BitVec 32 := Scalar.muli arg1 c1024_i32
  let v25 : BitVec 32 := v24
  let v27 : Index := Scalar.indexCast v25
  ![0, v27.toNat]
def k0_off127 (i : grid0.Coords) : Fin 2 → Nat :=
  let c0_17 : Index := 0#32
  let arg1 : BitVec 32 := BitVec.ofNat 32 (i 1).val
  let c1024_i32 : BitVec 32 := 1024#32
  let v24 : BitVec 32 := Scalar.muli arg1 c1024_i32
  let v25 : BitVec 32 := v24
  let v31 : Index := Scalar.indexCast v25
  ![0, v31.toNat]
def k0_off128 (i : grid0.Coords) : Fin 1 → Nat :=
  let arg0 : BitVec 32 := BitVec.ofNat 32 (i 0).val
  let c32_i32 : BitVec 32 := 32#32
  let v36 : BitVec 32 := Scalar.muli arg0 c32_i32
  let c0_i32_21 : BitVec 32 := 0#32
  let v37 : BitVec 32 := Scalar.addi v36 c0_i32_21
  let v38 : Index := Scalar.indexCast v37
  ![v38.toNat]
def k0_off129 (v41 : BitVec 32) : Fin 1 → Nat :=
  let v46 : Index := Scalar.indexCast v41
  ![v46.toNat]

def k0_off130 (i : grid0.Coords) (v41 : BitVec 32) : Fin 2 → Nat :=
  let v50 : Index := Scalar.indexCast v41
  let arg1 : BitVec 32 := BitVec.ofNat 32 (i 1).val
  let c1024_i32 : BitVec 32 := 1024#32
  let v24 : BitVec 32 := Scalar.muli arg1 c1024_i32
  let v25 : BitVec 32 := v24
  let v51 : Index := Scalar.indexCast v25
  ![v50.toNat, v51.toNat]

def k0_chk59 (i : grid0.Coords) (v41 : BitVec 32) : Prop :=
  (∀ (k0_h6 : k0_cond6 i = 1#1), ∀ a, (k0_off129 v41) a + S1.size a ≤ S15.size a) ∧
  (∀ (k0_h6 : k0_cond6 i = 1#1), ∀ a, (k0_off130 i v41) a + S1x1024.size a ≤ S16x8192.size a)
theorem k0_off129_inb : ∀ (i : grid0.Coords) (v41 : BitVec 32) (k0_hw59 : k0_chk59 i v41), ∀ (k0_h6 : k0_cond6 i = 1#1), ∀ a, (k0_off129 v41) a + S1.size a ≤ S15.size a := fun i v41 k0_hw59 k0_h6 => k0_hw59.1 k0_h6
theorem k0_off130_inb : ∀ (i : grid0.Coords) (v41 : BitVec 32) (k0_hw59 : k0_chk59 i v41), ∀ (k0_h6 : k0_cond6 i = 1#1), ∀ a, (k0_off130 i v41) a + S1x1024.size a ≤ S16x8192.size a := fun i v41 k0_hw59 k0_h6 => k0_hw59.2 k0_h6

def k0_off131 (i : grid0.Coords) (v39 : BitVec 32) : Fin 2 → Nat :=
  let v53 : Index := Scalar.indexCast v39
  let arg1 : BitVec 32 := BitVec.ofNat 32 (i 1).val
  let c1024_i32 : BitVec 32 := 1024#32
  let v24 : BitVec 32 := Scalar.muli arg1 c1024_i32
  let v25 : BitVec 32 := v24
  let v54 : Index := Scalar.indexCast v25
  ![v53.toNat, v54.toNat]

def k0_chk60 (i : grid0.Coords) (v39 : BitVec 32) : Prop :=
  (∀ (k0_h6 : k0_cond6 i = 1#1), ∀ a, (k0_off131 i v39) a + S1x1024.size a ≤ S16x8192.size a)
theorem k0_off131_inb : ∀ (i : grid0.Coords) (v39 : BitVec 32) (k0_hw60 : k0_chk60 i v39), ∀ (k0_h6 : k0_cond6 i = 1#1), ∀ a, (k0_off131 i v39) a + S1x1024.size a ≤ S16x8192.size a := fun i v39 k0_hw60 k0_h6 => k0_hw60 k0_h6

def k0_off132 (i : grid0.Coords) : Fin 2 → Nat :=
  let c0_26 : Index := 0#32
  let arg1 : BitVec 32 := BitVec.ofNat 32 (i 1).val
  let c1024_i32 : BitVec 32 := 1024#32
  let v24 : BitVec 32 := Scalar.muli arg1 c1024_i32
  let v25 : BitVec 32 := v24
  let v69 : Index := Scalar.indexCast v25
  ![0, v69.toNat]
def k0_off133 (i : grid0.Coords) : Fin 1 → Nat :=
  let arg0 : BitVec 32 := BitVec.ofNat 32 (i 0).val
  let c32_i32_31 : BitVec 32 := 32#32
  let v94 : BitVec 32 := Scalar.muli arg0 c32_i32_31
  let c1_i32 : BitVec 32 := 1#32
  let v95 : BitVec 32 := Scalar.addi v94 c1_i32
  let v96 : Index := Scalar.indexCast v95
  ![v96.toNat]
def k0_off134 (v99 : BitVec 32) : Fin 1 → Nat :=
  let v104 : Index := Scalar.indexCast v99
  ![v104.toNat]

def k0_off135 (i : grid0.Coords) (v99 : BitVec 32) : Fin 2 → Nat :=
  let v108 : Index := Scalar.indexCast v99
  let arg1 : BitVec 32 := BitVec.ofNat 32 (i 1).val
  let c1024_i32 : BitVec 32 := 1024#32
  let v24 : BitVec 32 := Scalar.muli arg1 c1024_i32
  let v25 : BitVec 32 := v24
  let v109 : Index := Scalar.indexCast v25
  ![v108.toNat, v109.toNat]

def k0_chk61 (i : grid0.Coords) (v99 : BitVec 32) : Prop :=
  (∀ (k0_h6 : k0_cond6 i = 1#1), ∀ a, (k0_off134 v99) a + S1.size a ≤ S15.size a) ∧
  (∀ (k0_h6 : k0_cond6 i = 1#1), ∀ a, (k0_off135 i v99) a + S1x1024.size a ≤ S16x8192.size a)
theorem k0_off134_inb : ∀ (i : grid0.Coords) (v99 : BitVec 32) (k0_hw61 : k0_chk61 i v99), ∀ (k0_h6 : k0_cond6 i = 1#1), ∀ a, (k0_off134 v99) a + S1.size a ≤ S15.size a := fun i v99 k0_hw61 k0_h6 => k0_hw61.1 k0_h6
theorem k0_off135_inb : ∀ (i : grid0.Coords) (v99 : BitVec 32) (k0_hw61 : k0_chk61 i v99), ∀ (k0_h6 : k0_cond6 i = 1#1), ∀ a, (k0_off135 i v99) a + S1x1024.size a ≤ S16x8192.size a := fun i v99 k0_hw61 k0_h6 => k0_hw61.2 k0_h6

def k0_off136 (i : grid0.Coords) (v97 : BitVec 32) : Fin 2 → Nat :=
  let v111 : Index := Scalar.indexCast v97
  let arg1 : BitVec 32 := BitVec.ofNat 32 (i 1).val
  let c1024_i32 : BitVec 32 := 1024#32
  let v24 : BitVec 32 := Scalar.muli arg1 c1024_i32
  let v25 : BitVec 32 := v24
  let v112 : Index := Scalar.indexCast v25
  ![v111.toNat, v112.toNat]

def k0_chk62 (i : grid0.Coords) (v97 : BitVec 32) : Prop :=
  (∀ (k0_h6 : k0_cond6 i = 1#1), ∀ a, (k0_off136 i v97) a + S1x1024.size a ≤ S16x8192.size a)
theorem k0_off136_inb : ∀ (i : grid0.Coords) (v97 : BitVec 32) (k0_hw62 : k0_chk62 i v97), ∀ (k0_h6 : k0_cond6 i = 1#1), ∀ a, (k0_off136 i v97) a + S1x1024.size a ≤ S16x8192.size a := fun i v97 k0_hw62 k0_h6 => k0_hw62 k0_h6

def k0_off137 (i : grid0.Coords) : Fin 2 → Nat :=
  let c8_36 : Index := 8#32
  let arg1 : BitVec 32 := BitVec.ofNat 32 (i 1).val
  let c1024_i32 : BitVec 32 := 1024#32
  let v24 : BitVec 32 := Scalar.muli arg1 c1024_i32
  let v25 : BitVec 32 := v24
  let v127 : Index := Scalar.indexCast v25
  ![8, v127.toNat]
def k0_off138 (i : grid0.Coords) : Fin 1 → Nat :=
  let arg0 : BitVec 32 := BitVec.ofNat 32 (i 0).val
  let c32_i32_41 : BitVec 32 := 32#32
  let v152 : BitVec 32 := Scalar.muli arg0 c32_i32_41
  let c2_i32 : BitVec 32 := 2#32
  let v153 : BitVec 32 := Scalar.addi v152 c2_i32
  let v154 : Index := Scalar.indexCast v153
  ![v154.toNat]
def k0_off139 (v157 : BitVec 32) : Fin 1 → Nat :=
  let v162 : Index := Scalar.indexCast v157
  ![v162.toNat]

def k0_off140 (i : grid0.Coords) (v157 : BitVec 32) : Fin 2 → Nat :=
  let v166 : Index := Scalar.indexCast v157
  let arg1 : BitVec 32 := BitVec.ofNat 32 (i 1).val
  let c1024_i32 : BitVec 32 := 1024#32
  let v24 : BitVec 32 := Scalar.muli arg1 c1024_i32
  let v25 : BitVec 32 := v24
  let v167 : Index := Scalar.indexCast v25
  ![v166.toNat, v167.toNat]

def k0_chk63 (i : grid0.Coords) (v157 : BitVec 32) : Prop :=
  (∀ (k0_h6 : k0_cond6 i = 1#1), ∀ a, (k0_off139 v157) a + S1.size a ≤ S15.size a) ∧
  (∀ (k0_h6 : k0_cond6 i = 1#1), ∀ a, (k0_off140 i v157) a + S1x1024.size a ≤ S16x8192.size a)
theorem k0_off139_inb : ∀ (i : grid0.Coords) (v157 : BitVec 32) (k0_hw63 : k0_chk63 i v157), ∀ (k0_h6 : k0_cond6 i = 1#1), ∀ a, (k0_off139 v157) a + S1.size a ≤ S15.size a := fun i v157 k0_hw63 k0_h6 => k0_hw63.1 k0_h6
theorem k0_off140_inb : ∀ (i : grid0.Coords) (v157 : BitVec 32) (k0_hw63 : k0_chk63 i v157), ∀ (k0_h6 : k0_cond6 i = 1#1), ∀ a, (k0_off140 i v157) a + S1x1024.size a ≤ S16x8192.size a := fun i v157 k0_hw63 k0_h6 => k0_hw63.2 k0_h6

def k0_off141 (i : grid0.Coords) (v155 : BitVec 32) : Fin 2 → Nat :=
  let v169 : Index := Scalar.indexCast v155
  let arg1 : BitVec 32 := BitVec.ofNat 32 (i 1).val
  let c1024_i32 : BitVec 32 := 1024#32
  let v24 : BitVec 32 := Scalar.muli arg1 c1024_i32
  let v25 : BitVec 32 := v24
  let v170 : Index := Scalar.indexCast v25
  ![v169.toNat, v170.toNat]

def k0_chk64 (i : grid0.Coords) (v155 : BitVec 32) : Prop :=
  (∀ (k0_h6 : k0_cond6 i = 1#1), ∀ a, (k0_off141 i v155) a + S1x1024.size a ≤ S16x8192.size a)
theorem k0_off141_inb : ∀ (i : grid0.Coords) (v155 : BitVec 32) (k0_hw64 : k0_chk64 i v155), ∀ (k0_h6 : k0_cond6 i = 1#1), ∀ a, (k0_off141 i v155) a + S1x1024.size a ≤ S16x8192.size a := fun i v155 k0_hw64 k0_h6 => k0_hw64 k0_h6

def k0_off142 (i : grid0.Coords) : Fin 2 → Nat :=
  let c16_46 : Index := 16#32
  let arg1 : BitVec 32 := BitVec.ofNat 32 (i 1).val
  let c1024_i32 : BitVec 32 := 1024#32
  let v24 : BitVec 32 := Scalar.muli arg1 c1024_i32
  let v25 : BitVec 32 := v24
  let v185 : Index := Scalar.indexCast v25
  ![16, v185.toNat]
def k0_off143 (i : grid0.Coords) : Fin 1 → Nat :=
  let arg0 : BitVec 32 := BitVec.ofNat 32 (i 0).val
  let c32_i32_51 : BitVec 32 := 32#32
  let v210 : BitVec 32 := Scalar.muli arg0 c32_i32_51
  let c3_i32 : BitVec 32 := 3#32
  let v211 : BitVec 32 := Scalar.addi v210 c3_i32
  let v212 : Index := Scalar.indexCast v211
  ![v212.toNat]
def k0_off144 (v215 : BitVec 32) : Fin 1 → Nat :=
  let v220 : Index := Scalar.indexCast v215
  ![v220.toNat]

def k0_off145 (i : grid0.Coords) (v215 : BitVec 32) : Fin 2 → Nat :=
  let v224 : Index := Scalar.indexCast v215
  let arg1 : BitVec 32 := BitVec.ofNat 32 (i 1).val
  let c1024_i32 : BitVec 32 := 1024#32
  let v24 : BitVec 32 := Scalar.muli arg1 c1024_i32
  let v25 : BitVec 32 := v24
  let v225 : Index := Scalar.indexCast v25
  ![v224.toNat, v225.toNat]

def k0_chk65 (i : grid0.Coords) (v215 : BitVec 32) : Prop :=
  (∀ (k0_h6 : k0_cond6 i = 1#1), ∀ a, (k0_off144 v215) a + S1.size a ≤ S15.size a) ∧
  (∀ (k0_h6 : k0_cond6 i = 1#1), ∀ a, (k0_off145 i v215) a + S1x1024.size a ≤ S16x8192.size a)
theorem k0_off144_inb : ∀ (i : grid0.Coords) (v215 : BitVec 32) (k0_hw65 : k0_chk65 i v215), ∀ (k0_h6 : k0_cond6 i = 1#1), ∀ a, (k0_off144 v215) a + S1.size a ≤ S15.size a := fun i v215 k0_hw65 k0_h6 => k0_hw65.1 k0_h6
theorem k0_off145_inb : ∀ (i : grid0.Coords) (v215 : BitVec 32) (k0_hw65 : k0_chk65 i v215), ∀ (k0_h6 : k0_cond6 i = 1#1), ∀ a, (k0_off145 i v215) a + S1x1024.size a ≤ S16x8192.size a := fun i v215 k0_hw65 k0_h6 => k0_hw65.2 k0_h6

def k0_off146 (i : grid0.Coords) (v213 : BitVec 32) : Fin 2 → Nat :=
  let v227 : Index := Scalar.indexCast v213
  let arg1 : BitVec 32 := BitVec.ofNat 32 (i 1).val
  let c1024_i32 : BitVec 32 := 1024#32
  let v24 : BitVec 32 := Scalar.muli arg1 c1024_i32
  let v25 : BitVec 32 := v24
  let v228 : Index := Scalar.indexCast v25
  ![v227.toNat, v228.toNat]

def k0_chk66 (i : grid0.Coords) (v213 : BitVec 32) : Prop :=
  (∀ (k0_h6 : k0_cond6 i = 1#1), ∀ a, (k0_off146 i v213) a + S1x1024.size a ≤ S16x8192.size a)
theorem k0_off146_inb : ∀ (i : grid0.Coords) (v213 : BitVec 32) (k0_hw66 : k0_chk66 i v213), ∀ (k0_h6 : k0_cond6 i = 1#1), ∀ a, (k0_off146 i v213) a + S1x1024.size a ≤ S16x8192.size a := fun i v213 k0_hw66 k0_h6 => k0_hw66 k0_h6

def k0_off147 (i : grid0.Coords) : Fin 2 → Nat :=
  let c24_56 : Index := 24#32
  let arg1 : BitVec 32 := BitVec.ofNat 32 (i 1).val
  let c1024_i32 : BitVec 32 := 1024#32
  let v24 : BitVec 32 := Scalar.muli arg1 c1024_i32
  let v25 : BitVec 32 := v24
  let v243 : Index := Scalar.indexCast v25
  ![24, v243.toNat]
def k0_off148 (i : grid0.Coords) : Fin 1 → Nat :=
  let arg0 : BitVec 32 := BitVec.ofNat 32 (i 0).val
  let c32_i32_61 : BitVec 32 := 32#32
  let v268 : BitVec 32 := Scalar.muli arg0 c32_i32_61
  let c4_i32 : BitVec 32 := 4#32
  let v269 : BitVec 32 := Scalar.addi v268 c4_i32
  let v270 : Index := Scalar.indexCast v269
  ![v270.toNat]
def k0_off149 (v273 : BitVec 32) : Fin 1 → Nat :=
  let v278 : Index := Scalar.indexCast v273
  ![v278.toNat]

def k0_off150 (i : grid0.Coords) (v273 : BitVec 32) : Fin 2 → Nat :=
  let v282 : Index := Scalar.indexCast v273
  let arg1 : BitVec 32 := BitVec.ofNat 32 (i 1).val
  let c1024_i32 : BitVec 32 := 1024#32
  let v24 : BitVec 32 := Scalar.muli arg1 c1024_i32
  let v25 : BitVec 32 := v24
  let v283 : Index := Scalar.indexCast v25
  ![v282.toNat, v283.toNat]

def k0_chk67 (i : grid0.Coords) (v273 : BitVec 32) : Prop :=
  (∀ (k0_h6 : k0_cond6 i = 1#1), ∀ a, (k0_off149 v273) a + S1.size a ≤ S15.size a) ∧
  (∀ (k0_h6 : k0_cond6 i = 1#1), ∀ a, (k0_off150 i v273) a + S1x1024.size a ≤ S16x8192.size a)
theorem k0_off149_inb : ∀ (i : grid0.Coords) (v273 : BitVec 32) (k0_hw67 : k0_chk67 i v273), ∀ (k0_h6 : k0_cond6 i = 1#1), ∀ a, (k0_off149 v273) a + S1.size a ≤ S15.size a := fun i v273 k0_hw67 k0_h6 => k0_hw67.1 k0_h6
theorem k0_off150_inb : ∀ (i : grid0.Coords) (v273 : BitVec 32) (k0_hw67 : k0_chk67 i v273), ∀ (k0_h6 : k0_cond6 i = 1#1), ∀ a, (k0_off150 i v273) a + S1x1024.size a ≤ S16x8192.size a := fun i v273 k0_hw67 k0_h6 => k0_hw67.2 k0_h6

def k0_off151 (i : grid0.Coords) (v271 : BitVec 32) : Fin 2 → Nat :=
  let v285 : Index := Scalar.indexCast v271
  let arg1 : BitVec 32 := BitVec.ofNat 32 (i 1).val
  let c1024_i32 : BitVec 32 := 1024#32
  let v24 : BitVec 32 := Scalar.muli arg1 c1024_i32
  let v25 : BitVec 32 := v24
  let v286 : Index := Scalar.indexCast v25
  ![v285.toNat, v286.toNat]

def k0_chk68 (i : grid0.Coords) (v271 : BitVec 32) : Prop :=
  (∀ (k0_h6 : k0_cond6 i = 1#1), ∀ a, (k0_off151 i v271) a + S1x1024.size a ≤ S16x8192.size a)
theorem k0_off151_inb : ∀ (i : grid0.Coords) (v271 : BitVec 32) (k0_hw68 : k0_chk68 i v271), ∀ (k0_h6 : k0_cond6 i = 1#1), ∀ a, (k0_off151 i v271) a + S1x1024.size a ≤ S16x8192.size a := fun i v271 k0_hw68 k0_h6 => k0_hw68 k0_h6

def k0_off152 (i : grid0.Coords) : Fin 2 → Nat :=
  let c32_66 : Index := 32#32
  let arg1 : BitVec 32 := BitVec.ofNat 32 (i 1).val
  let c1024_i32 : BitVec 32 := 1024#32
  let v24 : BitVec 32 := Scalar.muli arg1 c1024_i32
  let v25 : BitVec 32 := v24
  let v301 : Index := Scalar.indexCast v25
  ![32, v301.toNat]
def k0_off153 (i : grid0.Coords) : Fin 1 → Nat :=
  let arg0 : BitVec 32 := BitVec.ofNat 32 (i 0).val
  let c32_i32_71 : BitVec 32 := 32#32
  let v326 : BitVec 32 := Scalar.muli arg0 c32_i32_71
  let c5_i32 : BitVec 32 := 5#32
  let v327 : BitVec 32 := Scalar.addi v326 c5_i32
  let v328 : Index := Scalar.indexCast v327
  ![v328.toNat]
def k0_off154 (v331 : BitVec 32) : Fin 1 → Nat :=
  let v336 : Index := Scalar.indexCast v331
  ![v336.toNat]

def k0_off155 (i : grid0.Coords) (v331 : BitVec 32) : Fin 2 → Nat :=
  let v340 : Index := Scalar.indexCast v331
  let arg1 : BitVec 32 := BitVec.ofNat 32 (i 1).val
  let c1024_i32 : BitVec 32 := 1024#32
  let v24 : BitVec 32 := Scalar.muli arg1 c1024_i32
  let v25 : BitVec 32 := v24
  let v341 : Index := Scalar.indexCast v25
  ![v340.toNat, v341.toNat]

def k0_chk69 (i : grid0.Coords) (v331 : BitVec 32) : Prop :=
  (∀ (k0_h6 : k0_cond6 i = 1#1), ∀ a, (k0_off154 v331) a + S1.size a ≤ S15.size a) ∧
  (∀ (k0_h6 : k0_cond6 i = 1#1), ∀ a, (k0_off155 i v331) a + S1x1024.size a ≤ S16x8192.size a)
theorem k0_off154_inb : ∀ (i : grid0.Coords) (v331 : BitVec 32) (k0_hw69 : k0_chk69 i v331), ∀ (k0_h6 : k0_cond6 i = 1#1), ∀ a, (k0_off154 v331) a + S1.size a ≤ S15.size a := fun i v331 k0_hw69 k0_h6 => k0_hw69.1 k0_h6
theorem k0_off155_inb : ∀ (i : grid0.Coords) (v331 : BitVec 32) (k0_hw69 : k0_chk69 i v331), ∀ (k0_h6 : k0_cond6 i = 1#1), ∀ a, (k0_off155 i v331) a + S1x1024.size a ≤ S16x8192.size a := fun i v331 k0_hw69 k0_h6 => k0_hw69.2 k0_h6

def k0_off156 (i : grid0.Coords) (v329 : BitVec 32) : Fin 2 → Nat :=
  let v343 : Index := Scalar.indexCast v329
  let arg1 : BitVec 32 := BitVec.ofNat 32 (i 1).val
  let c1024_i32 : BitVec 32 := 1024#32
  let v24 : BitVec 32 := Scalar.muli arg1 c1024_i32
  let v25 : BitVec 32 := v24
  let v344 : Index := Scalar.indexCast v25
  ![v343.toNat, v344.toNat]

def k0_chk70 (i : grid0.Coords) (v329 : BitVec 32) : Prop :=
  (∀ (k0_h6 : k0_cond6 i = 1#1), ∀ a, (k0_off156 i v329) a + S1x1024.size a ≤ S16x8192.size a)
theorem k0_off156_inb : ∀ (i : grid0.Coords) (v329 : BitVec 32) (k0_hw70 : k0_chk70 i v329), ∀ (k0_h6 : k0_cond6 i = 1#1), ∀ a, (k0_off156 i v329) a + S1x1024.size a ≤ S16x8192.size a := fun i v329 k0_hw70 k0_h6 => k0_hw70 k0_h6

def k0_off157 (i : grid0.Coords) : Fin 2 → Nat :=
  let c40_76 : Index := 40#32
  let arg1 : BitVec 32 := BitVec.ofNat 32 (i 1).val
  let c1024_i32 : BitVec 32 := 1024#32
  let v24 : BitVec 32 := Scalar.muli arg1 c1024_i32
  let v25 : BitVec 32 := v24
  let v359 : Index := Scalar.indexCast v25
  ![40, v359.toNat]
def k0_off158 (i : grid0.Coords) : Fin 1 → Nat :=
  let arg0 : BitVec 32 := BitVec.ofNat 32 (i 0).val
  let c32_i32_81 : BitVec 32 := 32#32
  let v384 : BitVec 32 := Scalar.muli arg0 c32_i32_81
  let c6_i32_82 : BitVec 32 := 6#32
  let v385 : BitVec 32 := Scalar.addi v384 c6_i32_82
  let v386 : Index := Scalar.indexCast v385
  ![v386.toNat]
def k0_off159 (v389 : BitVec 32) : Fin 1 → Nat :=
  let v394 : Index := Scalar.indexCast v389
  ![v394.toNat]

def k0_off160 (i : grid0.Coords) (v389 : BitVec 32) : Fin 2 → Nat :=
  let v398 : Index := Scalar.indexCast v389
  let arg1 : BitVec 32 := BitVec.ofNat 32 (i 1).val
  let c1024_i32 : BitVec 32 := 1024#32
  let v24 : BitVec 32 := Scalar.muli arg1 c1024_i32
  let v25 : BitVec 32 := v24
  let v399 : Index := Scalar.indexCast v25
  ![v398.toNat, v399.toNat]

def k0_chk71 (i : grid0.Coords) (v389 : BitVec 32) : Prop :=
  (∀ (k0_h6 : k0_cond6 i = 1#1), ∀ a, (k0_off159 v389) a + S1.size a ≤ S15.size a) ∧
  (∀ (k0_h6 : k0_cond6 i = 1#1), ∀ a, (k0_off160 i v389) a + S1x1024.size a ≤ S16x8192.size a)
theorem k0_off159_inb : ∀ (i : grid0.Coords) (v389 : BitVec 32) (k0_hw71 : k0_chk71 i v389), ∀ (k0_h6 : k0_cond6 i = 1#1), ∀ a, (k0_off159 v389) a + S1.size a ≤ S15.size a := fun i v389 k0_hw71 k0_h6 => k0_hw71.1 k0_h6
theorem k0_off160_inb : ∀ (i : grid0.Coords) (v389 : BitVec 32) (k0_hw71 : k0_chk71 i v389), ∀ (k0_h6 : k0_cond6 i = 1#1), ∀ a, (k0_off160 i v389) a + S1x1024.size a ≤ S16x8192.size a := fun i v389 k0_hw71 k0_h6 => k0_hw71.2 k0_h6

def k0_off161 (i : grid0.Coords) (v387 : BitVec 32) : Fin 2 → Nat :=
  let v401 : Index := Scalar.indexCast v387
  let arg1 : BitVec 32 := BitVec.ofNat 32 (i 1).val
  let c1024_i32 : BitVec 32 := 1024#32
  let v24 : BitVec 32 := Scalar.muli arg1 c1024_i32
  let v25 : BitVec 32 := v24
  let v402 : Index := Scalar.indexCast v25
  ![v401.toNat, v402.toNat]

def k0_chk72 (i : grid0.Coords) (v387 : BitVec 32) : Prop :=
  (∀ (k0_h6 : k0_cond6 i = 1#1), ∀ a, (k0_off161 i v387) a + S1x1024.size a ≤ S16x8192.size a)
theorem k0_off161_inb : ∀ (i : grid0.Coords) (v387 : BitVec 32) (k0_hw72 : k0_chk72 i v387), ∀ (k0_h6 : k0_cond6 i = 1#1), ∀ a, (k0_off161 i v387) a + S1x1024.size a ≤ S16x8192.size a := fun i v387 k0_hw72 k0_h6 => k0_hw72 k0_h6

def k0_off162 (i : grid0.Coords) : Fin 2 → Nat :=
  let c48_87 : Index := 48#32
  let arg1 : BitVec 32 := BitVec.ofNat 32 (i 1).val
  let c1024_i32 : BitVec 32 := 1024#32
  let v24 : BitVec 32 := Scalar.muli arg1 c1024_i32
  let v25 : BitVec 32 := v24
  let v417 : Index := Scalar.indexCast v25
  ![48, v417.toNat]
def k0_off163 (i : grid0.Coords) : Fin 1 → Nat :=
  let arg0 : BitVec 32 := BitVec.ofNat 32 (i 0).val
  let c32_i32_92 : BitVec 32 := 32#32
  let v442 : BitVec 32 := Scalar.muli arg0 c32_i32_92
  let c7_i32 : BitVec 32 := 7#32
  let v443 : BitVec 32 := Scalar.addi v442 c7_i32
  let v444 : Index := Scalar.indexCast v443
  ![v444.toNat]
def k0_off164 (v447 : BitVec 32) : Fin 1 → Nat :=
  let v452 : Index := Scalar.indexCast v447
  ![v452.toNat]

def k0_off165 (i : grid0.Coords) (v447 : BitVec 32) : Fin 2 → Nat :=
  let v456 : Index := Scalar.indexCast v447
  let arg1 : BitVec 32 := BitVec.ofNat 32 (i 1).val
  let c1024_i32 : BitVec 32 := 1024#32
  let v24 : BitVec 32 := Scalar.muli arg1 c1024_i32
  let v25 : BitVec 32 := v24
  let v457 : Index := Scalar.indexCast v25
  ![v456.toNat, v457.toNat]

def k0_chk73 (i : grid0.Coords) (v447 : BitVec 32) : Prop :=
  (∀ (k0_h6 : k0_cond6 i = 1#1), ∀ a, (k0_off164 v447) a + S1.size a ≤ S15.size a) ∧
  (∀ (k0_h6 : k0_cond6 i = 1#1), ∀ a, (k0_off165 i v447) a + S1x1024.size a ≤ S16x8192.size a)
theorem k0_off164_inb : ∀ (i : grid0.Coords) (v447 : BitVec 32) (k0_hw73 : k0_chk73 i v447), ∀ (k0_h6 : k0_cond6 i = 1#1), ∀ a, (k0_off164 v447) a + S1.size a ≤ S15.size a := fun i v447 k0_hw73 k0_h6 => k0_hw73.1 k0_h6
theorem k0_off165_inb : ∀ (i : grid0.Coords) (v447 : BitVec 32) (k0_hw73 : k0_chk73 i v447), ∀ (k0_h6 : k0_cond6 i = 1#1), ∀ a, (k0_off165 i v447) a + S1x1024.size a ≤ S16x8192.size a := fun i v447 k0_hw73 k0_h6 => k0_hw73.2 k0_h6

def k0_off166 (i : grid0.Coords) (v445 : BitVec 32) : Fin 2 → Nat :=
  let v459 : Index := Scalar.indexCast v445
  let arg1 : BitVec 32 := BitVec.ofNat 32 (i 1).val
  let c1024_i32 : BitVec 32 := 1024#32
  let v24 : BitVec 32 := Scalar.muli arg1 c1024_i32
  let v25 : BitVec 32 := v24
  let v460 : Index := Scalar.indexCast v25
  ![v459.toNat, v460.toNat]

def k0_chk74 (i : grid0.Coords) (v445 : BitVec 32) : Prop :=
  (∀ (k0_h6 : k0_cond6 i = 1#1), ∀ a, (k0_off166 i v445) a + S1x1024.size a ≤ S16x8192.size a)
theorem k0_off166_inb : ∀ (i : grid0.Coords) (v445 : BitVec 32) (k0_hw74 : k0_chk74 i v445), ∀ (k0_h6 : k0_cond6 i = 1#1), ∀ a, (k0_off166 i v445) a + S1x1024.size a ≤ S16x8192.size a := fun i v445 k0_hw74 k0_h6 => k0_hw74 k0_h6

def k0_off167 (i : grid0.Coords) : Fin 2 → Nat :=
  let c56_97 : Index := 56#32
  let arg1 : BitVec 32 := BitVec.ofNat 32 (i 1).val
  let c1024_i32 : BitVec 32 := 1024#32
  let v24 : BitVec 32 := Scalar.muli arg1 c1024_i32
  let v25 : BitVec 32 := v24
  let v475 : Index := Scalar.indexCast v25
  ![56, v475.toNat]
def k0_off168 (i : grid0.Coords) : Fin 1 → Nat :=
  let arg0 : BitVec 32 := BitVec.ofNat 32 (i 0).val
  let c32_i32_102 : BitVec 32 := 32#32
  let v500 : BitVec 32 := Scalar.muli arg0 c32_i32_102
  let c8_i32_103 : BitVec 32 := 8#32
  let v501 : BitVec 32 := Scalar.addi v500 c8_i32_103
  let v502 : Index := Scalar.indexCast v501
  ![v502.toNat]
def k0_off169 (v505 : BitVec 32) : Fin 1 → Nat :=
  let v510 : Index := Scalar.indexCast v505
  ![v510.toNat]

def k0_off170 (i : grid0.Coords) (v505 : BitVec 32) : Fin 2 → Nat :=
  let v514 : Index := Scalar.indexCast v505
  let arg1 : BitVec 32 := BitVec.ofNat 32 (i 1).val
  let c1024_i32 : BitVec 32 := 1024#32
  let v24 : BitVec 32 := Scalar.muli arg1 c1024_i32
  let v25 : BitVec 32 := v24
  let v515 : Index := Scalar.indexCast v25
  ![v514.toNat, v515.toNat]

def k0_chk75 (i : grid0.Coords) (v505 : BitVec 32) : Prop :=
  (∀ (k0_h6 : k0_cond6 i = 1#1), ∀ a, (k0_off169 v505) a + S1.size a ≤ S15.size a) ∧
  (∀ (k0_h6 : k0_cond6 i = 1#1), ∀ a, (k0_off170 i v505) a + S1x1024.size a ≤ S16x8192.size a)
theorem k0_off169_inb : ∀ (i : grid0.Coords) (v505 : BitVec 32) (k0_hw75 : k0_chk75 i v505), ∀ (k0_h6 : k0_cond6 i = 1#1), ∀ a, (k0_off169 v505) a + S1.size a ≤ S15.size a := fun i v505 k0_hw75 k0_h6 => k0_hw75.1 k0_h6
theorem k0_off170_inb : ∀ (i : grid0.Coords) (v505 : BitVec 32) (k0_hw75 : k0_chk75 i v505), ∀ (k0_h6 : k0_cond6 i = 1#1), ∀ a, (k0_off170 i v505) a + S1x1024.size a ≤ S16x8192.size a := fun i v505 k0_hw75 k0_h6 => k0_hw75.2 k0_h6

def k0_off171 (i : grid0.Coords) (v503 : BitVec 32) : Fin 2 → Nat :=
  let v517 : Index := Scalar.indexCast v503
  let arg1 : BitVec 32 := BitVec.ofNat 32 (i 1).val
  let c1024_i32 : BitVec 32 := 1024#32
  let v24 : BitVec 32 := Scalar.muli arg1 c1024_i32
  let v25 : BitVec 32 := v24
  let v518 : Index := Scalar.indexCast v25
  ![v517.toNat, v518.toNat]

def k0_chk76 (i : grid0.Coords) (v503 : BitVec 32) : Prop :=
  (∀ (k0_h6 : k0_cond6 i = 1#1), ∀ a, (k0_off171 i v503) a + S1x1024.size a ≤ S16x8192.size a)
theorem k0_off171_inb : ∀ (i : grid0.Coords) (v503 : BitVec 32) (k0_hw76 : k0_chk76 i v503), ∀ (k0_h6 : k0_cond6 i = 1#1), ∀ a, (k0_off171 i v503) a + S1x1024.size a ≤ S16x8192.size a := fun i v503 k0_hw76 k0_h6 => k0_hw76 k0_h6

def k0_off172 (i : grid0.Coords) : Fin 2 → Nat :=
  let c64_108 : Index := 64#32
  let arg1 : BitVec 32 := BitVec.ofNat 32 (i 1).val
  let c1024_i32 : BitVec 32 := 1024#32
  let v24 : BitVec 32 := Scalar.muli arg1 c1024_i32
  let v25 : BitVec 32 := v24
  let v533 : Index := Scalar.indexCast v25
  ![64, v533.toNat]
def k0_off173 (i : grid0.Coords) : Fin 1 → Nat :=
  let arg0 : BitVec 32 := BitVec.ofNat 32 (i 0).val
  let c32_i32_113 : BitVec 32 := 32#32
  let v558 : BitVec 32 := Scalar.muli arg0 c32_i32_113
  let c9_i32 : BitVec 32 := 9#32
  let v559 : BitVec 32 := Scalar.addi v558 c9_i32
  let v560 : Index := Scalar.indexCast v559
  ![v560.toNat]
def k0_off174 (v563 : BitVec 32) : Fin 1 → Nat :=
  let v568 : Index := Scalar.indexCast v563
  ![v568.toNat]

def k0_off175 (i : grid0.Coords) (v563 : BitVec 32) : Fin 2 → Nat :=
  let v572 : Index := Scalar.indexCast v563
  let arg1 : BitVec 32 := BitVec.ofNat 32 (i 1).val
  let c1024_i32 : BitVec 32 := 1024#32
  let v24 : BitVec 32 := Scalar.muli arg1 c1024_i32
  let v25 : BitVec 32 := v24
  let v573 : Index := Scalar.indexCast v25
  ![v572.toNat, v573.toNat]

def k0_chk77 (i : grid0.Coords) (v563 : BitVec 32) : Prop :=
  (∀ (k0_h6 : k0_cond6 i = 1#1), ∀ a, (k0_off174 v563) a + S1.size a ≤ S15.size a) ∧
  (∀ (k0_h6 : k0_cond6 i = 1#1), ∀ a, (k0_off175 i v563) a + S1x1024.size a ≤ S16x8192.size a)
theorem k0_off174_inb : ∀ (i : grid0.Coords) (v563 : BitVec 32) (k0_hw77 : k0_chk77 i v563), ∀ (k0_h6 : k0_cond6 i = 1#1), ∀ a, (k0_off174 v563) a + S1.size a ≤ S15.size a := fun i v563 k0_hw77 k0_h6 => k0_hw77.1 k0_h6
theorem k0_off175_inb : ∀ (i : grid0.Coords) (v563 : BitVec 32) (k0_hw77 : k0_chk77 i v563), ∀ (k0_h6 : k0_cond6 i = 1#1), ∀ a, (k0_off175 i v563) a + S1x1024.size a ≤ S16x8192.size a := fun i v563 k0_hw77 k0_h6 => k0_hw77.2 k0_h6

def k0_off176 (i : grid0.Coords) (v561 : BitVec 32) : Fin 2 → Nat :=
  let v575 : Index := Scalar.indexCast v561
  let arg1 : BitVec 32 := BitVec.ofNat 32 (i 1).val
  let c1024_i32 : BitVec 32 := 1024#32
  let v24 : BitVec 32 := Scalar.muli arg1 c1024_i32
  let v25 : BitVec 32 := v24
  let v576 : Index := Scalar.indexCast v25
  ![v575.toNat, v576.toNat]

def k0_chk78 (i : grid0.Coords) (v561 : BitVec 32) : Prop :=
  (∀ (k0_h6 : k0_cond6 i = 1#1), ∀ a, (k0_off176 i v561) a + S1x1024.size a ≤ S16x8192.size a)
theorem k0_off176_inb : ∀ (i : grid0.Coords) (v561 : BitVec 32) (k0_hw78 : k0_chk78 i v561), ∀ (k0_h6 : k0_cond6 i = 1#1), ∀ a, (k0_off176 i v561) a + S1x1024.size a ≤ S16x8192.size a := fun i v561 k0_hw78 k0_h6 => k0_hw78 k0_h6

def k0_off177 (i : grid0.Coords) : Fin 2 → Nat :=
  let c72_118 : Index := 72#32
  let arg1 : BitVec 32 := BitVec.ofNat 32 (i 1).val
  let c1024_i32 : BitVec 32 := 1024#32
  let v24 : BitVec 32 := Scalar.muli arg1 c1024_i32
  let v25 : BitVec 32 := v24
  let v591 : Index := Scalar.indexCast v25
  ![72, v591.toNat]
def k0_off178 (i : grid0.Coords) : Fin 1 → Nat :=
  let arg0 : BitVec 32 := BitVec.ofNat 32 (i 0).val
  let c32_i32_123 : BitVec 32 := 32#32
  let v616 : BitVec 32 := Scalar.muli arg0 c32_i32_123
  let c10_i32 : BitVec 32 := 10#32
  let v617 : BitVec 32 := Scalar.addi v616 c10_i32
  let v618 : Index := Scalar.indexCast v617
  ![v618.toNat]
def k0_off179 (v621 : BitVec 32) : Fin 1 → Nat :=
  let v626 : Index := Scalar.indexCast v621
  ![v626.toNat]

def k0_off180 (i : grid0.Coords) (v621 : BitVec 32) : Fin 2 → Nat :=
  let v630 : Index := Scalar.indexCast v621
  let arg1 : BitVec 32 := BitVec.ofNat 32 (i 1).val
  let c1024_i32 : BitVec 32 := 1024#32
  let v24 : BitVec 32 := Scalar.muli arg1 c1024_i32
  let v25 : BitVec 32 := v24
  let v631 : Index := Scalar.indexCast v25
  ![v630.toNat, v631.toNat]

def k0_chk79 (i : grid0.Coords) (v621 : BitVec 32) : Prop :=
  (∀ (k0_h6 : k0_cond6 i = 1#1), ∀ a, (k0_off179 v621) a + S1.size a ≤ S15.size a) ∧
  (∀ (k0_h6 : k0_cond6 i = 1#1), ∀ a, (k0_off180 i v621) a + S1x1024.size a ≤ S16x8192.size a)
theorem k0_off179_inb : ∀ (i : grid0.Coords) (v621 : BitVec 32) (k0_hw79 : k0_chk79 i v621), ∀ (k0_h6 : k0_cond6 i = 1#1), ∀ a, (k0_off179 v621) a + S1.size a ≤ S15.size a := fun i v621 k0_hw79 k0_h6 => k0_hw79.1 k0_h6
theorem k0_off180_inb : ∀ (i : grid0.Coords) (v621 : BitVec 32) (k0_hw79 : k0_chk79 i v621), ∀ (k0_h6 : k0_cond6 i = 1#1), ∀ a, (k0_off180 i v621) a + S1x1024.size a ≤ S16x8192.size a := fun i v621 k0_hw79 k0_h6 => k0_hw79.2 k0_h6

def k0_off181 (i : grid0.Coords) (v619 : BitVec 32) : Fin 2 → Nat :=
  let v633 : Index := Scalar.indexCast v619
  let arg1 : BitVec 32 := BitVec.ofNat 32 (i 1).val
  let c1024_i32 : BitVec 32 := 1024#32
  let v24 : BitVec 32 := Scalar.muli arg1 c1024_i32
  let v25 : BitVec 32 := v24
  let v634 : Index := Scalar.indexCast v25
  ![v633.toNat, v634.toNat]

def k0_chk80 (i : grid0.Coords) (v619 : BitVec 32) : Prop :=
  (∀ (k0_h6 : k0_cond6 i = 1#1), ∀ a, (k0_off181 i v619) a + S1x1024.size a ≤ S16x8192.size a)
theorem k0_off181_inb : ∀ (i : grid0.Coords) (v619 : BitVec 32) (k0_hw80 : k0_chk80 i v619), ∀ (k0_h6 : k0_cond6 i = 1#1), ∀ a, (k0_off181 i v619) a + S1x1024.size a ≤ S16x8192.size a := fun i v619 k0_hw80 k0_h6 => k0_hw80 k0_h6

def k0_off182 (i : grid0.Coords) : Fin 2 → Nat :=
  let c80_128 : Index := 80#32
  let arg1 : BitVec 32 := BitVec.ofNat 32 (i 1).val
  let c1024_i32 : BitVec 32 := 1024#32
  let v24 : BitVec 32 := Scalar.muli arg1 c1024_i32
  let v25 : BitVec 32 := v24
  let v649 : Index := Scalar.indexCast v25
  ![80, v649.toNat]
def k0_off183 (i : grid0.Coords) : Fin 1 → Nat :=
  let arg0 : BitVec 32 := BitVec.ofNat 32 (i 0).val
  let c32_i32_133 : BitVec 32 := 32#32
  let v674 : BitVec 32 := Scalar.muli arg0 c32_i32_133
  let c11_i32 : BitVec 32 := 11#32
  let v675 : BitVec 32 := Scalar.addi v674 c11_i32
  let v676 : Index := Scalar.indexCast v675
  ![v676.toNat]
def k0_off184 (v679 : BitVec 32) : Fin 1 → Nat :=
  let v684 : Index := Scalar.indexCast v679
  ![v684.toNat]

def k0_off185 (i : grid0.Coords) (v679 : BitVec 32) : Fin 2 → Nat :=
  let v688 : Index := Scalar.indexCast v679
  let arg1 : BitVec 32 := BitVec.ofNat 32 (i 1).val
  let c1024_i32 : BitVec 32 := 1024#32
  let v24 : BitVec 32 := Scalar.muli arg1 c1024_i32
  let v25 : BitVec 32 := v24
  let v689 : Index := Scalar.indexCast v25
  ![v688.toNat, v689.toNat]

def k0_chk81 (i : grid0.Coords) (v679 : BitVec 32) : Prop :=
  (∀ (k0_h6 : k0_cond6 i = 1#1), ∀ a, (k0_off184 v679) a + S1.size a ≤ S15.size a) ∧
  (∀ (k0_h6 : k0_cond6 i = 1#1), ∀ a, (k0_off185 i v679) a + S1x1024.size a ≤ S16x8192.size a)
theorem k0_off184_inb : ∀ (i : grid0.Coords) (v679 : BitVec 32) (k0_hw81 : k0_chk81 i v679), ∀ (k0_h6 : k0_cond6 i = 1#1), ∀ a, (k0_off184 v679) a + S1.size a ≤ S15.size a := fun i v679 k0_hw81 k0_h6 => k0_hw81.1 k0_h6
theorem k0_off185_inb : ∀ (i : grid0.Coords) (v679 : BitVec 32) (k0_hw81 : k0_chk81 i v679), ∀ (k0_h6 : k0_cond6 i = 1#1), ∀ a, (k0_off185 i v679) a + S1x1024.size a ≤ S16x8192.size a := fun i v679 k0_hw81 k0_h6 => k0_hw81.2 k0_h6

def k0_off186 (i : grid0.Coords) (v677 : BitVec 32) : Fin 2 → Nat :=
  let v691 : Index := Scalar.indexCast v677
  let arg1 : BitVec 32 := BitVec.ofNat 32 (i 1).val
  let c1024_i32 : BitVec 32 := 1024#32
  let v24 : BitVec 32 := Scalar.muli arg1 c1024_i32
  let v25 : BitVec 32 := v24
  let v692 : Index := Scalar.indexCast v25
  ![v691.toNat, v692.toNat]

def k0_chk82 (i : grid0.Coords) (v677 : BitVec 32) : Prop :=
  (∀ (k0_h6 : k0_cond6 i = 1#1), ∀ a, (k0_off186 i v677) a + S1x1024.size a ≤ S16x8192.size a)
theorem k0_off186_inb : ∀ (i : grid0.Coords) (v677 : BitVec 32) (k0_hw82 : k0_chk82 i v677), ∀ (k0_h6 : k0_cond6 i = 1#1), ∀ a, (k0_off186 i v677) a + S1x1024.size a ≤ S16x8192.size a := fun i v677 k0_hw82 k0_h6 => k0_hw82 k0_h6

def k0_off187 (i : grid0.Coords) : Fin 2 → Nat :=
  let c88_138 : Index := 88#32
  let arg1 : BitVec 32 := BitVec.ofNat 32 (i 1).val
  let c1024_i32 : BitVec 32 := 1024#32
  let v24 : BitVec 32 := Scalar.muli arg1 c1024_i32
  let v25 : BitVec 32 := v24
  let v707 : Index := Scalar.indexCast v25
  ![88, v707.toNat]
def k0_off188 (i : grid0.Coords) : Fin 1 → Nat :=
  let arg0 : BitVec 32 := BitVec.ofNat 32 (i 0).val
  let c32_i32_143 : BitVec 32 := 32#32
  let v732 : BitVec 32 := Scalar.muli arg0 c32_i32_143
  let c12_i32 : BitVec 32 := 12#32
  let v733 : BitVec 32 := Scalar.addi v732 c12_i32
  let v734 : Index := Scalar.indexCast v733
  ![v734.toNat]
def k0_off189 (v737 : BitVec 32) : Fin 1 → Nat :=
  let v742 : Index := Scalar.indexCast v737
  ![v742.toNat]

def k0_off190 (i : grid0.Coords) (v737 : BitVec 32) : Fin 2 → Nat :=
  let v746 : Index := Scalar.indexCast v737
  let arg1 : BitVec 32 := BitVec.ofNat 32 (i 1).val
  let c1024_i32 : BitVec 32 := 1024#32
  let v24 : BitVec 32 := Scalar.muli arg1 c1024_i32
  let v25 : BitVec 32 := v24
  let v747 : Index := Scalar.indexCast v25
  ![v746.toNat, v747.toNat]

def k0_chk83 (i : grid0.Coords) (v737 : BitVec 32) : Prop :=
  (∀ (k0_h6 : k0_cond6 i = 1#1), ∀ a, (k0_off189 v737) a + S1.size a ≤ S15.size a) ∧
  (∀ (k0_h6 : k0_cond6 i = 1#1), ∀ a, (k0_off190 i v737) a + S1x1024.size a ≤ S16x8192.size a)
theorem k0_off189_inb : ∀ (i : grid0.Coords) (v737 : BitVec 32) (k0_hw83 : k0_chk83 i v737), ∀ (k0_h6 : k0_cond6 i = 1#1), ∀ a, (k0_off189 v737) a + S1.size a ≤ S15.size a := fun i v737 k0_hw83 k0_h6 => k0_hw83.1 k0_h6
theorem k0_off190_inb : ∀ (i : grid0.Coords) (v737 : BitVec 32) (k0_hw83 : k0_chk83 i v737), ∀ (k0_h6 : k0_cond6 i = 1#1), ∀ a, (k0_off190 i v737) a + S1x1024.size a ≤ S16x8192.size a := fun i v737 k0_hw83 k0_h6 => k0_hw83.2 k0_h6

def k0_off191 (i : grid0.Coords) (v735 : BitVec 32) : Fin 2 → Nat :=
  let v749 : Index := Scalar.indexCast v735
  let arg1 : BitVec 32 := BitVec.ofNat 32 (i 1).val
  let c1024_i32 : BitVec 32 := 1024#32
  let v24 : BitVec 32 := Scalar.muli arg1 c1024_i32
  let v25 : BitVec 32 := v24
  let v750 : Index := Scalar.indexCast v25
  ![v749.toNat, v750.toNat]

def k0_chk84 (i : grid0.Coords) (v735 : BitVec 32) : Prop :=
  (∀ (k0_h6 : k0_cond6 i = 1#1), ∀ a, (k0_off191 i v735) a + S1x1024.size a ≤ S16x8192.size a)
theorem k0_off191_inb : ∀ (i : grid0.Coords) (v735 : BitVec 32) (k0_hw84 : k0_chk84 i v735), ∀ (k0_h6 : k0_cond6 i = 1#1), ∀ a, (k0_off191 i v735) a + S1x1024.size a ≤ S16x8192.size a := fun i v735 k0_hw84 k0_h6 => k0_hw84 k0_h6

def k0_off192 (i : grid0.Coords) : Fin 2 → Nat :=
  let c96_148 : Index := 96#32
  let arg1 : BitVec 32 := BitVec.ofNat 32 (i 1).val
  let c1024_i32 : BitVec 32 := 1024#32
  let v24 : BitVec 32 := Scalar.muli arg1 c1024_i32
  let v25 : BitVec 32 := v24
  let v765 : Index := Scalar.indexCast v25
  ![96, v765.toNat]
def k0_off193 (i : grid0.Coords) : Fin 1 → Nat :=
  let arg0 : BitVec 32 := BitVec.ofNat 32 (i 0).val
  let c32_i32_153 : BitVec 32 := 32#32
  let v790 : BitVec 32 := Scalar.muli arg0 c32_i32_153
  let c13_i32 : BitVec 32 := 13#32
  let v791 : BitVec 32 := Scalar.addi v790 c13_i32
  let v792 : Index := Scalar.indexCast v791
  ![v792.toNat]
def k0_off194 (v795 : BitVec 32) : Fin 1 → Nat :=
  let v800 : Index := Scalar.indexCast v795
  ![v800.toNat]

def k0_off195 (i : grid0.Coords) (v795 : BitVec 32) : Fin 2 → Nat :=
  let v804 : Index := Scalar.indexCast v795
  let arg1 : BitVec 32 := BitVec.ofNat 32 (i 1).val
  let c1024_i32 : BitVec 32 := 1024#32
  let v24 : BitVec 32 := Scalar.muli arg1 c1024_i32
  let v25 : BitVec 32 := v24
  let v805 : Index := Scalar.indexCast v25
  ![v804.toNat, v805.toNat]

def k0_chk85 (i : grid0.Coords) (v795 : BitVec 32) : Prop :=
  (∀ (k0_h6 : k0_cond6 i = 1#1), ∀ a, (k0_off194 v795) a + S1.size a ≤ S15.size a) ∧
  (∀ (k0_h6 : k0_cond6 i = 1#1), ∀ a, (k0_off195 i v795) a + S1x1024.size a ≤ S16x8192.size a)
theorem k0_off194_inb : ∀ (i : grid0.Coords) (v795 : BitVec 32) (k0_hw85 : k0_chk85 i v795), ∀ (k0_h6 : k0_cond6 i = 1#1), ∀ a, (k0_off194 v795) a + S1.size a ≤ S15.size a := fun i v795 k0_hw85 k0_h6 => k0_hw85.1 k0_h6
theorem k0_off195_inb : ∀ (i : grid0.Coords) (v795 : BitVec 32) (k0_hw85 : k0_chk85 i v795), ∀ (k0_h6 : k0_cond6 i = 1#1), ∀ a, (k0_off195 i v795) a + S1x1024.size a ≤ S16x8192.size a := fun i v795 k0_hw85 k0_h6 => k0_hw85.2 k0_h6

def k0_off196 (i : grid0.Coords) (v793 : BitVec 32) : Fin 2 → Nat :=
  let v807 : Index := Scalar.indexCast v793
  let arg1 : BitVec 32 := BitVec.ofNat 32 (i 1).val
  let c1024_i32 : BitVec 32 := 1024#32
  let v24 : BitVec 32 := Scalar.muli arg1 c1024_i32
  let v25 : BitVec 32 := v24
  let v808 : Index := Scalar.indexCast v25
  ![v807.toNat, v808.toNat]

def k0_chk86 (i : grid0.Coords) (v793 : BitVec 32) : Prop :=
  (∀ (k0_h6 : k0_cond6 i = 1#1), ∀ a, (k0_off196 i v793) a + S1x1024.size a ≤ S16x8192.size a)
theorem k0_off196_inb : ∀ (i : grid0.Coords) (v793 : BitVec 32) (k0_hw86 : k0_chk86 i v793), ∀ (k0_h6 : k0_cond6 i = 1#1), ∀ a, (k0_off196 i v793) a + S1x1024.size a ≤ S16x8192.size a := fun i v793 k0_hw86 k0_h6 => k0_hw86 k0_h6

def k0_off197 (i : grid0.Coords) : Fin 2 → Nat :=
  let c104_158 : Index := 104#32
  let arg1 : BitVec 32 := BitVec.ofNat 32 (i 1).val
  let c1024_i32 : BitVec 32 := 1024#32
  let v24 : BitVec 32 := Scalar.muli arg1 c1024_i32
  let v25 : BitVec 32 := v24
  let v823 : Index := Scalar.indexCast v25
  ![104, v823.toNat]
def k0_off198 (i : grid0.Coords) : Fin 1 → Nat :=
  let arg0 : BitVec 32 := BitVec.ofNat 32 (i 0).val
  let c32_i32_163 : BitVec 32 := 32#32
  let v848 : BitVec 32 := Scalar.muli arg0 c32_i32_163
  let c14_i32 : BitVec 32 := 14#32
  let v849 : BitVec 32 := Scalar.addi v848 c14_i32
  let v850 : Index := Scalar.indexCast v849
  ![v850.toNat]
def k0_off199 (v853 : BitVec 32) : Fin 1 → Nat :=
  let v858 : Index := Scalar.indexCast v853
  ![v858.toNat]

def k0_off200 (i : grid0.Coords) (v853 : BitVec 32) : Fin 2 → Nat :=
  let v862 : Index := Scalar.indexCast v853
  let arg1 : BitVec 32 := BitVec.ofNat 32 (i 1).val
  let c1024_i32 : BitVec 32 := 1024#32
  let v24 : BitVec 32 := Scalar.muli arg1 c1024_i32
  let v25 : BitVec 32 := v24
  let v863 : Index := Scalar.indexCast v25
  ![v862.toNat, v863.toNat]

def k0_chk87 (i : grid0.Coords) (v853 : BitVec 32) : Prop :=
  (∀ (k0_h6 : k0_cond6 i = 1#1), ∀ a, (k0_off199 v853) a + S1.size a ≤ S15.size a) ∧
  (∀ (k0_h6 : k0_cond6 i = 1#1), ∀ a, (k0_off200 i v853) a + S1x1024.size a ≤ S16x8192.size a)
theorem k0_off199_inb : ∀ (i : grid0.Coords) (v853 : BitVec 32) (k0_hw87 : k0_chk87 i v853), ∀ (k0_h6 : k0_cond6 i = 1#1), ∀ a, (k0_off199 v853) a + S1.size a ≤ S15.size a := fun i v853 k0_hw87 k0_h6 => k0_hw87.1 k0_h6
theorem k0_off200_inb : ∀ (i : grid0.Coords) (v853 : BitVec 32) (k0_hw87 : k0_chk87 i v853), ∀ (k0_h6 : k0_cond6 i = 1#1), ∀ a, (k0_off200 i v853) a + S1x1024.size a ≤ S16x8192.size a := fun i v853 k0_hw87 k0_h6 => k0_hw87.2 k0_h6

def k0_off201 (i : grid0.Coords) (v851 : BitVec 32) : Fin 2 → Nat :=
  let v865 : Index := Scalar.indexCast v851
  let arg1 : BitVec 32 := BitVec.ofNat 32 (i 1).val
  let c1024_i32 : BitVec 32 := 1024#32
  let v24 : BitVec 32 := Scalar.muli arg1 c1024_i32
  let v25 : BitVec 32 := v24
  let v866 : Index := Scalar.indexCast v25
  ![v865.toNat, v866.toNat]

def k0_chk88 (i : grid0.Coords) (v851 : BitVec 32) : Prop :=
  (∀ (k0_h6 : k0_cond6 i = 1#1), ∀ a, (k0_off201 i v851) a + S1x1024.size a ≤ S16x8192.size a)
theorem k0_off201_inb : ∀ (i : grid0.Coords) (v851 : BitVec 32) (k0_hw88 : k0_chk88 i v851), ∀ (k0_h6 : k0_cond6 i = 1#1), ∀ a, (k0_off201 i v851) a + S1x1024.size a ≤ S16x8192.size a := fun i v851 k0_hw88 k0_h6 => k0_hw88 k0_h6

def k0_off202 (i : grid0.Coords) : Fin 2 → Nat :=
  let c112_168 : Index := 112#32
  let arg1 : BitVec 32 := BitVec.ofNat 32 (i 1).val
  let c1024_i32 : BitVec 32 := 1024#32
  let v24 : BitVec 32 := Scalar.muli arg1 c1024_i32
  let v25 : BitVec 32 := v24
  let v881 : Index := Scalar.indexCast v25
  ![112, v881.toNat]
def k0_off203 (i : grid0.Coords) : Fin 1 → Nat :=
  let arg0 : BitVec 32 := BitVec.ofNat 32 (i 0).val
  let c32_i32_173 : BitVec 32 := 32#32
  let v906 : BitVec 32 := Scalar.muli arg0 c32_i32_173
  let c15_i32 : BitVec 32 := 15#32
  let v907 : BitVec 32 := Scalar.addi v906 c15_i32
  let v908 : Index := Scalar.indexCast v907
  ![v908.toNat]
def k0_off204 (v911 : BitVec 32) : Fin 1 → Nat :=
  let v916 : Index := Scalar.indexCast v911
  ![v916.toNat]

def k0_off205 (i : grid0.Coords) (v911 : BitVec 32) : Fin 2 → Nat :=
  let v920 : Index := Scalar.indexCast v911
  let arg1 : BitVec 32 := BitVec.ofNat 32 (i 1).val
  let c1024_i32 : BitVec 32 := 1024#32
  let v24 : BitVec 32 := Scalar.muli arg1 c1024_i32
  let v25 : BitVec 32 := v24
  let v921 : Index := Scalar.indexCast v25
  ![v920.toNat, v921.toNat]

def k0_chk89 (i : grid0.Coords) (v911 : BitVec 32) : Prop :=
  (∀ (k0_h6 : k0_cond6 i = 1#1), ∀ a, (k0_off204 v911) a + S1.size a ≤ S15.size a) ∧
  (∀ (k0_h6 : k0_cond6 i = 1#1), ∀ a, (k0_off205 i v911) a + S1x1024.size a ≤ S16x8192.size a)
theorem k0_off204_inb : ∀ (i : grid0.Coords) (v911 : BitVec 32) (k0_hw89 : k0_chk89 i v911), ∀ (k0_h6 : k0_cond6 i = 1#1), ∀ a, (k0_off204 v911) a + S1.size a ≤ S15.size a := fun i v911 k0_hw89 k0_h6 => k0_hw89.1 k0_h6
theorem k0_off205_inb : ∀ (i : grid0.Coords) (v911 : BitVec 32) (k0_hw89 : k0_chk89 i v911), ∀ (k0_h6 : k0_cond6 i = 1#1), ∀ a, (k0_off205 i v911) a + S1x1024.size a ≤ S16x8192.size a := fun i v911 k0_hw89 k0_h6 => k0_hw89.2 k0_h6

def k0_off206 (i : grid0.Coords) (v909 : BitVec 32) : Fin 2 → Nat :=
  let v923 : Index := Scalar.indexCast v909
  let arg1 : BitVec 32 := BitVec.ofNat 32 (i 1).val
  let c1024_i32 : BitVec 32 := 1024#32
  let v24 : BitVec 32 := Scalar.muli arg1 c1024_i32
  let v25 : BitVec 32 := v24
  let v924 : Index := Scalar.indexCast v25
  ![v923.toNat, v924.toNat]

def k0_chk90 (i : grid0.Coords) (v909 : BitVec 32) : Prop :=
  (∀ (k0_h6 : k0_cond6 i = 1#1), ∀ a, (k0_off206 i v909) a + S1x1024.size a ≤ S16x8192.size a)
theorem k0_off206_inb : ∀ (i : grid0.Coords) (v909 : BitVec 32) (k0_hw90 : k0_chk90 i v909), ∀ (k0_h6 : k0_cond6 i = 1#1), ∀ a, (k0_off206 i v909) a + S1x1024.size a ≤ S16x8192.size a := fun i v909 k0_hw90 k0_h6 => k0_hw90 k0_h6

def k0_off207 (i : grid0.Coords) : Fin 2 → Nat :=
  let c120_178 : Index := 120#32
  let arg1 : BitVec 32 := BitVec.ofNat 32 (i 1).val
  let c1024_i32 : BitVec 32 := 1024#32
  let v24 : BitVec 32 := Scalar.muli arg1 c1024_i32
  let v25 : BitVec 32 := v24
  let v939 : Index := Scalar.indexCast v25
  ![120, v939.toNat]
def k0_off208 (i : grid0.Coords) : Fin 1 → Nat :=
  let arg0 : BitVec 32 := BitVec.ofNat 32 (i 0).val
  let c32_i32_183 : BitVec 32 := 32#32
  let v964 : BitVec 32 := Scalar.muli arg0 c32_i32_183
  let c16_i32 : BitVec 32 := 16#32
  let v965 : BitVec 32 := Scalar.addi v964 c16_i32
  let v966 : Index := Scalar.indexCast v965
  ![v966.toNat]
def k0_off209 (v969 : BitVec 32) : Fin 1 → Nat :=
  let v974 : Index := Scalar.indexCast v969
  ![v974.toNat]

def k0_off210 (i : grid0.Coords) (v969 : BitVec 32) : Fin 2 → Nat :=
  let v978 : Index := Scalar.indexCast v969
  let arg1 : BitVec 32 := BitVec.ofNat 32 (i 1).val
  let c1024_i32 : BitVec 32 := 1024#32
  let v24 : BitVec 32 := Scalar.muli arg1 c1024_i32
  let v25 : BitVec 32 := v24
  let v979 : Index := Scalar.indexCast v25
  ![v978.toNat, v979.toNat]

def k0_chk91 (i : grid0.Coords) (v969 : BitVec 32) : Prop :=
  (∀ (k0_h6 : k0_cond6 i = 1#1), ∀ a, (k0_off209 v969) a + S1.size a ≤ S15.size a) ∧
  (∀ (k0_h6 : k0_cond6 i = 1#1), ∀ a, (k0_off210 i v969) a + S1x1024.size a ≤ S16x8192.size a)
theorem k0_off209_inb : ∀ (i : grid0.Coords) (v969 : BitVec 32) (k0_hw91 : k0_chk91 i v969), ∀ (k0_h6 : k0_cond6 i = 1#1), ∀ a, (k0_off209 v969) a + S1.size a ≤ S15.size a := fun i v969 k0_hw91 k0_h6 => k0_hw91.1 k0_h6
theorem k0_off210_inb : ∀ (i : grid0.Coords) (v969 : BitVec 32) (k0_hw91 : k0_chk91 i v969), ∀ (k0_h6 : k0_cond6 i = 1#1), ∀ a, (k0_off210 i v969) a + S1x1024.size a ≤ S16x8192.size a := fun i v969 k0_hw91 k0_h6 => k0_hw91.2 k0_h6

def k0_off211 (i : grid0.Coords) (v967 : BitVec 32) : Fin 2 → Nat :=
  let v981 : Index := Scalar.indexCast v967
  let arg1 : BitVec 32 := BitVec.ofNat 32 (i 1).val
  let c1024_i32 : BitVec 32 := 1024#32
  let v24 : BitVec 32 := Scalar.muli arg1 c1024_i32
  let v25 : BitVec 32 := v24
  let v982 : Index := Scalar.indexCast v25
  ![v981.toNat, v982.toNat]

def k0_chk92 (i : grid0.Coords) (v967 : BitVec 32) : Prop :=
  (∀ (k0_h6 : k0_cond6 i = 1#1), ∀ a, (k0_off211 i v967) a + S1x1024.size a ≤ S16x8192.size a)
theorem k0_off211_inb : ∀ (i : grid0.Coords) (v967 : BitVec 32) (k0_hw92 : k0_chk92 i v967), ∀ (k0_h6 : k0_cond6 i = 1#1), ∀ a, (k0_off211 i v967) a + S1x1024.size a ≤ S16x8192.size a := fun i v967 k0_hw92 k0_h6 => k0_hw92 k0_h6

def k0_off212 (i : grid0.Coords) : Fin 2 → Nat :=
  let c128_188 : Index := 128#32
  let arg1 : BitVec 32 := BitVec.ofNat 32 (i 1).val
  let c1024_i32 : BitVec 32 := 1024#32
  let v24 : BitVec 32 := Scalar.muli arg1 c1024_i32
  let v25 : BitVec 32 := v24
  let v997 : Index := Scalar.indexCast v25
  ![128, v997.toNat]
def k0_off213 (i : grid0.Coords) : Fin 1 → Nat :=
  let arg0 : BitVec 32 := BitVec.ofNat 32 (i 0).val
  let c32_i32_193 : BitVec 32 := 32#32
  let v1022 : BitVec 32 := Scalar.muli arg0 c32_i32_193
  let c17_i32 : BitVec 32 := 17#32
  let v1023 : BitVec 32 := Scalar.addi v1022 c17_i32
  let v1024 : Index := Scalar.indexCast v1023
  ![v1024.toNat]
def k0_off214 (v1027 : BitVec 32) : Fin 1 → Nat :=
  let v1032 : Index := Scalar.indexCast v1027
  ![v1032.toNat]

def k0_off215 (i : grid0.Coords) (v1027 : BitVec 32) : Fin 2 → Nat :=
  let v1036 : Index := Scalar.indexCast v1027
  let arg1 : BitVec 32 := BitVec.ofNat 32 (i 1).val
  let c1024_i32 : BitVec 32 := 1024#32
  let v24 : BitVec 32 := Scalar.muli arg1 c1024_i32
  let v25 : BitVec 32 := v24
  let v1037 : Index := Scalar.indexCast v25
  ![v1036.toNat, v1037.toNat]

def k0_chk93 (i : grid0.Coords) (v1027 : BitVec 32) : Prop :=
  (∀ (k0_h6 : k0_cond6 i = 1#1), ∀ a, (k0_off214 v1027) a + S1.size a ≤ S15.size a) ∧
  (∀ (k0_h6 : k0_cond6 i = 1#1), ∀ a, (k0_off215 i v1027) a + S1x1024.size a ≤ S16x8192.size a)
theorem k0_off214_inb : ∀ (i : grid0.Coords) (v1027 : BitVec 32) (k0_hw93 : k0_chk93 i v1027), ∀ (k0_h6 : k0_cond6 i = 1#1), ∀ a, (k0_off214 v1027) a + S1.size a ≤ S15.size a := fun i v1027 k0_hw93 k0_h6 => k0_hw93.1 k0_h6
theorem k0_off215_inb : ∀ (i : grid0.Coords) (v1027 : BitVec 32) (k0_hw93 : k0_chk93 i v1027), ∀ (k0_h6 : k0_cond6 i = 1#1), ∀ a, (k0_off215 i v1027) a + S1x1024.size a ≤ S16x8192.size a := fun i v1027 k0_hw93 k0_h6 => k0_hw93.2 k0_h6

def k0_off216 (i : grid0.Coords) (v1025 : BitVec 32) : Fin 2 → Nat :=
  let v1039 : Index := Scalar.indexCast v1025
  let arg1 : BitVec 32 := BitVec.ofNat 32 (i 1).val
  let c1024_i32 : BitVec 32 := 1024#32
  let v24 : BitVec 32 := Scalar.muli arg1 c1024_i32
  let v25 : BitVec 32 := v24
  let v1040 : Index := Scalar.indexCast v25
  ![v1039.toNat, v1040.toNat]

def k0_chk94 (i : grid0.Coords) (v1025 : BitVec 32) : Prop :=
  (∀ (k0_h6 : k0_cond6 i = 1#1), ∀ a, (k0_off216 i v1025) a + S1x1024.size a ≤ S16x8192.size a)
theorem k0_off216_inb : ∀ (i : grid0.Coords) (v1025 : BitVec 32) (k0_hw94 : k0_chk94 i v1025), ∀ (k0_h6 : k0_cond6 i = 1#1), ∀ a, (k0_off216 i v1025) a + S1x1024.size a ≤ S16x8192.size a := fun i v1025 k0_hw94 k0_h6 => k0_hw94 k0_h6

def k0_off217 (i : grid0.Coords) : Fin 2 → Nat :=
  let c136_198 : Index := 136#32
  let arg1 : BitVec 32 := BitVec.ofNat 32 (i 1).val
  let c1024_i32 : BitVec 32 := 1024#32
  let v24 : BitVec 32 := Scalar.muli arg1 c1024_i32
  let v25 : BitVec 32 := v24
  let v1055 : Index := Scalar.indexCast v25
  ![136, v1055.toNat]
def k0_off218 (i : grid0.Coords) : Fin 1 → Nat :=
  let arg0 : BitVec 32 := BitVec.ofNat 32 (i 0).val
  let c32_i32_203 : BitVec 32 := 32#32
  let v1080 : BitVec 32 := Scalar.muli arg0 c32_i32_203
  let c18_i32 : BitVec 32 := 18#32
  let v1081 : BitVec 32 := Scalar.addi v1080 c18_i32
  let v1082 : Index := Scalar.indexCast v1081
  ![v1082.toNat]
def k0_off219 (v1085 : BitVec 32) : Fin 1 → Nat :=
  let v1090 : Index := Scalar.indexCast v1085
  ![v1090.toNat]

def k0_off220 (i : grid0.Coords) (v1085 : BitVec 32) : Fin 2 → Nat :=
  let v1094 : Index := Scalar.indexCast v1085
  let arg1 : BitVec 32 := BitVec.ofNat 32 (i 1).val
  let c1024_i32 : BitVec 32 := 1024#32
  let v24 : BitVec 32 := Scalar.muli arg1 c1024_i32
  let v25 : BitVec 32 := v24
  let v1095 : Index := Scalar.indexCast v25
  ![v1094.toNat, v1095.toNat]

def k0_chk95 (i : grid0.Coords) (v1085 : BitVec 32) : Prop :=
  (∀ (k0_h6 : k0_cond6 i = 1#1), ∀ a, (k0_off219 v1085) a + S1.size a ≤ S15.size a) ∧
  (∀ (k0_h6 : k0_cond6 i = 1#1), ∀ a, (k0_off220 i v1085) a + S1x1024.size a ≤ S16x8192.size a)
theorem k0_off219_inb : ∀ (i : grid0.Coords) (v1085 : BitVec 32) (k0_hw95 : k0_chk95 i v1085), ∀ (k0_h6 : k0_cond6 i = 1#1), ∀ a, (k0_off219 v1085) a + S1.size a ≤ S15.size a := fun i v1085 k0_hw95 k0_h6 => k0_hw95.1 k0_h6
theorem k0_off220_inb : ∀ (i : grid0.Coords) (v1085 : BitVec 32) (k0_hw95 : k0_chk95 i v1085), ∀ (k0_h6 : k0_cond6 i = 1#1), ∀ a, (k0_off220 i v1085) a + S1x1024.size a ≤ S16x8192.size a := fun i v1085 k0_hw95 k0_h6 => k0_hw95.2 k0_h6

def k0_off221 (i : grid0.Coords) (v1083 : BitVec 32) : Fin 2 → Nat :=
  let v1097 : Index := Scalar.indexCast v1083
  let arg1 : BitVec 32 := BitVec.ofNat 32 (i 1).val
  let c1024_i32 : BitVec 32 := 1024#32
  let v24 : BitVec 32 := Scalar.muli arg1 c1024_i32
  let v25 : BitVec 32 := v24
  let v1098 : Index := Scalar.indexCast v25
  ![v1097.toNat, v1098.toNat]

def k0_chk96 (i : grid0.Coords) (v1083 : BitVec 32) : Prop :=
  (∀ (k0_h6 : k0_cond6 i = 1#1), ∀ a, (k0_off221 i v1083) a + S1x1024.size a ≤ S16x8192.size a)
theorem k0_off221_inb : ∀ (i : grid0.Coords) (v1083 : BitVec 32) (k0_hw96 : k0_chk96 i v1083), ∀ (k0_h6 : k0_cond6 i = 1#1), ∀ a, (k0_off221 i v1083) a + S1x1024.size a ≤ S16x8192.size a := fun i v1083 k0_hw96 k0_h6 => k0_hw96 k0_h6

def k0_off222 (i : grid0.Coords) : Fin 2 → Nat :=
  let c144_208 : Index := 144#32
  let arg1 : BitVec 32 := BitVec.ofNat 32 (i 1).val
  let c1024_i32 : BitVec 32 := 1024#32
  let v24 : BitVec 32 := Scalar.muli arg1 c1024_i32
  let v25 : BitVec 32 := v24
  let v1113 : Index := Scalar.indexCast v25
  ![144, v1113.toNat]
def k0_off223 (i : grid0.Coords) : Fin 1 → Nat :=
  let arg0 : BitVec 32 := BitVec.ofNat 32 (i 0).val
  let c32_i32_213 : BitVec 32 := 32#32
  let v1138 : BitVec 32 := Scalar.muli arg0 c32_i32_213
  let c19_i32 : BitVec 32 := 19#32
  let v1139 : BitVec 32 := Scalar.addi v1138 c19_i32
  let v1140 : Index := Scalar.indexCast v1139
  ![v1140.toNat]
def k0_off224 (v1143 : BitVec 32) : Fin 1 → Nat :=
  let v1148 : Index := Scalar.indexCast v1143
  ![v1148.toNat]

def k0_off225 (i : grid0.Coords) (v1143 : BitVec 32) : Fin 2 → Nat :=
  let v1152 : Index := Scalar.indexCast v1143
  let arg1 : BitVec 32 := BitVec.ofNat 32 (i 1).val
  let c1024_i32 : BitVec 32 := 1024#32
  let v24 : BitVec 32 := Scalar.muli arg1 c1024_i32
  let v25 : BitVec 32 := v24
  let v1153 : Index := Scalar.indexCast v25
  ![v1152.toNat, v1153.toNat]

def k0_chk97 (i : grid0.Coords) (v1143 : BitVec 32) : Prop :=
  (∀ (k0_h6 : k0_cond6 i = 1#1), ∀ a, (k0_off224 v1143) a + S1.size a ≤ S15.size a) ∧
  (∀ (k0_h6 : k0_cond6 i = 1#1), ∀ a, (k0_off225 i v1143) a + S1x1024.size a ≤ S16x8192.size a)
theorem k0_off224_inb : ∀ (i : grid0.Coords) (v1143 : BitVec 32) (k0_hw97 : k0_chk97 i v1143), ∀ (k0_h6 : k0_cond6 i = 1#1), ∀ a, (k0_off224 v1143) a + S1.size a ≤ S15.size a := fun i v1143 k0_hw97 k0_h6 => k0_hw97.1 k0_h6
theorem k0_off225_inb : ∀ (i : grid0.Coords) (v1143 : BitVec 32) (k0_hw97 : k0_chk97 i v1143), ∀ (k0_h6 : k0_cond6 i = 1#1), ∀ a, (k0_off225 i v1143) a + S1x1024.size a ≤ S16x8192.size a := fun i v1143 k0_hw97 k0_h6 => k0_hw97.2 k0_h6

def k0_off226 (i : grid0.Coords) (v1141 : BitVec 32) : Fin 2 → Nat :=
  let v1155 : Index := Scalar.indexCast v1141
  let arg1 : BitVec 32 := BitVec.ofNat 32 (i 1).val
  let c1024_i32 : BitVec 32 := 1024#32
  let v24 : BitVec 32 := Scalar.muli arg1 c1024_i32
  let v25 : BitVec 32 := v24
  let v1156 : Index := Scalar.indexCast v25
  ![v1155.toNat, v1156.toNat]

def k0_chk98 (i : grid0.Coords) (v1141 : BitVec 32) : Prop :=
  (∀ (k0_h6 : k0_cond6 i = 1#1), ∀ a, (k0_off226 i v1141) a + S1x1024.size a ≤ S16x8192.size a)
theorem k0_off226_inb : ∀ (i : grid0.Coords) (v1141 : BitVec 32) (k0_hw98 : k0_chk98 i v1141), ∀ (k0_h6 : k0_cond6 i = 1#1), ∀ a, (k0_off226 i v1141) a + S1x1024.size a ≤ S16x8192.size a := fun i v1141 k0_hw98 k0_h6 => k0_hw98 k0_h6

def k0_off227 (i : grid0.Coords) : Fin 2 → Nat :=
  let c152_218 : Index := 152#32
  let arg1 : BitVec 32 := BitVec.ofNat 32 (i 1).val
  let c1024_i32 : BitVec 32 := 1024#32
  let v24 : BitVec 32 := Scalar.muli arg1 c1024_i32
  let v25 : BitVec 32 := v24
  let v1171 : Index := Scalar.indexCast v25
  ![152, v1171.toNat]
def k0_off228 (i : grid0.Coords) : Fin 1 → Nat :=
  let arg0 : BitVec 32 := BitVec.ofNat 32 (i 0).val
  let c32_i32_223 : BitVec 32 := 32#32
  let v1196 : BitVec 32 := Scalar.muli arg0 c32_i32_223
  let c20_i32 : BitVec 32 := 20#32
  let v1197 : BitVec 32 := Scalar.addi v1196 c20_i32
  let v1198 : Index := Scalar.indexCast v1197
  ![v1198.toNat]
def k0_off229 (v1201 : BitVec 32) : Fin 1 → Nat :=
  let v1206 : Index := Scalar.indexCast v1201
  ![v1206.toNat]

def k0_off230 (i : grid0.Coords) (v1201 : BitVec 32) : Fin 2 → Nat :=
  let v1210 : Index := Scalar.indexCast v1201
  let arg1 : BitVec 32 := BitVec.ofNat 32 (i 1).val
  let c1024_i32 : BitVec 32 := 1024#32
  let v24 : BitVec 32 := Scalar.muli arg1 c1024_i32
  let v25 : BitVec 32 := v24
  let v1211 : Index := Scalar.indexCast v25
  ![v1210.toNat, v1211.toNat]

def k0_chk99 (i : grid0.Coords) (v1201 : BitVec 32) : Prop :=
  (∀ (k0_h6 : k0_cond6 i = 1#1), ∀ a, (k0_off229 v1201) a + S1.size a ≤ S15.size a) ∧
  (∀ (k0_h6 : k0_cond6 i = 1#1), ∀ a, (k0_off230 i v1201) a + S1x1024.size a ≤ S16x8192.size a)
theorem k0_off229_inb : ∀ (i : grid0.Coords) (v1201 : BitVec 32) (k0_hw99 : k0_chk99 i v1201), ∀ (k0_h6 : k0_cond6 i = 1#1), ∀ a, (k0_off229 v1201) a + S1.size a ≤ S15.size a := fun i v1201 k0_hw99 k0_h6 => k0_hw99.1 k0_h6
theorem k0_off230_inb : ∀ (i : grid0.Coords) (v1201 : BitVec 32) (k0_hw99 : k0_chk99 i v1201), ∀ (k0_h6 : k0_cond6 i = 1#1), ∀ a, (k0_off230 i v1201) a + S1x1024.size a ≤ S16x8192.size a := fun i v1201 k0_hw99 k0_h6 => k0_hw99.2 k0_h6

def k0_off231 (i : grid0.Coords) (v1199 : BitVec 32) : Fin 2 → Nat :=
  let v1213 : Index := Scalar.indexCast v1199
  let arg1 : BitVec 32 := BitVec.ofNat 32 (i 1).val
  let c1024_i32 : BitVec 32 := 1024#32
  let v24 : BitVec 32 := Scalar.muli arg1 c1024_i32
  let v25 : BitVec 32 := v24
  let v1214 : Index := Scalar.indexCast v25
  ![v1213.toNat, v1214.toNat]

def k0_chk100 (i : grid0.Coords) (v1199 : BitVec 32) : Prop :=
  (∀ (k0_h6 : k0_cond6 i = 1#1), ∀ a, (k0_off231 i v1199) a + S1x1024.size a ≤ S16x8192.size a)
theorem k0_off231_inb : ∀ (i : grid0.Coords) (v1199 : BitVec 32) (k0_hw100 : k0_chk100 i v1199), ∀ (k0_h6 : k0_cond6 i = 1#1), ∀ a, (k0_off231 i v1199) a + S1x1024.size a ≤ S16x8192.size a := fun i v1199 k0_hw100 k0_h6 => k0_hw100 k0_h6

def k0_off232 (i : grid0.Coords) : Fin 2 → Nat :=
  let c160_228 : Index := 160#32
  let arg1 : BitVec 32 := BitVec.ofNat 32 (i 1).val
  let c1024_i32 : BitVec 32 := 1024#32
  let v24 : BitVec 32 := Scalar.muli arg1 c1024_i32
  let v25 : BitVec 32 := v24
  let v1229 : Index := Scalar.indexCast v25
  ![160, v1229.toNat]
def k0_off233 (i : grid0.Coords) : Fin 1 → Nat :=
  let arg0 : BitVec 32 := BitVec.ofNat 32 (i 0).val
  let c32_i32_233 : BitVec 32 := 32#32
  let v1254 : BitVec 32 := Scalar.muli arg0 c32_i32_233
  let c21_i32 : BitVec 32 := 21#32
  let v1255 : BitVec 32 := Scalar.addi v1254 c21_i32
  let v1256 : Index := Scalar.indexCast v1255
  ![v1256.toNat]
def k0_off234 (v1259 : BitVec 32) : Fin 1 → Nat :=
  let v1264 : Index := Scalar.indexCast v1259
  ![v1264.toNat]

def k0_off235 (i : grid0.Coords) (v1259 : BitVec 32) : Fin 2 → Nat :=
  let v1268 : Index := Scalar.indexCast v1259
  let arg1 : BitVec 32 := BitVec.ofNat 32 (i 1).val
  let c1024_i32 : BitVec 32 := 1024#32
  let v24 : BitVec 32 := Scalar.muli arg1 c1024_i32
  let v25 : BitVec 32 := v24
  let v1269 : Index := Scalar.indexCast v25
  ![v1268.toNat, v1269.toNat]

def k0_chk101 (i : grid0.Coords) (v1259 : BitVec 32) : Prop :=
  (∀ (k0_h6 : k0_cond6 i = 1#1), ∀ a, (k0_off234 v1259) a + S1.size a ≤ S15.size a) ∧
  (∀ (k0_h6 : k0_cond6 i = 1#1), ∀ a, (k0_off235 i v1259) a + S1x1024.size a ≤ S16x8192.size a)
theorem k0_off234_inb : ∀ (i : grid0.Coords) (v1259 : BitVec 32) (k0_hw101 : k0_chk101 i v1259), ∀ (k0_h6 : k0_cond6 i = 1#1), ∀ a, (k0_off234 v1259) a + S1.size a ≤ S15.size a := fun i v1259 k0_hw101 k0_h6 => k0_hw101.1 k0_h6
theorem k0_off235_inb : ∀ (i : grid0.Coords) (v1259 : BitVec 32) (k0_hw101 : k0_chk101 i v1259), ∀ (k0_h6 : k0_cond6 i = 1#1), ∀ a, (k0_off235 i v1259) a + S1x1024.size a ≤ S16x8192.size a := fun i v1259 k0_hw101 k0_h6 => k0_hw101.2 k0_h6

def k0_off236 (i : grid0.Coords) (v1257 : BitVec 32) : Fin 2 → Nat :=
  let v1271 : Index := Scalar.indexCast v1257
  let arg1 : BitVec 32 := BitVec.ofNat 32 (i 1).val
  let c1024_i32 : BitVec 32 := 1024#32
  let v24 : BitVec 32 := Scalar.muli arg1 c1024_i32
  let v25 : BitVec 32 := v24
  let v1272 : Index := Scalar.indexCast v25
  ![v1271.toNat, v1272.toNat]

def k0_chk102 (i : grid0.Coords) (v1257 : BitVec 32) : Prop :=
  (∀ (k0_h6 : k0_cond6 i = 1#1), ∀ a, (k0_off236 i v1257) a + S1x1024.size a ≤ S16x8192.size a)
theorem k0_off236_inb : ∀ (i : grid0.Coords) (v1257 : BitVec 32) (k0_hw102 : k0_chk102 i v1257), ∀ (k0_h6 : k0_cond6 i = 1#1), ∀ a, (k0_off236 i v1257) a + S1x1024.size a ≤ S16x8192.size a := fun i v1257 k0_hw102 k0_h6 => k0_hw102 k0_h6

def k0_off237 (i : grid0.Coords) : Fin 2 → Nat :=
  let c168_238 : Index := 168#32
  let arg1 : BitVec 32 := BitVec.ofNat 32 (i 1).val
  let c1024_i32 : BitVec 32 := 1024#32
  let v24 : BitVec 32 := Scalar.muli arg1 c1024_i32
  let v25 : BitVec 32 := v24
  let v1287 : Index := Scalar.indexCast v25
  ![168, v1287.toNat]
def k0_off238 (i : grid0.Coords) : Fin 1 → Nat :=
  let arg0 : BitVec 32 := BitVec.ofNat 32 (i 0).val
  let c32_i32_243 : BitVec 32 := 32#32
  let v1312 : BitVec 32 := Scalar.muli arg0 c32_i32_243
  let c22_i32 : BitVec 32 := 22#32
  let v1313 : BitVec 32 := Scalar.addi v1312 c22_i32
  let v1314 : Index := Scalar.indexCast v1313
  ![v1314.toNat]
def k0_off239 (v1317 : BitVec 32) : Fin 1 → Nat :=
  let v1322 : Index := Scalar.indexCast v1317
  ![v1322.toNat]

def k0_off240 (i : grid0.Coords) (v1317 : BitVec 32) : Fin 2 → Nat :=
  let v1326 : Index := Scalar.indexCast v1317
  let arg1 : BitVec 32 := BitVec.ofNat 32 (i 1).val
  let c1024_i32 : BitVec 32 := 1024#32
  let v24 : BitVec 32 := Scalar.muli arg1 c1024_i32
  let v25 : BitVec 32 := v24
  let v1327 : Index := Scalar.indexCast v25
  ![v1326.toNat, v1327.toNat]

def k0_chk103 (i : grid0.Coords) (v1317 : BitVec 32) : Prop :=
  (∀ (k0_h6 : k0_cond6 i = 1#1), ∀ a, (k0_off239 v1317) a + S1.size a ≤ S15.size a) ∧
  (∀ (k0_h6 : k0_cond6 i = 1#1), ∀ a, (k0_off240 i v1317) a + S1x1024.size a ≤ S16x8192.size a)
theorem k0_off239_inb : ∀ (i : grid0.Coords) (v1317 : BitVec 32) (k0_hw103 : k0_chk103 i v1317), ∀ (k0_h6 : k0_cond6 i = 1#1), ∀ a, (k0_off239 v1317) a + S1.size a ≤ S15.size a := fun i v1317 k0_hw103 k0_h6 => k0_hw103.1 k0_h6
theorem k0_off240_inb : ∀ (i : grid0.Coords) (v1317 : BitVec 32) (k0_hw103 : k0_chk103 i v1317), ∀ (k0_h6 : k0_cond6 i = 1#1), ∀ a, (k0_off240 i v1317) a + S1x1024.size a ≤ S16x8192.size a := fun i v1317 k0_hw103 k0_h6 => k0_hw103.2 k0_h6

def k0_off241 (i : grid0.Coords) (v1315 : BitVec 32) : Fin 2 → Nat :=
  let v1329 : Index := Scalar.indexCast v1315
  let arg1 : BitVec 32 := BitVec.ofNat 32 (i 1).val
  let c1024_i32 : BitVec 32 := 1024#32
  let v24 : BitVec 32 := Scalar.muli arg1 c1024_i32
  let v25 : BitVec 32 := v24
  let v1330 : Index := Scalar.indexCast v25
  ![v1329.toNat, v1330.toNat]

def k0_chk104 (i : grid0.Coords) (v1315 : BitVec 32) : Prop :=
  (∀ (k0_h6 : k0_cond6 i = 1#1), ∀ a, (k0_off241 i v1315) a + S1x1024.size a ≤ S16x8192.size a)
theorem k0_off241_inb : ∀ (i : grid0.Coords) (v1315 : BitVec 32) (k0_hw104 : k0_chk104 i v1315), ∀ (k0_h6 : k0_cond6 i = 1#1), ∀ a, (k0_off241 i v1315) a + S1x1024.size a ≤ S16x8192.size a := fun i v1315 k0_hw104 k0_h6 => k0_hw104 k0_h6

def k0_off242 (i : grid0.Coords) : Fin 2 → Nat :=
  let c176_248 : Index := 176#32
  let arg1 : BitVec 32 := BitVec.ofNat 32 (i 1).val
  let c1024_i32 : BitVec 32 := 1024#32
  let v24 : BitVec 32 := Scalar.muli arg1 c1024_i32
  let v25 : BitVec 32 := v24
  let v1345 : Index := Scalar.indexCast v25
  ![176, v1345.toNat]
def k0_off243 (i : grid0.Coords) : Fin 1 → Nat :=
  let arg0 : BitVec 32 := BitVec.ofNat 32 (i 0).val
  let c32_i32_253 : BitVec 32 := 32#32
  let v1370 : BitVec 32 := Scalar.muli arg0 c32_i32_253
  let c23_i32 : BitVec 32 := 23#32
  let v1371 : BitVec 32 := Scalar.addi v1370 c23_i32
  let v1372 : Index := Scalar.indexCast v1371
  ![v1372.toNat]
def k0_off244 (v1375 : BitVec 32) : Fin 1 → Nat :=
  let v1380 : Index := Scalar.indexCast v1375
  ![v1380.toNat]

def k0_off245 (i : grid0.Coords) (v1375 : BitVec 32) : Fin 2 → Nat :=
  let v1384 : Index := Scalar.indexCast v1375
  let arg1 : BitVec 32 := BitVec.ofNat 32 (i 1).val
  let c1024_i32 : BitVec 32 := 1024#32
  let v24 : BitVec 32 := Scalar.muli arg1 c1024_i32
  let v25 : BitVec 32 := v24
  let v1385 : Index := Scalar.indexCast v25
  ![v1384.toNat, v1385.toNat]

def k0_chk105 (i : grid0.Coords) (v1375 : BitVec 32) : Prop :=
  (∀ (k0_h6 : k0_cond6 i = 1#1), ∀ a, (k0_off244 v1375) a + S1.size a ≤ S15.size a) ∧
  (∀ (k0_h6 : k0_cond6 i = 1#1), ∀ a, (k0_off245 i v1375) a + S1x1024.size a ≤ S16x8192.size a)
theorem k0_off244_inb : ∀ (i : grid0.Coords) (v1375 : BitVec 32) (k0_hw105 : k0_chk105 i v1375), ∀ (k0_h6 : k0_cond6 i = 1#1), ∀ a, (k0_off244 v1375) a + S1.size a ≤ S15.size a := fun i v1375 k0_hw105 k0_h6 => k0_hw105.1 k0_h6
theorem k0_off245_inb : ∀ (i : grid0.Coords) (v1375 : BitVec 32) (k0_hw105 : k0_chk105 i v1375), ∀ (k0_h6 : k0_cond6 i = 1#1), ∀ a, (k0_off245 i v1375) a + S1x1024.size a ≤ S16x8192.size a := fun i v1375 k0_hw105 k0_h6 => k0_hw105.2 k0_h6

def k0_off246 (i : grid0.Coords) (v1373 : BitVec 32) : Fin 2 → Nat :=
  let v1387 : Index := Scalar.indexCast v1373
  let arg1 : BitVec 32 := BitVec.ofNat 32 (i 1).val
  let c1024_i32 : BitVec 32 := 1024#32
  let v24 : BitVec 32 := Scalar.muli arg1 c1024_i32
  let v25 : BitVec 32 := v24
  let v1388 : Index := Scalar.indexCast v25
  ![v1387.toNat, v1388.toNat]

def k0_chk106 (i : grid0.Coords) (v1373 : BitVec 32) : Prop :=
  (∀ (k0_h6 : k0_cond6 i = 1#1), ∀ a, (k0_off246 i v1373) a + S1x1024.size a ≤ S16x8192.size a)
theorem k0_off246_inb : ∀ (i : grid0.Coords) (v1373 : BitVec 32) (k0_hw106 : k0_chk106 i v1373), ∀ (k0_h6 : k0_cond6 i = 1#1), ∀ a, (k0_off246 i v1373) a + S1x1024.size a ≤ S16x8192.size a := fun i v1373 k0_hw106 k0_h6 => k0_hw106 k0_h6

def k0_off247 (i : grid0.Coords) : Fin 2 → Nat :=
  let c184_258 : Index := 184#32
  let arg1 : BitVec 32 := BitVec.ofNat 32 (i 1).val
  let c1024_i32 : BitVec 32 := 1024#32
  let v24 : BitVec 32 := Scalar.muli arg1 c1024_i32
  let v25 : BitVec 32 := v24
  let v1403 : Index := Scalar.indexCast v25
  ![184, v1403.toNat]
def k0_off248 (i : grid0.Coords) : Fin 1 → Nat :=
  let arg0 : BitVec 32 := BitVec.ofNat 32 (i 0).val
  let c32_i32_263 : BitVec 32 := 32#32
  let v1428 : BitVec 32 := Scalar.muli arg0 c32_i32_263
  let c24_i32 : BitVec 32 := 24#32
  let v1429 : BitVec 32 := Scalar.addi v1428 c24_i32
  let v1430 : Index := Scalar.indexCast v1429
  ![v1430.toNat]
def k0_off249 (v1433 : BitVec 32) : Fin 1 → Nat :=
  let v1438 : Index := Scalar.indexCast v1433
  ![v1438.toNat]

def k0_off250 (i : grid0.Coords) (v1433 : BitVec 32) : Fin 2 → Nat :=
  let v1442 : Index := Scalar.indexCast v1433
  let arg1 : BitVec 32 := BitVec.ofNat 32 (i 1).val
  let c1024_i32 : BitVec 32 := 1024#32
  let v24 : BitVec 32 := Scalar.muli arg1 c1024_i32
  let v25 : BitVec 32 := v24
  let v1443 : Index := Scalar.indexCast v25
  ![v1442.toNat, v1443.toNat]

def k0_chk107 (i : grid0.Coords) (v1433 : BitVec 32) : Prop :=
  (∀ (k0_h6 : k0_cond6 i = 1#1), ∀ a, (k0_off249 v1433) a + S1.size a ≤ S15.size a) ∧
  (∀ (k0_h6 : k0_cond6 i = 1#1), ∀ a, (k0_off250 i v1433) a + S1x1024.size a ≤ S16x8192.size a)
theorem k0_off249_inb : ∀ (i : grid0.Coords) (v1433 : BitVec 32) (k0_hw107 : k0_chk107 i v1433), ∀ (k0_h6 : k0_cond6 i = 1#1), ∀ a, (k0_off249 v1433) a + S1.size a ≤ S15.size a := fun i v1433 k0_hw107 k0_h6 => k0_hw107.1 k0_h6
theorem k0_off250_inb : ∀ (i : grid0.Coords) (v1433 : BitVec 32) (k0_hw107 : k0_chk107 i v1433), ∀ (k0_h6 : k0_cond6 i = 1#1), ∀ a, (k0_off250 i v1433) a + S1x1024.size a ≤ S16x8192.size a := fun i v1433 k0_hw107 k0_h6 => k0_hw107.2 k0_h6

def k0_off251 (i : grid0.Coords) (v1431 : BitVec 32) : Fin 2 → Nat :=
  let v1445 : Index := Scalar.indexCast v1431
  let arg1 : BitVec 32 := BitVec.ofNat 32 (i 1).val
  let c1024_i32 : BitVec 32 := 1024#32
  let v24 : BitVec 32 := Scalar.muli arg1 c1024_i32
  let v25 : BitVec 32 := v24
  let v1446 : Index := Scalar.indexCast v25
  ![v1445.toNat, v1446.toNat]

def k0_chk108 (i : grid0.Coords) (v1431 : BitVec 32) : Prop :=
  (∀ (k0_h6 : k0_cond6 i = 1#1), ∀ a, (k0_off251 i v1431) a + S1x1024.size a ≤ S16x8192.size a)
theorem k0_off251_inb : ∀ (i : grid0.Coords) (v1431 : BitVec 32) (k0_hw108 : k0_chk108 i v1431), ∀ (k0_h6 : k0_cond6 i = 1#1), ∀ a, (k0_off251 i v1431) a + S1x1024.size a ≤ S16x8192.size a := fun i v1431 k0_hw108 k0_h6 => k0_hw108 k0_h6

def k0_off252 (i : grid0.Coords) : Fin 2 → Nat :=
  let c192_268 : Index := 192#32
  let arg1 : BitVec 32 := BitVec.ofNat 32 (i 1).val
  let c1024_i32 : BitVec 32 := 1024#32
  let v24 : BitVec 32 := Scalar.muli arg1 c1024_i32
  let v25 : BitVec 32 := v24
  let v1461 : Index := Scalar.indexCast v25
  ![192, v1461.toNat]
def k0_off253 (i : grid0.Coords) : Fin 1 → Nat :=
  let arg0 : BitVec 32 := BitVec.ofNat 32 (i 0).val
  let c32_i32_273 : BitVec 32 := 32#32
  let v1486 : BitVec 32 := Scalar.muli arg0 c32_i32_273
  let c25_i32 : BitVec 32 := 25#32
  let v1487 : BitVec 32 := Scalar.addi v1486 c25_i32
  let v1488 : Index := Scalar.indexCast v1487
  ![v1488.toNat]
def k0_off254 (v1491 : BitVec 32) : Fin 1 → Nat :=
  let v1496 : Index := Scalar.indexCast v1491
  ![v1496.toNat]

def k0_off255 (i : grid0.Coords) (v1491 : BitVec 32) : Fin 2 → Nat :=
  let v1500 : Index := Scalar.indexCast v1491
  let arg1 : BitVec 32 := BitVec.ofNat 32 (i 1).val
  let c1024_i32 : BitVec 32 := 1024#32
  let v24 : BitVec 32 := Scalar.muli arg1 c1024_i32
  let v25 : BitVec 32 := v24
  let v1501 : Index := Scalar.indexCast v25
  ![v1500.toNat, v1501.toNat]

def k0_chk109 (i : grid0.Coords) (v1491 : BitVec 32) : Prop :=
  (∀ (k0_h6 : k0_cond6 i = 1#1), ∀ a, (k0_off254 v1491) a + S1.size a ≤ S15.size a) ∧
  (∀ (k0_h6 : k0_cond6 i = 1#1), ∀ a, (k0_off255 i v1491) a + S1x1024.size a ≤ S16x8192.size a)
theorem k0_off254_inb : ∀ (i : grid0.Coords) (v1491 : BitVec 32) (k0_hw109 : k0_chk109 i v1491), ∀ (k0_h6 : k0_cond6 i = 1#1), ∀ a, (k0_off254 v1491) a + S1.size a ≤ S15.size a := fun i v1491 k0_hw109 k0_h6 => k0_hw109.1 k0_h6
theorem k0_off255_inb : ∀ (i : grid0.Coords) (v1491 : BitVec 32) (k0_hw109 : k0_chk109 i v1491), ∀ (k0_h6 : k0_cond6 i = 1#1), ∀ a, (k0_off255 i v1491) a + S1x1024.size a ≤ S16x8192.size a := fun i v1491 k0_hw109 k0_h6 => k0_hw109.2 k0_h6

def k0_off256 (i : grid0.Coords) (v1489 : BitVec 32) : Fin 2 → Nat :=
  let v1503 : Index := Scalar.indexCast v1489
  let arg1 : BitVec 32 := BitVec.ofNat 32 (i 1).val
  let c1024_i32 : BitVec 32 := 1024#32
  let v24 : BitVec 32 := Scalar.muli arg1 c1024_i32
  let v25 : BitVec 32 := v24
  let v1504 : Index := Scalar.indexCast v25
  ![v1503.toNat, v1504.toNat]

def k0_chk110 (i : grid0.Coords) (v1489 : BitVec 32) : Prop :=
  (∀ (k0_h6 : k0_cond6 i = 1#1), ∀ a, (k0_off256 i v1489) a + S1x1024.size a ≤ S16x8192.size a)
theorem k0_off256_inb : ∀ (i : grid0.Coords) (v1489 : BitVec 32) (k0_hw110 : k0_chk110 i v1489), ∀ (k0_h6 : k0_cond6 i = 1#1), ∀ a, (k0_off256 i v1489) a + S1x1024.size a ≤ S16x8192.size a := fun i v1489 k0_hw110 k0_h6 => k0_hw110 k0_h6

def k0_off257 (i : grid0.Coords) : Fin 2 → Nat :=
  let c200_278 : Index := 200#32
  let arg1 : BitVec 32 := BitVec.ofNat 32 (i 1).val
  let c1024_i32 : BitVec 32 := 1024#32
  let v24 : BitVec 32 := Scalar.muli arg1 c1024_i32
  let v25 : BitVec 32 := v24
  let v1519 : Index := Scalar.indexCast v25
  ![200, v1519.toNat]
def k0_off258 (i : grid0.Coords) : Fin 1 → Nat :=
  let arg0 : BitVec 32 := BitVec.ofNat 32 (i 0).val
  let c32_i32_283 : BitVec 32 := 32#32
  let v1544 : BitVec 32 := Scalar.muli arg0 c32_i32_283
  let c26_i32 : BitVec 32 := 26#32
  let v1545 : BitVec 32 := Scalar.addi v1544 c26_i32
  let v1546 : Index := Scalar.indexCast v1545
  ![v1546.toNat]
def k0_off259 (v1549 : BitVec 32) : Fin 1 → Nat :=
  let v1554 : Index := Scalar.indexCast v1549
  ![v1554.toNat]

def k0_off260 (i : grid0.Coords) (v1549 : BitVec 32) : Fin 2 → Nat :=
  let v1558 : Index := Scalar.indexCast v1549
  let arg1 : BitVec 32 := BitVec.ofNat 32 (i 1).val
  let c1024_i32 : BitVec 32 := 1024#32
  let v24 : BitVec 32 := Scalar.muli arg1 c1024_i32
  let v25 : BitVec 32 := v24
  let v1559 : Index := Scalar.indexCast v25
  ![v1558.toNat, v1559.toNat]

def k0_chk111 (i : grid0.Coords) (v1549 : BitVec 32) : Prop :=
  (∀ (k0_h6 : k0_cond6 i = 1#1), ∀ a, (k0_off259 v1549) a + S1.size a ≤ S15.size a) ∧
  (∀ (k0_h6 : k0_cond6 i = 1#1), ∀ a, (k0_off260 i v1549) a + S1x1024.size a ≤ S16x8192.size a)
theorem k0_off259_inb : ∀ (i : grid0.Coords) (v1549 : BitVec 32) (k0_hw111 : k0_chk111 i v1549), ∀ (k0_h6 : k0_cond6 i = 1#1), ∀ a, (k0_off259 v1549) a + S1.size a ≤ S15.size a := fun i v1549 k0_hw111 k0_h6 => k0_hw111.1 k0_h6
theorem k0_off260_inb : ∀ (i : grid0.Coords) (v1549 : BitVec 32) (k0_hw111 : k0_chk111 i v1549), ∀ (k0_h6 : k0_cond6 i = 1#1), ∀ a, (k0_off260 i v1549) a + S1x1024.size a ≤ S16x8192.size a := fun i v1549 k0_hw111 k0_h6 => k0_hw111.2 k0_h6

def k0_off261 (i : grid0.Coords) (v1547 : BitVec 32) : Fin 2 → Nat :=
  let v1561 : Index := Scalar.indexCast v1547
  let arg1 : BitVec 32 := BitVec.ofNat 32 (i 1).val
  let c1024_i32 : BitVec 32 := 1024#32
  let v24 : BitVec 32 := Scalar.muli arg1 c1024_i32
  let v25 : BitVec 32 := v24
  let v1562 : Index := Scalar.indexCast v25
  ![v1561.toNat, v1562.toNat]

def k0_chk112 (i : grid0.Coords) (v1547 : BitVec 32) : Prop :=
  (∀ (k0_h6 : k0_cond6 i = 1#1), ∀ a, (k0_off261 i v1547) a + S1x1024.size a ≤ S16x8192.size a)
theorem k0_off261_inb : ∀ (i : grid0.Coords) (v1547 : BitVec 32) (k0_hw112 : k0_chk112 i v1547), ∀ (k0_h6 : k0_cond6 i = 1#1), ∀ a, (k0_off261 i v1547) a + S1x1024.size a ≤ S16x8192.size a := fun i v1547 k0_hw112 k0_h6 => k0_hw112 k0_h6

def k0_off262 (i : grid0.Coords) : Fin 2 → Nat :=
  let c208_288 : Index := 208#32
  let arg1 : BitVec 32 := BitVec.ofNat 32 (i 1).val
  let c1024_i32 : BitVec 32 := 1024#32
  let v24 : BitVec 32 := Scalar.muli arg1 c1024_i32
  let v25 : BitVec 32 := v24
  let v1577 : Index := Scalar.indexCast v25
  ![208, v1577.toNat]
def k0_off263 (i : grid0.Coords) : Fin 1 → Nat :=
  let arg0 : BitVec 32 := BitVec.ofNat 32 (i 0).val
  let c32_i32_293 : BitVec 32 := 32#32
  let v1602 : BitVec 32 := Scalar.muli arg0 c32_i32_293
  let c27_i32 : BitVec 32 := 27#32
  let v1603 : BitVec 32 := Scalar.addi v1602 c27_i32
  let v1604 : Index := Scalar.indexCast v1603
  ![v1604.toNat]
def k0_off264 (v1607 : BitVec 32) : Fin 1 → Nat :=
  let v1612 : Index := Scalar.indexCast v1607
  ![v1612.toNat]

def k0_off265 (i : grid0.Coords) (v1607 : BitVec 32) : Fin 2 → Nat :=
  let v1616 : Index := Scalar.indexCast v1607
  let arg1 : BitVec 32 := BitVec.ofNat 32 (i 1).val
  let c1024_i32 : BitVec 32 := 1024#32
  let v24 : BitVec 32 := Scalar.muli arg1 c1024_i32
  let v25 : BitVec 32 := v24
  let v1617 : Index := Scalar.indexCast v25
  ![v1616.toNat, v1617.toNat]

def k0_chk113 (i : grid0.Coords) (v1607 : BitVec 32) : Prop :=
  (∀ (k0_h6 : k0_cond6 i = 1#1), ∀ a, (k0_off264 v1607) a + S1.size a ≤ S15.size a) ∧
  (∀ (k0_h6 : k0_cond6 i = 1#1), ∀ a, (k0_off265 i v1607) a + S1x1024.size a ≤ S16x8192.size a)
theorem k0_off264_inb : ∀ (i : grid0.Coords) (v1607 : BitVec 32) (k0_hw113 : k0_chk113 i v1607), ∀ (k0_h6 : k0_cond6 i = 1#1), ∀ a, (k0_off264 v1607) a + S1.size a ≤ S15.size a := fun i v1607 k0_hw113 k0_h6 => k0_hw113.1 k0_h6
theorem k0_off265_inb : ∀ (i : grid0.Coords) (v1607 : BitVec 32) (k0_hw113 : k0_chk113 i v1607), ∀ (k0_h6 : k0_cond6 i = 1#1), ∀ a, (k0_off265 i v1607) a + S1x1024.size a ≤ S16x8192.size a := fun i v1607 k0_hw113 k0_h6 => k0_hw113.2 k0_h6

def k0_off266 (i : grid0.Coords) (v1605 : BitVec 32) : Fin 2 → Nat :=
  let v1619 : Index := Scalar.indexCast v1605
  let arg1 : BitVec 32 := BitVec.ofNat 32 (i 1).val
  let c1024_i32 : BitVec 32 := 1024#32
  let v24 : BitVec 32 := Scalar.muli arg1 c1024_i32
  let v25 : BitVec 32 := v24
  let v1620 : Index := Scalar.indexCast v25
  ![v1619.toNat, v1620.toNat]

def k0_chk114 (i : grid0.Coords) (v1605 : BitVec 32) : Prop :=
  (∀ (k0_h6 : k0_cond6 i = 1#1), ∀ a, (k0_off266 i v1605) a + S1x1024.size a ≤ S16x8192.size a)
theorem k0_off266_inb : ∀ (i : grid0.Coords) (v1605 : BitVec 32) (k0_hw114 : k0_chk114 i v1605), ∀ (k0_h6 : k0_cond6 i = 1#1), ∀ a, (k0_off266 i v1605) a + S1x1024.size a ≤ S16x8192.size a := fun i v1605 k0_hw114 k0_h6 => k0_hw114 k0_h6

def k0_off267 (i : grid0.Coords) : Fin 2 → Nat :=
  let c216_298 : Index := 216#32
  let arg1 : BitVec 32 := BitVec.ofNat 32 (i 1).val
  let c1024_i32 : BitVec 32 := 1024#32
  let v24 : BitVec 32 := Scalar.muli arg1 c1024_i32
  let v25 : BitVec 32 := v24
  let v1635 : Index := Scalar.indexCast v25
  ![216, v1635.toNat]
def k0_off268 (i : grid0.Coords) : Fin 1 → Nat :=
  let arg0 : BitVec 32 := BitVec.ofNat 32 (i 0).val
  let c32_i32_303 : BitVec 32 := 32#32
  let v1660 : BitVec 32 := Scalar.muli arg0 c32_i32_303
  let c28_i32 : BitVec 32 := 28#32
  let v1661 : BitVec 32 := Scalar.addi v1660 c28_i32
  let v1662 : Index := Scalar.indexCast v1661
  ![v1662.toNat]
def k0_off269 (v1665 : BitVec 32) : Fin 1 → Nat :=
  let v1670 : Index := Scalar.indexCast v1665
  ![v1670.toNat]

def k0_off270 (i : grid0.Coords) (v1665 : BitVec 32) : Fin 2 → Nat :=
  let v1674 : Index := Scalar.indexCast v1665
  let arg1 : BitVec 32 := BitVec.ofNat 32 (i 1).val
  let c1024_i32 : BitVec 32 := 1024#32
  let v24 : BitVec 32 := Scalar.muli arg1 c1024_i32
  let v25 : BitVec 32 := v24
  let v1675 : Index := Scalar.indexCast v25
  ![v1674.toNat, v1675.toNat]

def k0_chk115 (i : grid0.Coords) (v1665 : BitVec 32) : Prop :=
  (∀ (k0_h6 : k0_cond6 i = 1#1), ∀ a, (k0_off269 v1665) a + S1.size a ≤ S15.size a) ∧
  (∀ (k0_h6 : k0_cond6 i = 1#1), ∀ a, (k0_off270 i v1665) a + S1x1024.size a ≤ S16x8192.size a)
theorem k0_off269_inb : ∀ (i : grid0.Coords) (v1665 : BitVec 32) (k0_hw115 : k0_chk115 i v1665), ∀ (k0_h6 : k0_cond6 i = 1#1), ∀ a, (k0_off269 v1665) a + S1.size a ≤ S15.size a := fun i v1665 k0_hw115 k0_h6 => k0_hw115.1 k0_h6
theorem k0_off270_inb : ∀ (i : grid0.Coords) (v1665 : BitVec 32) (k0_hw115 : k0_chk115 i v1665), ∀ (k0_h6 : k0_cond6 i = 1#1), ∀ a, (k0_off270 i v1665) a + S1x1024.size a ≤ S16x8192.size a := fun i v1665 k0_hw115 k0_h6 => k0_hw115.2 k0_h6

def k0_off271 (i : grid0.Coords) (v1663 : BitVec 32) : Fin 2 → Nat :=
  let v1677 : Index := Scalar.indexCast v1663
  let arg1 : BitVec 32 := BitVec.ofNat 32 (i 1).val
  let c1024_i32 : BitVec 32 := 1024#32
  let v24 : BitVec 32 := Scalar.muli arg1 c1024_i32
  let v25 : BitVec 32 := v24
  let v1678 : Index := Scalar.indexCast v25
  ![v1677.toNat, v1678.toNat]

def k0_chk116 (i : grid0.Coords) (v1663 : BitVec 32) : Prop :=
  (∀ (k0_h6 : k0_cond6 i = 1#1), ∀ a, (k0_off271 i v1663) a + S1x1024.size a ≤ S16x8192.size a)
theorem k0_off271_inb : ∀ (i : grid0.Coords) (v1663 : BitVec 32) (k0_hw116 : k0_chk116 i v1663), ∀ (k0_h6 : k0_cond6 i = 1#1), ∀ a, (k0_off271 i v1663) a + S1x1024.size a ≤ S16x8192.size a := fun i v1663 k0_hw116 k0_h6 => k0_hw116 k0_h6

def k0_off272 (i : grid0.Coords) : Fin 2 → Nat :=
  let c224_308 : Index := 224#32
  let arg1 : BitVec 32 := BitVec.ofNat 32 (i 1).val
  let c1024_i32 : BitVec 32 := 1024#32
  let v24 : BitVec 32 := Scalar.muli arg1 c1024_i32
  let v25 : BitVec 32 := v24
  let v1693 : Index := Scalar.indexCast v25
  ![224, v1693.toNat]
def k0_off273 (i : grid0.Coords) : Fin 1 → Nat :=
  let arg0 : BitVec 32 := BitVec.ofNat 32 (i 0).val
  let c32_i32_313 : BitVec 32 := 32#32
  let v1718 : BitVec 32 := Scalar.muli arg0 c32_i32_313
  let c29_i32 : BitVec 32 := 29#32
  let v1719 : BitVec 32 := Scalar.addi v1718 c29_i32
  let v1720 : Index := Scalar.indexCast v1719
  ![v1720.toNat]
def k0_off274 (v1723 : BitVec 32) : Fin 1 → Nat :=
  let v1728 : Index := Scalar.indexCast v1723
  ![v1728.toNat]

def k0_off275 (i : grid0.Coords) (v1723 : BitVec 32) : Fin 2 → Nat :=
  let v1732 : Index := Scalar.indexCast v1723
  let arg1 : BitVec 32 := BitVec.ofNat 32 (i 1).val
  let c1024_i32 : BitVec 32 := 1024#32
  let v24 : BitVec 32 := Scalar.muli arg1 c1024_i32
  let v25 : BitVec 32 := v24
  let v1733 : Index := Scalar.indexCast v25
  ![v1732.toNat, v1733.toNat]

def k0_chk117 (i : grid0.Coords) (v1723 : BitVec 32) : Prop :=
  (∀ (k0_h6 : k0_cond6 i = 1#1), ∀ a, (k0_off274 v1723) a + S1.size a ≤ S15.size a) ∧
  (∀ (k0_h6 : k0_cond6 i = 1#1), ∀ a, (k0_off275 i v1723) a + S1x1024.size a ≤ S16x8192.size a)
theorem k0_off274_inb : ∀ (i : grid0.Coords) (v1723 : BitVec 32) (k0_hw117 : k0_chk117 i v1723), ∀ (k0_h6 : k0_cond6 i = 1#1), ∀ a, (k0_off274 v1723) a + S1.size a ≤ S15.size a := fun i v1723 k0_hw117 k0_h6 => k0_hw117.1 k0_h6
theorem k0_off275_inb : ∀ (i : grid0.Coords) (v1723 : BitVec 32) (k0_hw117 : k0_chk117 i v1723), ∀ (k0_h6 : k0_cond6 i = 1#1), ∀ a, (k0_off275 i v1723) a + S1x1024.size a ≤ S16x8192.size a := fun i v1723 k0_hw117 k0_h6 => k0_hw117.2 k0_h6

def k0_off276 (i : grid0.Coords) (v1721 : BitVec 32) : Fin 2 → Nat :=
  let v1735 : Index := Scalar.indexCast v1721
  let arg1 : BitVec 32 := BitVec.ofNat 32 (i 1).val
  let c1024_i32 : BitVec 32 := 1024#32
  let v24 : BitVec 32 := Scalar.muli arg1 c1024_i32
  let v25 : BitVec 32 := v24
  let v1736 : Index := Scalar.indexCast v25
  ![v1735.toNat, v1736.toNat]

def k0_chk118 (i : grid0.Coords) (v1721 : BitVec 32) : Prop :=
  (∀ (k0_h6 : k0_cond6 i = 1#1), ∀ a, (k0_off276 i v1721) a + S1x1024.size a ≤ S16x8192.size a)
theorem k0_off276_inb : ∀ (i : grid0.Coords) (v1721 : BitVec 32) (k0_hw118 : k0_chk118 i v1721), ∀ (k0_h6 : k0_cond6 i = 1#1), ∀ a, (k0_off276 i v1721) a + S1x1024.size a ≤ S16x8192.size a := fun i v1721 k0_hw118 k0_h6 => k0_hw118 k0_h6

def k0_off277 (i : grid0.Coords) : Fin 2 → Nat :=
  let c232_318 : Index := 232#32
  let arg1 : BitVec 32 := BitVec.ofNat 32 (i 1).val
  let c1024_i32 : BitVec 32 := 1024#32
  let v24 : BitVec 32 := Scalar.muli arg1 c1024_i32
  let v25 : BitVec 32 := v24
  let v1751 : Index := Scalar.indexCast v25
  ![232, v1751.toNat]
def k0_off278 (i : grid0.Coords) : Fin 1 → Nat :=
  let arg0 : BitVec 32 := BitVec.ofNat 32 (i 0).val
  let c32_i32_323 : BitVec 32 := 32#32
  let v1776 : BitVec 32 := Scalar.muli arg0 c32_i32_323
  let c30_i32 : BitVec 32 := 30#32
  let v1777 : BitVec 32 := Scalar.addi v1776 c30_i32
  let v1778 : Index := Scalar.indexCast v1777
  ![v1778.toNat]
def k0_off279 (v1781 : BitVec 32) : Fin 1 → Nat :=
  let v1786 : Index := Scalar.indexCast v1781
  ![v1786.toNat]

def k0_off280 (i : grid0.Coords) (v1781 : BitVec 32) : Fin 2 → Nat :=
  let v1790 : Index := Scalar.indexCast v1781
  let arg1 : BitVec 32 := BitVec.ofNat 32 (i 1).val
  let c1024_i32 : BitVec 32 := 1024#32
  let v24 : BitVec 32 := Scalar.muli arg1 c1024_i32
  let v25 : BitVec 32 := v24
  let v1791 : Index := Scalar.indexCast v25
  ![v1790.toNat, v1791.toNat]

def k0_chk119 (i : grid0.Coords) (v1781 : BitVec 32) : Prop :=
  (∀ (k0_h6 : k0_cond6 i = 1#1), ∀ a, (k0_off279 v1781) a + S1.size a ≤ S15.size a) ∧
  (∀ (k0_h6 : k0_cond6 i = 1#1), ∀ a, (k0_off280 i v1781) a + S1x1024.size a ≤ S16x8192.size a)
theorem k0_off279_inb : ∀ (i : grid0.Coords) (v1781 : BitVec 32) (k0_hw119 : k0_chk119 i v1781), ∀ (k0_h6 : k0_cond6 i = 1#1), ∀ a, (k0_off279 v1781) a + S1.size a ≤ S15.size a := fun i v1781 k0_hw119 k0_h6 => k0_hw119.1 k0_h6
theorem k0_off280_inb : ∀ (i : grid0.Coords) (v1781 : BitVec 32) (k0_hw119 : k0_chk119 i v1781), ∀ (k0_h6 : k0_cond6 i = 1#1), ∀ a, (k0_off280 i v1781) a + S1x1024.size a ≤ S16x8192.size a := fun i v1781 k0_hw119 k0_h6 => k0_hw119.2 k0_h6

def k0_off281 (i : grid0.Coords) (v1779 : BitVec 32) : Fin 2 → Nat :=
  let v1793 : Index := Scalar.indexCast v1779
  let arg1 : BitVec 32 := BitVec.ofNat 32 (i 1).val
  let c1024_i32 : BitVec 32 := 1024#32
  let v24 : BitVec 32 := Scalar.muli arg1 c1024_i32
  let v25 : BitVec 32 := v24
  let v1794 : Index := Scalar.indexCast v25
  ![v1793.toNat, v1794.toNat]

def k0_chk120 (i : grid0.Coords) (v1779 : BitVec 32) : Prop :=
  (∀ (k0_h6 : k0_cond6 i = 1#1), ∀ a, (k0_off281 i v1779) a + S1x1024.size a ≤ S16x8192.size a)
theorem k0_off281_inb : ∀ (i : grid0.Coords) (v1779 : BitVec 32) (k0_hw120 : k0_chk120 i v1779), ∀ (k0_h6 : k0_cond6 i = 1#1), ∀ a, (k0_off281 i v1779) a + S1x1024.size a ≤ S16x8192.size a := fun i v1779 k0_hw120 k0_h6 => k0_hw120 k0_h6

def k0_off282 (i : grid0.Coords) : Fin 2 → Nat :=
  let c240_328 : Index := 240#32
  let arg1 : BitVec 32 := BitVec.ofNat 32 (i 1).val
  let c1024_i32 : BitVec 32 := 1024#32
  let v24 : BitVec 32 := Scalar.muli arg1 c1024_i32
  let v25 : BitVec 32 := v24
  let v1809 : Index := Scalar.indexCast v25
  ![240, v1809.toNat]
def k0_off283 (i : grid0.Coords) : Fin 1 → Nat :=
  let arg0 : BitVec 32 := BitVec.ofNat 32 (i 0).val
  let c32_i32_333 : BitVec 32 := 32#32
  let v1834 : BitVec 32 := Scalar.muli arg0 c32_i32_333
  let c31_i32 : BitVec 32 := 31#32
  let v1835 : BitVec 32 := Scalar.addi v1834 c31_i32
  let v1836 : Index := Scalar.indexCast v1835
  ![v1836.toNat]
def k0_off284 (v1839 : BitVec 32) : Fin 1 → Nat :=
  let v1844 : Index := Scalar.indexCast v1839
  ![v1844.toNat]

def k0_off285 (i : grid0.Coords) (v1839 : BitVec 32) : Fin 2 → Nat :=
  let v1848 : Index := Scalar.indexCast v1839
  let arg1 : BitVec 32 := BitVec.ofNat 32 (i 1).val
  let c1024_i32 : BitVec 32 := 1024#32
  let v24 : BitVec 32 := Scalar.muli arg1 c1024_i32
  let v25 : BitVec 32 := v24
  let v1849 : Index := Scalar.indexCast v25
  ![v1848.toNat, v1849.toNat]

def k0_chk121 (i : grid0.Coords) (v1839 : BitVec 32) : Prop :=
  (∀ (k0_h6 : k0_cond6 i = 1#1), ∀ a, (k0_off284 v1839) a + S1.size a ≤ S15.size a) ∧
  (∀ (k0_h6 : k0_cond6 i = 1#1), ∀ a, (k0_off285 i v1839) a + S1x1024.size a ≤ S16x8192.size a)
theorem k0_off284_inb : ∀ (i : grid0.Coords) (v1839 : BitVec 32) (k0_hw121 : k0_chk121 i v1839), ∀ (k0_h6 : k0_cond6 i = 1#1), ∀ a, (k0_off284 v1839) a + S1.size a ≤ S15.size a := fun i v1839 k0_hw121 k0_h6 => k0_hw121.1 k0_h6
theorem k0_off285_inb : ∀ (i : grid0.Coords) (v1839 : BitVec 32) (k0_hw121 : k0_chk121 i v1839), ∀ (k0_h6 : k0_cond6 i = 1#1), ∀ a, (k0_off285 i v1839) a + S1x1024.size a ≤ S16x8192.size a := fun i v1839 k0_hw121 k0_h6 => k0_hw121.2 k0_h6

def k0_off286 (i : grid0.Coords) (v1837 : BitVec 32) : Fin 2 → Nat :=
  let v1851 : Index := Scalar.indexCast v1837
  let arg1 : BitVec 32 := BitVec.ofNat 32 (i 1).val
  let c1024_i32 : BitVec 32 := 1024#32
  let v24 : BitVec 32 := Scalar.muli arg1 c1024_i32
  let v25 : BitVec 32 := v24
  let v1852 : Index := Scalar.indexCast v25
  ![v1851.toNat, v1852.toNat]

def k0_chk122 (i : grid0.Coords) (v1837 : BitVec 32) : Prop :=
  (∀ (k0_h6 : k0_cond6 i = 1#1), ∀ a, (k0_off286 i v1837) a + S1x1024.size a ≤ S16x8192.size a)
theorem k0_off286_inb : ∀ (i : grid0.Coords) (v1837 : BitVec 32) (k0_hw122 : k0_chk122 i v1837), ∀ (k0_h6 : k0_cond6 i = 1#1), ∀ a, (k0_off286 i v1837) a + S1x1024.size a ≤ S16x8192.size a := fun i v1837 k0_hw122 k0_h6 => k0_hw122 k0_h6

def k0_off287 (i : grid0.Coords) : Fin 2 → Nat :=
  let c248_338 : Index := 248#32
  let arg1 : BitVec 32 := BitVec.ofNat 32 (i 1).val
  let c1024_i32 : BitVec 32 := 1024#32
  let v24 : BitVec 32 := Scalar.muli arg1 c1024_i32
  let v25 : BitVec 32 := v24
  let v1867 : Index := Scalar.indexCast v25
  ![248, v1867.toNat]
def k0_cond5 (i : grid0.Coords) : BitVec 1 :=
  let arg0 : BitVec 32 := BitVec.ofNat 32 (i 0).val
  let c6_i32 : BitVec 32 := 6#32
  let v16 : BitVec 1 := Scalar.cmpi .slt arg0 c6_i32
  let arg1 : BitVec 32 := BitVec.ofNat 32 (i 1).val
  let c0_i32_9 : BitVec 32 := 0#32
  let v17 : BitVec 1 := Scalar.cmpi .eq arg1 c0_i32_9
  let v18 : BitVec 1 := Scalar.andi v16 v17
  let v19 : BitVec 32 := Scalar.extui v18
  let c0_i32_10 : BitVec 32 := 0#32
  let v20 : BitVec 1 := Scalar.cmpi .ne v19 c0_i32_10
  v20

def k0_cond2 (i : grid0.Coords) : BitVec 1 :=
  let arg0 : BitVec 32 := BitVec.ofNat 32 (i 0).val
  let c0_i32_2 : BitVec 32 := 0#32
  let v5 : BitVec 1 := Scalar.cmpi .sgt arg0 c0_i32_2
  let arg1 : BitVec 32 := BitVec.ofNat 32 (i 1).val
  let c0_i32_3 : BitVec 32 := 0#32
  let v6 : BitVec 1 := Scalar.cmpi .eq arg1 c0_i32_3
  let v7 : BitVec 1 := Scalar.andi v5 v6
  let v8 : BitVec 32 := Scalar.extui v7
  let c0_i32_4 : BitVec 32 := 0#32
  let v9 : BitVec 1 := Scalar.cmpi .ne v8 c0_i32_4
  v9

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg0 c5_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![c0_i32_0.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg0 c5_i32
  let c6_i32 : BitVec 32 := 6#32
  let v1 : BitVec 1 := Scalar.cmpi .slt arg0 c6_i32
  let c7_i32 : BitVec 32 := 7#32
  let v2 : BitVec 32 := Scalar.select v1 arg1 c7_i32
  let c0_i32 : BitVec 32 := 0#32
  ![v0.toNat, v2.toNat]

def cc0_transform_12 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg0 c5_i32
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg0 c5_i32
  let c6_i32 : BitVec 32 := 6#32
  let v1 : BitVec 1 := Scalar.cmpi .slt arg0 c6_i32
  let c7_i32 : BitVec 32 := 7#32
  let v2 : BitVec 32 := Scalar.select v1 arg1 c7_i32
  let c0_i32 : BitVec 32 := 0#32
  ![v0.toNat, v2.toNat]

def cc0_transform_14 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg0 c5_i32
  let c0_i32 : BitVec 32 := 0#32
  let c0_i32_0 : BitVec 32 := 0#32
  ![c0_i32.toNat, v0.toNat]

def cc0_transform_15 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg0 c5_i32
  let c0_i32 : BitVec 32 := 0#32
  let c0_i32_0 : BitVec 32 := 0#32
  ![c0_i32.toNat, v0.toNat]

def cc0_transform_16 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc0_transform_17 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .smem S15 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S14 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S24x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S24x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x256 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S256x1024 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== ReferenceIdeal.lean ====
abbrev S1536x2048 : Shape := ⟨2, ![1536, 2048]⟩
abbrev S2048x1024 : Shape := ⟨2, ![2048, 1024]⟩
abbrev S16x1024 : Shape := ⟨2, ![16, 1024]⟩
abbrev S16x8192 : Shape := ⟨2, ![16, 8192]⟩
abbrev S24x2048x32 : Shape := ⟨3, ![24, 2048, 32]⟩
abbrev S24x32 : Shape := ⟨2, ![24, 32]⟩
abbrev S24x32x8192 : Shape := ⟨3, ![24, 32, 8192]⟩
abbrev S24x8192 : Shape := ⟨2, ![24, 8192]⟩
abbrev S24 : Shape := ⟨1, ![24]⟩
abbrev S15 : Shape := ⟨1, ![15]⟩
abbrev S14 : Shape := ⟨1, ![14]⟩
abbrev S_ : Shape := ⟨0, ![]⟩
abbrev S16x128x1024 : Shape := ⟨3, ![16, 128, 1024]⟩
abbrev S1536x1024 : Shape := ⟨2, ![1536, 1024]⟩
abbrev S1536x1024x1 : Shape := ⟨3, ![1536, 1024, 1]⟩
abbrev S1536x1024x8 : Shape := ⟨3, ![1536, 1024, 8]⟩
abbrev S1536x8192 : Shape := ⟨2, ![1536, 8192]⟩

abbrev nBuf : Space → Nat
  | .hbm => 198
  | .vmem => 0
  | .smem => 0
  | _ => 0

abbrev hbmTy0_0 (i : Nat) : BufTy := match i % 128 with
  | 0 => ⟨S1536x2048, .bf16⟩
  | 1 => ⟨S2048x1024, .i32⟩
  | 2 => ⟨S16x1024, .i32⟩
  | 3 => ⟨S16x8192, .f32⟩
  | 4 => ⟨S24x2048x32, .fp8e4m3⟩
  | 5 => ⟨S24x32, .f32⟩
  | 6 => ⟨S24x32x8192, .fp8e4m3⟩
  | 7 => ⟨S24x8192, .f32⟩
  | 8 => ⟨S24, .f32⟩
  | 9 => ⟨S15, .i32⟩
  | 10 => ⟨S14, .i32⟩
  | 11 => ⟨S_, .i32⟩
  | 12 => ⟨S2048x1024, .i32⟩
  | 13 => ⟨S2048x1024, .i32⟩
  | 14 => ⟨S_, .i32⟩
  | 15 => ⟨S2048x1024, .i32⟩
  | 16 => ⟨S2048x1024, .i32⟩
  | 17 => ⟨S_, .i32⟩
  | 18 => ⟨S16x1024, .i32⟩
  | 19 => ⟨S16x1024, .i32⟩
  | 20 => ⟨S_, .i32⟩
  | 21 => ⟨S16x1024, .i32⟩
  | 22 => ⟨S16x1024, .i32⟩
  | 23 => ⟨S16x128x1024, .i32⟩
  | 24 => ⟨S2048x1024, .i32⟩
  | 25 => ⟨S16x1024, .f32⟩
  | 26 => ⟨S16x128x1024, .f32⟩
  | 27 => ⟨S2048x1024, .f32⟩
  | 28 => ⟨S2048x1024, .i32⟩
  | 29 => ⟨S2048x1024, .f32⟩
  | 30 => ⟨S2048x1024, .f32⟩
  | 31 => ⟨S2048x1024, .bf16⟩
  | 32 => ⟨S1536x1024, .f32⟩
  | 33 => ⟨S_, .i32⟩
  | 34 => ⟨S2048x1024, .i32⟩
  | 35 => ⟨S2048x1024, .i32⟩
  | 36 => ⟨S_, .i32⟩
  | 37 => ⟨S2048x1024, .i32⟩
  | 38 => ⟨S2048x1024, .i32⟩
  | 39 => ⟨S_, .i32⟩
  | 40 => ⟨S16x1024, .i32⟩
  | 41 => ⟨S16x1024, .i32⟩
  | 42 => ⟨S_, .i32⟩
  | 43 => ⟨S16x1024, .i32⟩
  | 44 => ⟨S16x1024, .i32⟩
  | 45 => ⟨S16x128x1024, .i32⟩
  | 46 => ⟨S2048x1024, .i32⟩
  | 47 => ⟨S16x1024, .f32⟩
  | 48 => ⟨S16x128x1024, .f32⟩
  | 49 => ⟨S2048x1024, .f32⟩
  | 50 => ⟨S2048x1024, .i32⟩
  | 51 => ⟨S2048x1024, .f32⟩
  | 52 => ⟨S2048x1024, .f32⟩
  | 53 => ⟨S2048x1024, .bf16⟩
  | 54 => ⟨S1536x1024, .f32⟩
  | 55 => ⟨S_, .i32⟩
  | 56 => ⟨S2048x1024, .i32⟩
  | 57 => ⟨S2048x1024, .i32⟩
  | 58 => ⟨S_, .i32⟩
  | 59 => ⟨S2048x1024, .i32⟩
  | 60 => ⟨S2048x1024, .i32⟩
  | 61 => ⟨S_, .i32⟩
  | 62 => ⟨S16x1024, .i32⟩
  | 63 => ⟨S16x1024, .i32⟩
  | 64 => ⟨S_, .i32⟩
  | 65 => ⟨S16x1024, .i32⟩
  | 66 => ⟨S16x1024, .i32⟩
  | 67 => ⟨S16x128x1024, .i32⟩
  | 68 => ⟨S2048x1024, .i32⟩
  | 69 => ⟨S16x1024, .f32⟩
  | 70 => ⟨S16x128x1024, .f32⟩
  | 71 => ⟨S2048x1024, .f32⟩
  | 72 => ⟨S2048x1024, .i32⟩
  | 73 => ⟨S2048x1024, .f32⟩
  | 74 => ⟨S2048x1024, .f32⟩
  | 75 => ⟨S2048x1024, .bf16⟩
  | 76 => ⟨S1536x1024, .f32⟩
  | 77 => ⟨S_, .i32⟩
  | 78 => ⟨S2048x1024, .i32⟩
  | 79 => ⟨S2048x1024, .i32⟩
  | 80 => ⟨S_, .i32⟩
  | 81 => ⟨S2048x1024, .i32⟩
  | 82 => ⟨S2048x1024, .i32⟩
  | 83 => ⟨S_, .i32⟩
  | 84 => ⟨S16x1024, .i32⟩
  | 85 => ⟨S16x1024, .i32⟩
  | 86 => ⟨S_, .i32⟩
  | 87 => ⟨S16x1024, .i32⟩
  | 88 => ⟨S16x1024, .i32⟩
  | 89 => ⟨S16x128x1024, .i32⟩
  | 90 => ⟨S2048x1024, .i32⟩
  | 91 => ⟨S16x1024, .f32⟩
  | 92 => ⟨S16x128x1024, .f32⟩
  | 93 => ⟨S2048x1024, .f32⟩
  | 94 => ⟨S2048x1024, .i32⟩
  | 95 => ⟨S2048x1024, .f32⟩
  | 96 => ⟨S2048x1024, .f32⟩
  | 97 => ⟨S2048x1024, .bf16⟩
  | 98 => ⟨S1536x1024, .f32⟩
  | 99 => ⟨S_, .i32⟩
  | 100 => ⟨S2048x1024, .i32⟩
  | 101 => ⟨S2048x1024, .i32⟩
  | 102 => ⟨S_, .i32⟩
  | 103 => ⟨S2048x1024, .i32⟩
  | 104 => ⟨S2048x1024, .i32⟩
  | 105 => ⟨S_, .i32⟩
  | 106 => ⟨S16x1024, .i32⟩
  | 107 => ⟨S16x1024, .i32⟩
  | 108 => ⟨S_, .i32⟩
  | 109 => ⟨S16x1024, .i32⟩
  | 110 => ⟨S16x1024, .i32⟩
  | 111 => ⟨S16x128x1024, .i32⟩
  | 112 => ⟨S2048x1024, .i32⟩
  | 113 => ⟨S16x1024, .f32⟩
  | 114 => ⟨S16x128x1024, .f32⟩
  | 115 => ⟨S2048x1024, .f32⟩
  | 116 => ⟨S2048x1024, .i32⟩
  | 117 => ⟨S2048x1024, .f32⟩
  | 118 => ⟨S2048x1024, .f32⟩
  | 119 => ⟨S2048x1024, .bf16⟩
  | 120 => ⟨S1536x1024, .f32⟩
  | 121 => ⟨S_, .i32⟩
  | 122 => ⟨S2048x1024, .i32⟩
  | 123 => ⟨S2048x1024, .i32⟩
  | 124 => ⟨S_, .i32⟩
  | 125 => ⟨S2048x1024, .i32⟩
  | 126 => ⟨S2048x1024, .i32⟩
  | 127 => ⟨S_, .i32⟩
  | _ => ⟨S1536x2048, .bf16⟩

abbrev hbmTy0_1 (i : Nat) : BufTy := match i % 128 with
  | 0 => ⟨S16x1024, .i32⟩
  | 1 => ⟨S16x1024, .i32⟩
  | 2 => ⟨S_, .i32⟩
  | 3 => ⟨S16x1024, .i32⟩
  | 4 => ⟨S16x1024, .i32⟩
  | 5 => ⟨S16x128x1024, .i32⟩
  | 6 => ⟨S2048x1024, .i32⟩
  | 7 => ⟨S16x1024, .f32⟩
  | 8 => ⟨S16x128x1024, .f32⟩
  | 9 => ⟨S2048x1024, .f32⟩
  | 10 => ⟨S2048x1024, .i32⟩
  | 11 => ⟨S2048x1024, .f32⟩
  | 12 => ⟨S2048x1024, .f32⟩
  | 13 => ⟨S2048x1024, .bf16⟩
  | 14 => ⟨S1536x1024, .f32⟩
  | 15 => ⟨S_, .i32⟩
  | 16 => ⟨S2048x1024, .i32⟩
  | 17 => ⟨S2048x1024, .i32⟩
  | 18 => ⟨S_, .i32⟩
  | 19 => ⟨S2048x1024, .i32⟩
  | 20 => ⟨S2048x1024, .i32⟩
  | 21 => ⟨S_, .i32⟩
  | 22 => ⟨S16x1024, .i32⟩
  | 23 => ⟨S16x1024, .i32⟩
  | 24 => ⟨S_, .i32⟩
  | 25 => ⟨S16x1024, .i32⟩
  | 26 => ⟨S16x1024, .i32⟩
  | 27 => ⟨S16x128x1024, .i32⟩
  | 28 => ⟨S2048x1024, .i32⟩
  | 29 => ⟨S16x1024, .f32⟩
  | 30 => ⟨S16x128x1024, .f32⟩
  | 31 => ⟨S2048x1024, .f32⟩
  | 32 => ⟨S2048x1024, .i32⟩
  | 33 => ⟨S2048x1024, .f32⟩
  | 34 => ⟨S2048x1024, .f32⟩
  | 35 => ⟨S2048x1024, .bf16⟩
  | 36 => ⟨S1536x1024, .f32⟩
  | 37 => ⟨S_, .i32⟩
  | 38 => ⟨S2048x1024, .i32⟩
  | 39 => ⟨S2048x1024, .i32⟩
  | 40 => ⟨S_, .i32⟩
  | 41 => ⟨S2048x1024, .i32⟩
  | 42 => ⟨S2048x1024, .i32⟩
  | 43 => ⟨S_, .i32⟩
  | 44 => ⟨S16x1024, .i32⟩
  | 45 => ⟨S16x1024, .i32⟩
  | 46 => ⟨S_, .i32⟩
  | 47 => ⟨S16x1024, .i32⟩
  | 48 => ⟨S16x1024, .i32⟩
  | 49 => ⟨S16x128x1024, .i32⟩
  | 50 => ⟨S2048x1024, .i32⟩
  | 51 => ⟨S16x1024, .f32⟩
  | 52 => ⟨S16x128x1024, .f32⟩
  | 53 => ⟨S2048x1024, .f32⟩
  | 54 => ⟨S2048x1024, .i32⟩
  | 55 => ⟨S2048x1024, .f32⟩
  | 56 => ⟨S2048x1024, .f32⟩
  | 57 => ⟨S2048x1024, .bf16⟩
  | 58 => ⟨S1536x1024, .f32⟩
  | 59 => ⟨S1536x1024x1, .f32⟩
  | 60 => ⟨S1536x1024x1, .f32⟩
  | 61 => ⟨S1536x1024x1, .f32⟩
  | 62 => ⟨S1536x1024x1, .f32⟩
  | 63 => ⟨S1536x1024x1, .f32⟩
  | 64 => ⟨S1536x1024x1, .f32⟩
  | 65 => ⟨S1536x1024x1, .f32⟩
  | 66 => ⟨S1536x1024x1, .f32⟩
  | 67 => ⟨S1536x1024x8, .f32⟩
  | 68 => ⟨S1536x8192, .f32⟩
  | 69 => ⟨S1536x8192, .bf16⟩
  | _ => ⟨S1536x2048, .bf16⟩

abbrev hbmTy (i : Nat) : BufTy := match i / 128 with
  | 0 => hbmTy0_0 i
  | 1 => hbmTy0_1 i
  | _ => ⟨S1536x2048, .bf16⟩

abbrev bufTy : (tb : Table) → Fin (tcTables nBuf tb) → BufTy
  | .hbm, ⟨i, _⟩ => hbmTy i
  | _, _ => ⟨S1536x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_c_1 : Ref sig .tc := ⟨.hbm, 17, rfl⟩
abbrev main_v4 : Ref sig .tc := ⟨.hbm, 18, rfl⟩
abbrev main_v5 : Ref sig .tc := ⟨.hbm, 19, rfl⟩
abbrev main_c_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_c_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_c_13 : Ref sig .tc := ⟨.hbm, 83, rfl⟩
abbrev main_v58 : Ref sig .tc := ⟨.hbm, 84, rfl⟩
abbrev main_v59 : Ref sig .tc := ⟨.hbm, 85, rfl⟩
abbrev main_c_14 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_c_17 : Ref sig .tc := ⟨.hbm, 105, rfl⟩
abbrev main_v76 : Ref sig .tc := ⟨.hbm, 106, rfl⟩
abbrev main_v77 : Ref sig .tc := ⟨.hbm, 107, rfl⟩
abbrev main_c_18 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_c_19 : Ref sig .tc := ⟨.hbm, 121, rfl⟩
abbrev main_v90 : Ref sig .tc := ⟨.hbm, 122, rfl⟩
abbrev main_v91 : Ref sig .tc := ⟨.hbm, 123, rfl⟩
abbrev main_c_20 : Ref sig .tc := ⟨.hbm, 124, rfl⟩
abbrev main_v92 : Ref sig .tc := ⟨.hbm, 125, rfl⟩
abbrev main_v93 : Ref sig .tc := ⟨.hbm, 126, rfl⟩
abbrev main_c_21 : Ref sig .tc := ⟨.hbm, 127, rfl⟩
abbrev main_v94 : Ref sig .tc := ⟨.hbm, 128, rfl⟩
abbrev main_v95 : Ref sig .tc := ⟨.hbm, 129, rfl⟩
abbrev main_c_22 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_c_23 : Ref sig .tc := ⟨.hbm, 143, rfl⟩
abbrev main_v108 : Ref sig .tc := ⟨.hbm, 144, rfl⟩
abbrev main_v109 : Ref sig .tc := ⟨.hbm, 145, rfl⟩
abbrev main_c_24 : Ref sig .tc := ⟨.hbm, 146, rfl⟩
abbrev main_v110 : Ref sig .tc := ⟨.hbm, 147, rfl⟩
abbrev main_v111 : Ref sig .tc := ⟨.hbm, 148, rfl⟩
abbrev main_c_25 : Ref sig .tc := ⟨.hbm, 149, rfl⟩
abbrev main_v112 : Ref sig .tc := ⟨.hbm, 150, rfl⟩
abbrev main_v113 : Ref sig .tc := ⟨.hbm, 151, rfl⟩
abbrev main_c_26 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_c_27 : Ref sig .tc := ⟨.hbm, 165, rfl⟩
abbrev main_v126 : Ref sig .tc := ⟨.hbm, 166, rfl⟩
abbrev main_v127 : Ref sig .tc := ⟨.hbm, 167, rfl⟩
abbrev main_c_28 : Ref sig .tc := ⟨.hbm, 168, rfl⟩
abbrev main_v128 : Ref sig .tc := ⟨.hbm, 169, rfl⟩
abbrev main_v129 : Ref sig .tc := ⟨.hbm, 170, rfl⟩
abbrev main_c_29 : Ref sig .tc := ⟨.hbm, 171, rfl⟩
abbrev main_v130 : Ref sig .tc := ⟨.hbm, 172, rfl⟩
abbrev main_v131 : Ref sig .tc := ⟨.hbm, 173, rfl⟩
abbrev main_c_30 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩

abbrev nD : Nat := 1
abbrev τ : Topo := Topo.v7x

variable {F : FTy → Type} [FloatOps F]
-- ==== Proof.Pre.lean ====
module

public import proofs.«01_k».proof.Defs
public import proofs.«01_k».proof.Proof.Gen.Pre_pre
public import proofs.«01_k».proof.Proof.Gen.Kernel.Frame
public import proofs.«01_k».proof.Proof.Gen.KernelIdeal.Frame
public import Idealize.ShloMosaic.Lib.ReduceAll
public import Idealize.ShloMosaic.Lib.WordArith

@[expose] public section

noncomputable section

namespace Cert.Proof

open Idealize.ShloMosaic Idealize.SL.Sem

instance : Subsingleton Cert.Pre_pre.S_.Idx := ⟨fun a b => funext fun x => absurd x.isLt (Nat.not_lt_zero _)⟩

/-- What the precondition says: every adapter number of a segment is below the number of adapters. -/
theorem lt_of_pre {F : FTy → Type} [FloatOps F] [Cert.Pre_pre.Facts] (a0 a1 a2 a3 a4 a5 a6 a7 a8 a9) (a10 : IVec Cert.Pre_pre.S14 32) (j)
    (h : Cert.Pre_pre.fn (F := F) a0 a1 a2 a3 a4 a5 a6 a7 a8 a9 a10 j = 1#1) (x) : (a10 x).toInt < (24 : ℕ) := by
  have h1 := Host.reduce_andi_all _ _ _ _ j h x
  have h2 : BitVec.slt (a10 x) 24#32 = true := by
    have h3 : BitVec.ofBool (BitVec.slt (a10 x) 24#32) = 1#1 := h1
    revert h3; cases BitVec.slt (a10 x) 24#32 <;> decide
  have h4 := BitVec.slt_iff_toInt_lt.mp h2
  have h5 : (24#32 : BitVec 32).toInt = 24 := by decide
  rw [h5] at h4; exact h4

end Cert.Proof
-- ==== Proof.KBase.lean ====
/-
  The kernel's body: what is held between its operations, the side conditions of its checks, and the loop that fills the
  two tables of segment numbers.
-/
module

public import proofs.«01_k».proof.Proof.Gen.Kernel.Frame
public import proofs.«01_k».proof.Proof.Gen.Kernel.Loops
public import Idealize.ShloMosaic.Lib.CellWrites
public import proofs.«01_k».proof.Proof.Gen.Kernel.Skeleton
public import Idealize.ShloMosaic.Lib.Pipeline.Frame
public import Idealize.ShloMosaic.Lib.Tactic
public import Idealize.ShloMosaic.Lib.Transfers

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

/-- A memref's buffer on core `c` held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- A memref's buffer on core `c` held whole at some contents. -/
abbrev ex (c : Dev nD) {sp : Space} {S : Shape} {e : EltTy} (M : Memref sig .tc sp S e) : sProp 𝕄 :=
  iprop(∃ f, pt (F := F) c M f)

/-- The first `n` entries of a table of segment numbers are at most 13. -/
def bnd (M : Memref sig .tc .smem S192 .i32) (n : ℕ) (f : M.view.ty.Contents (Elt F)) : Prop :=
  ∀ y : S192.Idx, (y 0).val < n → (show BitVec 32 from M.view.read (Elt F) f y).toNat ≤ 13

theorem bnd_zero (M : Memref sig .tc .smem S192 .i32) (f : M.view.ty.Contents (Elt F)) : bnd M 0 f :=
  fun _ h => absurd h (Nat.not_lt_zero _)

/-- Writing a number at most 13 at entry `n` carries the bound from the first `n` entries to the first `n + 1`. -/
theorem bnd_succ (M : Memref sig .tc .smem S192 .i32) (n : ℕ) (f : M.view.ty.Contents (Elt F)) (off : Fin 1 → ℕ)
    (inb : ∀ a, off a + S1.size a ≤ S192.size a) (hoff : off 0 = n) (p : Elt F .i32) (hp : (show BitVec 32 from p).toNat ≤ 13)
    (h : bnd M n f) :
    bnd M (n + 1) (M.view.writes (Elt F) f [⟨Rect.unit (s := S192) off S1.size inb, fun _ => p⟩]) := by
  intro y hy
  have e' : M.view.read (Elt F) (M.view.writes (Elt F) f [⟨Rect.unit (s := S192) off S1.size inb, fun _ => p⟩]) y
      = if (y 0).val = off 0 then p else M.view.read (Elt F) f y :=
    View.read_writes_cons_cell (d := ![192]) M.view f inb p [] y
  rw [e']
  by_cases hy' : (y 0).val = off 0
  · rw [if_pos hy']; exact hp
  · rw [if_neg hy']; exact h y (by omega)

theorem bnd_get {M : Memref sig .tc .smem S192 .i32} {n : ℕ} {f : M.view.ty.Contents (Elt F)} (h : bnd M n f) (y : S192.Idx) (hy : (y 0).val < n) :
    (show BitVec 32 from M.view.read (Elt F) f y).toNat ≤ 13 := h y hy

attribute [irreducible] bnd

/-- Adding one truth value to a count at most `n` gives a count at most `n + 1`. -/
theorem cnt_succ {a : BitVec 32} {b : BitVec 1} {n : ℕ} (hn : n < 100) (h : a.toNat ≤ n) :
    (Scalar.addi a (Scalar.extui b)).toNat ≤ n + 1 := by
  have hb : (Scalar.extui b : BitVec 32).toNat ≤ 1 := by
    show (BitVec.setWidth 32 b).toNat ≤ 1
    rw [BitVec.toNat_setWidth]
    have := b.isLt
    have h2 := Nat.mod_le b.toNat (2 ^ 32)
    omega
  have e : (Scalar.addi a (Scalar.extui b)).toNat = (a.toNat + (Scalar.extui b : BitVec 32).toNat) % 2 ^ 32 := BitVec.toNat_add _ _
  rw [e, Nat.mod_eq_of_lt (by omega)]
  omega

theorem cnt_zero : (0#32).toNat ≤ 0 := by decide

/-! ## The side conditions the body assumes -/

theorem maxsi_toNat_lt {v : BitVec 32} {n : ℕ} (hn : 0 < n) (h : v.toInt < n) : (Scalar.maxsi v 0#32).toNat < n := by
  show (if (0#32).slt v then v else 0#32).toNat < n
  by_cases hv : (0#32).slt v
  · rw [if_pos hv]
    have h0 : 0 < v.toInt := by rw [BitVec.slt_eq_decide] at hv; simpa using hv
    have := BitVec.toInt_eq_toNat_cond v
    split at this <;> omega
  · rw [if_neg hv]; exact hn

variable (i : grid0.Coords)

/-- A number below 24 addresses a slab of both low-rank weight arrays, and each slab's rows are taken whole. -/
theorem chk_copy {v : BitVec 32} (h : v.toInt < (24 : ℕ)) :
    (∀ (k0_h1 : k0_cond1 i = 1#1), ∀ a, (![(Scalar.maxsi v 0#32).toNat, 0, 0] : Fin 3 → ℕ) a + S1x32x2048.size a ≤ S24x32x2048.size a) ∧
    (∀ (k0_h1 : k0_cond1 i = 1#1), ∀ (hinb : ∀ a, (![(Scalar.maxsi v 0#32).toNat, 0, 0] : Fin 3 → ℕ) a + S1x32x2048.size a ≤ S24x32x2048.size a), (Rect.unit (s := S24x32x2048) ![(Scalar.maxsi v 0#32).toNat, 0, 0] S1x32x2048.size hinb).WholeWords (EltTy.packing .fp8e4m3)) ∧
    (∀ (k0_h1 : k0_cond1 i = 1#1), ∀ a, (![(Scalar.maxsi v 0#32).toNat, 0, 0] : Fin 3 → ℕ) a + S1x32x8192.size a ≤ S24x32x8192.size a) ∧
    (∀ (k0_h1 : k0_cond1 i = 1#1), ∀ (hinb : ∀ a, (![(Scalar.maxsi v 0#32).toNat, 0, 0] : Fin 3 → ℕ) a + S1x32x8192.size a ≤ S24x32x8192.size a), (Rect.unit (s := S24x32x8192) ![(Scalar.maxsi v 0#32).toNat, 0, 0] S1x32x8192.size hinb).WholeWords (EltTy.packing .fp8e4m3)) := by
  have hm := maxsi_toNat_lt (by decide : 0 < 24) h
  generalize (Scalar.maxsi v 0#32).toNat = k at hm
  refine ⟨fun _ a => ?_, fun _ hinb => ?_, fun _ a => ?_, fun _ hinb => ?_⟩
  · fin_cases a
    · show k + 1 ≤ 24; omega
    · show 0 + 32 ≤ 32; omega
    · show 0 + 2048 ≤ 2048; omega
  · exact Or.inr ⟨(by decide), rfl, rfl, rfl⟩
  · fin_cases a
    · show k + 1 ≤ 24; omega
    · show 0 + 32 ≤ 32; omega
    · show 0 + 8192 ≤ 8192; omega
  · exact Or.inr ⟨(by decide), rfl, rfl, rfl⟩

/-- A number below 24 addresses a row of the low-rank scales and an entry of the per-adapter scale. -/
theorem chk_row {v : BitVec 32} (h : v.toInt < (24 : ℕ)) :
    (∀ (k0_h1 : k0_cond1 i = 1#1), ∀ a, (![(Scalar.maxsi v 0#32).toNat, 0] : Fin 2 → ℕ) a + S1x8192.size a ≤ S24x8192.size a) ∧
    (∀ (k0_h1 : k0_cond1 i = 1#1), ∀ a, (![(Scalar.maxsi v 0#32).toNat] : Fin 1 → ℕ) a + S1.size a ≤ S24.size a) := by
  have hm := maxsi_toNat_lt (by decide : 0 < 24) h
  generalize (Scalar.maxsi v 0#32).toNat = k at hm
  refine ⟨fun _ a => ?_, fun _ a => ?_⟩
  · fin_cases a
    · show k + 1 ≤ 24; omega
    · show 0 + 8192 ≤ 8192; omega
  · fin_cases a
    show k + 1 ≤ 24; omega

/-- A number below 24 addresses a row of the other low-rank scales. -/
theorem chk_rowA {v : BitVec 32} (h : v.toInt < (24 : ℕ)) :
    (∀ (k0_h1 : k0_cond1 i = 1#1), ∀ a, (![(Scalar.maxsi v 0#32).toNat, 0] : Fin 2 → ℕ) a + S1x32.size a ≤ S24x32.size a) := by
  have hm := maxsi_toNat_lt (by decide : 0 < 24) h
  generalize (Scalar.maxsi v 0#32).toNat = k at hm
  intro _ a
  fin_cases a
  · show k + 1 ≤ 24; omega
  · show 0 + 32 ≤ 32; omega

theorem cols_toNat : (Scalar.muli (BitVec.ofNat 32 (i 1).val) 1024#32).toNat = (i 1).val * 1024 := by
  have h : (i 1).val < 8 := (i 1).isLt
  show (BitVec.ofNat 32 (i 1).val * 1024#32).toNat = _
  rw [BitVec.toNat_mul, BitVec.toNat_ofNat]
  show ((i 1).val % 2 ^ 32 * 1024) % 2 ^ 32 = _
  omega

/-- A segment number at most 13 addresses a row of the segments' scales. -/
theorem chk_lo {v : BitVec 32} (h : v.toNat ≤ 13) :
    (∀ (k0_h6 : k0_cond6 i = 1#1), ∀ a, (![v.toNat, (Scalar.muli (BitVec.ofNat 32 (i 1).val) 1024#32).toNat] : Fin 2 → ℕ) a + S1x1024.size a ≤ S16x8192.size a) := by
  rw [cols_toNat]
  have h8 : (i 1).val < 8 := (i 1).isLt
  intro _ a
  fin_cases a
  · show v.toNat + 1 ≤ 16; omega
  · show (i 1).val * 1024 + 1024 ≤ 8192; omega

/-- It also addresses an entry of the segments' starts. -/
theorem chk_hi {v : BitVec 32} (h : v.toNat ≤ 13) :
    (∀ (k0_h6 : k0_cond6 i = 1#1), ∀ a, (![v.toNat] : Fin 1 → ℕ) a + S1.size a ≤ S15.size a) ∧
    (∀ (k0_h6 : k0_cond6 i = 1#1), ∀ a, (![v.toNat, (Scalar.muli (BitVec.ofNat 32 (i 1).val) 1024#32).toNat] : Fin 2 → ℕ) a + S1x1024.size a ≤ S16x8192.size a) := by
  refine ⟨fun _ a => ?_, chk_lo i h⟩
  fin_cases a
  show v.toNat + 1 ≤ 15; omega

theorem chk_test (v : BitVec 32) (h : v.toInt < (24 : ℕ)) : k0_chk5 i v ∧ k0_chk16 i v ∧ k0_chk37 i v := ⟨chk_copy i h, chk_row i h, chk_rowA i h⟩
theorem chk_test' (v : BitVec 32) (h : v.toNat ≤ 13) : k0_chk59 i v ∧ k0_chk60 i v := ⟨chk_hi i h, chk_lo i h⟩

variable (arg2 : Memref sig .tc .smem S15 .i32) (harg2 : arg2.IsWhole) (arg3 : Memref sig .tc .smem S14 .i32) (harg3 : arg3.IsWhole) (arg4 : Memref sig .tc .smem S24 .f32) (harg4 : arg4.IsWhole) (arg5 : Memref sig .tc .vmem S256x2048 .bf16) (harg5 : arg5.IsWhole) (arg6 : Memref sig .tc .vmem S2048x128 .i32) (harg6 : arg6.IsWhole) (arg7 : Memref sig .tc .vmem S16x128 .i32) (harg7 : arg7.IsWhole) (arg8 : Memref sig .tc .vmem S16x1024 .f32) (harg8 : arg8.IsWhole) (arg9 : Memref sig .tc .hbm S24x32x2048 .fp8e4m3) (harg9 : arg9.IsWhole) (arg10 : Memref sig .tc .vmem S24x32 .f32) (harg10 : arg10.IsWhole) (arg11 : Memref sig .tc .hbm S24x32x8192 .fp8e4m3) (harg11 : arg11.IsWhole) (arg12 : Memref sig .tc .vmem S24x8192 .f32) (harg12 : arg12.IsWhole) (arg13 : Memref sig .tc .vmem S256x1024 .bf16) (harg13 : arg13.IsWhole) (arg14 : Memref sig .tc .vmem S32x256 .f32) (harg14 : arg14.IsWhole) (arg15 : Memref sig .tc .vmem S256x1024 .f32) (harg15 : arg15.IsWhole) (arg16 : Memref sig .tc .vmem S32x256 .fp8e4m3) (harg16 : arg16.IsWhole) (arg17 : Memref sig .tc .vmem S1x256 .f32) (harg17 : arg17.IsWhole) (arg18 : Memref sig .tc .vmem S256x1024 .fp8e4m3) (harg18 : arg18.IsWhole) (arg19 : Memref sig .tc .vmem S1x256 .f32) (harg19 : arg19.IsWhole) (arg20 : Memref sig .tc .vmem S2048x8192 .bf16) (harg20 : arg20.IsWhole) (arg21 : Memref sig .tc .vmem S256x8192 .f32) (harg21 : arg21.IsWhole) (arg22 : Memref sig .tc .vmem S512x8192 .fp8e4m3) (harg22 : arg22.IsWhole) (arg23 : Memref sig .tc .vmem S512x2048 .fp8e4m3) (harg23 : arg23.IsWhole) (arg24 : Memref sig .tc .vmem S16x8192 .f32) (harg24 : arg24.IsWhole) (arg25 : Memref sig .tc .vmem S8x512 .f32) (harg25 : arg25.IsWhole) (arg26 : Memref sig .tc .vmem S256x512 .fp8e4m3) (harg26 : arg26.IsWhole) (arg27 : Memref sig .tc .vmem S256x128 .f32) (harg27 : arg27.IsWhole) (arg28 : Memref sig .tc .vmem S256x128 .f32) (harg28 : arg28.IsWhole) (arg29 : Memref sig .tc .vmem S256x128 .f32) (harg29 : arg29.IsWhole) (arg30 : Memref sig .tc .smem S192 .i32) (harg30 : arg30.IsWhole) (arg31 : Memref sig .tc .smem S192 .i32) (harg31 : arg31.IsWhole) (arg32 : DmaSems sig S2)

set_option maxHeartbeats 0 in
include harg2 harg30 harg31 in
/-- One trip of the loop over groups of eight rows: both tables get an entry at most 13. -/
theorem trip (c : Dev nD) (k0_h1 : k0_cond1 i = 1#1) (k : Fin k0_t1_loop.trips)
   (f2 : Buf (Elt F) (arg2.view.loc (c : Thread nD τ))) (f30 : Buf (Elt F) (arg30.view.loc (c : Thread nD τ))) (f31 : Buf (Elt F) (arg31.view.loc (c : Thread nD τ)))
   (h30 : bnd arg30 k.val f30) (h31 : bnd arg31 k.val f31) :
    iprop(pt c arg2 f2 ∗ pt c arg30 f30 ∗ pt c arg31 f31)
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 k0_h1 k PUnit.unit)
          (fun _ => iprop(pt c arg2 f2 ∗ (∃ f, pt c arg30 f ∗ ⌜bnd arg30 (k.val + 1) f⌝) ∗ (∃ f, pt c arg31 f ∗ ⌜bnd arg31 (k.val + 1) f⌝))) := by
  have hk : k.val < 192 := Nat.lt_of_lt_of_le k.isLt k0_t1_abs.2.1
  have hoff : k0_off73 k 0 = k.val := by
    show (Scf.iv 0#32 1#32 k.val).toNat = k.val
    show (0#32 + BitVec.ofNat 32 k.val * 1#32).toNat = k.val
    simp only [BitVec.zero_add, BitVec.mul_one, BitVec.toNat_ofNat]
    omega
  unfold k0_t1_body
  iintro ⟨H2, H30, H31⟩
  sl_exec
  sl_step
  isplitl [H2]; · iexact H2
  isplitl [H30]
  · iexists _; isplitl [H30]; · iexact H30
    ipureintro
    refine bnd_succ arg30 k.val f30 _ _ hoff _ ?_ h30
    iterate 13 refine cnt_succ (by decide) ?_
    exact cnt_zero
  · iexists _; isplitl [H31]; · iexact H31
    ipureintro
    refine bnd_succ arg31 k.val f31 _ _ hoff _ ?_ h31
    iterate 13 refine cnt_succ (by decide) ?_
    exact cnt_zero

set_option warn.classDefReducibility false in
/-- The loop by its invariant: before trip `k` the first `k` entries of both tables are at most 13. -/
@[sl_loop] def loopInv (c : Dev nD) (k0_h1 : k0_cond1 i = 1#1) (f2 : Buf (Elt F) (arg2.view.loc (c : Thread nD τ))) :
    LoopInvTy_k0_t1 (F := F) Unit ℕ (Pipeline.UD sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 k0_h1 where
  inv k _ := iprop(pt c arg2 f2 ∗ (∃ f, pt c arg30 f ∗ ⌜bnd arg30 k f⌝) ∗ (∃ f, pt c arg31 f ∗ ⌜bnd arg31 k f⌝))
  step k acc := by
    iintro ⟨H2, ⟨%f30, H30, %h30⟩, ⟨%f31, H31, %h31⟩⟩
    iapply (trip i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 c k0_h1 k f2 f30 f31 h30 h31)
    isplitl [H2]; · iexact H2
    isplitl [H30]; · iexact H30
    iexact H31

end Cert.Kernel.Hand
end
-- ==== Proof.KBody.lean ====
module

public import proofs.«01_k».proof.Proof.KBase
public import proofs.«01_k».proof.Proof.Gen.Kernel.Skeleton
public import Idealize.ShloMosaic.Lib.Pipeline.Frame
public import Idealize.ShloMosaic.Lib.Tactic
public import Idealize.ShloMosaic.Lib.Transfers

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

abbrev w9 : Memref sig .tc .hbm S24x32x2048 .fp8e4m3 := Memref.whole main_v0
abbrev w11 : Memref sig .tc .hbm S24x32x8192 .fp8e4m3 := Memref.whole main_arg6
abbrev w20 : Memref sig .tc .vmem S2048x8192 .bf16 := Memref.whole cc0_scratch0
abbrev w21 : Memref sig .tc .vmem S256x8192 .f32 := Memref.whole cc0_scratch1
abbrev w22 : Memref sig .tc .vmem S512x8192 .fp8e4m3 := Memref.whole cc0_scratch2
abbrev w23 : Memref sig .tc .vmem S512x2048 .fp8e4m3 := Memref.whole cc0_scratch3
abbrev w24 : Memref sig .tc .vmem S16x8192 .f32 := Memref.whole cc0_scratch4
abbrev w25 : Memref sig .tc .vmem S8x512 .f32 := Memref.whole cc0_scratch5
abbrev w26 : Memref sig .tc .vmem S256x512 .fp8e4m3 := Memref.whole cc0_scratch6
abbrev w27 : Memref sig .tc .vmem S256x128 .f32 := Memref.whole cc0_scratch7
abbrev w28 : Memref sig .tc .vmem S256x128 .f32 := Memref.whole cc0_scratch8
abbrev w29 : Memref sig .tc .vmem S256x128 .f32 := Memref.whole cc0_scratch9
abbrev w30 : Memref sig .tc .smem S192 .i32 := Memref.whole cc0_scratch10
abbrev w31 : Memref sig .tc .smem S192 .i32 := Memref.whole cc0_scratch11

theorem c1 (i : grid0.Coords) {v : BitVec 32} (h : v.toInt < (24 : ℕ)) : k0_chk1 i v := chk_copy i h
theorem c2 (i : grid0.Coords) {v : BitVec 32} (h : v.toInt < (24 : ℕ)) : k0_chk2 i v := chk_copy i h
theorem c3 (i : grid0.Coords) {v : BitVec 32} (h : v.toInt < (24 : ℕ)) : k0_chk3 i v := chk_copy i h
theorem c4 (i : grid0.Coords) {v : BitVec 32} (h : v.toInt < (24 : ℕ)) : k0_chk4 i v := chk_copy i h
theorem c5 (i : grid0.Coords) {v : BitVec 32} (h : v.toInt < (24 : ℕ)) : k0_chk5 i v := chk_copy i h
theorem c6 (i : grid0.Coords) {v : BitVec 32} (h : v.toInt < (24 : ℕ)) : k0_chk6 i v := chk_copy i h
theorem c7 (i : grid0.Coords) {v : BitVec 32} (h : v.toInt < (24 : ℕ)) : k0_chk7 i v := chk_copy i h
theorem c8 (i : grid0.Coords) {v : BitVec 32} (h : v.toInt < (24 : ℕ)) : k0_chk8 i v := chk_copy i h
theorem c9 (i : grid0.Coords) {v : BitVec 32} (h : v.toInt < (24 : ℕ)) : k0_chk9 i v := chk_copy i h
theorem c10 (i : grid0.Coords) {v : BitVec 32} (h : v.toInt < (24 : ℕ)) : k0_chk10 i v := chk_copy i h
theorem c11 (i : grid0.Coords) {v : BitVec 32} (h : v.toInt < (24 : ℕ)) : k0_chk11 i v := chk_copy i h
theorem c12 (i : grid0.Coords) {v : BitVec 32} (h : v.toInt < (24 : ℕ)) : k0_chk12 i v := chk_copy i h
theorem c13 (i : grid0.Coords) {v : BitVec 32} (h : v.toInt < (24 : ℕ)) : k0_chk13 i v := chk_copy i h
theorem c14 (i : grid0.Coords) {v : BitVec 32} (h : v.toInt < (24 : ℕ)) : k0_chk14 i v := chk_copy i h
theorem c15 (i : grid0.Coords) {v : BitVec 32} (h : v.toInt < (24 : ℕ)) : k0_chk15 i v := chk_row i h
theorem c16 (i : grid0.Coords) {v : BitVec 32} (h : v.toInt < (24 : ℕ)) : k0_chk16 i v := chk_row i h
theorem c17 (i : grid0.Coords) {v : BitVec 32} (h : v.toInt < (24 : ℕ)) : k0_chk17 i v := chk_row i h
theorem c18 (i : grid0.Coords) {v : BitVec 32} (h : v.toInt < (24 : ℕ)) : k0_chk18 i v := chk_row i h
theorem c19 (i : grid0.Coords) {v : BitVec 32} (h : v.toInt < (24 : ℕ)) : k0_chk19 i v := chk_row i h
theorem c20 (i : grid0.Coords) {v : BitVec 32} (h : v.toInt < (24 : ℕ)) : k0_chk20 i v := chk_row i h
theorem c21 (i : grid0.Coords) {v : BitVec 32} (h : v.toInt < (24 : ℕ)) : k0_chk21 i v := chk_row i h
theorem c22 (i : grid0.Coords) {v : BitVec 32} (h : v.toInt < (24 : ℕ)) : k0_chk22 i v := chk_row i h
theorem c23 (i : grid0.Coords) {v : BitVec 32} (h : v.toInt < (24 : ℕ)) : k0_chk23 i v := chk_row i h
theorem c24 (i : grid0.Coords) {v : BitVec 32} (h : v.toInt < (24 : ℕ)) : k0_chk24 i v := chk_row i h
theorem c25 (i : grid0.Coords) {v : BitVec 32} (h : v.toInt < (24 : ℕ)) : k0_chk25 i v := chk_row i h
theorem c26 (i : grid0.Coords) {v : BitVec 32} (h : v.toInt < (24 : ℕ)) : k0_chk26 i v := chk_row i h
theorem c27 (i : grid0.Coords) {v : BitVec 32} (h : v.toInt < (24 : ℕ)) : k0_chk27 i v := chk_row i h
theorem c28 (i : grid0.Coords) {v : BitVec 32} (h : v.toInt < (24 : ℕ)) : k0_chk28 i v := chk_row i h
theorem c29 (i : grid0.Coords) {v : BitVec 32} (h : v.toInt < (24 : ℕ)) : k0_chk29 i v := chk_rowA i h
theorem c30 (i : grid0.Coords) {v : BitVec 32} (h : v.toInt < (24 : ℕ)) : k0_chk30 i v := chk_rowA i h
theorem c31 (i : grid0.Coords) {v : BitVec 32} (h : v.toInt < (24 : ℕ)) : k0_chk31 i v := chk_rowA i h
theorem c32 (i : grid0.Coords) {v : BitVec 32} (h : v.toInt < (24 : ℕ)) : k0_chk32 i v := chk_rowA i h
theorem c33 (i : grid0.Coords) {v : BitVec 32} (h : v.toInt < (24 : ℕ)) : k0_chk33 i v := chk_rowA i h
theorem c34 (i : grid0.Coords) {v : BitVec 32} (h : v.toInt < (24 : ℕ)) : k0_chk34 i v := chk_rowA i h
theorem c35 (i : grid0.Coords) {v : BitVec 32} (h : v.toInt < (24 : ℕ)) : k0_chk35 i v := chk_rowA i h
theorem c36 (i : grid0.Coords) {v : BitVec 32} (h : v.toInt < (24 : ℕ)) : k0_chk36 i v := chk_rowA i h
theorem c37 (i : grid0.Coords) {v : BitVec 32} (h : v.toInt < (24 : ℕ)) : k0_chk37 i v := chk_rowA i h
theorem c38 (i : grid0.Coords) {v : BitVec 32} (h : v.toInt < (24 : ℕ)) : k0_chk38 i v := chk_rowA i h
theorem c39 (i : grid0.Coords) {v : BitVec 32} (h : v.toInt < (24 : ℕ)) : k0_chk39 i v := chk_rowA i h
theorem c40 (i : grid0.Coords) {v : BitVec 32} (h : v.toInt < (24 : ℕ)) : k0_chk40 i v := chk_rowA i h
theorem c41 (i : grid0.Coords) {v : BitVec 32} (h : v.toInt < (24 : ℕ)) : k0_chk41 i v := chk_rowA i h
theorem c42 (i : grid0.Coords) {v : BitVec 32} (h : v.toInt < (24 : ℕ)) : k0_chk42 i v := chk_rowA i h
theorem c43 (i : grid0.Coords) {v : BitVec 32} (h : v.toInt < (24 : ℕ)) : k0_chk43 i v := chk_rowA i h
theorem c44 (i : grid0.Coords) {v : BitVec 32} (h : v.toInt < (24 : ℕ)) : k0_chk44 i v := chk_rowA i h
theorem c45 (i : grid0.Coords) {v : BitVec 32} (h : v.toInt < (24 : ℕ)) : k0_chk45 i v := chk_copy i h
theorem c46 (i : grid0.Coords) {v : BitVec 32} (h : v.toInt < (24 : ℕ)) : k0_chk46 i v := chk_copy i h
theorem c47 (i : grid0.Coords) {v : BitVec 32} (h : v.toInt < (24 : ℕ)) : k0_chk47 i v := chk_copy i h
theorem c48 (i : grid0.Coords) {v : BitVec 32} (h : v.toInt < (24 : ℕ)) : k0_chk48 i v := chk_copy i h
theorem c49 (i : grid0.Coords) {v : BitVec 32} (h : v.toInt < (24 : ℕ)) : k0_chk49 i v := chk_copy i h
theorem c50 (i : grid0.Coords) {v : BitVec 32} (h : v.toInt < (24 : ℕ)) : k0_chk50 i v := chk_copy i h
theorem c51 (i : grid0.Coords) {v : BitVec 32} (h : v.toInt < (24 : ℕ)) : k0_chk51 i v := chk_copy i h
theorem c52 (i : grid0.Coords) {v : BitVec 32} (h : v.toInt < (24 : ℕ)) : k0_chk52 i v := chk_copy i h
theorem c53 (i : grid0.Coords) {v : BitVec 32} (h : v.toInt < (24 : ℕ)) : k0_chk53 i v := chk_copy i h
theorem c54 (i : grid0.Coords) {v : BitVec 32} (h : v.toInt < (24 : ℕ)) : k0_chk54 i v := chk_copy i h
theorem c55 (i : grid0.Coords) {v : BitVec 32} (h : v.toInt < (24 : ℕ)) : k0_chk55 i v := chk_copy i h
theorem c56 (i : grid0.Coords) {v : BitVec 32} (h : v.toInt < (24 : ℕ)) : k0_chk56 i v := chk_copy i h
theorem c57 (i : grid0.Coords) {v : BitVec 32} (h : v.toInt < (24 : ℕ)) : k0_chk57 i v := chk_copy i h
theorem c58 (i : grid0.Coords) {v : BitVec 32} (h : v.toInt < (24 : ℕ)) : k0_chk58 i v := chk_copy i h
theorem c59 (i : grid0.Coords) {v : BitVec 32} (h : v.toNat ≤ 13) : k0_chk59 i v := chk_hi i h
theorem c60 (i : grid0.Coords) {v : BitVec 32} (h : v.toNat ≤ 13) : k0_chk60 i v := chk_lo i h
theorem c61 (i : grid0.Coords) {v : BitVec 32} (h : v.toNat ≤ 13) : k0_chk61 i v := chk_hi i h
theorem c62 (i : grid0.Coords) {v : BitVec 32} (h : v.toNat ≤ 13) : k0_chk62 i v := chk_lo i h
theorem c63 (i : grid0.Coords) {v : BitVec 32} (h : v.toNat ≤ 13) : k0_chk63 i v := chk_hi i h
theorem c64 (i : grid0.Coords) {v : BitVec 32} (h : v.toNat ≤ 13) : k0_chk64 i v := chk_lo i h
theorem c65 (i : grid0.Coords) {v : BitVec 32} (h : v.toNat ≤ 13) : k0_chk65 i v := chk_hi i h
theorem c66 (i : grid0.Coords) {v : BitVec 32} (h : v.toNat ≤ 13) : k0_chk66 i v := chk_lo i h
theorem c67 (i : grid0.Coords) {v : BitVec 32} (h : v.toNat ≤ 13) : k0_chk67 i v := chk_hi i h
theorem c68 (i : grid0.Coords) {v : BitVec 32} (h : v.toNat ≤ 13) : k0_chk68 i v := chk_lo i h
theorem c69 (i : grid0.Coords) {v : BitVec 32} (h : v.toNat ≤ 13) : k0_chk69 i v := chk_hi i h
theorem c70 (i : grid0.Coords) {v : BitVec 32} (h : v.toNat ≤ 13) : k0_chk70 i v := chk_lo i h
theorem c71 (i : grid0.Coords) {v : BitVec 32} (h : v.toNat ≤ 13) : k0_chk71 i v := chk_hi i h
theorem c72 (i : grid0.Coords) {v : BitVec 32} (h : v.toNat ≤ 13) : k0_chk72 i v := chk_lo i h
theorem c73 (i : grid0.Coords) {v : BitVec 32} (h : v.toNat ≤ 13) : k0_chk73 i v := chk_hi i h
theorem c74 (i : grid0.Coords) {v : BitVec 32} (h : v.toNat ≤ 13) : k0_chk74 i v := chk_lo i h
theorem c75 (i : grid0.Coords) {v : BitVec 32} (h : v.toNat ≤ 13) : k0_chk75 i v := chk_hi i h
theorem c76 (i : grid0.Coords) {v : BitVec 32} (h : v.toNat ≤ 13) : k0_chk76 i v := chk_lo i h
theorem c77 (i : grid0.Coords) {v : BitVec 32} (h : v.toNat ≤ 13) : k0_chk77 i v := chk_hi i h
theorem c78 (i : grid0.Coords) {v : BitVec 32} (h : v.toNat ≤ 13) : k0_chk78 i v := chk_lo i h
theorem c79 (i : grid0.Coords) {v : BitVec 32} (h : v.toNat ≤ 13) : k0_chk79 i v := chk_hi i h
theorem c80 (i : grid0.Coords) {v : BitVec 32} (h : v.toNat ≤ 13) : k0_chk80 i v := chk_lo i h
theorem c81 (i : grid0.Coords) {v : BitVec 32} (h : v.toNat ≤ 13) : k0_chk81 i v := chk_hi i h
theorem c82 (i : grid0.Coords) {v : BitVec 32} (h : v.toNat ≤ 13) : k0_chk82 i v := chk_lo i h
theorem c83 (i : grid0.Coords) {v : BitVec 32} (h : v.toNat ≤ 13) : k0_chk83 i v := chk_hi i h
theorem c84 (i : grid0.Coords) {v : BitVec 32} (h : v.toNat ≤ 13) : k0_chk84 i v := chk_lo i h
theorem c85 (i : grid0.Coords) {v : BitVec 32} (h : v.toNat ≤ 13) : k0_chk85 i v := chk_hi i h
theorem c86 (i : grid0.Coords) {v : BitVec 32} (h : v.toNat ≤ 13) : k0_chk86 i v := chk_lo i h
theorem c87 (i : grid0.Coords) {v : BitVec 32} (h : v.toNat ≤ 13) : k0_chk87 i v := chk_hi i h
theorem c88 (i : grid0.Coords) {v : BitVec 32} (h : v.toNat ≤ 13) : k0_chk88 i v := chk_lo i h
theorem c89 (i : grid0.Coords) {v : BitVec 32} (h : v.toNat ≤ 13) : k0_chk89 i v := chk_hi i h
theorem c90 (i : grid0.Coords) {v : BitVec 32} (h : v.toNat ≤ 13) : k0_chk90 i v := chk_lo i h
theorem c91 (i : grid0.Coords) {v : BitVec 32} (h : v.toNat ≤ 13) : k0_chk91 i v := chk_hi i h
theorem c92 (i : grid0.Coords) {v : BitVec 32} (h : v.toNat ≤ 13) : k0_chk92 i v := chk_lo i h
theorem c93 (i : grid0.Coords) {v : BitVec 32} (h : v.toNat ≤ 13) : k0_chk93 i v := chk_hi i h
theorem c94 (i : grid0.Coords) {v : BitVec 32} (h : v.toNat ≤ 13) : k0_chk94 i v := chk_lo i h
theorem c95 (i : grid0.Coords) {v : BitVec 32} (h : v.toNat ≤ 13) : k0_chk95 i v := chk_hi i h
theorem c96 (i : grid0.Coords) {v : BitVec 32} (h : v.toNat ≤ 13) : k0_chk96 i v := chk_lo i h
theorem c97 (i : grid0.Coords) {v : BitVec 32} (h : v.toNat ≤ 13) : k0_chk97 i v := chk_hi i h
theorem c98 (i : grid0.Coords) {v : BitVec 32} (h : v.toNat ≤ 13) : k0_chk98 i v := chk_lo i h
theorem c99 (i : grid0.Coords) {v : BitVec 32} (h : v.toNat ≤ 13) : k0_chk99 i v := chk_hi i h
theorem c100 (i : grid0.Coords) {v : BitVec 32} (h : v.toNat ≤ 13) : k0_chk100 i v := chk_lo i h
theorem c101 (i : grid0.Coords) {v : BitVec 32} (h : v.toNat ≤ 13) : k0_chk101 i v := chk_hi i h
theorem c102 (i : grid0.Coords) {v : BitVec 32} (h : v.toNat ≤ 13) : k0_chk102 i v := chk_lo i h
theorem c103 (i : grid0.Coords) {v : BitVec 32} (h : v.toNat ≤ 13) : k0_chk103 i v := chk_hi i h
theorem c104 (i : grid0.Coords) {v : BitVec 32} (h : v.toNat ≤ 13) : k0_chk104 i v := chk_lo i h
theorem c105 (i : grid0.Coords) {v : BitVec 32} (h : v.toNat ≤ 13) : k0_chk105 i v := chk_hi i h
theorem c106 (i : grid0.Coords) {v : BitVec 32} (h : v.toNat ≤ 13) : k0_chk106 i v := chk_lo i h
theorem c107 (i : grid0.Coords) {v : BitVec 32} (h : v.toNat ≤ 13) : k0_chk107 i v := chk_hi i h
theorem c108 (i : grid0.Coords) {v : BitVec 32} (h : v.toNat ≤ 13) : k0_chk108 i v := chk_lo i h
theorem c109 (i : grid0.Coords) {v : BitVec 32} (h : v.toNat ≤ 13) : k0_chk109 i v := chk_hi i h
theorem c110 (i : grid0.Coords) {v : BitVec 32} (h : v.toNat ≤ 13) : k0_chk110 i v := chk_lo i h
theorem c111 (i : grid0.Coords) {v : BitVec 32} (h : v.toNat ≤ 13) : k0_chk111 i v := chk_hi i h
theorem c112 (i : grid0.Coords) {v : BitVec 32} (h : v.toNat ≤ 13) : k0_chk112 i v := chk_lo i h
theorem c113 (i : grid0.Coords) {v : BitVec 32} (h : v.toNat ≤ 13) : k0_chk113 i v := chk_hi i h
theorem c114 (i : grid0.Coords) {v : BitVec 32} (h : v.toNat ≤ 13) : k0_chk114 i v := chk_lo i h
theorem c115 (i : grid0.Coords) {v : BitVec 32} (h : v.toNat ≤ 13) : k0_chk115 i v := chk_hi i h
theorem c116 (i : grid0.Coords) {v : BitVec 32} (h : v.toNat ≤ 13) : k0_chk116 i v := chk_lo i h
theorem c117 (i : grid0.Coords) {v : BitVec 32} (h : v.toNat ≤ 13) : k0_chk117 i v := chk_hi i h
theorem c118 (i : grid0.Coords) {v : BitVec 32} (h : v.toNat ≤ 13) : k0_chk118 i v := chk_lo i h
theorem c119 (i : grid0.Coords) {v : BitVec 32} (h : v.toNat ≤ 13) : k0_chk119 i v := chk_hi i h
theorem c120 (i : grid0.Coords) {v : BitVec 32} (h : v.toNat ≤ 13) : k0_chk120 i v := chk_lo i h
theorem c121 (i : grid0.Coords) {v : BitVec 32} (h : v.toNat ≤ 13) : k0_chk121 i v := chk_hi i h
theorem c122 (i : grid0.Coords) {v : BitVec 32} (h : v.toNat ≤ 13) : k0_chk122 i v := chk_lo i h

theorem nolt (y : S192.Idx) : (y 0).val < 192 := (y 0).isLt

variable (i : grid0.Coords) (arg2 : Memref sig .tc .smem S15 .i32) (harg2 : arg2.IsWhole) (arg3 : Memref sig .tc .smem S14 .i32) (harg3 : arg3.IsWhole) (arg4 : Memref sig .tc .smem S24 .f32) (harg4 : arg4.IsWhole) (arg5 : Memref sig .tc .vmem S256x2048 .bf16) (harg5 : arg5.IsWhole) (arg6 : Memref sig .tc .vmem S2048x128 .i32) (harg6 : arg6.IsWhole) (arg7 : Memref sig .tc .vmem S16x128 .i32) (harg7 : arg7.IsWhole) (arg8 : Memref sig .tc .vmem S16x1024 .f32) (harg8 : arg8.IsWhole) (arg10 : Memref sig .tc .vmem S24x32 .f32) (harg10 : arg10.IsWhole) (arg12 : Memref sig .tc .vmem S24x8192 .f32) (harg12 : arg12.IsWhole) (arg13 : Memref sig .tc .vmem S256x1024 .bf16) (harg13 : arg13.IsWhole) (arg14 : Memref sig .tc .vmem S32x256 .f32) (harg14 : arg14.IsWhole) (arg15 : Memref sig .tc .vmem S256x1024 .f32) (harg15 : arg15.IsWhole) (arg16 : Memref sig .tc .vmem S32x256 .fp8e4m3) (harg16 : arg16.IsWhole) (arg17 : Memref sig .tc .vmem S1x256 .f32) (harg17 : arg17.IsWhole) (arg18 : Memref sig .tc .vmem S256x1024 .fp8e4m3) (harg18 : arg18.IsWhole) (arg19 : Memref sig .tc .vmem S1x256 .f32) (harg19 : arg19.IsWhole)

/-- A buffer held whole is what remains after 13 read tokens and the tokens. -/
theorem toks (c : Dev nD) {sp : Space} {S : Shape} {e : EltTy} (M : Memref sig .tc sp S e) (f : Buf (Elt F) (M.view.loc (c : Thread nD τ))) :
    pt c M f ⊣⊢ iprop((M.view.loc (c : Thread nD τ) ↦{Transfers.shareDrop fullShare 13} f) ∗ (M.view.loc (c : Thread nD τ) ↦{Transfers.shareTokN fullShare 0} f) ∗ (M.view.loc (c : Thread nD τ) ↦{Transfers.shareTokN fullShare 1} f) ∗ (M.view.loc (c : Thread nD τ) ↦{Transfers.shareTokN fullShare 2} f) ∗ (M.view.loc (c : Thread nD τ) ↦{Transfers.shareTokN fullShare 3} f) ∗ (M.view.loc (c : Thread nD τ) ↦{Transfers.shareTokN fullShare 4} f) ∗ (M.view.loc (c : Thread nD τ) ↦{Transfers.shareTokN fullShare 5} f) ∗ (M.view.loc (c : Thread nD τ) ↦{Transfers.shareTokN fullShare 6} f) ∗ (M.view.loc (c : Thread nD τ) ↦{Transfers.shareTokN fullShare 7} f) ∗ (M.view.loc (c : Thread nD τ) ↦{Transfers.shareTokN fullShare 8} f) ∗ (M.view.loc (c : Thread nD τ) ↦{Transfers.shareTokN fullShare 9} f) ∗ (M.view.loc (c : Thread nD τ) ↦{Transfers.shareTokN fullShare 10} f) ∗ (M.view.loc (c : Thread nD τ) ↦{Transfers.shareTokN fullShare 11} f) ∗ (M.view.loc (c : Thread nD τ) ↦{Transfers.shareTokN fullShare 12} f)) := by
  have h := Transfers.pointsTo_toks_range (Ix := Unit) (Name := ℕ) (U := Pipeline.UD sig nD τ) (Lvl := ℕ) (Val := Elt F) (ℓ := M.view.loc (c : Thread nD τ)) (S := Finset.univ) (f := f) fullShare 13
  rw [BI.bigSep_eq_bigSepL_of_eq (S := Finset.range 13) [0, 1, 2, 3, 4, 5, 6, 7, 8, 9, 10, 11, 12] (by decide) (by decide)] at h
  exact h

/-- A buffer held at known contents is held at some contents. -/
theorem forget (c : Dev nD) {sp : Space} {S : Shape} {e : EltTy} (M : Memref sig .tc sp S e) (f : Buf (Elt F) (M.view.loc (c : Thread nD τ))) :
    pt c M f ⊢ ex (F := F) c M := by
  iintro H; iexists f; iexact H
include harg2 harg3 harg4 harg5 harg6 harg7 harg8 harg10 harg12 harg13 harg14 harg15 harg16 harg17 harg18 harg19
set_option maxHeartbeats 4000000 in

theorem body_run (c : Dev nD) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f10 : Buf (Elt F) (arg10.view.loc (c : Thread nD τ))) (f12 : Buf (Elt F) (arg12.view.loc (c : Thread nD τ))) (f9 : Buf (Elt F) (w9.view.loc (c : Thread nD τ))) (f11 : Buf (Elt F) (w11.view.loc (c : Thread nD τ))) (f13 : Buf (Elt F) (arg13.view.loc (c : Thread nD τ))) (f20 : Buf (Elt F) (w20.view.loc (c : Thread nD τ)))
    (hadp : ∀ x, (show BitVec 32 from arg3.view.read (Elt F) f3 x).toInt < (24 : ℕ))
    (P20 : Buf (Elt F) (w20.view.loc (c : Thread nD τ)) → Prop) (P13 : Buf (Elt F) (arg13.view.loc (c : Thread nD τ)) → Prop)
    (hn4 : k0_cond4 i ≠ 1#1 → P20 f20) (hn6 : k0_cond6 i ≠ 1#1 → P13 f13)
    (hv4 : ∀ f, k0_cond4 i = 1#1 → P20 f) (hv6 : ∀ f, k0_cond6 i = 1#1 → P13 f) :
    iprop(pt c arg2 f2 ∗ pt c arg3 f3 ∗ pt c arg4 f4 ∗ pt c arg5 f5 ∗ pt c arg6 f6 ∗ pt c arg7 f7 ∗ pt c arg8 f8 ∗ pt c arg10 f10 ∗ pt c arg12 f12 ∗ pt c w9 f9 ∗ pt c w11 f11 ∗ pt c arg13 f13 ∗ ex (F := F) c arg14 ∗ ex (F := F) c arg15 ∗ ex (F := F) c arg16 ∗ ex (F := F) c arg17 ∗ ex (F := F) c arg18 ∗ ex (F := F) c arg19 ∗ pt c w20 f20 ∗ ex (F := F) c w21 ∗ ex (F := F) c w22 ∗ ex (F := F) c w23 ∗ ex (F := F) c w24 ∗ ex (F := F) c w25 ∗ ex (F := F) c w26 ∗ ex (F := F) c w27 ∗ ex (F := F) c w28 ∗ ex (F := F) c w29 ∗ (∃ f : Buf (Elt F) (w30.view.loc (c : Thread nD τ)), pt c w30 f ∗ ⌜k0_cond1 i ≠ 1#1 → bnd w30 192 f⌝) ∗ (∃ f : Buf (Elt F) (w31.view.loc (c : Thread nD τ)), pt c w31 f ∗ ⌜k0_cond1 i ≠ 1#1 → bnd w31 192 f⌝) ∗ semVal ((c : Thread nD τ), SemLoc.dma 27) 0 ∗ semVal ((c : Thread nD τ), SemLoc.dma 28) 0 ∗ (∃ W, owes (c : Thread nD τ) 0 W)) ⊢ wp frame (wpE (defs₀ (F := F)) Variants.none (c : Thread nD τ) none) Set.univ (cc0_multi_lora_awq (F := F) i arg2 harg2 arg3 harg3 arg4 harg4 arg5 harg5 arg6 harg6 arg7 harg7 arg8 harg8 w9 (Memref.isWhole_whole _) arg10 harg10 w11 (Memref.isWhole_whole _) arg12 harg12 arg13 harg13 arg14 harg14 arg15 harg15 arg16 harg16 arg17 harg17 arg18 harg18 arg19 harg19 w20 (Memref.isWhole_whole _) w21 (Memref.isWhole_whole _) w22 (Memref.isWhole_whole _) w23 (Memref.isWhole_whole _) w24 (Memref.isWhole_whole _) w25 (Memref.isWhole_whole _) w26 (Memref.isWhole_whole _) w27 (Memref.isWhole_whole _) w28 (Memref.isWhole_whole _) w29 (Memref.isWhole_whole _) w30 (Memref.isWhole_whole _) w31 (Memref.isWhole_whole _) cc0_scratch12) (fun _ => iprop(pt c arg2 f2 ∗ pt c arg3 f3 ∗ pt c arg4 f4 ∗ pt c arg5 f5 ∗ pt c arg6 f6 ∗ pt c arg7 f7 ∗ pt c arg8 f8 ∗ pt c arg10 f10 ∗ pt c arg12 f12 ∗ pt c w9 f9 ∗ pt c w11 f11 ∗ (∃ f : Buf (Elt F) (arg13.view.loc (c : Thread nD τ)), pt c arg13 f ∗ ⌜P13 f⌝) ∗ ex (F := F) c arg14 ∗ ex (F := F) c arg15 ∗ ex (F := F) c arg16 ∗ ex (F := F) c arg17 ∗ ex (F := F) c arg18 ∗ ex (F := F) c arg19 ∗ (∃ f : Buf (Elt F) (w20.view.loc (c : Thread nD τ)), pt c w20 f ∗ ⌜P20 f⌝) ∗ ex (F := F) c w21 ∗ ex (F := F) c w22 ∗ ex (F := F) c w23 ∗ ex (F := F) c w24 ∗ ex (F := F) c w25 ∗ ex (F := F) c w26 ∗ ex (F := F) c w27 ∗ ex (F := F) c w28 ∗ ex (F := F) c w29 ∗ (∃ f : Buf (Elt F) (w30.view.loc (c : Thread nD τ)), pt c w30 f ∗ ⌜bnd w30 192 f⌝) ∗ (∃ f : Buf (Elt F) (w31.view.loc (c : Thread nD τ)), pt c w31 f ∗ ⌜bnd w31 192 f⌝) ∗ semVal ((c : Thread nD τ), SemLoc.dma 27) 0 ∗ semVal ((c : Thread nD τ), SemLoc.dma 28) 0 ∗ (∃ W, owes (c : Thread nD τ) 0 W))) := by
  rw [cc0_multi_lora_awq_eq_skeleton]; unfold cc0_multi_lora_awq_skel
  extract_lets arg0 arg1 j7 j6 j5 j4 j3 j2
  have hj7 : ∀ r, iprop(pt c arg2 f2 ∗ pt c arg3 f3 ∗ pt c arg4 f4 ∗ pt c arg5 f5 ∗ pt c arg6 f6 ∗ pt c arg7 f7 ∗ pt c arg8 f8 ∗ pt c arg10 f10 ∗ pt c arg12 f12 ∗ pt c w9 f9 ∗ pt c w11 f11 ∗ (∃ f : Buf (Elt F) (arg13.view.loc (c : Thread nD τ)), pt c arg13 f ∗ ⌜P13 f⌝) ∗ ex (F := F) c arg14 ∗ ex (F := F) c arg15 ∗ ex (F := F) c arg16 ∗ ex (F := F) c arg17 ∗ ex (F := F) c arg18 ∗ ex (F := F) c arg19 ∗ (∃ f : Buf (Elt F) (w20.view.loc (c : Thread nD τ)), pt c w20 f ∗ ⌜P20 f⌝) ∗ ex (F := F) c w21 ∗ ex (F := F) c w22 ∗ ex (F := F) c w23 ∗ ex (F := F) c w24 ∗ ex (F := F) c w25 ∗ ex (F := F) c w26 ∗ ex (F := F) c w27 ∗ ex (F := F) c w28 ∗ ex (F := F) c w29 ∗ (∃ f : Buf (Elt F) (w30.view.loc (c : Thread nD τ)), pt c w30 f ∗ ⌜bnd w30 192 f⌝) ∗ (∃ f : Buf (Elt F) (w31.view.loc (c : Thread nD τ)), pt c w31 f ∗ ⌜bnd w31 192 f⌝) ∗ semVal ((c : Thread nD τ), SemLoc.dma 27) 0 ∗ semVal ((c : Thread nD τ), SemLoc.dma 28) 0 ∗ (∃ W, owes (c : Thread nD τ) 0 W)) ⊢ wp frame (wpE (defs₀ (F := F)) Variants.none (c : Thread nD τ) none) Set.univ (j7 r) (fun _ => iprop(pt c arg2 f2 ∗ pt c arg3 f3 ∗ pt c arg4 f4 ∗ pt c arg5 f5 ∗ pt c arg6 f6 ∗ pt c arg7 f7 ∗ pt c arg8 f8 ∗ pt c arg10 f10 ∗ pt c arg12 f12 ∗ pt c w9 f9 ∗ pt c w11 f11 ∗ (∃ f : Buf (Elt F) (arg13.view.loc (c : Thread nD τ)), pt c arg13 f ∗ ⌜P13 f⌝) ∗ ex (F := F) c arg14 ∗ ex (F := F) c arg15 ∗ ex (F := F) c arg16 ∗ ex (F := F) c arg17 ∗ ex (F := F) c arg18 ∗ ex (F := F) c arg19 ∗ (∃ f : Buf (Elt F) (w20.view.loc (c : Thread nD τ)), pt c w20 f ∗ ⌜P20 f⌝) ∗ ex (F := F) c w21 ∗ ex (F := F) c w22 ∗ ex (F := F) c w23 ∗ ex (F := F) c w24 ∗ ex (F := F) c w25 ∗ ex (F := F) c w26 ∗ ex (F := F) c w27 ∗ ex (F := F) c w28 ∗ ex (F := F) c w29 ∗ (∃ f : Buf (Elt F) (w30.view.loc (c : Thread nD τ)), pt c w30 f ∗ ⌜bnd w30 192 f⌝) ∗ (∃ f : Buf (Elt F) (w31.view.loc (c : Thread nD τ)), pt c w31 f ∗ ⌜bnd w31 192 f⌝) ∗ semVal ((c : Thread nD τ), SemLoc.dma 27) 0 ∗ semVal ((c : Thread nD τ), SemLoc.dma 28) 0 ∗ (∃ W, owes (c : Thread nD τ) 0 W))) := by
    intro r
    unfold j7
    iintro H
    sl_step
    iexact H
  clear_value j7
  have hj6 : ∀ r, iprop(pt c arg2 f2 ∗ pt c arg3 f3 ∗ pt c arg4 f4 ∗ pt c arg5 f5 ∗ pt c arg6 f6 ∗ pt c arg7 f7 ∗ pt c arg8 f8 ∗ pt c arg10 f10 ∗ pt c arg12 f12 ∗ pt c w9 f9 ∗ pt c w11 f11 ∗ pt c arg13 f13 ∗ ex (F := F) c arg14 ∗ ex (F := F) c arg15 ∗ ex (F := F) c arg16 ∗ ex (F := F) c arg17 ∗ ex (F := F) c arg18 ∗ ex (F := F) c arg19 ∗ (∃ f : Buf (Elt F) (w20.view.loc (c : Thread nD τ)), pt c w20 f ∗ ⌜P20 f⌝) ∗ ex (F := F) c w21 ∗ ex (F := F) c w22 ∗ ex (F := F) c w23 ∗ ex (F := F) c w24 ∗ ex (F := F) c w25 ∗ ex (F := F) c w26 ∗ ex (F := F) c w27 ∗ ex (F := F) c w28 ∗ ex (F := F) c w29 ∗ (∃ f : Buf (Elt F) (w30.view.loc (c : Thread nD τ)), pt c w30 f ∗ ⌜bnd w30 192 f⌝) ∗ (∃ f : Buf (Elt F) (w31.view.loc (c : Thread nD τ)), pt c w31 f ∗ ⌜bnd w31 192 f⌝) ∗ semVal ((c : Thread nD τ), SemLoc.dma 27) 0 ∗ semVal ((c : Thread nD τ), SemLoc.dma 28) 0 ∗ (∃ W, owes (c : Thread nD τ) 0 W)) ⊢ wp frame (wpE (defs₀ (F := F)) Variants.none (c : Thread nD τ) none) Set.univ (j6 r) (fun _ => iprop(pt c arg2 f2 ∗ pt c arg3 f3 ∗ pt c arg4 f4 ∗ pt c arg5 f5 ∗ pt c arg6 f6 ∗ pt c arg7 f7 ∗ pt c arg8 f8 ∗ pt c arg10 f10 ∗ pt c arg12 f12 ∗ pt c w9 f9 ∗ pt c w11 f11 ∗ (∃ f : Buf (Elt F) (arg13.view.loc (c : Thread nD τ)), pt c arg13 f ∗ ⌜P13 f⌝) ∗ ex (F := F) c arg14 ∗ ex (F := F) c arg15 ∗ ex (F := F) c arg16 ∗ ex (F := F) c arg17 ∗ ex (F := F) c arg18 ∗ ex (F := F) c arg19 ∗ (∃ f : Buf (Elt F) (w20.view.loc (c : Thread nD τ)), pt c w20 f ∗ ⌜P20 f⌝) ∗ ex (F := F) c w21 ∗ ex (F := F) c w22 ∗ ex (F := F) c w23 ∗ ex (F := F) c w24 ∗ ex (F := F) c w25 ∗ ex (F := F) c w26 ∗ ex (F := F) c w27 ∗ ex (F := F) c w28 ∗ ex (F := F) c w29 ∗ (∃ f : Buf (Elt F) (w30.view.loc (c : Thread nD τ)), pt c w30 f ∗ ⌜bnd w30 192 f⌝) ∗ (∃ f : Buf (Elt F) (w31.view.loc (c : Thread nD τ)), pt c w31 f ∗ ⌜bnd w31 192 f⌝) ∗ semVal ((c : Thread nD τ), SemLoc.dma 27) 0 ∗ semVal ((c : Thread nD τ), SemLoc.dma 28) 0 ∗ (∃ W, owes (c : Thread nD τ) 0 W))) := by
    intro r
    unfold j6
    by_cases h6 : k0_cond6 i = 1#1
    · rw [dif_pos h6]
      iintro ⟨H2, H3, H4, H5, H6, H7, H8, H10, H12, H9, H11, H13, ⟨%f14, H14⟩, ⟨%f15, H15⟩, ⟨%f16, H16⟩, ⟨%f17, H17⟩, ⟨%f18, H18⟩, ⟨%f19, H19⟩, ⟨%f20, H20, %h20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30, %h30⟩, ⟨%f31, H31, %h31⟩, HS27, HS28, ⟨%W, HO⟩⟩
      sl_exec_parts (disch := first | ((with_reducible refine c59 _ ?_); exact bnd_get h31 _ (nolt _)) | ((with_reducible refine c60 _ ?_); exact bnd_get h30 _ (nolt _)) | ((with_reducible refine c61 _ ?_); exact bnd_get h31 _ (nolt _)) | ((with_reducible refine c62 _ ?_); exact bnd_get h30 _ (nolt _)) | ((with_reducible refine c63 _ ?_); exact bnd_get h31 _ (nolt _)) | ((with_reducible refine c64 _ ?_); exact bnd_get h30 _ (nolt _)) | ((with_reducible refine c65 _ ?_); exact bnd_get h31 _ (nolt _)) | ((with_reducible refine c66 _ ?_); exact bnd_get h30 _ (nolt _)) | ((with_reducible refine c67 _ ?_); exact bnd_get h31 _ (nolt _)) | ((with_reducible refine c68 _ ?_); exact bnd_get h30 _ (nolt _)) | ((with_reducible refine c69 _ ?_); exact bnd_get h31 _ (nolt _)) | ((with_reducible refine c70 _ ?_); exact bnd_get h30 _ (nolt _)) | ((with_reducible refine c71 _ ?_); exact bnd_get h31 _ (nolt _)) | ((with_reducible refine c72 _ ?_); exact bnd_get h30 _ (nolt _)) | ((with_reducible refine c73 _ ?_); exact bnd_get h31 _ (nolt _)) | ((with_reducible refine c74 _ ?_); exact bnd_get h30 _ (nolt _)) | ((with_reducible refine c75 _ ?_); exact bnd_get h31 _ (nolt _)) | ((with_reducible refine c76 _ ?_); exact bnd_get h30 _ (nolt _)) | ((with_reducible refine c77 _ ?_); exact bnd_get h31 _ (nolt _)) | ((with_reducible refine c78 _ ?_); exact bnd_get h30 _ (nolt _)) | ((with_reducible refine c79 _ ?_); exact bnd_get h31 _ (nolt _)) | ((with_reducible refine c80 _ ?_); exact bnd_get h30 _ (nolt _)) | ((with_reducible refine c81 _ ?_); exact bnd_get h31 _ (nolt _)) | ((with_reducible refine c82 _ ?_); exact bnd_get h30 _ (nolt _)) | ((with_reducible refine c83 _ ?_); exact bnd_get h31 _ (nolt _)) | ((with_reducible refine c84 _ ?_); exact bnd_get h30 _ (nolt _)) | ((with_reducible refine c85 _ ?_); exact bnd_get h31 _ (nolt _)) | ((with_reducible refine c86 _ ?_); exact bnd_get h30 _ (nolt _)) | ((with_reducible refine c87 _ ?_); exact bnd_get h31 _ (nolt _)) | ((with_reducible refine c88 _ ?_); exact bnd_get h30 _ (nolt _)) | ((with_reducible refine c89 _ ?_); exact bnd_get h31 _ (nolt _)) | ((with_reducible refine c90 _ ?_); exact bnd_get h30 _ (nolt _)) | ((with_reducible refine c91 _ ?_); exact bnd_get h31 _ (nolt _)) | ((with_reducible refine c92 _ ?_); exact bnd_get h30 _ (nolt _)) | ((with_reducible refine c93 _ ?_); exact bnd_get h31 _ (nolt _)) | ((with_reducible refine c94 _ ?_); exact bnd_get h30 _ (nolt _)) | ((with_reducible refine c95 _ ?_); exact bnd_get h31 _ (nolt _)) | ((with_reducible refine c96 _ ?_); exact bnd_get h30 _ (nolt _)) | ((with_reducible refine c97 _ ?_); exact bnd_get h31 _ (nolt _)) | ((with_reducible refine c98 _ ?_); exact bnd_get h30 _ (nolt _)) | ((with_reducible refine c99 _ ?_); exact bnd_get h31 _ (nolt _)) | ((with_reducible refine c100 _ ?_); exact bnd_get h30 _ (nolt _)) | ((with_reducible refine c101 _ ?_); exact bnd_get h31 _ (nolt _)) | ((with_reducible refine c102 _ ?_); exact bnd_get h30 _ (nolt _)) | ((with_reducible refine c103 _ ?_); exact bnd_get h31 _ (nolt _)) | ((with_reducible refine c104 _ ?_); exact bnd_get h30 _ (nolt _)) | ((with_reducible refine c105 _ ?_); exact bnd_get h31 _ (nolt _)) | ((with_reducible refine c106 _ ?_); exact bnd_get h30 _ (nolt _)) | ((with_reducible refine c107 _ ?_); exact bnd_get h31 _ (nolt _)) | ((with_reducible refine c108 _ ?_); exact bnd_get h30 _ (nolt _)) | ((with_reducible refine c109 _ ?_); exact bnd_get h31 _ (nolt _)) | ((with_reducible refine c110 _ ?_); exact bnd_get h30 _ (nolt _)) | ((with_reducible refine c111 _ ?_); exact bnd_get h31 _ (nolt _)) | ((with_reducible refine c112 _ ?_); exact bnd_get h30 _ (nolt _)) | ((with_reducible refine c113 _ ?_); exact bnd_get h31 _ (nolt _)) | ((with_reducible refine c114 _ ?_); exact bnd_get h30 _ (nolt _)) | ((with_reducible refine c115 _ ?_); exact bnd_get h31 _ (nolt _)) | ((with_reducible refine c116 _ ?_); exact bnd_get h30 _ (nolt _)) | ((with_reducible refine c117 _ ?_); exact bnd_get h31 _ (nolt _)) | ((with_reducible refine c118 _ ?_); exact bnd_get h30 _ (nolt _)) | ((with_reducible refine c119 _ ?_); exact bnd_get h31 _ (nolt _)) | ((with_reducible refine c120 _ ?_); exact bnd_get h30 _ (nolt _)) | ((with_reducible refine c121 _ ?_); exact bnd_get h31 _ (nolt _)) | ((with_reducible refine c122 _ ?_); exact bnd_get h30 _ (nolt _)))
      iapply (hj7 _)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexact H10
      isplitl [H12]; · iexact H12
      isplitl [H9]; · iexact H9
      isplitl [H11]; · iexact H11
      isplitl [H13]; · iexists _; isplitl [H13]; (iexact H13); ipureintro; exact hv6 _ h6
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; isplitl [H20]; (iexact H20); ipureintro; exact h20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [H30]; · iexists _; isplitl [H30]; (iexact H30); ipureintro; exact h30
      isplitl [H31]; · iexists _; isplitl [H31]; (iexact H31); ipureintro; exact h31
      isplitl [HS27]; · iexact HS27
      isplitl [HS28]; · iexact HS28
      iexists _; iexact HO
    · rw [dif_neg h6]
      iintro ⟨H2, H3, H4, H5, H6, H7, H8, H10, H12, H9, H11, H13, ⟨%f14, H14⟩, ⟨%f15, H15⟩, ⟨%f16, H16⟩, ⟨%f17, H17⟩, ⟨%f18, H18⟩, ⟨%f19, H19⟩, ⟨%f20, H20, %h20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30, %h30⟩, ⟨%f31, H31, %h31⟩, HS27, HS28, ⟨%W, HO⟩⟩
      iapply (hj7 _)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexact H10
      isplitl [H12]; · iexact H12
      isplitl [H9]; · iexact H9
      isplitl [H11]; · iexact H11
      isplitl [H13]; · iexists _; isplitl [H13]; (iexact H13); ipureintro; exact hn6 h6
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; isplitl [H20]; (iexact H20); ipureintro; exact h20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [H30]; · iexists _; isplitl [H30]; (iexact H30); ipureintro; exact h30
      isplitl [H31]; · iexists _; isplitl [H31]; (iexact H31); ipureintro; exact h31
      isplitl [HS27]; · iexact HS27
      isplitl [HS28]; · iexact HS28
      iexists _; iexact HO
  clear_value j6
  have hj5 : ∀ r, iprop(pt c arg2 f2 ∗ pt c arg3 f3 ∗ pt c arg4 f4 ∗ pt c arg5 f5 ∗ pt c arg6 f6 ∗ pt c arg7 f7 ∗ pt c arg8 f8 ∗ pt c arg10 f10 ∗ pt c arg12 f12 ∗ pt c w9 f9 ∗ pt c w11 f11 ∗ pt c arg13 f13 ∗ ex (F := F) c arg14 ∗ ex (F := F) c arg15 ∗ ex (F := F) c arg16 ∗ ex (F := F) c arg17 ∗ ex (F := F) c arg18 ∗ ex (F := F) c arg19 ∗ (∃ f : Buf (Elt F) (w20.view.loc (c : Thread nD τ)), pt c w20 f ∗ ⌜P20 f⌝) ∗ ex (F := F) c w21 ∗ ex (F := F) c w22 ∗ ex (F := F) c w23 ∗ ex (F := F) c w24 ∗ ex (F := F) c w25 ∗ ex (F := F) c w26 ∗ ex (F := F) c w27 ∗ ex (F := F) c w28 ∗ ex (F := F) c w29 ∗ (∃ f : Buf (Elt F) (w30.view.loc (c : Thread nD τ)), pt c w30 f ∗ ⌜bnd w30 192 f⌝) ∗ (∃ f : Buf (Elt F) (w31.view.loc (c : Thread nD τ)), pt c w31 f ∗ ⌜bnd w31 192 f⌝) ∗ semVal ((c : Thread nD τ), SemLoc.dma 27) 0 ∗ semVal ((c : Thread nD τ), SemLoc.dma 28) 0 ∗ (∃ W, owes (c : Thread nD τ) 0 W)) ⊢ wp frame (wpE (defs₀ (F := F)) Variants.none (c : Thread nD τ) none) Set.univ (j5 r) (fun _ => iprop(pt c arg2 f2 ∗ pt c arg3 f3 ∗ pt c arg4 f4 ∗ pt c arg5 f5 ∗ pt c arg6 f6 ∗ pt c arg7 f7 ∗ pt c arg8 f8 ∗ pt c arg10 f10 ∗ pt c arg12 f12 ∗ pt c w9 f9 ∗ pt c w11 f11 ∗ (∃ f : Buf (Elt F) (arg13.view.loc (c : Thread nD τ)), pt c arg13 f ∗ ⌜P13 f⌝) ∗ ex (F := F) c arg14 ∗ ex (F := F) c arg15 ∗ ex (F := F) c arg16 ∗ ex (F := F) c arg17 ∗ ex (F := F) c arg18 ∗ ex (F := F) c arg19 ∗ (∃ f : Buf (Elt F) (w20.view.loc (c : Thread nD τ)), pt c w20 f ∗ ⌜P20 f⌝) ∗ ex (F := F) c w21 ∗ ex (F := F) c w22 ∗ ex (F := F) c w23 ∗ ex (F := F) c w24 ∗ ex (F := F) c w25 ∗ ex (F := F) c w26 ∗ ex (F := F) c w27 ∗ ex (F := F) c w28 ∗ ex (F := F) c w29 ∗ (∃ f : Buf (Elt F) (w30.view.loc (c : Thread nD τ)), pt c w30 f ∗ ⌜bnd w30 192 f⌝) ∗ (∃ f : Buf (Elt F) (w31.view.loc (c : Thread nD τ)), pt c w31 f ∗ ⌜bnd w31 192 f⌝) ∗ semVal ((c : Thread nD τ), SemLoc.dma 27) 0 ∗ semVal ((c : Thread nD τ), SemLoc.dma 28) 0 ∗ (∃ W, owes (c : Thread nD τ) 0 W))) := by
    intro r
    unfold j5
    by_cases h5 : k0_cond5 i = 1#1
    · rw [dif_pos h5]
      iintro ⟨H2, H3, H4, H5, H6, H7, H8, H10, H12, H9, H11, H13, ⟨%f14, H14⟩, ⟨%f15, H15⟩, ⟨%f16, H16⟩, ⟨%f17, H17⟩, ⟨%f18, H18⟩, ⟨%f19, H19⟩, ⟨%f20, H20, %h20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30, %h30⟩, ⟨%f31, H31, %h31⟩, HS27, HS28, ⟨%W, HO⟩⟩
      sl_exec_parts
      iapply (hj6 _)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexact H10
      isplitl [H12]; · iexact H12
      isplitl [H9]; · iexact H9
      isplitl [H11]; · iexact H11
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; isplitl [H20]; (iexact H20); ipureintro; exact h20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [H30]; · iexists _; isplitl [H30]; (iexact H30); ipureintro; exact h30
      isplitl [H31]; · iexists _; isplitl [H31]; (iexact H31); ipureintro; exact h31
      isplitl [HS27]; · iexact HS27
      isplitl [HS28]; · iexact HS28
      iexists _; iexact HO
    · rw [dif_neg h5]
      iintro ⟨H2, H3, H4, H5, H6, H7, H8, H10, H12, H9, H11, H13, ⟨%f14, H14⟩, ⟨%f15, H15⟩, ⟨%f16, H16⟩, ⟨%f17, H17⟩, ⟨%f18, H18⟩, ⟨%f19, H19⟩, ⟨%f20, H20, %h20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30, %h30⟩, ⟨%f31, H31, %h31⟩, HS27, HS28, ⟨%W, HO⟩⟩
      iapply (hj6 _)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexact H10
      isplitl [H12]; · iexact H12
      isplitl [H9]; · iexact H9
      isplitl [H11]; · iexact H11
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; isplitl [H20]; (iexact H20); ipureintro; exact h20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [H30]; · iexists _; isplitl [H30]; (iexact H30); ipureintro; exact h30
      isplitl [H31]; · iexists _; isplitl [H31]; (iexact H31); ipureintro; exact h31
      isplitl [HS27]; · iexact HS27
      isplitl [HS28]; · iexact HS28
      iexists _; iexact HO
  clear_value j5
  have hj4 : ∀ r, iprop(pt c arg2 f2 ∗ pt c arg3 f3 ∗ pt c arg4 f4 ∗ pt c arg5 f5 ∗ pt c arg6 f6 ∗ pt c arg7 f7 ∗ pt c arg8 f8 ∗ pt c arg10 f10 ∗ pt c arg12 f12 ∗ pt c w9 f9 ∗ pt c w11 f11 ∗ pt c arg13 f13 ∗ ex (F := F) c arg14 ∗ ex (F := F) c arg15 ∗ ex (F := F) c arg16 ∗ ex (F := F) c arg17 ∗ ex (F := F) c arg18 ∗ ex (F := F) c arg19 ∗ pt c w20 f20 ∗ ex (F := F) c w21 ∗ ex (F := F) c w22 ∗ ex (F := F) c w23 ∗ ex (F := F) c w24 ∗ ex (F := F) c w25 ∗ ex (F := F) c w26 ∗ ex (F := F) c w27 ∗ ex (F := F) c w28 ∗ ex (F := F) c w29 ∗ (∃ f : Buf (Elt F) (w30.view.loc (c : Thread nD τ)), pt c w30 f ∗ ⌜bnd w30 192 f⌝) ∗ (∃ f : Buf (Elt F) (w31.view.loc (c : Thread nD τ)), pt c w31 f ∗ ⌜bnd w31 192 f⌝) ∗ semVal ((c : Thread nD τ), SemLoc.dma 27) 0 ∗ semVal ((c : Thread nD τ), SemLoc.dma 28) 0 ∗ (∃ W, owes (c : Thread nD τ) 0 W)) ⊢ wp frame (wpE (defs₀ (F := F)) Variants.none (c : Thread nD τ) none) Set.univ (j4 r) (fun _ => iprop(pt c arg2 f2 ∗ pt c arg3 f3 ∗ pt c arg4 f4 ∗ pt c arg5 f5 ∗ pt c arg6 f6 ∗ pt c arg7 f7 ∗ pt c arg8 f8 ∗ pt c arg10 f10 ∗ pt c arg12 f12 ∗ pt c w9 f9 ∗ pt c w11 f11 ∗ (∃ f : Buf (Elt F) (arg13.view.loc (c : Thread nD τ)), pt c arg13 f ∗ ⌜P13 f⌝) ∗ ex (F := F) c arg14 ∗ ex (F := F) c arg15 ∗ ex (F := F) c arg16 ∗ ex (F := F) c arg17 ∗ ex (F := F) c arg18 ∗ ex (F := F) c arg19 ∗ (∃ f : Buf (Elt F) (w20.view.loc (c : Thread nD τ)), pt c w20 f ∗ ⌜P20 f⌝) ∗ ex (F := F) c w21 ∗ ex (F := F) c w22 ∗ ex (F := F) c w23 ∗ ex (F := F) c w24 ∗ ex (F := F) c w25 ∗ ex (F := F) c w26 ∗ ex (F := F) c w27 ∗ ex (F := F) c w28 ∗ ex (F := F) c w29 ∗ (∃ f : Buf (Elt F) (w30.view.loc (c : Thread nD τ)), pt c w30 f ∗ ⌜bnd w30 192 f⌝) ∗ (∃ f : Buf (Elt F) (w31.view.loc (c : Thread nD τ)), pt c w31 f ∗ ⌜bnd w31 192 f⌝) ∗ semVal ((c : Thread nD τ), SemLoc.dma 27) 0 ∗ semVal ((c : Thread nD τ), SemLoc.dma 28) 0 ∗ (∃ W, owes (c : Thread nD τ) 0 W))) := by
    intro r
    unfold j4
    by_cases h4 : k0_cond4 i = 1#1
    · rw [dif_pos h4]
      iintro ⟨H2, H3, H4, H5, H6, H7, H8, H10, H12, H9, H11, H13, ⟨%f14, H14⟩, ⟨%f15, H15⟩, ⟨%f16, H16⟩, ⟨%f17, H17⟩, ⟨%f18, H18⟩, ⟨%f19, H19⟩, H20, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30, %h30⟩, ⟨%f31, H31, %h31⟩, HS27, HS28, ⟨%W, HO⟩⟩
      sl_exec_parts
      iapply (hj5 _)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexact H10
      isplitl [H12]; · iexact H12
      isplitl [H9]; · iexact H9
      isplitl [H11]; · iexact H11
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; isplitl [H20]; (iexact H20); ipureintro; exact hv4 _ h4
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [H30]; · iexists _; isplitl [H30]; (iexact H30); ipureintro; exact h30
      isplitl [H31]; · iexists _; isplitl [H31]; (iexact H31); ipureintro; exact h31
      isplitl [HS27]; · iexact HS27
      isplitl [HS28]; · iexact HS28
      iexists _; iexact HO
    · rw [dif_neg h4]
      iintro ⟨H2, H3, H4, H5, H6, H7, H8, H10, H12, H9, H11, H13, ⟨%f14, H14⟩, ⟨%f15, H15⟩, ⟨%f16, H16⟩, ⟨%f17, H17⟩, ⟨%f18, H18⟩, ⟨%f19, H19⟩, H20, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30, %h30⟩, ⟨%f31, H31, %h31⟩, HS27, HS28, ⟨%W, HO⟩⟩
      iapply (hj5 _)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexact H10
      isplitl [H12]; · iexact H12
      isplitl [H9]; · iexact H9
      isplitl [H11]; · iexact H11
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; isplitl [H20]; (iexact H20); ipureintro; exact hn4 h4
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [H30]; · iexists _; isplitl [H30]; (iexact H30); ipureintro; exact h30
      isplitl [H31]; · iexists _; isplitl [H31]; (iexact H31); ipureintro; exact h31
      isplitl [HS27]; · iexact HS27
      isplitl [HS28]; · iexact HS28
      iexists _; iexact HO
  clear_value j4
  have hj3 : ∀ r, iprop(pt c arg2 f2 ∗ pt c arg3 f3 ∗ pt c arg4 f4 ∗ pt c arg5 f5 ∗ pt c arg6 f6 ∗ pt c arg7 f7 ∗ pt c arg8 f8 ∗ pt c arg10 f10 ∗ pt c arg12 f12 ∗ pt c w9 f9 ∗ pt c w11 f11 ∗ pt c arg13 f13 ∗ ex (F := F) c arg14 ∗ ex (F := F) c arg15 ∗ ex (F := F) c arg16 ∗ ex (F := F) c arg17 ∗ ex (F := F) c arg18 ∗ ex (F := F) c arg19 ∗ pt c w20 f20 ∗ ex (F := F) c w21 ∗ ex (F := F) c w22 ∗ ex (F := F) c w23 ∗ ex (F := F) c w24 ∗ ex (F := F) c w25 ∗ ex (F := F) c w26 ∗ ex (F := F) c w27 ∗ ex (F := F) c w28 ∗ ex (F := F) c w29 ∗ (∃ f : Buf (Elt F) (w30.view.loc (c : Thread nD τ)), pt c w30 f ∗ ⌜bnd w30 192 f⌝) ∗ (∃ f : Buf (Elt F) (w31.view.loc (c : Thread nD τ)), pt c w31 f ∗ ⌜bnd w31 192 f⌝) ∗ semVal ((c : Thread nD τ), SemLoc.dma 27) 0 ∗ semVal ((c : Thread nD τ), SemLoc.dma 28) 0 ∗ (∃ W, owes (c : Thread nD τ) 0 W)) ⊢ wp frame (wpE (defs₀ (F := F)) Variants.none (c : Thread nD τ) none) Set.univ (j3 r) (fun _ => iprop(pt c arg2 f2 ∗ pt c arg3 f3 ∗ pt c arg4 f4 ∗ pt c arg5 f5 ∗ pt c arg6 f6 ∗ pt c arg7 f7 ∗ pt c arg8 f8 ∗ pt c arg10 f10 ∗ pt c arg12 f12 ∗ pt c w9 f9 ∗ pt c w11 f11 ∗ (∃ f : Buf (Elt F) (arg13.view.loc (c : Thread nD τ)), pt c arg13 f ∗ ⌜P13 f⌝) ∗ ex (F := F) c arg14 ∗ ex (F := F) c arg15 ∗ ex (F := F) c arg16 ∗ ex (F := F) c arg17 ∗ ex (F := F) c arg18 ∗ ex (F := F) c arg19 ∗ (∃ f : Buf (Elt F) (w20.view.loc (c : Thread nD τ)), pt c w20 f ∗ ⌜P20 f⌝) ∗ ex (F := F) c w21 ∗ ex (F := F) c w22 ∗ ex (F := F) c w23 ∗ ex (F := F) c w24 ∗ ex (F := F) c w25 ∗ ex (F := F) c w26 ∗ ex (F := F) c w27 ∗ ex (F := F) c w28 ∗ ex (F := F) c w29 ∗ (∃ f : Buf (Elt F) (w30.view.loc (c : Thread nD τ)), pt c w30 f ∗ ⌜bnd w30 192 f⌝) ∗ (∃ f : Buf (Elt F) (w31.view.loc (c : Thread nD τ)), pt c w31 f ∗ ⌜bnd w31 192 f⌝) ∗ semVal ((c : Thread nD τ), SemLoc.dma 27) 0 ∗ semVal ((c : Thread nD τ), SemLoc.dma 28) 0 ∗ (∃ W, owes (c : Thread nD τ) 0 W))) := by
    intro r
    unfold j3
    by_cases h3 : k0_cond3 i = 1#1
    · rw [dif_pos h3]
      iintro ⟨H2, H3, H4, H5, H6, H7, H8, H10, H12, H9, H11, H13, ⟨%f14, H14⟩, ⟨%f15, H15⟩, ⟨%f16, H16⟩, ⟨%f17, H17⟩, ⟨%f18, H18⟩, ⟨%f19, H19⟩, H20, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30, %h30⟩, ⟨%f31, H31, %h31⟩, HS27, HS28, ⟨%W, HO⟩⟩
      sl_exec_parts
      iapply (hj4 _)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexact H10
      isplitl [H12]; · iexact H12
      isplitl [H9]; · iexact H9
      isplitl [H11]; · iexact H11
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [H30]; · iexists _; isplitl [H30]; (iexact H30); ipureintro; exact h30
      isplitl [H31]; · iexists _; isplitl [H31]; (iexact H31); ipureintro; exact h31
      isplitl [HS27]; · iexact HS27
      isplitl [HS28]; · iexact HS28
      iexists _; iexact HO
    · rw [dif_neg h3]
      iintro ⟨H2, H3, H4, H5, H6, H7, H8, H10, H12, H9, H11, H13, ⟨%f14, H14⟩, ⟨%f15, H15⟩, ⟨%f16, H16⟩, ⟨%f17, H17⟩, ⟨%f18, H18⟩, ⟨%f19, H19⟩, H20, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30, %h30⟩, ⟨%f31, H31, %h31⟩, HS27, HS28, ⟨%W, HO⟩⟩
      iapply (hj4 _)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexact H10
      isplitl [H12]; · iexact H12
      isplitl [H9]; · iexact H9
      isplitl [H11]; · iexact H11
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [H30]; · iexists _; isplitl [H30]; (iexact H30); ipureintro; exact h30
      isplitl [H31]; · iexists _; isplitl [H31]; (iexact H31); ipureintro; exact h31
      isplitl [HS27]; · iexact HS27
      isplitl [HS28]; · iexact HS28
      iexists _; iexact HO
  clear_value j3
  have hj2 : ∀ r, iprop(pt c arg2 f2 ∗ pt c arg3 f3 ∗ pt c arg4 f4 ∗ pt c arg5 f5 ∗ pt c arg6 f6 ∗ pt c arg7 f7 ∗ pt c arg8 f8 ∗ pt c arg10 f10 ∗ pt c arg12 f12 ∗ pt c w9 f9 ∗ pt c w11 f11 ∗ pt c arg13 f13 ∗ ex (F := F) c arg14 ∗ ex (F := F) c arg15 ∗ ex (F := F) c arg16 ∗ ex (F := F) c arg17 ∗ ex (F := F) c arg18 ∗ ex (F := F) c arg19 ∗ pt c w20 f20 ∗ ex (F := F) c w21 ∗ ex (F := F) c w22 ∗ ex (F := F) c w23 ∗ ex (F := F) c w24 ∗ ex (F := F) c w25 ∗ ex (F := F) c w26 ∗ ex (F := F) c w27 ∗ ex (F := F) c w28 ∗ ex (F := F) c w29 ∗ (∃ f : Buf (Elt F) (w30.view.loc (c : Thread nD τ)), pt c w30 f ∗ ⌜bnd w30 192 f⌝) ∗ (∃ f : Buf (Elt F) (w31.view.loc (c : Thread nD τ)), pt c w31 f ∗ ⌜bnd w31 192 f⌝) ∗ semVal ((c : Thread nD τ), SemLoc.dma 27) 0 ∗ semVal ((c : Thread nD τ), SemLoc.dma 28) 0 ∗ (∃ W, owes (c : Thread nD τ) 0 W)) ⊢ wp frame (wpE (defs₀ (F := F)) Variants.none (c : Thread nD τ) none) Set.univ (j2 r) (fun _ => iprop(pt c arg2 f2 ∗ pt c arg3 f3 ∗ pt c arg4 f4 ∗ pt c arg5 f5 ∗ pt c arg6 f6 ∗ pt c arg7 f7 ∗ pt c arg8 f8 ∗ pt c arg10 f10 ∗ pt c arg12 f12 ∗ pt c w9 f9 ∗ pt c w11 f11 ∗ (∃ f : Buf (Elt F) (arg13.view.loc (c : Thread nD τ)), pt c arg13 f ∗ ⌜P13 f⌝) ∗ ex (F := F) c arg14 ∗ ex (F := F) c arg15 ∗ ex (F := F) c arg16 ∗ ex (F := F) c arg17 ∗ ex (F := F) c arg18 ∗ ex (F := F) c arg19 ∗ (∃ f : Buf (Elt F) (w20.view.loc (c : Thread nD τ)), pt c w20 f ∗ ⌜P20 f⌝) ∗ ex (F := F) c w21 ∗ ex (F := F) c w22 ∗ ex (F := F) c w23 ∗ ex (F := F) c w24 ∗ ex (F := F) c w25 ∗ ex (F := F) c w26 ∗ ex (F := F) c w27 ∗ ex (F := F) c w28 ∗ ex (F := F) c w29 ∗ (∃ f : Buf (Elt F) (w30.view.loc (c : Thread nD τ)), pt c w30 f ∗ ⌜bnd w30 192 f⌝) ∗ (∃ f : Buf (Elt F) (w31.view.loc (c : Thread nD τ)), pt c w31 f ∗ ⌜bnd w31 192 f⌝) ∗ semVal ((c : Thread nD τ), SemLoc.dma 27) 0 ∗ semVal ((c : Thread nD τ), SemLoc.dma 28) 0 ∗ (∃ W, owes (c : Thread nD τ) 0 W))) := by
    intro r
    unfold j2
    by_cases h2 : k0_cond2 i = 1#1
    · rw [dif_pos h2]
      iintro ⟨H2, H3, H4, H5, H6, H7, H8, H10, H12, H9, H11, H13, ⟨%f14, H14⟩, ⟨%f15, H15⟩, ⟨%f16, H16⟩, ⟨%f17, H17⟩, ⟨%f18, H18⟩, ⟨%f19, H19⟩, H20, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30, %h30⟩, ⟨%f31, H31, %h31⟩, HS27, HS28, ⟨%W, HO⟩⟩
      sl_exec_parts
      iapply (hj3 _)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexact H10
      isplitl [H12]; · iexact H12
      isplitl [H9]; · iexact H9
      isplitl [H11]; · iexact H11
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [H30]; · iexists _; isplitl [H30]; (iexact H30); ipureintro; exact h30
      isplitl [H31]; · iexists _; isplitl [H31]; (iexact H31); ipureintro; exact h31
      isplitl [HS27]; · iexact HS27
      isplitl [HS28]; · iexact HS28
      iexists _; iexact HO
    · rw [dif_neg h2]
      iintro ⟨H2, H3, H4, H5, H6, H7, H8, H10, H12, H9, H11, H13, ⟨%f14, H14⟩, ⟨%f15, H15⟩, ⟨%f16, H16⟩, ⟨%f17, H17⟩, ⟨%f18, H18⟩, ⟨%f19, H19⟩, H20, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30, %h30⟩, ⟨%f31, H31, %h31⟩, HS27, HS28, ⟨%W, HO⟩⟩
      iapply (hj3 _)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexact H10
      isplitl [H12]; · iexact H12
      isplitl [H9]; · iexact H9
      isplitl [H11]; · iexact H11
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [H30]; · iexists _; isplitl [H30]; (iexact H30); ipureintro; exact h30
      isplitl [H31]; · iexists _; isplitl [H31]; (iexact H31); ipureintro; exact h31
      isplitl [HS27]; · iexact HS27
      isplitl [HS28]; · iexact HS28
      iexists _; iexact HO
  clear_value j2
  by_cases h1 : k0_cond1 i = 1#1
  · rw [dif_pos h1]
    have _plan : Transfers.BatchOf (c : Thread nD τ) (SemLoc.dma (sig := sig) 27) 14 (windows := true) := trivial
    have _plan' : Transfers.BatchOf (c : Thread nD τ) (SemLoc.dma (sig := sig) 28) 14 (windows := true) := trivial
    iintro ⟨H2, H3, H4, H5, H6, H7, H8, H10, H12, H9, H11, H13, ⟨%f14, H14⟩, ⟨%f15, H15⟩, ⟨%f16, H16⟩, ⟨%f17, H17⟩, ⟨%f18, H18⟩, ⟨%f19, H19⟩, H20, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30, %h30⟩, ⟨%f31, H31, %h31⟩, HS27, HS28, ⟨%W, HO⟩⟩
    have b30 := bnd_zero w30 f30
    have b31 := bnd_zero w31 f31
    ihave H9 := (toks c w9 f9).1 $$ H9
    icases H9 with ⟨H9, T9_0, T9_1, T9_2, T9_3, T9_4, T9_5, T9_6, T9_7, T9_8, T9_9, T9_10, T9_11, T9_12⟩
    ihave H11 := (toks c w11 f11).1 $$ H11
    icases H11 with ⟨H11, T11_0, T11_1, T11_2, T11_3, T11_4, T11_5, T11_6, T11_7, T11_8, T11_9, T11_10, T11_11, T11_12⟩
    set_option sl_exec.stopBefore "k0_part25" in sl_exec_parts (disch := first | ((with_reducible refine c1 _ ?_); exact hadp _) | ((with_reducible refine c2 _ ?_); exact hadp _) | ((with_reducible refine c3 _ ?_); exact hadp _) | ((with_reducible refine c4 _ ?_); exact hadp _) | ((with_reducible refine c5 _ ?_); exact hadp _) | ((with_reducible refine c6 _ ?_); exact hadp _) | ((with_reducible refine c7 _ ?_); exact hadp _) | ((with_reducible refine c8 _ ?_); exact hadp _) | ((with_reducible refine c9 _ ?_); exact hadp _) | ((with_reducible refine c10 _ ?_); exact hadp _) | ((with_reducible refine c11 _ ?_); exact hadp _) | ((with_reducible refine c12 _ ?_); exact hadp _) | ((with_reducible refine c13 _ ?_); exact hadp _) | ((with_reducible refine c14 _ ?_); exact hadp _) | ((with_reducible refine c15 _ ?_); exact hadp _) | ((with_reducible refine c16 _ ?_); exact hadp _) | ((with_reducible refine c17 _ ?_); exact hadp _) | ((with_reducible refine c18 _ ?_); exact hadp _) | ((with_reducible refine c19 _ ?_); exact hadp _) | ((with_reducible refine c20 _ ?_); exact hadp _) | ((with_reducible refine c21 _ ?_); exact hadp _) | ((with_reducible refine c22 _ ?_); exact hadp _) | ((with_reducible refine c23 _ ?_); exact hadp _) | ((with_reducible refine c24 _ ?_); exact hadp _) | ((with_reducible refine c25 _ ?_); exact hadp _) | ((with_reducible refine c26 _ ?_); exact hadp _) | ((with_reducible refine c27 _ ?_); exact hadp _) | ((with_reducible refine c28 _ ?_); exact hadp _) | ((with_reducible refine c29 _ ?_); exact hadp _) | ((with_reducible refine c30 _ ?_); exact hadp _) | ((with_reducible refine c31 _ ?_); exact hadp _) | ((with_reducible refine c32 _ ?_); exact hadp _) | ((with_reducible refine c33 _ ?_); exact hadp _) | ((with_reducible refine c34 _ ?_); exact hadp _) | ((with_reducible refine c35 _ ?_); exact hadp _) | ((with_reducible refine c36 _ ?_); exact hadp _) | ((with_reducible refine c37 _ ?_); exact hadp _) | ((with_reducible refine c38 _ ?_); exact hadp _) | ((with_reducible refine c39 _ ?_); exact hadp _) | ((with_reducible refine c40 _ ?_); exact hadp _) | ((with_reducible refine c41 _ ?_); exact hadp _) | ((with_reducible refine c42 _ ?_); exact hadp _) | ((with_reducible refine c43 _ ?_); exact hadp _) | ((with_reducible refine c44 _ ?_); exact hadp _) | ((with_reducible refine c45 _ ?_); exact hadp _) | ((with_reducible refine c46 _ ?_); exact hadp _) | ((with_reducible refine c47 _ ?_); exact hadp _) | ((with_reducible refine c48 _ ?_); exact hadp _) | ((with_reducible refine c49 _ ?_); exact hadp _) | ((with_reducible refine c50 _ ?_); exact hadp _) | ((with_reducible refine c51 _ ?_); exact hadp _) | ((with_reducible refine c52 _ ?_); exact hadp _) | ((with_reducible refine c53 _ ?_); exact hadp _) | ((with_reducible refine c54 _ ?_); exact hadp _) | ((with_reducible refine c55 _ ?_); exact hadp _) | ((with_reducible refine c56 _ ?_); exact hadp _) | ((with_reducible refine c57 _ ?_); exact hadp _) | ((with_reducible refine c58 _ ?_); exact hadp _))
    ihave H24 := (forget c w24 _) $$ H24
    icases H24 with ⟨%g24, H24⟩
    ihave H25 := (forget c w25 _) $$ H25
    icases H25 with ⟨%g25, H25⟩
    sl_exec_parts (disch := first | ((with_reducible refine c1 _ ?_); exact hadp _) | ((with_reducible refine c2 _ ?_); exact hadp _) | ((with_reducible refine c3 _ ?_); exact hadp _) | ((with_reducible refine c4 _ ?_); exact hadp _) | ((with_reducible refine c5 _ ?_); exact hadp _) | ((with_reducible refine c6 _ ?_); exact hadp _) | ((with_reducible refine c7 _ ?_); exact hadp _) | ((with_reducible refine c8 _ ?_); exact hadp _) | ((with_reducible refine c9 _ ?_); exact hadp _) | ((with_reducible refine c10 _ ?_); exact hadp _) | ((with_reducible refine c11 _ ?_); exact hadp _) | ((with_reducible refine c12 _ ?_); exact hadp _) | ((with_reducible refine c13 _ ?_); exact hadp _) | ((with_reducible refine c14 _ ?_); exact hadp _) | ((with_reducible refine c15 _ ?_); exact hadp _) | ((with_reducible refine c16 _ ?_); exact hadp _) | ((with_reducible refine c17 _ ?_); exact hadp _) | ((with_reducible refine c18 _ ?_); exact hadp _) | ((with_reducible refine c19 _ ?_); exact hadp _) | ((with_reducible refine c20 _ ?_); exact hadp _) | ((with_reducible refine c21 _ ?_); exact hadp _) | ((with_reducible refine c22 _ ?_); exact hadp _) | ((with_reducible refine c23 _ ?_); exact hadp _) | ((with_reducible refine c24 _ ?_); exact hadp _) | ((with_reducible refine c25 _ ?_); exact hadp _) | ((with_reducible refine c26 _ ?_); exact hadp _) | ((with_reducible refine c27 _ ?_); exact hadp _) | ((with_reducible refine c28 _ ?_); exact hadp _) | ((with_reducible refine c29 _ ?_); exact hadp _) | ((with_reducible refine c30 _ ?_); exact hadp _) | ((with_reducible refine c31 _ ?_); exact hadp _) | ((with_reducible refine c32 _ ?_); exact hadp _) | ((with_reducible refine c33 _ ?_); exact hadp _) | ((with_reducible refine c34 _ ?_); exact hadp _) | ((with_reducible refine c35 _ ?_); exact hadp _) | ((with_reducible refine c36 _ ?_); exact hadp _) | ((with_reducible refine c37 _ ?_); exact hadp _) | ((with_reducible refine c38 _ ?_); exact hadp _) | ((with_reducible refine c39 _ ?_); exact hadp _) | ((with_reducible refine c40 _ ?_); exact hadp _) | ((with_reducible refine c41 _ ?_); exact hadp _) | ((with_reducible refine c42 _ ?_); exact hadp _) | ((with_reducible refine c43 _ ?_); exact hadp _) | ((with_reducible refine c44 _ ?_); exact hadp _) | ((with_reducible refine c45 _ ?_); exact hadp _) | ((with_reducible refine c46 _ ?_); exact hadp _) | ((with_reducible refine c47 _ ?_); exact hadp _) | ((with_reducible refine c48 _ ?_); exact hadp _) | ((with_reducible refine c49 _ ?_); exact hadp _) | ((with_reducible refine c50 _ ?_); exact hadp _) | ((with_reducible refine c51 _ ?_); exact hadp _) | ((with_reducible refine c52 _ ?_); exact hadp _) | ((with_reducible refine c53 _ ?_); exact hadp _) | ((with_reducible refine c54 _ ?_); exact hadp _) | ((with_reducible refine c55 _ ?_); exact hadp _) | ((with_reducible refine c56 _ ?_); exact hadp _) | ((with_reducible refine c57 _ ?_); exact hadp _) | ((with_reducible refine c58 _ ?_); exact hadp _))
    ihave H9 := (toks c w9 f9).2 $$ [H9 T9_0 T9_1 T9_2 T9_3 T9_4 T9_5 T9_6 T9_7 T9_8 T9_9 T9_10 T9_11 T9_12]
    · isplitl [H9]; · iexact H9
      isplitl [T9_0]; · iexact T9_0
      isplitl [T9_1]; · iexact T9_1
      isplitl [T9_2]; · iexact T9_2
      isplitl [T9_3]; · iexact T9_3
      isplitl [T9_4]; · iexact T9_4
      isplitl [T9_5]; · iexact T9_5
      isplitl [T9_6]; · iexact T9_6
      isplitl [T9_7]; · iexact T9_7
      isplitl [T9_8]; · iexact T9_8
      isplitl [T9_9]; · iexact T9_9
      isplitl [T9_10]; · iexact T9_10
      isplitl [T9_11]; · iexact T9_11
      iexact T9_12
    ihave H11 := (toks c w11 f11).2 $$ [H11 T11_0 T11_1 T11_2 T11_3 T11_4 T11_5 T11_6 T11_7 T11_8 T11_9 T11_10 T11_11 T11_12]
    · isplitl [H11]; · iexact H11
      isplitl [T11_0]; · iexact T11_0
      isplitl [T11_1]; · iexact T11_1
      isplitl [T11_2]; · iexact T11_2
      isplitl [T11_3]; · iexact T11_3
      isplitl [T11_4]; · iexact T11_4
      isplitl [T11_5]; · iexact T11_5
      isplitl [T11_6]; · iexact T11_6
      isplitl [T11_7]; · iexact T11_7
      isplitl [T11_8]; · iexact T11_8
      isplitl [T11_9]; · iexact T11_9
      isplitl [T11_10]; · iexact T11_10
      isplitl [T11_11]; · iexact T11_11
      iexact T11_12
    iapply (hj2 _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]; · iexact H10
    isplitl [H12]; · iexact H12
    isplitl [H9]; · iexact H9
    isplitl [H11]; · iexact H11
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; isplitl [H30]; (iexact H30); ipureintro; exact hL2
    isplitl [H31]; · iexists _; isplitl [H31]; (iexact H31); ipureintro; exact hL4
    isplitl [HS27]; · iexact HS27
    isplitl [HS28]; · iexact HS28
    iexists _; iexact HO
  · rw [dif_neg h1]
    iintro ⟨H2, H3, H4, H5, H6, H7, H8, H10, H12, H9, H11, H13, ⟨%f14, H14⟩, ⟨%f15, H15⟩, ⟨%f16, H16⟩, ⟨%f17, H17⟩, ⟨%f18, H18⟩, ⟨%f19, H19⟩, H20, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30, %h30⟩, ⟨%f31, H31, %h31⟩, HS27, HS28, ⟨%W, HO⟩⟩
    iapply (hj2 _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]; · iexact H10
    isplitl [H12]; · iexact H12
    isplitl [H9]; · iexact H9
    isplitl [H11]; · iexact H11
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; isplitl [H30]; (iexact H30); ipureintro; exact (h30 h1)
    isplitl [H31]; · iexists _; isplitl [H31]; (iexact H31); ipureintro; exact (h31 h1)
    isplitl [HS27]; · iexact HS27
    isplitl [HS28]; · iexact HS28
    iexists _; iexact HO

end Cert.Kernel.Hand
-- ==== Proof.KPrep.lean ====
module

public import proofs.«01_k».proof.Proof.KBody
public import proofs.«01_k».proof.Proof.Gen.Kernel.Skeleton
public import Idealize.ShloMosaic.Lib.Pipeline.Frame
public import Idealize.ShloMosaic.Lib.Tactic
public import Idealize.ShloMosaic.Lib.Transfers

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-- The two transfer semaphores that the kernel owns, by their numbers in the pool. -/
abbrev osem0 : Fin 2 → SemLoc sig := fun j => (![SemLoc.dma 27, SemLoc.dma 28] : Fin 2 → SemLoc sig) j
/-- They are the kernel's own and distinct. -/
theorem ownSemFacts0 : Pipeline.OwnSemFacts spec0 osem0 := by decide
/-- The two of them conjoined. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 27) 0 ∗ semVal ((c : Thread nD τ), SemLoc.dma 28) 0) := by
  rw [Pipeline.ownSems0_eq_of_list c osem0 [0, 1] (by decide) (by decide)]; rfl
/-- The two arrays left in HBM that the kernel copies from. -/
def H0 : Finset (Ref sig .tc) := {main_v0, main_arg6}
/-- No window stages them. -/
theorem H0_sub : H0 ⊆ Pipeline.restRefs sig spec0 := by decide
/-- The two of them conjoined. -/
theorem hbmPts0_eq (c : Dev nD) :
    (bigSep H0 (fun b => ((c : Thread nD τ).loc b) ↦{fullShare} V m c b) : sProp 𝕄) = iprop(pt c w9 (V m c main_v0) ∗ pt c w11 (V m c main_arg6)) := by
  rw [BI.bigSep_eq_bigSepL_of_eq [main_v0, main_arg6] (by decide) (by decide)]; rfl

/-- What the weight scratch holds before point `t`. -/
def inv20 (c : Dev nD) (t : ℕ) (f : Buf (Elt F) (w20.view.loc (c : Thread nD τ))) : Prop := True

/-- What is kept from point to point: the arrays in HBM, the scratch buffers (the two tables of segment numbers bounded
    once the first point has filled them), the two semaphores at zero. -/
def Inv (c : Dev nD) (t : ℕ) : sProp 𝕄 :=
  iprop((∃ r, prngReg c r) ∗ pt c w9 (V m c main_v0) ∗ pt c w11 (V m c main_arg6)
    ∗ (∃ f : Buf (Elt F) (w20.view.loc (c : Thread nD τ)), pt c w20 f ∗ ⌜inv20 c t f⌝)
    ∗ ex (F := F) c w21 ∗ ex (F := F) c w22 ∗ ex (F := F) c w23 ∗ ex (F := F) c w24 ∗ ex (F := F) c w25 ∗ ex (F := F) c w26 ∗ ex (F := F) c w27 ∗ ex (F := F) c w28 ∗ ex (F := F) c w29
    ∗ (∃ f : Buf (Elt F) (w30.view.loc (c : Thread nD τ)), pt c w30 f ∗ ⌜0 < t → bnd w30 192 f⌝) ∗ (∃ f : Buf (Elt F) (w31.view.loc (c : Thread nD τ)), pt c w31 f ∗ ⌜0 < t → bnd w31 192 f⌝)
    ∗ semVal ((c : Thread nD τ), SemLoc.dma 27) 0 ∗ semVal ((c : Thread nD τ), SemLoc.dma 28) 0)

/-- The launch hands the invariant over. -/
theorem inv_in (c : Dev nD) : Pipeline.ΦD osem0 spec0 H0 (V m) c ⊢ Inv m c 0 := by
  rw [Pipeline.ΦD_eq, scopedRest0_eq, ownSems00_eq, hbmPts0_eq]
  unfold Inv
  iintro ⟨⟨H20, H21, H22, H23, H24, H25, H26, H27, H28, H29, H30, H31⟩, Hr, ⟨HS27, HS28⟩, H9, H11⟩
  icases H20 with ⟨%f20, H20⟩
  icases H30 with ⟨%f30, H30⟩
  icases H31 with ⟨%f31, H31⟩
  isplitl [Hr]; · iexact Hr
  isplitl [H9]; · iexact H9
  isplitl [H11]; · iexact H11
  isplitl [H20]; · iexists f20; isplitl [H20]; (iexact H20); ipureintro; trivial
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexists f30; isplitl [H30]; (iexact H30); ipureintro; intro h; exact absurd h (by omega)
  isplitl [H31]; · iexists f31; isplitl [H31]; (iexact H31); ipureintro; intro h; exact absurd h (by omega)
  isplitl [HS27]; · iexact HS27
  iexact HS28

/-- The invariant gives back what the launch handed over. -/
theorem inv_out (c : Dev nD) (t : ℕ) : Inv m c t ⊢ Pipeline.ΦD osem0 spec0 H0 (V m) c := by
  rw [Pipeline.ΦD_eq, scopedRest0_eq, ownSems00_eq, hbmPts0_eq]
  unfold Inv
  iintro ⟨Hr, H9, H11, ⟨%f20, H20, %h20⟩, H21, H22, H23, H24, H25, H26, H27, H28, H29, ⟨%f30, H30, %h30⟩, ⟨%f31, H31, %h31⟩, HS27, HS28⟩
  isplitl [H20 H21 H22 H23 H24 H25 H26 H27 H28 H29 H30 H31]
  · isplitl [H20]; · iexists f20; iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexists f30; iexact H30
    iexists f31; iexact H31
  isplitl [Hr]; · iexact Hr
  isplitl [HS27 HS28]
  · isplitl [HS27]; · iexact HS27
    iexact HS28
  isplitl [H9]; · iexact H9
  iexact H11

/-- The windows of which nothing is said. -/
def forgets0 : Fin 16 → Bool := fun w => decide (9 ≤ w.val)

/-- The data of the pipeline's run on core `c`. -/
def dats (_ : Fin 1) (c : Dev nD) : Dat τ (Elt F) Unit ℕ (Pipeline.UD sig nD τ) ℕ cfg0 c where
  A w := V m c (Pipeline.arrRef spec0 w)
  after w := match w with
    | 0 => iblk m c 0
    | 1 => iblk m c 1
    | 2 => iblk m c 2
    | 3 => iblk m c 3
    | 4 => iblk m c 4
    | 5 => iblk m c 5
    | 6 => iblk m c 6
    | 7 => iblk m c 7
    | 8 => iblk m c 8
    | 9 => Pipeline.Dat.unnamed (cfg := cfg0) 9
    | 10 => Pipeline.Dat.unnamed (cfg := cfg0) 10
    | 11 => Pipeline.Dat.unnamed (cfg := cfg0) 11
    | 12 => Pipeline.Dat.unnamed (cfg := cfg0) 12
    | 13 => Pipeline.Dat.unnamed (cfg := cfg0) 13
    | 14 => Pipeline.Dat.unnamed (cfg := cfg0) 14
    | 15 => Pipeline.Dat.unnamed (cfg := cfg0) 15
    | ⟨_ + 16, h⟩ => absurd h (Nat.not_lt.2 (Nat.le_add_left _ _))
  Φ t := Inv m c t.val
  q _ := fullShare
  owed _ := 0

/-- The arrays are those the region finds. -/
theorem A_eq (c : Dev nD) (w : Fin cfg0.W) : (dats m 0 c).A w = V m c (Pipeline.arrRef spec0 w) := by dsimp only [dats]
/-- Input window 0 holds its block at every point. -/
theorem bef_0 (c : Dev nD) (t : Fin cfg0.N) (d) : (dats m 0 c).before 0 t d = iblk m c 0 t :=
  ((dats m 0 c).before_in_eq_fetched 0 rfl (fun _ => rfl) (fun _ _ _ => rfl) (fun t => by dsimp only [dats]; unfold Dat.blockOf iblk; rfl) t d).trans
    (by unfold Dat.fetched Dat.blockOf iblk; rfl)
/-- Input window 1 holds its block at every point. -/
theorem bef_1 (c : Dev nD) (t : Fin cfg0.N) (d) : (dats m 0 c).before 1 t d = iblk m c 1 t :=
  ((dats m 0 c).before_in_eq_fetched 1 rfl (fun _ => rfl) (fun _ _ _ => rfl) (fun t => by dsimp only [dats]; unfold Dat.blockOf iblk; rfl) t d).trans
    (by unfold Dat.fetched Dat.blockOf iblk; rfl)
/-- Input window 2 holds its block at every point. -/
theorem bef_2 (c : Dev nD) (t : Fin cfg0.N) (d) : (dats m 0 c).before 2 t d = iblk m c 2 t :=
  ((dats m 0 c).before_in_eq_fetched 2 rfl (fun _ => rfl) (fun _ _ _ => rfl) (fun t => by dsimp only [dats]; unfold Dat.blockOf iblk; rfl) t d).trans
    (by unfold Dat.fetched Dat.blockOf iblk; rfl)
/-- Input window 3 holds its block at every point. -/
theorem bef_3 (c : Dev nD) (t : Fin cfg0.N) (d) : (dats m 0 c).before 3 t d = iblk m c 3 t :=
  ((dats m 0 c).before_in_eq_fetched 3 rfl (fun _ => rfl) (fun _ _ _ => rfl) (fun t => by dsimp only [dats]; unfold Dat.blockOf iblk; rfl) t d).trans
    (by unfold Dat.fetched Dat.blockOf iblk; rfl)
/-- Input window 4 holds its block at every point. -/
theorem bef_4 (c : Dev nD) (t : Fin cfg0.N) (d) : (dats m 0 c).before 4 t d = iblk m c 4 t :=
  ((dats m 0 c).before_in_eq_fetched 4 rfl (fun _ => rfl) (fun _ _ _ => rfl) (fun t => by dsimp only [dats]; unfold Dat.blockOf iblk; rfl) t d).trans
    (by unfold Dat.fetched Dat.blockOf iblk; rfl)
/-- Input window 5 holds its block at every point. -/
theorem bef_5 (c : Dev nD) (t : Fin cfg0.N) (d) : (dats m 0 c).before 5 t d = iblk m c 5 t :=
  ((dats m 0 c).before_in_eq_fetched 5 rfl (fun _ => rfl) (fun _ _ _ => rfl) (fun t => by dsimp only [dats]; unfold Dat.blockOf iblk; rfl) t d).trans
    (by unfold Dat.fetched Dat.blockOf iblk; rfl)
/-- Input window 6 holds its block at every point. -/
theorem bef_6 (c : Dev nD) (t : Fin cfg0.N) (d) : (dats m 0 c).before 6 t d = iblk m c 6 t :=
  ((dats m 0 c).before_in_eq_fetched 6 rfl (fun _ => rfl) (fun _ _ _ => rfl) (fun t => by dsimp only [dats]; unfold Dat.blockOf iblk; rfl) t d).trans
    (by unfold Dat.fetched Dat.blockOf iblk; rfl)
/-- Input window 7 holds its block at every point. -/
theorem bef_7 (c : Dev nD) (t : Fin cfg0.N) (d) : (dats m 0 c).before 7 t d = iblk m c 7 t :=
  ((dats m 0 c).before_in_eq_fetched 7 rfl (fun _ => rfl) (fun _ _ _ => rfl) (fun t => by dsimp only [dats]; unfold Dat.blockOf iblk; rfl) t d).trans
    (by unfold Dat.fetched Dat.blockOf iblk; rfl)
/-- Input window 8 holds its block at every point. -/
theorem bef_8 (c : Dev nD) (t : Fin cfg0.N) (d) : (dats m 0 c).before 8 t d = iblk m c 8 t :=
  ((dats m 0 c).before_in_eq_fetched 8 rfl (fun _ => rfl) (fun _ _ _ => rfl) (fun t => by dsimp only [dats]; unfold Dat.blockOf iblk; rfl) t d).trans
    (by unfold Dat.fetched Dat.blockOf iblk; rfl)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ X, owns (c : Thread nD τ) (st0_9 t) fullShare X)
    ∗ (∃ X, owns (c : Thread nD τ) (st0_10 t) fullShare X)
    ∗ (∃ X, owns (c : Thread nD τ) (st0_11 t) fullShare X)
    ∗ (∃ X, owns (c : Thread nD τ) (st0_12 t) fullShare X)
    ∗ (∃ X, owns (c : Thread nD τ) (st0_13 t) fullShare X)
    ∗ (∃ X, owns (c : Thread nD τ) (st0_14 t) fullShare X)
    ∗ (∃ X, owns (c : Thread nD τ) (st0_15 t) fullShare X))
/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ X, owns (c : Thread nD τ) (st0_9 t) fullShare X)
    ∗ (∃ X, owns (c : Thread nD τ) (st0_10 t) fullShare X)
    ∗ (∃ X, owns (c : Thread nD τ) (st0_11 t) fullShare X)
    ∗ (∃ X, owns (c : Thread nD τ) (st0_12 t) fullShare X)
    ∗ (∃ X, owns (c : Thread nD τ) (st0_13 t) fullShare X)
    ∗ (∃ X, owns (c : Thread nD τ) (st0_14 t) fullShare X)
    ∗ (∃ X, owns (c : Thread nD τ) (st0_15 t) fullShare X))

/-- The first point is where the tables are filled. -/
theorem cond1_zero : ∀ t : Fin cfg0.N, k0_cond1 (grid0.coords t) ≠ 1#1 → 0 < t.val := by decide

/-- A window's block reads entries of its array. -/
theorem read_lt {sp : Space} {S : Shape} (c : Dev nD) (M : Memref sig .tc sp S .i32) (f : Buf (Elt F) (M.view.loc (c : Thread nD τ))) (X)
    (h : M.view.read (Elt F) f = X) (hX : ∀ x, (show BitVec 32 from X x).toInt < (24 : ℕ)) :
    ∀ x, (show BitVec 32 from M.view.read (Elt F) f x).toInt < (24 : ℕ) := by subst h; exact hX

end Cert.Kernel.Hand
-- ==== Proof.KLaunch.lean ====
module

public import proofs.«01_k».proof.Proof.KPrep
public import proofs.«01_k».proof.Proof.Gen.Kernel.Skeleton
public import Idealize.ShloMosaic.Lib.Pipeline.Frame
public import Idealize.ShloMosaic.Lib.Tactic
public import Idealize.ShloMosaic.Lib.Transfers

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-- A staging buffer held at contents is the points-to of its whole buffer. -/
theorem owns_pt {sp : Space} {S : Shape} {e : EltTy} (c : Dev nD) (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns; rw [h.set_eq_univ]

variable (hadp : ∀ (c : Dev nD) x, (show BitVec 32 from V m c main_arg10 x).toInt < (24 : ℕ))
include hadp
/-- The block of the segments' adapters is in range. -/
theorem iblk1_lt (c : Dev nD) (t : Fin cfg0.N) : ∀ x, (show BitVec 32 from iblk m c 1 t x).toInt < (24 : ℕ) := fun x => by
  unfold iblk
  exact hadp c _

set_option maxHeartbeats 4000000 in
/-- The body at a point: the invariant opened, the body run, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = Inv m c (t.val + 1) from rfl,
    show (dats m 0 c).owesAt () t.succ = (dats m 0 c).owesAt () t.castSucc from rfl,
    show (dats m 0 c).Φ t.castSucc = Inv m c t.val from rfl]
  simp only [bef_0, bef_1, bef_2, bef_3, bef_4, bef_5, bef_6, bef_7, bef_8]
  have o0 := owns_pt (F := F) c (st0_0 t) (hstage0_0 ((cfg0.slots t 0).cast nbuf0_0))
  have o1 := owns_pt (F := F) c (st0_1 t) (hstage0_1 ((cfg0.slots t 1).cast nbuf0_1))
  have o2 := owns_pt (F := F) c (st0_2 t) (hstage0_2 ((cfg0.slots t 2).cast nbuf0_2))
  have o3 := owns_pt (F := F) c (st0_3 t) (hstage0_3 ((cfg0.slots t 3).cast nbuf0_3))
  have o4 := owns_pt (F := F) c (st0_4 t) (hstage0_4 ((cfg0.slots t 4).cast nbuf0_4))
  have o5 := owns_pt (F := F) c (st0_5 t) (hstage0_5 ((cfg0.slots t 5).cast nbuf0_5))
  have o6 := owns_pt (F := F) c (st0_6 t) (hstage0_6 ((cfg0.slots t 6).cast nbuf0_6))
  have o7 := owns_pt (F := F) c (st0_7 t) (hstage0_7 ((cfg0.slots t 7).cast nbuf0_7))
  have o8 := owns_pt (F := F) c (st0_8 t) (hstage0_8 ((cfg0.slots t 8).cast nbuf0_8))
  have o9 := owns_pt (F := F) c (st0_9 t) (hstage0_9 ((cfg0.slots t 9).cast nbuf0_9))
  have o10 := owns_pt (F := F) c (st0_10 t) (hstage0_10 ((cfg0.slots t 10).cast nbuf0_10))
  have o11 := owns_pt (F := F) c (st0_11 t) (hstage0_11 ((cfg0.slots t 11).cast nbuf0_11))
  have o12 := owns_pt (F := F) c (st0_12 t) (hstage0_12 ((cfg0.slots t 12).cast nbuf0_12))
  have o13 := owns_pt (F := F) c (st0_13 t) (hstage0_13 ((cfg0.slots t 13).cast nbuf0_13))
  have o14 := owns_pt (F := F) c (st0_14 t) (hstage0_14 ((cfg0.slots t 14).cast nbuf0_14))
  have o15 := owns_pt (F := F) c (st0_15 t) (hstage0_15 ((cfg0.slots t 15).cast nbuf0_15))
  simp only [o0, o1, o2, o3, o4, o5, o6, o7, o8, o9, o10, o11, o12, o13, o14, o15]
  unfold Inv Dat.owesAt Pipeline.owesWithin bodyAt0
  rw [show (dats m 0 c).owed t.castSucc = 0 from rfl]
  iintro ⟨⟨Hr, H9, H11, ⟨%f20, H20, %h20⟩, H21, H22, H23, H24, H25, H26, H27, H28, H29, ⟨%f30, H30, %h30⟩, ⟨%f31, H31, %h31⟩, HS27, HS28⟩, ⟨%W, %hW, HO⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d10, %f10, %e10, H10⟩, ⟨%d12, %f12, %e12, H12⟩, ⟨%d13, %f13, %e13, H13⟩, ⟨%d14, %f14, %e14, H14⟩, ⟨%d15, %f15, %e15, H15⟩, ⟨%d16, %f16, %e16, H16⟩, ⟨%d17, %f17, %e17, H17⟩, ⟨%d18, %f18, %e18, H18⟩, ⟨%d19, %f19, %e19, H19⟩⟩
  have had := read_lt c (st0_1 t) f3 (iblk m c 1 t) e3 (iblk1_lt m hadp c t)
  have hrun := body_run (F := F) (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15))
    c f2 f3 f4 f5 f6 f7 f8 f10 f12 (V m c main_v0) (V m c main_arg6) f13 f20
    had (fun _ => True) (fun _ => True) (fun _ => trivial) (fun _ => trivial) (fun _ _ => trivial) (fun _ _ => trivial)
  iapply (wp_wand_r frame (wpE (defs₀ (F := F)) Variants.none (c : Thread nD τ) none) Set.univ)
  isplitl [H2 H3 H4 H5 H6 H7 H8 H9 H10 H11 H12 H13 H14 H15 H16 H17 H18 H19 H20 H21 H22 H23 H24 H25 H26 H27 H28 H29 H30 H31 HS27 HS28 HO]
  · iapply hrun
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]; · iexact H10
    isplitl [H12]; · iexact H12
    isplitl [H9]; · iexact H9
    isplitl [H11]; · iexact H11
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexists f30; isplitl [H30]; (iexact H30); ipureintro; exact fun h => h30 (cond1_zero t h)
    isplitl [H31]; · iexists f31; isplitl [H31]; (iexact H31); ipureintro; exact fun h => h31 (cond1_zero t h)
    isplitl [HS27]; · iexact HS27
    isplitl [HS28]; · iexact HS28
    iexists W; iexact HO
  iintro %a ⟨H2, H3, H4, H5, H6, H7, H8, H10, H12, H9, H11, ⟨%g13, H13, %h13⟩, ⟨%g14, H14⟩, ⟨%g15, H15⟩, ⟨%g16, H16⟩, ⟨%g17, H17⟩, ⟨%g18, H18⟩, ⟨%g19, H19⟩, ⟨%g20, H20, %k20⟩, H21, H22, H23, H24, H25, H26, H27, H28, H29, ⟨%g30, H30, %k30⟩, ⟨%g31, H31, %k31⟩, HS27, HS28, ⟨%W', HO⟩⟩
  isplitl [Hr H9 H11 H20 H21 H22 H23 H24 H25 H26 H27 H28 H29 H30 H31 HS27 HS28]
  · isplitl [Hr]; · iexact Hr
    isplitl [H9]; · iexact H9
    isplitl [H11]; · iexact H11
    isplitl [H20]; · iexists g20; isplitl [H20]; (iexact H20); ipureintro; trivial
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexists g30; isplitl [H30]; (iexact H30); ipureintro; exact fun _ => k30
    isplitl [H31]; · iexists g31; isplitl [H31]; (iexact H31); ipureintro; exact fun _ => k31
    isplitl [HS27]; · iexact HS27
    iexact HS28
  isplitl [HO]
  · iexists W'; isplitr; · ipureintro; exact fun _ _ => Or.inl trivial
    iexact HO
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists f5; isplitr; swap; · iexact H5
    ipureintro; exact e5
  isplitl [H6]
  · iexists f6; isplitr; swap; · iexact H6
    ipureintro; exact e6
  isplitl [H7]
  · iexists f7; isplitr; swap; · iexact H7
    ipureintro; exact e7
  isplitl [H8]
  · iexists f8; isplitr; swap; · iexact H8
    ipureintro; exact e8
  isplitl [H10]
  · iexists f10; isplitr; swap; · iexact H10
    ipureintro; exact e10
  isplitl [H12]
  · iexists f12; isplitr; swap; · iexact H12
    ipureintro; exact e12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

omit hadp in
/-- The body table's row at a point is the body. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) :
    BodyObligation (dats (F := F) m 0 c) (defs₀ (F := F)) Variants.none () Set.univ forgets0 := fun t => by
  rw [bigSep_W0, bigSep_W0, defs₀_row]
  exact triple_restated (sound_body m hadp c t) rfl .rfl fun _ => .rfl

omit hadp in
/-- The host operations up to the region. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every weakly fair execution ends, with the arrays as the pipeline's data say and the counters at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m hadp c).loose) (hshare := fun c => (dats m 0 c).share_full fun _ => rfl)
    (howed := fun _ _ => rfl) (V := V m) (hmain := hmainD m Variants.none) (hA := A_eq m)
    (hin := fun c => inv_in m c) (hout := fun c => inv_out m c _)

end Cert.Kernel.Hand
-- ==== Proof.KFrame.lean ====
module

public import proofs.«01_k».proof.Proof.KLaunch
public import proofs.«01_k».proof.Proof.Gen.Kernel.Frame

@[expose] public section

set_option maxRecDepth 65536

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F] [∀ e, Nonempty (Elt F e)]
variable (m : (ℓ : Loc nD τ sig) → Buf (Elt F) ℓ) (ρ : Dev nD → PrngReg)

/-- A window that the body only reads ends with the array it began with. -/
theorem in_of (c : Dev nD) (w : Fin cfg0.W) (hw : (cfg0.win w).isOut = false) (hf : forgets0 w = false) (X)
    (h : ((dats m 0 c).toRForget forgets0).ArrAt w cfg0.N X) : X = V m c (Pipeline.arrRef spec0 w) :=
  (((dats m 0 c).toRForget_arrAt_iff hf cfg0.N X).mp h).trans (((dats m 0 c).arrAt_in w hw _).trans (A_eq m c w))

/-- The arguments at the end of a run are those it began with. -/
theorem args_of (r : PUnit × MemSt nD τ sig (Elt F))
    (h : Pipeline.RDat.FramePost (cfgs 0) (fun c => (dats m 0 c).toRForget forgets0) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨(in_of m c 3 rfl rfl _ ((h c).1 3)).trans (V_main_arg0 m c),
    (in_of m c 4 rfl rfl _ ((h c).1 4)).trans (V_main_arg1 m c),
    (in_of m c 5 rfl rfl _ ((h c).1 5)).trans (V_main_arg2 m c),
    (in_of m c 6 rfl rfl _ ((h c).1 6)).trans (V_main_arg3 m c),
    ((h c).2 main_arg4 (Pipeline.mem_restRefs_of main_arg4 (by decide) (by decide))).trans (V_main_arg4 m c),
    (in_of m c 7 rfl rfl _ ((h c).1 7)).trans (V_main_arg5 m c),
    ((h c).2 main_arg6 (Pipeline.mem_restRefs_of main_arg6 (by decide) (by decide))).trans (V_main_arg6 m c),
    (in_of m c 8 rfl rfl _ ((h c).1 8)).trans (V_main_arg7 m c),
    (in_of m c 2 rfl rfl _ ((h c).1 2)).trans (V_main_arg8 m c),
    (in_of m c 0 rfl rfl _ ((h c).1 0)).trans (V_main_arg9 m c),
    (in_of m c 1 rfl rfl _ ((h c).1 1)).trans (V_main_arg10 m c)⟩

end Cert.Kernel.Hand
-- ==== Proof.KIBase.lean ====
/-
  The kernel's body: what is held between its operations, the side conditions of its checks, and the loop that fills the
  two tables of segment numbers.
-/
module

public import proofs.«01_k».proof.Proof.Gen.KernelIdeal.Frame
public import proofs.«01_k».proof.Proof.Gen.KernelIdeal.Loops
public import Idealize.ShloMosaic.Lib.CellWrites
public import proofs.«01_k».proof.Proof.Gen.KernelIdeal.Skeleton
public import Idealize.ShloMosaic.Lib.Pipeline.Frame
public import Idealize.ShloMosaic.Lib.Tactic
public import Idealize.ShloMosaic.Lib.Transfers

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

/-- A memref's buffer on core `c` held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- A memref's buffer on core `c` held whole at some contents. -/
abbrev ex (c : Dev nD) {sp : Space} {S : Shape} {e : EltTy} (M : Memref sig .tc sp S e) : sProp 𝕄 :=
  iprop(∃ f, pt (F := F) c M f)

/-- The first `n` entries of a table of segment numbers are at most 13. -/
def bnd (M : Memref sig .tc .smem S192 .i32) (n : ℕ) (f : M.view.ty.Contents (Elt F)) : Prop :=
  ∀ y : S192.Idx, (y 0).val < n → (show BitVec 32 from M.view.read (Elt F) f y).toNat ≤ 13

theorem bnd_zero (M : Memref sig .tc .smem S192 .i32) (f : M.view.ty.Contents (Elt F)) : bnd M 0 f :=
  fun _ h => absurd h (Nat.not_lt_zero _)

/-- Writing a number at most 13 at entry `n` carries the bound from the first `n` entries to the first `n + 1`. -/
theorem bnd_succ (M : Memref sig .tc .smem S192 .i32) (n : ℕ) (f : M.view.ty.Contents (Elt F)) (off : Fin 1 → ℕ)
    (inb : ∀ a, off a + S1.size a ≤ S192.size a) (hoff : off 0 = n) (p : Elt F .i32) (hp : (show BitVec 32 from p).toNat ≤ 13)
    (h : bnd M n f) :
    bnd M (n + 1) (M.view.writes (Elt F) f [⟨Rect.unit (s := S192) off S1.size inb, fun _ => p⟩]) := by
  intro y hy
  have e' : M.view.read (Elt F) (M.view.writes (Elt F) f [⟨Rect.unit (s := S192) off S1.size inb, fun _ => p⟩]) y
      = if (y 0).val = off 0 then p else M.view.read (Elt F) f y :=
    View.read_writes_cons_cell (d := ![192]) M.view f inb p [] y
  rw [e']
  by_cases hy' : (y 0).val = off 0
  · rw [if_pos hy']; exact hp
  · rw [if_neg hy']; exact h y (by omega)

theorem bnd_get {M : Memref sig .tc .smem S192 .i32} {n : ℕ} {f : M.view.ty.Contents (Elt F)} (h : bnd M n f) (y : S192.Idx) (hy : (y 0).val < n) :
    (show BitVec 32 from M.view.read (Elt F) f y).toNat ≤ 13 := h y hy

attribute [irreducible] bnd

/-- Adding one truth value to a count at most `n` gives a count at most `n + 1`. -/
theorem cnt_succ {a : BitVec 32} {b : BitVec 1} {n : ℕ} (hn : n < 100) (h : a.toNat ≤ n) :
    (Scalar.addi a (Scalar.extui b)).toNat ≤ n + 1 := by
  have hb : (Scalar.extui b : BitVec 32).toNat ≤ 1 := by
    show (BitVec.setWidth 32 b).toNat ≤ 1
    rw [BitVec.toNat_setWidth]
    have := b.isLt
    have h2 := Nat.mod_le b.toNat (2 ^ 32)
    omega
  have e : (Scalar.addi a (Scalar.extui b)).toNat = (a.toNat + (Scalar.extui b : BitVec 32).toNat) % 2 ^ 32 := BitVec.toNat_add _ _
  rw [e, Nat.mod_eq_of_lt (by omega)]
  omega

theorem cnt_zero : (0#32).toNat ≤ 0 := by decide

/-! ## The side conditions the body assumes -/

theorem maxsi_toNat_lt {v : BitVec 32} {n : ℕ} (hn : 0 < n) (h : v.toInt < n) : (Scalar.maxsi v 0#32).toNat < n := by
  show (if (0#32).slt v then v else 0#32).toNat < n
  by_cases hv : (0#32).slt v
  · rw [if_pos hv]
    have h0 : 0 < v.toInt := by rw [BitVec.slt_eq_decide] at hv; simpa using hv
    have := BitVec.toInt_eq_toNat_cond v
    split at this <;> omega
  · rw [if_neg hv]; exact hn

variable (i : grid0.Coords)

/-- A number below 24 addresses a slab of both low-rank weight arrays, and each slab's rows are taken whole. -/
theorem chk_copy {v : BitVec 32} (h : v.toInt < (24 : ℕ)) :
    (∀ (k0_h1 : k0_cond1 i = 1#1), ∀ a, (![(Scalar.maxsi v 0#32).toNat, 0, 0] : Fin 3 → ℕ) a + S1x32x2048.size a ≤ S24x32x2048.size a) ∧
    (∀ (k0_h1 : k0_cond1 i = 1#1), ∀ (hinb : ∀ a, (![(Scalar.maxsi v 0#32).toNat, 0, 0] : Fin 3 → ℕ) a + S1x32x2048.size a ≤ S24x32x2048.size a), (Rect.unit (s := S24x32x2048) ![(Scalar.maxsi v 0#32).toNat, 0, 0] S1x32x2048.size hinb).WholeWords (EltTy.packing .fp8e4m3)) ∧
    (∀ (k0_h1 : k0_cond1 i = 1#1), ∀ a, (![(Scalar.maxsi v 0#32).toNat, 0, 0] : Fin 3 → ℕ) a + S1x32x8192.size a ≤ S24x32x8192.size a) ∧
    (∀ (k0_h1 : k0_cond1 i = 1#1), ∀ (hinb : ∀ a, (![(Scalar.maxsi v 0#32).toNat, 0, 0] : Fin 3 → ℕ) a + S1x32x8192.size a ≤ S24x32x8192.size a), (Rect.unit (s := S24x32x8192) ![(Scalar.maxsi v 0#32).toNat, 0, 0] S1x32x8192.size hinb).WholeWords (EltTy.packing .fp8e4m3)) := by
  have hm := maxsi_toNat_lt (by decide : 0 < 24) h
  generalize (Scalar.maxsi v 0#32).toNat = k at hm
  refine ⟨fun _ a => ?_, fun _ hinb => ?_, fun _ a => ?_, fun _ hinb => ?_⟩
  · fin_cases a
    · show k + 1 ≤ 24; omega
    · show 0 + 32 ≤ 32; omega
    · show 0 + 2048 ≤ 2048; omega
  · exact Or.inr ⟨(by decide), rfl, rfl, rfl⟩
  · fin_cases a
    · show k + 1 ≤ 24; omega
    · show 0 + 32 ≤ 32; omega
    · show 0 + 8192 ≤ 8192; omega
  · exact Or.inr ⟨(by decide), rfl, rfl, rfl⟩

/-- A number below 24 addresses a row of the low-rank scales and an entry of the per-adapter scale. -/
theorem chk_row {v : BitVec 32} (h : v.toInt < (24 : ℕ)) :
    (∀ (k0_h1 : k0_cond1 i = 1#1), ∀ a, (![(Scalar.maxsi v 0#32).toNat, 0] : Fin 2 → ℕ) a + S1x8192.size a ≤ S24x8192.size a) ∧
    (∀ (k0_h1 : k0_cond1 i = 1#1), ∀ a, (![(Scalar.maxsi v 0#32).toNat] : Fin 1 → ℕ) a + S1.size a ≤ S24.size a) := by
  have hm := maxsi_toNat_lt (by decide : 0 < 24) h
  generalize (Scalar.maxsi v 0#32).toNat = k at hm
  refine ⟨fun _ a => ?_, fun _ a => ?_⟩
  · fin_cases a
    · show k + 1 ≤ 24; omega
    · show 0 + 8192 ≤ 8192; omega
  · fin_cases a
    show k + 1 ≤ 24; omega

/-- A number below 24 addresses a row of the other low-rank scales. -/
theorem chk_rowA {v : BitVec 32} (h : v.toInt < (24 : ℕ)) :
    (∀ (k0_h1 : k0_cond1 i = 1#1), ∀ a, (![(Scalar.maxsi v 0#32).toNat, 0] : Fin 2 → ℕ) a + S1x32.size a ≤ S24x32.size a) := by
  have hm := maxsi_toNat_lt (by decide : 0 < 24) h
  generalize (Scalar.maxsi v 0#32).toNat = k at hm
  intro _ a
  fin_cases a
  · show k + 1 ≤ 24; omega
  · show 0 + 32 ≤ 32; omega

theorem cols_toNat : (Scalar.muli (BitVec.ofNat 32 (i 1).val) 1024#32).toNat = (i 1).val * 1024 := by
  have h : (i 1).val < 8 := (i 1).isLt
  show (BitVec.ofNat 32 (i 1).val * 1024#32).toNat = _
  rw [BitVec.toNat_mul, BitVec.toNat_ofNat]
  show ((i 1).val % 2 ^ 32 * 1024) % 2 ^ 32 = _
  omega

/-- A segment number at most 13 addresses a row of the segments' scales. -/
theorem chk_lo {v : BitVec 32} (h : v.toNat ≤ 13) :
    (∀ (k0_h6 : k0_cond6 i = 1#1), ∀ a, (![v.toNat, (Scalar.muli (BitVec.ofNat 32 (i 1).val) 1024#32).toNat] : Fin 2 → ℕ) a + S1x1024.size a ≤ S16x8192.size a) := by
  rw [cols_toNat]
  have h8 : (i 1).val < 8 := (i 1).isLt
  intro _ a
  fin_cases a
  · show v.toNat + 1 ≤ 16; omega
  · show (i 1).val * 1024 + 1024 ≤ 8192; omega

/-- It also addresses an entry of the segments' starts. -/
theorem chk_hi {v : BitVec 32} (h : v.toNat ≤ 13) :
    (∀ (k0_h6 : k0_cond6 i = 1#1), ∀ a, (![v.toNat] : Fin 1 → ℕ) a + S1.size a ≤ S15.size a) ∧
    (∀ (k0_h6 : k0_cond6 i = 1#1), ∀ a, (![v.toNat, (Scalar.muli (BitVec.ofNat 32 (i 1).val) 1024#32).toNat] : Fin 2 → ℕ) a + S1x1024.size a ≤ S16x8192.size a) := by
  refine ⟨fun _ a => ?_, chk_lo i h⟩
  fin_cases a
  show v.toNat + 1 ≤ 15; omega

theorem chk_test (v : BitVec 32) (h : v.toInt < (24 : ℕ)) : k0_chk5 i v ∧ k0_chk16 i v ∧ k0_chk37 i v := ⟨chk_copy i h, chk_row i h, chk_rowA i h⟩
theorem chk_test' (v : BitVec 32) (h : v.toNat ≤ 13) : k0_chk59 i v ∧ k0_chk60 i v := ⟨chk_hi i h, chk_lo i h⟩

variable (arg2 : Memref sig .tc .smem S15 .i32) (harg2 : arg2.IsWhole) (arg3 : Memref sig .tc .smem S14 .i32) (harg3 : arg3.IsWhole) (arg4 : Memref sig .tc .smem S24 .f32) (harg4 : arg4.IsWhole) (arg5 : Memref sig .tc .vmem S256x2048 .bf16) (harg5 : arg5.IsWhole) (arg6 : Memref sig .tc .vmem S2048x128 .i32) (harg6 : arg6.IsWhole) (arg7 : Memref sig .tc .vmem S16x128 .i32) (harg7 : arg7.IsWhole) (arg8 : Memref sig .tc .vmem S16x1024 .f32) (harg8 : arg8.IsWhole) (arg9 : Memref sig .tc .hbm S24x32x2048 .fp8e4m3) (harg9 : arg9.IsWhole) (arg10 : Memref sig .tc .vmem S24x32 .f32) (harg10 : arg10.IsWhole) (arg11 : Memref sig .tc .hbm S24x32x8192 .fp8e4m3) (harg11 : arg11.IsWhole) (arg12 : Memref sig .tc .vmem S24x8192 .f32) (harg12 : arg12.IsWhole) (arg13 : Memref sig .tc .vmem S256x1024 .bf16) (harg13 : arg13.IsWhole) (arg14 : Memref sig .tc .vmem S32x256 .f32) (harg14 : arg14.IsWhole) (arg15 : Memref sig .tc .vmem S256x1024 .f32) (harg15 : arg15.IsWhole) (arg16 : Memref sig .tc .vmem S32x256 .fp8e4m3) (harg16 : arg16.IsWhole) (arg17 : Memref sig .tc .vmem S1x256 .f32) (harg17 : arg17.IsWhole) (arg18 : Memref sig .tc .vmem S256x1024 .fp8e4m3) (harg18 : arg18.IsWhole) (arg19 : Memref sig .tc .vmem S1x256 .f32) (harg19 : arg19.IsWhole) (arg20 : Memref sig .tc .vmem S2048x8192 .bf16) (harg20 : arg20.IsWhole) (arg21 : Memref sig .tc .vmem S256x8192 .f32) (harg21 : arg21.IsWhole) (arg22 : Memref sig .tc .vmem S512x8192 .fp8e4m3) (harg22 : arg22.IsWhole) (arg23 : Memref sig .tc .vmem S512x2048 .fp8e4m3) (harg23 : arg23.IsWhole) (arg24 : Memref sig .tc .vmem S16x8192 .f32) (harg24 : arg24.IsWhole) (arg25 : Memref sig .tc .vmem S8x512 .f32) (harg25 : arg25.IsWhole) (arg26 : Memref sig .tc .vmem S256x512 .fp8e4m3) (harg26 : arg26.IsWhole) (arg27 : Memref sig .tc .vmem S256x128 .f32) (harg27 : arg27.IsWhole) (arg28 : Memref sig .tc .vmem S256x128 .f32) (harg28 : arg28.IsWhole) (arg29 : Memref sig .tc .vmem S256x128 .f32) (harg29 : arg29.IsWhole) (arg30 : Memref sig .tc .smem S192 .i32) (harg30 : arg30.IsWhole) (arg31 : Memref sig .tc .smem S192 .i32) (harg31 : arg31.IsWhole) (arg32 : DmaSems sig S2)

set_option maxHeartbeats 0 in
include harg2 harg30 harg31 in
/-- One trip of the loop over groups of eight rows: both tables get an entry at most 13. -/
theorem trip (c : Dev nD) (k0_h1 : k0_cond1 i = 1#1) (k : Fin k0_t1_loop.trips)
   (f2 : Buf (Elt F) (arg2.view.loc (c : Thread nD τ))) (f30 : Buf (Elt F) (arg30.view.loc (c : Thread nD τ))) (f31 : Buf (Elt F) (arg31.view.loc (c : Thread nD τ)))
   (h30 : bnd arg30 k.val f30) (h31 : bnd arg31 k.val f31) :
    iprop(pt c arg2 f2 ∗ pt c arg30 f30 ∗ pt c arg31 f31)
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 k0_h1 k PUnit.unit)
          (fun _ => iprop(pt c arg2 f2 ∗ (∃ f, pt c arg30 f ∗ ⌜bnd arg30 (k.val + 1) f⌝) ∗ (∃ f, pt c arg31 f ∗ ⌜bnd arg31 (k.val + 1) f⌝))) := by
  have hk : k.val < 192 := Nat.lt_of_lt_of_le k.isLt k0_t1_abs.2.1
  have hoff : k0_off73 k 0 = k.val := by
    show (Scf.iv 0#32 1#32 k.val).toNat = k.val
    show (0#32 + BitVec.ofNat 32 k.val * 1#32).toNat = k.val
    simp only [BitVec.zero_add, BitVec.mul_one, BitVec.toNat_ofNat]
    omega
  unfold k0_t1_body
  iintro ⟨H2, H30, H31⟩
  sl_exec
  sl_step
  isplitl [H2]; · iexact H2
  isplitl [H30]
  · iexists _; isplitl [H30]; · iexact H30
    ipureintro
    refine bnd_succ arg30 k.val f30 _ _ hoff _ ?_ h30
    iterate 13 refine cnt_succ (by decide) ?_
    exact cnt_zero
  · iexists _; isplitl [H31]; · iexact H31
    ipureintro
    refine bnd_succ arg31 k.val f31 _ _ hoff _ ?_ h31
    iterate 13 refine cnt_succ (by decide) ?_
    exact cnt_zero

set_option warn.classDefReducibility false in
/-- The loop by its invariant: before trip `k` the first `k` entries of both tables are at most 13. -/
@[sl_loop] def loopInv (c : Dev nD) (k0_h1 : k0_cond1 i = 1#1) (f2 : Buf (Elt F) (arg2.view.loc (c : Thread nD τ))) :
    LoopInvTy_k0_t1 (F := F) Unit ℕ (Pipeline.UD sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 k0_h1 where
  inv k _ := iprop(pt c arg2 f2 ∗ (∃ f, pt c arg30 f ∗ ⌜bnd arg30 k f⌝) ∗ (∃ f, pt c arg31 f ∗ ⌜bnd arg31 k f⌝))
  step k acc := by
    iintro ⟨H2, ⟨%f30, H30, %h30⟩, ⟨%f31, H31, %h31⟩⟩
    iapply (trip i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 c k0_h1 k f2 f30 f31 h30 h31)
    isplitl [H2]; · iexact H2
    isplitl [H30]; · iexact H30
    iexact H31

end Cert.KernelIdeal.Hand
end
-- ==== Proof.KITile.lean ====
/-
  The dequantised weight tile: what the kernel stores into the weight scratch at one column chunk of a block and one
  group of rows, written once for every chunk and group, and the list of a point's 128 stores.
-/
module

public import proofs.«01_k».proof.Proof.KIBase

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The lane each lane of the 64 rows gathers from: `16 j + lane / 8 + 64 (lane % 2)`. -/
def gath64 (j : ℕ) : IVec S64x128 32 :=
  addi (addi (broadcast S64x128 (BitVec.ofNat 32 (16 * j))) (shrsi (iota .tc S64x128 32 [1] iota_S64x128_d1_w32) (broadcast S64x128 3#32)))
    (muli (broadcast S64x128 64#32) (andi (iota .tc S64x128 32 [1] iota_S64x128_d1_w32) (broadcast S64x128 1#32)))
/-- The same for the 16 rows of zero points. -/
def gath16 (j : ℕ) : IVec S16x128 32 :=
  addi (addi (broadcast S16x128 (BitVec.ofNat 32 (16 * j))) (shrsi (iota .tc S16x128 32 [1] iota_S16x128_d1_w32) (broadcast S16x128 3#32)))
    (muli (broadcast S16x128 64#32) (andi (iota .tc S16x128 32 [1] iota_S16x128_d1_w32) (broadcast S16x128 1#32)))
/-- The gather's index, a negative one counted from the end, 64 rows. -/
def gix64 (j : ℕ) : IVec S64x128 32 :=
  shapeCast S64x128 (shapeCast S64x128x1 (select (cmpi .slt (gath64 j) (broadcast S64x128 0#32)) (addi (gath64 j) (broadcast S64x128 128#32)) (gath64 j)) shapeCasts_S64x128_S64x128x1) shapeCasts_S64x128x1_S64x128
/-- The same, 16 rows. -/
def gix16 (j : ℕ) : IVec S16x128 32 :=
  shapeCast S16x128 (shapeCast S16x128x1 (select (cmpi .slt (gath16 j) (broadcast S16x128 0#32)) (addi (gath16 j) (broadcast S16x128 128#32)) (gath16 j)) shapeCasts_S16x128_S16x128x1) shapeCasts_S16x128x1_S16x128

/-- The low halves of the words of an even row and the next row, side by side. -/
def halfLo (A B : IVec S64x128 32) : IVec S64x128 32 := ori (andi A (broadcast S64x128 65535#32)) (shli B (broadcast S64x128 16#32))
/-- Their high halves. -/
def halfHi (A B : IVec S64x128 32) : IVec S64x128 32 := ori (shrui A (broadcast S64x128 16#32)) (andi B (broadcast S64x128 4294901760#32))
/-- Whether the lane is below 64. -/
def low64 : IVec S64x128 1 := cmpi .slt (iota .tc S64x128 32 [1] iota_S64x128_d1_w32) (broadcast S64x128 64#32)

/-- Low halves in one half of the lanes and high halves in the other, of the first 64 words (`false`) or the last (`true`). -/
def src64 (h : Bool) (A B : IVec S64x128 32) : IVec S64x128 32 :=
  cond h (select low64 (dynamicRotate 1 64#32 none (halfLo A B) rotates_S64x128_d1) (halfHi A B))
    (select low64 (halfLo A B) (dynamicRotate 1 64#32 none (halfHi A B) rotates_S64x128_d1))
/-- The same of the zero points' words. -/
def src16 (h : Bool) (Z : Vec F S16x128 .i32) : IVec S16x128 32 := cond h (k0_pay87 (F := F) Z) (k0_pay86 (F := F) Z)

/-- The zero points of chunk `k`, as the bits of a pair of 128 + zero point. -/
def zero16 (k : ℕ) (Z : Vec F S16x128 .i32) : IVec S16x128 32 :=
  ori (ori (andi (shrui (dynamicGather 1 (src16 (F := F) (decide (4 ≤ k)) Z) (gix16 (k % 4))) k0_pay88) (broadcast S16x128 15#32))
    (shli (andi (shrui (dynamicGather 1 (src16 (F := F) (decide (4 ≤ k)) Z) (gix16 (k % 4))) k0_pay88) (broadcast S16x128 15#32)) (broadcast S16x128 16#32)))
    (broadcast S16x128 1124090624#32)
/-- The codes of chunk `k`, as the bits of a pair of 128 + code. -/
def code64 (k : ℕ) (A B : IVec S64x128 32) : IVec S64x128 32 :=
  ori (andi (shrui (dynamicGather 1 (src64 (decide (4 ≤ k)) A B) (gix64 (k % 4))) k0_pay89) (broadcast S64x128 983055#32)) (broadcast S64x128 1124090624#32)

/-- One row of 16. -/
theorem slices_row (g : ℕ) (hg : g < 16) : S16x128.Slices ![g, 0] S1x128 := by
  have h : ∀ g : Fin 16, S16x128.Slices ![g.val, 0] S1x128 := by decide
  exact h ⟨g, hg⟩

/-- The tile stored for chunk `k` and group `g`. -/
def tile (k g : ℕ) (hg : g < 16) (A B : IVec S64x128 32) (Z : Vec F S16x128 .i32) (S : Vec F S16x128 .f32) : FVec F S128x128 .bf16 :=
  shapeCast S128x128 (truncf .bf16 (mulf (extf .f32 (subf
      (bitcastToFloat .bf16 (bitcast S128x128 16 (code64 k A B) bitcasts_S64x128_w32_S128x128_w16))
      (bitcastToFloat .bf16 (bitcast S128x128 16 (broadcastTo S64x128 (shapeCast S1x128 (extractStridedSlice S1x128 ![g, 0] (zero16 (F := F) k Z) (slices_row g hg)) shapeCasts_S1x128_S1x128) broadcasts_S1x128_S64x128) bitcasts_S64x128_w32_S128x128_w16)))
      bitsLt_bf16_f32) (broadcastTo S128x128 (extractStridedSlice S1x128 ![g, 0] S (slices_row g hg)) broadcasts_S1x128_S128x128)) bitsLt_bf16_f32) shapeCasts_S128x128_S128x128

/-- Every other row of group `g`, from its row `b`. -/
def rowsOf (g b : ℕ) (hg : g < 16) (hb : b < 2) : LoadRect S2048x128 :=
  ⟨![128 * g + b, 0], S64x128.size, ![2, 1], fun a => by
    match a with
    | ⟨0, _⟩ => right; show 128 * g + b + 2 * (64 - 1) < 2048; omega
    | ⟨1, _⟩ => right; show 0 + 1 * (128 - 1) < 128; omega⟩
/-- The scales of chunk `k`. -/
def scalesOf (k : ℕ) (hk : k < 8) : LoadRect S16x1024 :=
  (Rect.unit (s := S16x1024) ![0, 128 * k] S16x128.size fun a => by
    match a with
    | ⟨0, _⟩ => show 0 + 16 ≤ 16; omega
    | ⟨1, _⟩ => show 128 * k + 128 ≤ 1024; omega).toLoadRect
/-- The zero points of the block. -/
def zerosOf : LoadRect S16x128 := (Rect.unit (s := S16x128) ![0, 0] S16x128.size inb_S16x128_S16x128_0_0).toLoadRect

variable (i : grid0.Coords) (arg6 : Memref sig .tc .vmem S2048x128 .i32) (arg7 : Memref sig .tc .vmem S16x128 .i32) (arg8 : Memref sig .tc .vmem S16x1024 .f32) (c : Dev nD)
  (f6 : Buf (Elt F) (arg6.view.loc (c : Thread nD τ))) (f7 : Buf (Elt F) (arg7.view.loc (c : Thread nD τ))) (f8 : Buf (Elt F) (arg8.view.loc (c : Thread nD τ)))

/-- The tile number `n < 128` of a point: chunk `n / 16`, group `n % 16`, of the blocks the point holds. -/
def tileAt (n : ℕ) (hn : n < 128) : FVec F S128x128 .bf16 :=
  tile (n / 16) (n % 16) (Nat.mod_lt _ (by decide)) (arg6.view.readAt (Elt F) (rowsOf (n % 16) 0 (Nat.mod_lt _ (by decide)) (by decide)) f6)
    (arg6.view.readAt (Elt F) (rowsOf (n % 16) 1 (Nat.mod_lt _ (by decide)) (by decide)) f6) (arg7.view.readAt (Elt F) zerosOf f7)
    (arg8.view.readAt (Elt F) (scalesOf (n / 16) (by omega)) f8)

/-- The list of the first `n` stores of a point, latest first. -/
inductive Tiles : ℕ → List (View.Piece (Elt F) S2048x8192 .bf16) → Prop
  | nil : Tiles 0 []
  | cons {n : ℕ} {L : List (View.Piece (Elt F) S2048x8192 .bf16)} (hn : n < 128) (off : Fin 2 → ℕ) (inb)
      (hoff : off = ![128 * (n % 16), 1024 * (i 1).val + 128 * (n / 16)]) (h : Tiles n L) :
      Tiles (n + 1) (⟨Rect.unit (s := S2048x8192) off S128x128.size inb, tileAt arg6 arg7 arg8 c f6 f7 f8 n hn⟩ :: L)

end Cert.KernelIdeal.Hand
-- ==== Proof.KIBody.lean ====
module

public import proofs.«01_k».proof.Proof.KIBase
public import proofs.«01_k».proof.Proof.KITile
public import proofs.«01_k».proof.Proof.Gen.KernelIdeal.Skeleton
public import Idealize.ShloMosaic.Lib.Pipeline.Frame
public import Idealize.ShloMosaic.Lib.Tactic
public import Idealize.ShloMosaic.Lib.Transfers

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

abbrev w9 : Memref sig .tc .hbm S24x32x2048 .fp8e4m3 := Memref.whole main_v0
abbrev w11 : Memref sig .tc .hbm S24x32x8192 .fp8e4m3 := Memref.whole main_arg6
abbrev w20 : Memref sig .tc .vmem S2048x8192 .bf16 := Memref.whole cc0_scratch0
abbrev w21 : Memref sig .tc .vmem S256x8192 .f32 := Memref.whole cc0_scratch1
abbrev w22 : Memref sig .tc .vmem S512x8192 .fp8e4m3 := Memref.whole cc0_scratch2
abbrev w23 : Memref sig .tc .vmem S512x2048 .fp8e4m3 := Memref.whole cc0_scratch3
abbrev w24 : Memref sig .tc .vmem S16x8192 .f32 := Memref.whole cc0_scratch4
abbrev w25 : Memref sig .tc .vmem S8x512 .f32 := Memref.whole cc0_scratch5
abbrev w26 : Memref sig .tc .vmem S256x512 .fp8e4m3 := Memref.whole cc0_scratch6
abbrev w27 : Memref sig .tc .vmem S256x128 .f32 := Memref.whole cc0_scratch7
abbrev w28 : Memref sig .tc .vmem S256x128 .f32 := Memref.whole cc0_scratch8
abbrev w29 : Memref sig .tc .vmem S256x128 .f32 := Memref.whole cc0_scratch9
abbrev w30 : Memref sig .tc .smem S192 .i32 := Memref.whole cc0_scratch10
abbrev w31 : Memref sig .tc .smem S192 .i32 := Memref.whole cc0_scratch11

theorem c1 (i : grid0.Coords) {v : BitVec 32} (h : v.toInt < (24 : ℕ)) : k0_chk1 i v := chk_copy i h
theorem c2 (i : grid0.Coords) {v : BitVec 32} (h : v.toInt < (24 : ℕ)) : k0_chk2 i v := chk_copy i h
theorem c3 (i : grid0.Coords) {v : BitVec 32} (h : v.toInt < (24 : ℕ)) : k0_chk3 i v := chk_copy i h
theorem c4 (i : grid0.Coords) {v : BitVec 32} (h : v.toInt < (24 : ℕ)) : k0_chk4 i v := chk_copy i h
theorem c5 (i : grid0.Coords) {v : BitVec 32} (h : v.toInt < (24 : ℕ)) : k0_chk5 i v := chk_copy i h
theorem c6 (i : grid0.Coords) {v : BitVec 32} (h : v.toInt < (24 : ℕ)) : k0_chk6 i v := chk_copy i h
theorem c7 (i : grid0.Coords) {v : BitVec 32} (h : v.toInt < (24 : ℕ)) : k0_chk7 i v := chk_copy i h
theorem c8 (i : grid0.Coords) {v : BitVec 32} (h : v.toInt < (24 : ℕ)) : k0_chk8 i v := chk_copy i h
theorem c9 (i : grid0.Coords) {v : BitVec 32} (h : v.toInt < (24 : ℕ)) : k0_chk9 i v := chk_copy i h
theorem c10 (i : grid0.Coords) {v : BitVec 32} (h : v.toInt < (24 : ℕ)) : k0_chk10 i v := chk_copy i h
theorem c11 (i : grid0.Coords) {v : BitVec 32} (h : v.toInt < (24 : ℕ)) : k0_chk11 i v := chk_copy i h
theorem c12 (i : grid0.Coords) {v : BitVec 32} (h : v.toInt < (24 : ℕ)) : k0_chk12 i v := chk_copy i h
theorem c13 (i : grid0.Coords) {v : BitVec 32} (h : v.toInt < (24 : ℕ)) : k0_chk13 i v := chk_copy i h
theorem c14 (i : grid0.Coords) {v : BitVec 32} (h : v.toInt < (24 : ℕ)) : k0_chk14 i v := chk_copy i h
theorem c15 (i : grid0.Coords) {v : BitVec 32} (h : v.toInt < (24 : ℕ)) : k0_chk15 i v := chk_row i h
theorem c16 (i : grid0.Coords) {v : BitVec 32} (h : v.toInt < (24 : ℕ)) : k0_chk16 i v := chk_row i h
theorem c17 (i : grid0.Coords) {v : BitVec 32} (h : v.toInt < (24 : ℕ)) : k0_chk17 i v := chk_row i h
theorem c18 (i : grid0.Coords) {v : BitVec 32} (h : v.toInt < (24 : ℕ)) : k0_chk18 i v := chk_row i h
theorem c19 (i : grid0.Coords) {v : BitVec 32} (h : v.toInt < (24 : ℕ)) : k0_chk19 i v := chk_row i h
theorem c20 (i : grid0.Coords) {v : BitVec 32} (h : v.toInt < (24 : ℕ)) : k0_chk20 i v := chk_row i h
theorem c21 (i : grid0.Coords) {v : BitVec 32} (h : v.toInt < (24 : ℕ)) : k0_chk21 i v := chk_row i h
theorem c22 (i : grid0.Coords) {v : BitVec 32} (h : v.toInt < (24 : ℕ)) : k0_chk22 i v := chk_row i h
theorem c23 (i : grid0.Coords) {v : BitVec 32} (h : v.toInt < (24 : ℕ)) : k0_chk23 i v := chk_row i h
theorem c24 (i : grid0.Coords) {v : BitVec 32} (h : v.toInt < (24 : ℕ)) : k0_chk24 i v := chk_row i h
theorem c25 (i : grid0.Coords) {v : BitVec 32} (h : v.toInt < (24 : ℕ)) : k0_chk25 i v := chk_row i h
theorem c26 (i : grid0.Coords) {v : BitVec 32} (h : v.toInt < (24 : ℕ)) : k0_chk26 i v := chk_row i h
theorem c27 (i : grid0.Coords) {v : BitVec 32} (h : v.toInt < (24 : ℕ)) : k0_chk27 i v := chk_row i h
theorem c28 (i : grid0.Coords) {v : BitVec 32} (h : v.toInt < (24 : ℕ)) : k0_chk28 i v := chk_row i h
theorem c29 (i : grid0.Coords) {v : BitVec 32} (h : v.toInt < (24 : ℕ)) : k0_chk29 i v := chk_rowA i h
theorem c30 (i : grid0.Coords) {v : BitVec 32} (h : v.toInt < (24 : ℕ)) : k0_chk30 i v := chk_rowA i h
theorem c31 (i : grid0.Coords) {v : BitVec 32} (h : v.toInt < (24 : ℕ)) : k0_chk31 i v := chk_rowA i h
theorem c32 (i : grid0.Coords) {v : BitVec 32} (h : v.toInt < (24 : ℕ)) : k0_chk32 i v := chk_rowA i h
theorem c33 (i : grid0.Coords) {v : BitVec 32} (h : v.toInt < (24 : ℕ)) : k0_chk33 i v := chk_rowA i h
theorem c34 (i : grid0.Coords) {v : BitVec 32} (h : v.toInt < (24 : ℕ)) : k0_chk34 i v := chk_rowA i h
theorem c35 (i : grid0.Coords) {v : BitVec 32} (h : v.toInt < (24 : ℕ)) : k0_chk35 i v := chk_rowA i h
theorem c36 (i : grid0.Coords) {v : BitVec 32} (h : v.toInt < (24 : ℕ)) : k0_chk36 i v := chk_rowA i h
theorem c37 (i : grid0.Coords) {v : BitVec 32} (h : v.toInt < (24 : ℕ)) : k0_chk37 i v := chk_rowA i h
theorem c38 (i : grid0.Coords) {v : BitVec 32} (h : v.toInt < (24 : ℕ)) : k0_chk38 i v := chk_rowA i h
theorem c39 (i : grid0.Coords) {v : BitVec 32} (h : v.toInt < (24 : ℕ)) : k0_chk39 i v := chk_rowA i h
theorem c40 (i : grid0.Coords) {v : BitVec 32} (h : v.toInt < (24 : ℕ)) : k0_chk40 i v := chk_rowA i h
theorem c41 (i : grid0.Coords) {v : BitVec 32} (h : v.toInt < (24 : ℕ)) : k0_chk41 i v := chk_rowA i h
theorem c42 (i : grid0.Coords) {v : BitVec 32} (h : v.toInt < (24 : ℕ)) : k0_chk42 i v := chk_rowA i h
theorem c43 (i : grid0.Coords) {v : BitVec 32} (h : v.toInt < (24 : ℕ)) : k0_chk43 i v := chk_rowA i h
theorem c44 (i : grid0.Coords) {v : BitVec 32} (h : v.toInt < (24 : ℕ)) : k0_chk44 i v := chk_rowA i h
theorem c45 (i : grid0.Coords) {v : BitVec 32} (h : v.toInt < (24 : ℕ)) : k0_chk45 i v := chk_copy i h
theorem c46 (i : grid0.Coords) {v : BitVec 32} (h : v.toInt < (24 : ℕ)) : k0_chk46 i v := chk_copy i h
theorem c47 (i : grid0.Coords) {v : BitVec 32} (h : v.toInt < (24 : ℕ)) : k0_chk47 i v := chk_copy i h
theorem c48 (i : grid0.Coords) {v : BitVec 32} (h : v.toInt < (24 : ℕ)) : k0_chk48 i v := chk_copy i h
theorem c49 (i : grid0.Coords) {v : BitVec 32} (h : v.toInt < (24 : ℕ)) : k0_chk49 i v := chk_copy i h
theorem c50 (i : grid0.Coords) {v : BitVec 32} (h : v.toInt < (24 : ℕ)) : k0_chk50 i v := chk_copy i h
theorem c51 (i : grid0.Coords) {v : BitVec 32} (h : v.toInt < (24 : ℕ)) : k0_chk51 i v := chk_copy i h
theorem c52 (i : grid0.Coords) {v : BitVec 32} (h : v.toInt < (24 : ℕ)) : k0_chk52 i v := chk_copy i h
theorem c53 (i : grid0.Coords) {v : BitVec 32} (h : v.toInt < (24 : ℕ)) : k0_chk53 i v := chk_copy i h
theorem c54 (i : grid0.Coords) {v : BitVec 32} (h : v.toInt < (24 : ℕ)) : k0_chk54 i v := chk_copy i h
theorem c55 (i : grid0.Coords) {v : BitVec 32} (h : v.toInt < (24 : ℕ)) : k0_chk55 i v := chk_copy i h
theorem c56 (i : grid0.Coords) {v : BitVec 32} (h : v.toInt < (24 : ℕ)) : k0_chk56 i v := chk_copy i h
theorem c57 (i : grid0.Coords) {v : BitVec 32} (h : v.toInt < (24 : ℕ)) : k0_chk57 i v := chk_copy i h
theorem c58 (i : grid0.Coords) {v : BitVec 32} (h : v.toInt < (24 : ℕ)) : k0_chk58 i v := chk_copy i h
theorem c59 (i : grid0.Coords) {v : BitVec 32} (h : v.toNat ≤ 13) : k0_chk59 i v := chk_hi i h
theorem c60 (i : grid0.Coords) {v : BitVec 32} (h : v.toNat ≤ 13) : k0_chk60 i v := chk_lo i h
theorem c61 (i : grid0.Coords) {v : BitVec 32} (h : v.toNat ≤ 13) : k0_chk61 i v := chk_hi i h
theorem c62 (i : grid0.Coords) {v : BitVec 32} (h : v.toNat ≤ 13) : k0_chk62 i v := chk_lo i h
theorem c63 (i : grid0.Coords) {v : BitVec 32} (h : v.toNat ≤ 13) : k0_chk63 i v := chk_hi i h
theorem c64 (i : grid0.Coords) {v : BitVec 32} (h : v.toNat ≤ 13) : k0_chk64 i v := chk_lo i h
theorem c65 (i : grid0.Coords) {v : BitVec 32} (h : v.toNat ≤ 13) : k0_chk65 i v := chk_hi i h
theorem c66 (i : grid0.Coords) {v : BitVec 32} (h : v.toNat ≤ 13) : k0_chk66 i v := chk_lo i h
theorem c67 (i : grid0.Coords) {v : BitVec 32} (h : v.toNat ≤ 13) : k0_chk67 i v := chk_hi i h
theorem c68 (i : grid0.Coords) {v : BitVec 32} (h : v.toNat ≤ 13) : k0_chk68 i v := chk_lo i h
theorem c69 (i : grid0.Coords) {v : BitVec 32} (h : v.toNat ≤ 13) : k0_chk69 i v := chk_hi i h
theorem c70 (i : grid0.Coords) {v : BitVec 32} (h : v.toNat ≤ 13) : k0_chk70 i v := chk_lo i h
theorem c71 (i : grid0.Coords) {v : BitVec 32} (h : v.toNat ≤ 13) : k0_chk71 i v := chk_hi i h
theorem c72 (i : grid0.Coords) {v : BitVec 32} (h : v.toNat ≤ 13) : k0_chk72 i v := chk_lo i h
theorem c73 (i : grid0.Coords) {v : BitVec 32} (h : v.toNat ≤ 13) : k0_chk73 i v := chk_hi i h
theorem c74 (i : grid0.Coords) {v : BitVec 32} (h : v.toNat ≤ 13) : k0_chk74 i v := chk_lo i h
theorem c75 (i : grid0.Coords) {v : BitVec 32} (h : v.toNat ≤ 13) : k0_chk75 i v := chk_hi i h
theorem c76 (i : grid0.Coords) {v : BitVec 32} (h : v.toNat ≤ 13) : k0_chk76 i v := chk_lo i h
theorem c77 (i : grid0.Coords) {v : BitVec 32} (h : v.toNat ≤ 13) : k0_chk77 i v := chk_hi i h
theorem c78 (i : grid0.Coords) {v : BitVec 32} (h : v.toNat ≤ 13) : k0_chk78 i v := chk_lo i h
theorem c79 (i : grid0.Coords) {v : BitVec 32} (h : v.toNat ≤ 13) : k0_chk79 i v := chk_hi i h
theorem c80 (i : grid0.Coords) {v : BitVec 32} (h : v.toNat ≤ 13) : k0_chk80 i v := chk_lo i h
theorem c81 (i : grid0.Coords) {v : BitVec 32} (h : v.toNat ≤ 13) : k0_chk81 i v := chk_hi i h
theorem c82 (i : grid0.Coords) {v : BitVec 32} (h : v.toNat ≤ 13) : k0_chk82 i v := chk_lo i h
theorem c83 (i : grid0.Coords) {v : BitVec 32} (h : v.toNat ≤ 13) : k0_chk83 i v := chk_hi i h
theorem c84 (i : grid0.Coords) {v : BitVec 32} (h : v.toNat ≤ 13) : k0_chk84 i v := chk_lo i h
theorem c85 (i : grid0.Coords) {v : BitVec 32} (h : v.toNat ≤ 13) : k0_chk85 i v := chk_hi i h
theorem c86 (i : grid0.Coords) {v : BitVec 32} (h : v.toNat ≤ 13) : k0_chk86 i v := chk_lo i h
theorem c87 (i : grid0.Coords) {v : BitVec 32} (h : v.toNat ≤ 13) : k0_chk87 i v := chk_hi i h
theorem c88 (i : grid0.Coords) {v : BitVec 32} (h : v.toNat ≤ 13) : k0_chk88 i v := chk_lo i h
theorem c89 (i : grid0.Coords) {v : BitVec 32} (h : v.toNat ≤ 13) : k0_chk89 i v := chk_hi i h
theorem c90 (i : grid0.Coords) {v : BitVec 32} (h : v.toNat ≤ 13) : k0_chk90 i v := chk_lo i h
theorem c91 (i : grid0.Coords) {v : BitVec 32} (h : v.toNat ≤ 13) : k0_chk91 i v := chk_hi i h
theorem c92 (i : grid0.Coords) {v : BitVec 32} (h : v.toNat ≤ 13) : k0_chk92 i v := chk_lo i h
theorem c93 (i : grid0.Coords) {v : BitVec 32} (h : v.toNat ≤ 13) : k0_chk93 i v := chk_hi i h
theorem c94 (i : grid0.Coords) {v : BitVec 32} (h : v.toNat ≤ 13) : k0_chk94 i v := chk_lo i h
theorem c95 (i : grid0.Coords) {v : BitVec 32} (h : v.toNat ≤ 13) : k0_chk95 i v := chk_hi i h
theorem c96 (i : grid0.Coords) {v : BitVec 32} (h : v.toNat ≤ 13) : k0_chk96 i v := chk_lo i h
theorem c97 (i : grid0.Coords) {v : BitVec 32} (h : v.toNat ≤ 13) : k0_chk97 i v := chk_hi i h
theorem c98 (i : grid0.Coords) {v : BitVec 32} (h : v.toNat ≤ 13) : k0_chk98 i v := chk_lo i h
theorem c99 (i : grid0.Coords) {v : BitVec 32} (h : v.toNat ≤ 13) : k0_chk99 i v := chk_hi i h
theorem c100 (i : grid0.Coords) {v : BitVec 32} (h : v.toNat ≤ 13) : k0_chk100 i v := chk_lo i h
theorem c101 (i : grid0.Coords) {v : BitVec 32} (h : v.toNat ≤ 13) : k0_chk101 i v := chk_hi i h
theorem c102 (i : grid0.Coords) {v : BitVec 32} (h : v.toNat ≤ 13) : k0_chk102 i v := chk_lo i h
theorem c103 (i : grid0.Coords) {v : BitVec 32} (h : v.toNat ≤ 13) : k0_chk103 i v := chk_hi i h
theorem c104 (i : grid0.Coords) {v : BitVec 32} (h : v.toNat ≤ 13) : k0_chk104 i v := chk_lo i h
theorem c105 (i : grid0.Coords) {v : BitVec 32} (h : v.toNat ≤ 13) : k0_chk105 i v := chk_hi i h
theorem c106 (i : grid0.Coords) {v : BitVec 32} (h : v.toNat ≤ 13) : k0_chk106 i v := chk_lo i h
theorem c107 (i : grid0.Coords) {v : BitVec 32} (h : v.toNat ≤ 13) : k0_chk107 i v := chk_hi i h
theorem c108 (i : grid0.Coords) {v : BitVec 32} (h : v.toNat ≤ 13) : k0_chk108 i v := chk_lo i h
theorem c109 (i : grid0.Coords) {v : BitVec 32} (h : v.toNat ≤ 13) : k0_chk109 i v := chk_hi i h
theorem c110 (i : grid0.Coords) {v : BitVec 32} (h : v.toNat ≤ 13) : k0_chk110 i v := chk_lo i h
theorem c111 (i : grid0.Coords) {v : BitVec 32} (h : v.toNat ≤ 13) : k0_chk111 i v := chk_hi i h
theorem c112 (i : grid0.Coords) {v : BitVec 32} (h : v.toNat ≤ 13) : k0_chk112 i v := chk_lo i h
theorem c113 (i : grid0.Coords) {v : BitVec 32} (h : v.toNat ≤ 13) : k0_chk113 i v := chk_hi i h
theorem c114 (i : grid0.Coords) {v : BitVec 32} (h : v.toNat ≤ 13) : k0_chk114 i v := chk_lo i h
theorem c115 (i : grid0.Coords) {v : BitVec 32} (h : v.toNat ≤ 13) : k0_chk115 i v := chk_hi i h
theorem c116 (i : grid0.Coords) {v : BitVec 32} (h : v.toNat ≤ 13) : k0_chk116 i v := chk_lo i h
theorem c117 (i : grid0.Coords) {v : BitVec 32} (h : v.toNat ≤ 13) : k0_chk117 i v := chk_hi i h
theorem c118 (i : grid0.Coords) {v : BitVec 32} (h : v.toNat ≤ 13) : k0_chk118 i v := chk_lo i h
theorem c119 (i : grid0.Coords) {v : BitVec 32} (h : v.toNat ≤ 13) : k0_chk119 i v := chk_hi i h
theorem c120 (i : grid0.Coords) {v : BitVec 32} (h : v.toNat ≤ 13) : k0_chk120 i v := chk_lo i h
theorem c121 (i : grid0.Coords) {v : BitVec 32} (h : v.toNat ≤ 13) : k0_chk121 i v := chk_hi i h
theorem c122 (i : grid0.Coords) {v : BitVec 32} (h : v.toNat ≤ 13) : k0_chk122 i v := chk_lo i h

theorem nolt (y : S192.Idx) : (y 0).val < 192 := (y 0).isLt

variable (i : grid0.Coords) (arg2 : Memref sig .tc .smem S15 .i32) (harg2 : arg2.IsWhole) (arg3 : Memref sig .tc .smem S14 .i32) (harg3 : arg3.IsWhole) (arg4 : Memref sig .tc .smem S24 .f32) (harg4 : arg4.IsWhole) (arg5 : Memref sig .tc .vmem S256x2048 .bf16) (harg5 : arg5.IsWhole) (arg6 : Memref sig .tc .vmem S2048x128 .i32) (harg6 : arg6.IsWhole) (arg7 : Memref sig .tc .vmem S16x128 .i32) (harg7 : arg7.IsWhole) (arg8 : Memref sig .tc .vmem S16x1024 .f32) (harg8 : arg8.IsWhole) (arg10 : Memref sig .tc .vmem S24x32 .f32) (harg10 : arg10.IsWhole) (arg12 : Memref sig .tc .vmem S24x8192 .f32) (harg12 : arg12.IsWhole) (arg13 : Memref sig .tc .vmem S256x1024 .bf16) (harg13 : arg13.IsWhole) (arg14 : Memref sig .tc .vmem S32x256 .f32) (harg14 : arg14.IsWhole) (arg15 : Memref sig .tc .vmem S256x1024 .f32) (harg15 : arg15.IsWhole) (arg16 : Memref sig .tc .vmem S32x256 .fp8e4m3) (harg16 : arg16.IsWhole) (arg17 : Memref sig .tc .vmem S1x256 .f32) (harg17 : arg17.IsWhole) (arg18 : Memref sig .tc .vmem S256x1024 .fp8e4m3) (harg18 : arg18.IsWhole) (arg19 : Memref sig .tc .vmem S1x256 .f32) (harg19 : arg19.IsWhole)

/-- A buffer held whole is what remains after 13 read tokens and the tokens. -/
theorem toks (c : Dev nD) {sp : Space} {S : Shape} {e : EltTy} (M : Memref sig .tc sp S e) (f : Buf (Elt F) (M.view.loc (c : Thread nD τ))) :
    pt c M f ⊣⊢ iprop((M.view.loc (c : Thread nD τ) ↦{Transfers.shareDrop fullShare 13} f) ∗ (M.view.loc (c : Thread nD τ) ↦{Transfers.shareTokN fullShare 0} f) ∗ (M.view.loc (c : Thread nD τ) ↦{Transfers.shareTokN fullShare 1} f) ∗ (M.view.loc (c : Thread nD τ) ↦{Transfers.shareTokN fullShare 2} f) ∗ (M.view.loc (c : Thread nD τ) ↦{Transfers.shareTokN fullShare 3} f) ∗ (M.view.loc (c : Thread nD τ) ↦{Transfers.shareTokN fullShare 4} f) ∗ (M.view.loc (c : Thread nD τ) ↦{Transfers.shareTokN fullShare 5} f) ∗ (M.view.loc (c : Thread nD τ) ↦{Transfers.shareTokN fullShare 6} f) ∗ (M.view.loc (c : Thread nD τ) ↦{Transfers.shareTokN fullShare 7} f) ∗ (M.view.loc (c : Thread nD τ) ↦{Transfers.shareTokN fullShare 8} f) ∗ (M.view.loc (c : Thread nD τ) ↦{Transfers.shareTokN fullShare 9} f) ∗ (M.view.loc (c : Thread nD τ) ↦{Transfers.shareTokN fullShare 10} f) ∗ (M.view.loc (c : Thread nD τ) ↦{Transfers.shareTokN fullShare 11} f) ∗ (M.view.loc (c : Thread nD τ) ↦{Transfers.shareTokN fullShare 12} f)) := by
  have h := Transfers.pointsTo_toks_range (Ix := Unit) (Name := ℕ) (U := Pipeline.UD sig nD τ) (Lvl := ℕ) (Val := Elt F) (ℓ := M.view.loc (c : Thread nD τ)) (S := Finset.univ) (f := f) fullShare 13
  rw [BI.bigSep_eq_bigSepL_of_eq (S := Finset.range 13) [0, 1, 2, 3, 4, 5, 6, 7, 8, 9, 10, 11, 12] (by decide) (by decide)] at h
  exact h

/-- A buffer held at known contents is held at some contents. -/
theorem forget (c : Dev nD) {sp : Space} {S : Shape} {e : EltTy} (M : Memref sig .tc sp S e) (f : Buf (Elt F) (M.view.loc (c : Thread nD τ))) :
    pt c M f ⊢ ex (F := F) c M := by
  iintro H; iexists f; iexact H
include harg2 harg3 harg4 harg5 harg6 harg7 harg8 harg10 harg12 harg13 harg14 harg15 harg16 harg17 harg18 harg19
set_option maxHeartbeats 4000000 in

theorem body_run (c : Dev nD) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f10 : Buf (Elt F) (arg10.view.loc (c : Thread nD τ))) (f12 : Buf (Elt F) (arg12.view.loc (c : Thread nD τ))) (f9 : Buf (Elt F) (w9.view.loc (c : Thread nD τ))) (f11 : Buf (Elt F) (w11.view.loc (c : Thread nD τ))) (f13 : Buf (Elt F) (arg13.view.loc (c : Thread nD τ))) (f20 : Buf (Elt F) (w20.view.loc (c : Thread nD τ)))
    (hadp : ∀ x, (show BitVec 32 from arg3.view.read (Elt F) f3 x).toInt < (24 : ℕ))
    (P20 : Buf (Elt F) (w20.view.loc (c : Thread nD τ)) → Prop) (P13 : Buf (Elt F) (arg13.view.loc (c : Thread nD τ)) → Prop)
    (hn4 : k0_cond4 i ≠ 1#1 → P20 f20) (hn6 : k0_cond6 i ≠ 1#1 → P13 f13)
    (hv4 : ∀ L, Tiles i arg6 arg7 arg8 c f6 f7 f8 128 L → k0_cond4 i = 1#1 → P20 (w20.view.writes (Elt F) f20 L))
    (hv6 : ∀ g20, P20 g20 → ∀ h6 : k0_cond6 i = 1#1, P13 (arg13.view.writes (Elt F) f13 [⟨Rect.unit (s := S256x1024) ![0, 0] S256x1024.size inb_S256x1024_S256x1024_0_0,
      k0_pay527 (arg5.view.readAt (Elt F) (Rect.unit (s := S256x2048) ![0, 0] S256x2048.size inb_S256x2048_S256x2048_0_0).toLoadRect f5)
        (w20.view.readAt (Elt F) (Rect.unit (s := S2048x8192) (k0_off126 i) S2048x1024.size (k0_off126_inb i h6)).toLoadRect g20)⟩])) :
    iprop(pt c arg2 f2 ∗ pt c arg3 f3 ∗ pt c arg4 f4 ∗ pt c arg5 f5 ∗ pt c arg6 f6 ∗ pt c arg7 f7 ∗ pt c arg8 f8 ∗ pt c arg10 f10 ∗ pt c arg12 f12 ∗ pt c w9 f9 ∗ pt c w11 f11 ∗ pt c arg13 f13 ∗ ex (F := F) c arg14 ∗ ex (F := F) c arg15 ∗ ex (F := F) c arg16 ∗ ex (F := F) c arg17 ∗ ex (F := F) c arg18 ∗ ex (F := F) c arg19 ∗ pt c w20 f20 ∗ ex (F := F) c w21 ∗ ex (F := F) c w22 ∗ ex (F := F) c w23 ∗ ex (F := F) c w24 ∗ ex (F := F) c w25 ∗ ex (F := F) c w26 ∗ ex (F := F) c w27 ∗ ex (F := F) c w28 ∗ ex (F := F) c w29 ∗ (∃ f : Buf (Elt F) (w30.view.loc (c : Thread nD τ)), pt c w30 f ∗ ⌜k0_cond1 i ≠ 1#1 → bnd w30 192 f⌝) ∗ (∃ f : Buf (Elt F) (w31.view.loc (c : Thread nD τ)), pt c w31 f ∗ ⌜k0_cond1 i ≠ 1#1 → bnd w31 192 f⌝) ∗ semVal ((c : Thread nD τ), SemLoc.dma 27) 0 ∗ semVal ((c : Thread nD τ), SemLoc.dma 28) 0 ∗ (∃ W, owes (c : Thread nD τ) 0 W)) ⊢ wp frame (wpE (defs₀ (F := F)) Variants.none (c : Thread nD τ) none) Set.univ (cc0_multi_lora_awq (F := F) i arg2 harg2 arg3 harg3 arg4 harg4 arg5 harg5 arg6 harg6 arg7 harg7 arg8 harg8 w9 (Memref.isWhole_whole _) arg10 harg10 w11 (Memref.isWhole_whole _) arg12 harg12 arg13 harg13 arg14 harg14 arg15 harg15 arg16 harg16 arg17 harg17 arg18 harg18 arg19 harg19 w20 (Memref.isWhole_whole _) w21 (Memref.isWhole_whole _) w22 (Memref.isWhole_whole _) w23 (Memref.isWhole_whole _) w24 (Memref.isWhole_whole _) w25 (Memref.isWhole_whole _) w26 (Memref.isWhole_whole _) w27 (Memref.isWhole_whole _) w28 (Memref.isWhole_whole _) w29 (Memref.isWhole_whole _) w30 (Memref.isWhole_whole _) w31 (Memref.isWhole_whole _) cc0_scratch12) (fun _ => iprop(pt c arg2 f2 ∗ pt c arg3 f3 ∗ pt c arg4 f4 ∗ pt c arg5 f5 ∗ pt c arg6 f6 ∗ pt c arg7 f7 ∗ pt c arg8 f8 ∗ pt c arg10 f10 ∗ pt c arg12 f12 ∗ pt c w9 f9 ∗ pt c w11 f11 ∗ (∃ f : Buf (Elt F) (arg13.view.loc (c : Thread nD τ)), pt c arg13 f ∗ ⌜P13 f⌝) ∗ ex (F := F) c arg14 ∗ ex (F := F) c arg15 ∗ ex (F := F) c arg16 ∗ ex (F := F) c arg17 ∗ ex (F := F) c arg18 ∗ ex (F := F) c arg19 ∗ (∃ f : Buf (Elt F) (w20.view.loc (c : Thread nD τ)), pt c w20 f ∗ ⌜P20 f⌝) ∗ ex (F := F) c w21 ∗ ex (F := F) c w22 ∗ ex (F := F) c w23 ∗ ex (F := F) c w24 ∗ ex (F := F) c w25 ∗ ex (F := F) c w26 ∗ ex (F := F) c w27 ∗ ex (F := F) c w28 ∗ ex (F := F) c w29 ∗ (∃ f : Buf (Elt F) (w30.view.loc (c : Thread nD τ)), pt c w30 f ∗ ⌜bnd w30 192 f⌝) ∗ (∃ f : Buf (Elt F) (w31.view.loc (c : Thread nD τ)), pt c w31 f ∗ ⌜bnd w31 192 f⌝) ∗ semVal ((c : Thread nD τ), SemLoc.dma 27) 0 ∗ semVal ((c : Thread nD τ), SemLoc.dma 28) 0 ∗ (∃ W, owes (c : Thread nD τ) 0 W))) := by
  rw [cc0_multi_lora_awq_eq_skeleton]; unfold cc0_multi_lora_awq_skel
  extract_lets arg0 arg1 j7 j6 j5 j4 j3 j2
  have hj7 : ∀ r, iprop(pt c arg2 f2 ∗ pt c arg3 f3 ∗ pt c arg4 f4 ∗ pt c arg5 f5 ∗ pt c arg6 f6 ∗ pt c arg7 f7 ∗ pt c arg8 f8 ∗ pt c arg10 f10 ∗ pt c arg12 f12 ∗ pt c w9 f9 ∗ pt c w11 f11 ∗ (∃ f : Buf (Elt F) (arg13.view.loc (c : Thread nD τ)), pt c arg13 f ∗ ⌜P13 f⌝) ∗ ex (F := F) c arg14 ∗ ex (F := F) c arg15 ∗ ex (F := F) c arg16 ∗ ex (F := F) c arg17 ∗ ex (F := F) c arg18 ∗ ex (F := F) c arg19 ∗ (∃ f : Buf (Elt F) (w20.view.loc (c : Thread nD τ)), pt c w20 f ∗ ⌜P20 f⌝) ∗ ex (F := F) c w21 ∗ ex (F := F) c w22 ∗ ex (F := F) c w23 ∗ ex (F := F) c w24 ∗ ex (F := F) c w25 ∗ ex (F := F) c w26 ∗ ex (F := F) c w27 ∗ ex (F := F) c w28 ∗ ex (F := F) c w29 ∗ (∃ f : Buf (Elt F) (w30.view.loc (c : Thread nD τ)), pt c w30 f ∗ ⌜bnd w30 192 f⌝) ∗ (∃ f : Buf (Elt F) (w31.view.loc (c : Thread nD τ)), pt c w31 f ∗ ⌜bnd w31 192 f⌝) ∗ semVal ((c : Thread nD τ), SemLoc.dma 27) 0 ∗ semVal ((c : Thread nD τ), SemLoc.dma 28) 0 ∗ (∃ W, owes (c : Thread nD τ) 0 W)) ⊢ wp frame (wpE (defs₀ (F := F)) Variants.none (c : Thread nD τ) none) Set.univ (j7 r) (fun _ => iprop(pt c arg2 f2 ∗ pt c arg3 f3 ∗ pt c arg4 f4 ∗ pt c arg5 f5 ∗ pt c arg6 f6 ∗ pt c arg7 f7 ∗ pt c arg8 f8 ∗ pt c arg10 f10 ∗ pt c arg12 f12 ∗ pt c w9 f9 ∗ pt c w11 f11 ∗ (∃ f : Buf (Elt F) (arg13.view.loc (c : Thread nD τ)), pt c arg13 f ∗ ⌜P13 f⌝) ∗ ex (F := F) c arg14 ∗ ex (F := F) c arg15 ∗ ex (F := F) c arg16 ∗ ex (F := F) c arg17 ∗ ex (F := F) c arg18 ∗ ex (F := F) c arg19 ∗ (∃ f : Buf (Elt F) (w20.view.loc (c : Thread nD τ)), pt c w20 f ∗ ⌜P20 f⌝) ∗ ex (F := F) c w21 ∗ ex (F := F) c w22 ∗ ex (F := F) c w23 ∗ ex (F := F) c w24 ∗ ex (F := F) c w25 ∗ ex (F := F) c w26 ∗ ex (F := F) c w27 ∗ ex (F := F) c w28 ∗ ex (F := F) c w29 ∗ (∃ f : Buf (Elt F) (w30.view.loc (c : Thread nD τ)), pt c w30 f ∗ ⌜bnd w30 192 f⌝) ∗ (∃ f : Buf (Elt F) (w31.view.loc (c : Thread nD τ)), pt c w31 f ∗ ⌜bnd w31 192 f⌝) ∗ semVal ((c : Thread nD τ), SemLoc.dma 27) 0 ∗ semVal ((c : Thread nD τ), SemLoc.dma 28) 0 ∗ (∃ W, owes (c : Thread nD τ) 0 W))) := by
    intro r
    unfold j7
    iintro H
    sl_step
    iexact H
  clear_value j7
  have hj6 : ∀ r, iprop(pt c arg2 f2 ∗ pt c arg3 f3 ∗ pt c arg4 f4 ∗ pt c arg5 f5 ∗ pt c arg6 f6 ∗ pt c arg7 f7 ∗ pt c arg8 f8 ∗ pt c arg10 f10 ∗ pt c arg12 f12 ∗ pt c w9 f9 ∗ pt c w11 f11 ∗ pt c arg13 f13 ∗ ex (F := F) c arg14 ∗ ex (F := F) c arg15 ∗ ex (F := F) c arg16 ∗ ex (F := F) c arg17 ∗ ex (F := F) c arg18 ∗ ex (F := F) c arg19 ∗ (∃ f : Buf (Elt F) (w20.view.loc (c : Thread nD τ)), pt c w20 f ∗ ⌜P20 f⌝) ∗ ex (F := F) c w21 ∗ ex (F := F) c w22 ∗ ex (F := F) c w23 ∗ ex (F := F) c w24 ∗ ex (F := F) c w25 ∗ ex (F := F) c w26 ∗ ex (F := F) c w27 ∗ ex (F := F) c w28 ∗ ex (F := F) c w29 ∗ (∃ f : Buf (Elt F) (w30.view.loc (c : Thread nD τ)), pt c w30 f ∗ ⌜bnd w30 192 f⌝) ∗ (∃ f : Buf (Elt F) (w31.view.loc (c : Thread nD τ)), pt c w31 f ∗ ⌜bnd w31 192 f⌝) ∗ semVal ((c : Thread nD τ), SemLoc.dma 27) 0 ∗ semVal ((c : Thread nD τ), SemLoc.dma 28) 0 ∗ (∃ W, owes (c : Thread nD τ) 0 W)) ⊢ wp frame (wpE (defs₀ (F := F)) Variants.none (c : Thread nD τ) none) Set.univ (j6 r) (fun _ => iprop(pt c arg2 f2 ∗ pt c arg3 f3 ∗ pt c arg4 f4 ∗ pt c arg5 f5 ∗ pt c arg6 f6 ∗ pt c arg7 f7 ∗ pt c arg8 f8 ∗ pt c arg10 f10 ∗ pt c arg12 f12 ∗ pt c w9 f9 ∗ pt c w11 f11 ∗ (∃ f : Buf (Elt F) (arg13.view.loc (c : Thread nD τ)), pt c arg13 f ∗ ⌜P13 f⌝) ∗ ex (F := F) c arg14 ∗ ex (F := F) c arg15 ∗ ex (F := F) c arg16 ∗ ex (F := F) c arg17 ∗ ex (F := F) c arg18 ∗ ex (F := F) c arg19 ∗ (∃ f : Buf (Elt F) (w20.view.loc (c : Thread nD τ)), pt c w20 f ∗ ⌜P20 f⌝) ∗ ex (F := F) c w21 ∗ ex (F := F) c w22 ∗ ex (F := F) c w23 ∗ ex (F := F) c w24 ∗ ex (F := F) c w25 ∗ ex (F := F) c w26 ∗ ex (F := F) c w27 ∗ ex (F := F) c w28 ∗ ex (F := F) c w29 ∗ (∃ f : Buf (Elt F) (w30.view.loc (c : Thread nD τ)), pt c w30 f ∗ ⌜bnd w30 192 f⌝) ∗ (∃ f : Buf (Elt F) (w31.view.loc (c : Thread nD τ)), pt c w31 f ∗ ⌜bnd w31 192 f⌝) ∗ semVal ((c : Thread nD τ), SemLoc.dma 27) 0 ∗ semVal ((c : Thread nD τ), SemLoc.dma 28) 0 ∗ (∃ W, owes (c : Thread nD τ) 0 W))) := by
    intro r
    unfold j6
    by_cases h6 : k0_cond6 i = 1#1
    · rw [dif_pos h6]
      iintro ⟨H2, H3, H4, H5, H6, H7, H8, H10, H12, H9, H11, H13, ⟨%f14, H14⟩, ⟨%f15, H15⟩, ⟨%f16, H16⟩, ⟨%f17, H17⟩, ⟨%f18, H18⟩, ⟨%f19, H19⟩, ⟨%f20, H20, %h20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30, %h30⟩, ⟨%f31, H31, %h31⟩, HS27, HS28, ⟨%W, HO⟩⟩
      sl_exec_parts (disch := first | ((with_reducible refine c59 _ ?_); exact bnd_get h31 _ (nolt _)) | ((with_reducible refine c60 _ ?_); exact bnd_get h30 _ (nolt _)) | ((with_reducible refine c61 _ ?_); exact bnd_get h31 _ (nolt _)) | ((with_reducible refine c62 _ ?_); exact bnd_get h30 _ (nolt _)) | ((with_reducible refine c63 _ ?_); exact bnd_get h31 _ (nolt _)) | ((with_reducible refine c64 _ ?_); exact bnd_get h30 _ (nolt _)) | ((with_reducible refine c65 _ ?_); exact bnd_get h31 _ (nolt _)) | ((with_reducible refine c66 _ ?_); exact bnd_get h30 _ (nolt _)) | ((with_reducible refine c67 _ ?_); exact bnd_get h31 _ (nolt _)) | ((with_reducible refine c68 _ ?_); exact bnd_get h30 _ (nolt _)) | ((with_reducible refine c69 _ ?_); exact bnd_get h31 _ (nolt _)) | ((with_reducible refine c70 _ ?_); exact bnd_get h30 _ (nolt _)) | ((with_reducible refine c71 _ ?_); exact bnd_get h31 _ (nolt _)) | ((with_reducible refine c72 _ ?_); exact bnd_get h30 _ (nolt _)) | ((with_reducible refine c73 _ ?_); exact bnd_get h31 _ (nolt _)) | ((with_reducible refine c74 _ ?_); exact bnd_get h30 _ (nolt _)) | ((with_reducible refine c75 _ ?_); exact bnd_get h31 _ (nolt _)) | ((with_reducible refine c76 _ ?_); exact bnd_get h30 _ (nolt _)) | ((with_reducible refine c77 _ ?_); exact bnd_get h31 _ (nolt _)) | ((with_reducible refine c78 _ ?_); exact bnd_get h30 _ (nolt _)) | ((with_reducible refine c79 _ ?_); exact bnd_get h31 _ (nolt _)) | ((with_reducible refine c80 _ ?_); exact bnd_get h30 _ (nolt _)) | ((with_reducible refine c81 _ ?_); exact bnd_get h31 _ (nolt _)) | ((with_reducible refine c82 _ ?_); exact bnd_get h30 _ (nolt _)) | ((with_reducible refine c83 _ ?_); exact bnd_get h31 _ (nolt _)) | ((with_reducible refine c84 _ ?_); exact bnd_get h30 _ (nolt _)) | ((with_reducible refine c85 _ ?_); exact bnd_get h31 _ (nolt _)) | ((with_reducible refine c86 _ ?_); exact bnd_get h30 _ (nolt _)) | ((with_reducible refine c87 _ ?_); exact bnd_get h31 _ (nolt _)) | ((with_reducible refine c88 _ ?_); exact bnd_get h30 _ (nolt _)) | ((with_reducible refine c89 _ ?_); exact bnd_get h31 _ (nolt _)) | ((with_reducible refine c90 _ ?_); exact bnd_get h30 _ (nolt _)) | ((with_reducible refine c91 _ ?_); exact bnd_get h31 _ (nolt _)) | ((with_reducible refine c92 _ ?_); exact bnd_get h30 _ (nolt _)) | ((with_reducible refine c93 _ ?_); exact bnd_get h31 _ (nolt _)) | ((with_reducible refine c94 _ ?_); exact bnd_get h30 _ (nolt _)) | ((with_reducible refine c95 _ ?_); exact bnd_get h31 _ (nolt _)) | ((with_reducible refine c96 _ ?_); exact bnd_get h30 _ (nolt _)) | ((with_reducible refine c97 _ ?_); exact bnd_get h31 _ (nolt _)) | ((with_reducible refine c98 _ ?_); exact bnd_get h30 _ (nolt _)) | ((with_reducible refine c99 _ ?_); exact bnd_get h31 _ (nolt _)) | ((with_reducible refine c100 _ ?_); exact bnd_get h30 _ (nolt _)) | ((with_reducible refine c101 _ ?_); exact bnd_get h31 _ (nolt _)) | ((with_reducible refine c102 _ ?_); exact bnd_get h30 _ (nolt _)) | ((with_reducible refine c103 _ ?_); exact bnd_get h31 _ (nolt _)) | ((with_reducible refine c104 _ ?_); exact bnd_get h30 _ (nolt _)) | ((with_reducible refine c105 _ ?_); exact bnd_get h31 _ (nolt _)) | ((with_reducible refine c106 _ ?_); exact bnd_get h30 _ (nolt _)) | ((with_reducible refine c107 _ ?_); exact bnd_get h31 _ (nolt _)) | ((with_reducible refine c108 _ ?_); exact bnd_get h30 _ (nolt _)) | ((with_reducible refine c109 _ ?_); exact bnd_get h31 _ (nolt _)) | ((with_reducible refine c110 _ ?_); exact bnd_get h30 _ (nolt _)) | ((with_reducible refine c111 _ ?_); exact bnd_get h31 _ (nolt _)) | ((with_reducible refine c112 _ ?_); exact bnd_get h30 _ (nolt _)) | ((with_reducible refine c113 _ ?_); exact bnd_get h31 _ (nolt _)) | ((with_reducible refine c114 _ ?_); exact bnd_get h30 _ (nolt _)) | ((with_reducible refine c115 _ ?_); exact bnd_get h31 _ (nolt _)) | ((with_reducible refine c116 _ ?_); exact bnd_get h30 _ (nolt _)) | ((with_reducible refine c117 _ ?_); exact bnd_get h31 _ (nolt _)) | ((with_reducible refine c118 _ ?_); exact bnd_get h30 _ (nolt _)) | ((with_reducible refine c119 _ ?_); exact bnd_get h31 _ (nolt _)) | ((with_reducible refine c120 _ ?_); exact bnd_get h30 _ (nolt _)) | ((with_reducible refine c121 _ ?_); exact bnd_get h31 _ (nolt _)) | ((with_reducible refine c122 _ ?_); exact bnd_get h30 _ (nolt _)))
      iapply (hj7 _)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexact H10
      isplitl [H12]; · iexact H12
      isplitl [H9]; · iexact H9
      isplitl [H11]; · iexact H11
      isplitl [H13]; · iexists _; isplitl [H13]; (iexact H13); ipureintro; exact hv6 _ h20 h6
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; isplitl [H20]; (iexact H20); ipureintro; exact h20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [H30]; · iexists _; isplitl [H30]; (iexact H30); ipureintro; exact h30
      isplitl [H31]; · iexists _; isplitl [H31]; (iexact H31); ipureintro; exact h31
      isplitl [HS27]; · iexact HS27
      isplitl [HS28]; · iexact HS28
      iexists _; iexact HO
    · rw [dif_neg h6]
      iintro ⟨H2, H3, H4, H5, H6, H7, H8, H10, H12, H9, H11, H13, ⟨%f14, H14⟩, ⟨%f15, H15⟩, ⟨%f16, H16⟩, ⟨%f17, H17⟩, ⟨%f18, H18⟩, ⟨%f19, H19⟩, ⟨%f20, H20, %h20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30, %h30⟩, ⟨%f31, H31, %h31⟩, HS27, HS28, ⟨%W, HO⟩⟩
      iapply (hj7 _)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexact H10
      isplitl [H12]; · iexact H12
      isplitl [H9]; · iexact H9
      isplitl [H11]; · iexact H11
      isplitl [H13]; · iexists _; isplitl [H13]; (iexact H13); ipureintro; exact hn6 h6
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; isplitl [H20]; (iexact H20); ipureintro; exact h20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [H30]; · iexists _; isplitl [H30]; (iexact H30); ipureintro; exact h30
      isplitl [H31]; · iexists _; isplitl [H31]; (iexact H31); ipureintro; exact h31
      isplitl [HS27]; · iexact HS27
      isplitl [HS28]; · iexact HS28
      iexists _; iexact HO
  clear_value j6
  have hj5 : ∀ r, iprop(pt c arg2 f2 ∗ pt c arg3 f3 ∗ pt c arg4 f4 ∗ pt c arg5 f5 ∗ pt c arg6 f6 ∗ pt c arg7 f7 ∗ pt c arg8 f8 ∗ pt c arg10 f10 ∗ pt c arg12 f12 ∗ pt c w9 f9 ∗ pt c w11 f11 ∗ pt c arg13 f13 ∗ ex (F := F) c arg14 ∗ ex (F := F) c arg15 ∗ ex (F := F) c arg16 ∗ ex (F := F) c arg17 ∗ ex (F := F) c arg18 ∗ ex (F := F) c arg19 ∗ (∃ f : Buf (Elt F) (w20.view.loc (c : Thread nD τ)), pt c w20 f ∗ ⌜P20 f⌝) ∗ ex (F := F) c w21 ∗ ex (F := F) c w22 ∗ ex (F := F) c w23 ∗ ex (F := F) c w24 ∗ ex (F := F) c w25 ∗ ex (F := F) c w26 ∗ ex (F := F) c w27 ∗ ex (F := F) c w28 ∗ ex (F := F) c w29 ∗ (∃ f : Buf (Elt F) (w30.view.loc (c : Thread nD τ)), pt c w30 f ∗ ⌜bnd w30 192 f⌝) ∗ (∃ f : Buf (Elt F) (w31.view.loc (c : Thread nD τ)), pt c w31 f ∗ ⌜bnd w31 192 f⌝) ∗ semVal ((c : Thread nD τ), SemLoc.dma 27) 0 ∗ semVal ((c : Thread nD τ), SemLoc.dma 28) 0 ∗ (∃ W, owes (c : Thread nD τ) 0 W)) ⊢ wp frame (wpE (defs₀ (F := F)) Variants.none (c : Thread nD τ) none) Set.univ (j5 r) (fun _ => iprop(pt c arg2 f2 ∗ pt c arg3 f3 ∗ pt c arg4 f4 ∗ pt c arg5 f5 ∗ pt c arg6 f6 ∗ pt c arg7 f7 ∗ pt c arg8 f8 ∗ pt c arg10 f10 ∗ pt c arg12 f12 ∗ pt c w9 f9 ∗ pt c w11 f11 ∗ (∃ f : Buf (Elt F) (arg13.view.loc (c : Thread nD τ)), pt c arg13 f ∗ ⌜P13 f⌝) ∗ ex (F := F) c arg14 ∗ ex (F := F) c arg15 ∗ ex (F := F) c arg16 ∗ ex (F := F) c arg17 ∗ ex (F := F) c arg18 ∗ ex (F := F) c arg19 ∗ (∃ f : Buf (Elt F) (w20.view.loc (c : Thread nD τ)), pt c w20 f ∗ ⌜P20 f⌝) ∗ ex (F := F) c w21 ∗ ex (F := F) c w22 ∗ ex (F := F) c w23 ∗ ex (F := F) c w24 ∗ ex (F := F) c w25 ∗ ex (F := F) c w26 ∗ ex (F := F) c w27 ∗ ex (F := F) c w28 ∗ ex (F := F) c w29 ∗ (∃ f : Buf (Elt F) (w30.view.loc (c : Thread nD τ)), pt c w30 f ∗ ⌜bnd w30 192 f⌝) ∗ (∃ f : Buf (Elt F) (w31.view.loc (c : Thread nD τ)), pt c w31 f ∗ ⌜bnd w31 192 f⌝) ∗ semVal ((c : Thread nD τ), SemLoc.dma 27) 0 ∗ semVal ((c : Thread nD τ), SemLoc.dma 28) 0 ∗ (∃ W, owes (c : Thread nD τ) 0 W))) := by
    intro r
    unfold j5
    by_cases h5 : k0_cond5 i = 1#1
    · rw [dif_pos h5]
      iintro ⟨H2, H3, H4, H5, H6, H7, H8, H10, H12, H9, H11, H13, ⟨%f14, H14⟩, ⟨%f15, H15⟩, ⟨%f16, H16⟩, ⟨%f17, H17⟩, ⟨%f18, H18⟩, ⟨%f19, H19⟩, ⟨%f20, H20, %h20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30, %h30⟩, ⟨%f31, H31, %h31⟩, HS27, HS28, ⟨%W, HO⟩⟩
      sl_exec_parts
      iapply (hj6 _)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexact H10
      isplitl [H12]; · iexact H12
      isplitl [H9]; · iexact H9
      isplitl [H11]; · iexact H11
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; isplitl [H20]; (iexact H20); ipureintro; exact h20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [H30]; · iexists _; isplitl [H30]; (iexact H30); ipureintro; exact h30
      isplitl [H31]; · iexists _; isplitl [H31]; (iexact H31); ipureintro; exact h31
      isplitl [HS27]; · iexact HS27
      isplitl [HS28]; · iexact HS28
      iexists _; iexact HO
    · rw [dif_neg h5]
      iintro ⟨H2, H3, H4, H5, H6, H7, H8, H10, H12, H9, H11, H13, ⟨%f14, H14⟩, ⟨%f15, H15⟩, ⟨%f16, H16⟩, ⟨%f17, H17⟩, ⟨%f18, H18⟩, ⟨%f19, H19⟩, ⟨%f20, H20, %h20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30, %h30⟩, ⟨%f31, H31, %h31⟩, HS27, HS28, ⟨%W, HO⟩⟩
      iapply (hj6 _)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexact H10
      isplitl [H12]; · iexact H12
      isplitl [H9]; · iexact H9
      isplitl [H11]; · iexact H11
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; isplitl [H20]; (iexact H20); ipureintro; exact h20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [H30]; · iexists _; isplitl [H30]; (iexact H30); ipureintro; exact h30
      isplitl [H31]; · iexists _; isplitl [H31]; (iexact H31); ipureintro; exact h31
      isplitl [HS27]; · iexact HS27
      isplitl [HS28]; · iexact HS28
      iexists _; iexact HO
  clear_value j5
  have hj4 : ∀ r, iprop(pt c arg2 f2 ∗ pt c arg3 f3 ∗ pt c arg4 f4 ∗ pt c arg5 f5 ∗ pt c arg6 f6 ∗ pt c arg7 f7 ∗ pt c arg8 f8 ∗ pt c arg10 f10 ∗ pt c arg12 f12 ∗ pt c w9 f9 ∗ pt c w11 f11 ∗ pt c arg13 f13 ∗ ex (F := F) c arg14 ∗ ex (F := F) c arg15 ∗ ex (F := F) c arg16 ∗ ex (F := F) c arg17 ∗ ex (F := F) c arg18 ∗ ex (F := F) c arg19 ∗ pt c w20 f20 ∗ ex (F := F) c w21 ∗ ex (F := F) c w22 ∗ ex (F := F) c w23 ∗ ex (F := F) c w24 ∗ ex (F := F) c w25 ∗ ex (F := F) c w26 ∗ ex (F := F) c w27 ∗ ex (F := F) c w28 ∗ ex (F := F) c w29 ∗ (∃ f : Buf (Elt F) (w30.view.loc (c : Thread nD τ)), pt c w30 f ∗ ⌜bnd w30 192 f⌝) ∗ (∃ f : Buf (Elt F) (w31.view.loc (c : Thread nD τ)), pt c w31 f ∗ ⌜bnd w31 192 f⌝) ∗ semVal ((c : Thread nD τ), SemLoc.dma 27) 0 ∗ semVal ((c : Thread nD τ), SemLoc.dma 28) 0 ∗ (∃ W, owes (c : Thread nD τ) 0 W)) ⊢ wp frame (wpE (defs₀ (F := F)) Variants.none (c : Thread nD τ) none) Set.univ (j4 r) (fun _ => iprop(pt c arg2 f2 ∗ pt c arg3 f3 ∗ pt c arg4 f4 ∗ pt c arg5 f5 ∗ pt c arg6 f6 ∗ pt c arg7 f7 ∗ pt c arg8 f8 ∗ pt c arg10 f10 ∗ pt c arg12 f12 ∗ pt c w9 f9 ∗ pt c w11 f11 ∗ (∃ f : Buf (Elt F) (arg13.view.loc (c : Thread nD τ)), pt c arg13 f ∗ ⌜P13 f⌝) ∗ ex (F := F) c arg14 ∗ ex (F := F) c arg15 ∗ ex (F := F) c arg16 ∗ ex (F := F) c arg17 ∗ ex (F := F) c arg18 ∗ ex (F := F) c arg19 ∗ (∃ f : Buf (Elt F) (w20.view.loc (c : Thread nD τ)), pt c w20 f ∗ ⌜P20 f⌝) ∗ ex (F := F) c w21 ∗ ex (F := F) c w22 ∗ ex (F := F) c w23 ∗ ex (F := F) c w24 ∗ ex (F := F) c w25 ∗ ex (F := F) c w26 ∗ ex (F := F) c w27 ∗ ex (F := F) c w28 ∗ ex (F := F) c w29 ∗ (∃ f : Buf (Elt F) (w30.view.loc (c : Thread nD τ)), pt c w30 f ∗ ⌜bnd w30 192 f⌝) ∗ (∃ f : Buf (Elt F) (w31.view.loc (c : Thread nD τ)), pt c w31 f ∗ ⌜bnd w31 192 f⌝) ∗ semVal ((c : Thread nD τ), SemLoc.dma 27) 0 ∗ semVal ((c : Thread nD τ), SemLoc.dma 28) 0 ∗ (∃ W, owes (c : Thread nD τ) 0 W))) := by
    intro r
    unfold j4
    by_cases h4 : k0_cond4 i = 1#1
    · rw [dif_pos h4]
      iintro ⟨H2, H3, H4, H5, H6, H7, H8, H10, H12, H9, H11, H13, ⟨%f14, H14⟩, ⟨%f15, H15⟩, ⟨%f16, H16⟩, ⟨%f17, H17⟩, ⟨%f18, H18⟩, ⟨%f19, H19⟩, H20, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30, %h30⟩, ⟨%f31, H31, %h31⟩, HS27, HS28, ⟨%W, HO⟩⟩
      sl_exec_parts
      iapply (hj5 _)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexact H10
      isplitl [H12]; · iexact H12
      isplitl [H9]; · iexact H9
      isplitl [H11]; · iexact H11
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]
      · iexists _; isplitl [H20]; (iexact H20); ipureintro
        refine hv4 _ ?_ h4
        refine Tiles.cons (by decide) _ _ (k0_off125_eq i 7) ?_
        refine Tiles.cons (by decide) _ _ (k0_off124_eq i 7) ?_
        refine Tiles.cons (by decide) _ _ (k0_off123_eq i 7) ?_
        refine Tiles.cons (by decide) _ _ (k0_off122_eq i 7) ?_
        refine Tiles.cons (by decide) _ _ (k0_off121_eq i 7) ?_
        refine Tiles.cons (by decide) _ _ (k0_off120_eq i 7) ?_
        refine Tiles.cons (by decide) _ _ (k0_off119_eq i 7) ?_
        refine Tiles.cons (by decide) _ _ (k0_off118_eq i 7) ?_
        refine Tiles.cons (by decide) _ _ (k0_off117_eq i 7) ?_
        refine Tiles.cons (by decide) _ _ (k0_off116_eq i 7) ?_
        refine Tiles.cons (by decide) _ _ (k0_off115_eq i 7) ?_
        refine Tiles.cons (by decide) _ _ (k0_off114_eq i 7) ?_
        refine Tiles.cons (by decide) _ _ (k0_off113_eq i 7) ?_
        refine Tiles.cons (by decide) _ _ (k0_off112_eq i 7) ?_
        refine Tiles.cons (by decide) _ _ (k0_off111_eq i 7) ?_
        refine Tiles.cons (by decide) _ _ (k0_off110_eq i 7) ?_
        refine Tiles.cons (by decide) _ _ (k0_off125_eq i 6) ?_
        refine Tiles.cons (by decide) _ _ (k0_off124_eq i 6) ?_
        refine Tiles.cons (by decide) _ _ (k0_off123_eq i 6) ?_
        refine Tiles.cons (by decide) _ _ (k0_off122_eq i 6) ?_
        refine Tiles.cons (by decide) _ _ (k0_off121_eq i 6) ?_
        refine Tiles.cons (by decide) _ _ (k0_off120_eq i 6) ?_
        refine Tiles.cons (by decide) _ _ (k0_off119_eq i 6) ?_
        refine Tiles.cons (by decide) _ _ (k0_off118_eq i 6) ?_
        refine Tiles.cons (by decide) _ _ (k0_off117_eq i 6) ?_
        refine Tiles.cons (by decide) _ _ (k0_off116_eq i 6) ?_
        refine Tiles.cons (by decide) _ _ (k0_off115_eq i 6) ?_
        refine Tiles.cons (by decide) _ _ (k0_off114_eq i 6) ?_
        refine Tiles.cons (by decide) _ _ (k0_off113_eq i 6) ?_
        refine Tiles.cons (by decide) _ _ (k0_off112_eq i 6) ?_
        refine Tiles.cons (by decide) _ _ (k0_off111_eq i 6) ?_
        refine Tiles.cons (by decide) _ _ (k0_off110_eq i 6) ?_
        refine Tiles.cons (by decide) _ _ (k0_off125_eq i 5) ?_
        refine Tiles.cons (by decide) _ _ (k0_off124_eq i 5) ?_
        refine Tiles.cons (by decide) _ _ (k0_off123_eq i 5) ?_
        refine Tiles.cons (by decide) _ _ (k0_off122_eq i 5) ?_
        refine Tiles.cons (by decide) _ _ (k0_off121_eq i 5) ?_
        refine Tiles.cons (by decide) _ _ (k0_off120_eq i 5) ?_
        refine Tiles.cons (by decide) _ _ (k0_off119_eq i 5) ?_
        refine Tiles.cons (by decide) _ _ (k0_off118_eq i 5) ?_
        refine Tiles.cons (by decide) _ _ (k0_off117_eq i 5) ?_
        refine Tiles.cons (by decide) _ _ (k0_off116_eq i 5) ?_
        refine Tiles.cons (by decide) _ _ (k0_off115_eq i 5) ?_
        refine Tiles.cons (by decide) _ _ (k0_off114_eq i 5) ?_
        refine Tiles.cons (by decide) _ _ (k0_off113_eq i 5) ?_
        refine Tiles.cons (by decide) _ _ (k0_off112_eq i 5) ?_
        refine Tiles.cons (by decide) _ _ (k0_off111_eq i 5) ?_
        refine Tiles.cons (by decide) _ _ (k0_off110_eq i 5) ?_
        refine Tiles.cons (by decide) _ _ (k0_off125_eq i 4) ?_
        refine Tiles.cons (by decide) _ _ (k0_off124_eq i 4) ?_
        refine Tiles.cons (by decide) _ _ (k0_off123_eq i 4) ?_
        refine Tiles.cons (by decide) _ _ (k0_off122_eq i 4) ?_
        refine Tiles.cons (by decide) _ _ (k0_off121_eq i 4) ?_
        refine Tiles.cons (by decide) _ _ (k0_off120_eq i 4) ?_
        refine Tiles.cons (by decide) _ _ (k0_off119_eq i 4) ?_
        refine Tiles.cons (by decide) _ _ (k0_off118_eq i 4) ?_
        refine Tiles.cons (by decide) _ _ (k0_off117_eq i 4) ?_
        refine Tiles.cons (by decide) _ _ (k0_off116_eq i 4) ?_
        refine Tiles.cons (by decide) _ _ (k0_off115_eq i 4) ?_
        refine Tiles.cons (by decide) _ _ (k0_off114_eq i 4) ?_
        refine Tiles.cons (by decide) _ _ (k0_off113_eq i 4) ?_
        refine Tiles.cons (by decide) _ _ (k0_off112_eq i 4) ?_
        refine Tiles.cons (by decide) _ _ (k0_off111_eq i 4) ?_
        refine Tiles.cons (by decide) _ _ (k0_off110_eq i 4) ?_
        refine Tiles.cons (by decide) _ _ (k0_off125_eq i 3) ?_
        refine Tiles.cons (by decide) _ _ (k0_off124_eq i 3) ?_
        refine Tiles.cons (by decide) _ _ (k0_off123_eq i 3) ?_
        refine Tiles.cons (by decide) _ _ (k0_off122_eq i 3) ?_
        refine Tiles.cons (by decide) _ _ (k0_off121_eq i 3) ?_
        refine Tiles.cons (by decide) _ _ (k0_off120_eq i 3) ?_
        refine Tiles.cons (by decide) _ _ (k0_off119_eq i 3) ?_
        refine Tiles.cons (by decide) _ _ (k0_off118_eq i 3) ?_
        refine Tiles.cons (by decide) _ _ (k0_off117_eq i 3) ?_
        refine Tiles.cons (by decide) _ _ (k0_off116_eq i 3) ?_
        refine Tiles.cons (by decide) _ _ (k0_off115_eq i 3) ?_
        refine Tiles.cons (by decide) _ _ (k0_off114_eq i 3) ?_
        refine Tiles.cons (by decide) _ _ (k0_off113_eq i 3) ?_
        refine Tiles.cons (by decide) _ _ (k0_off112_eq i 3) ?_
        refine Tiles.cons (by decide) _ _ (k0_off111_eq i 3) ?_
        refine Tiles.cons (by decide) _ _ (k0_off110_eq i 3) ?_
        refine Tiles.cons (by decide) _ _ (k0_off125_eq i 2) ?_
        refine Tiles.cons (by decide) _ _ (k0_off124_eq i 2) ?_
        refine Tiles.cons (by decide) _ _ (k0_off123_eq i 2) ?_
        refine Tiles.cons (by decide) _ _ (k0_off122_eq i 2) ?_
        refine Tiles.cons (by decide) _ _ (k0_off121_eq i 2) ?_
        refine Tiles.cons (by decide) _ _ (k0_off120_eq i 2) ?_
        refine Tiles.cons (by decide) _ _ (k0_off119_eq i 2) ?_
        refine Tiles.cons (by decide) _ _ (k0_off118_eq i 2) ?_
        refine Tiles.cons (by decide) _ _ (k0_off117_eq i 2) ?_
        refine Tiles.cons (by decide) _ _ (k0_off116_eq i 2) ?_
        refine Tiles.cons (by decide) _ _ (k0_off115_eq i 2) ?_
        refine Tiles.cons (by decide) _ _ (k0_off114_eq i 2) ?_
        refine Tiles.cons (by decide) _ _ (k0_off113_eq i 2) ?_
        refine Tiles.cons (by decide) _ _ (k0_off112_eq i 2) ?_
        refine Tiles.cons (by decide) _ _ (k0_off111_eq i 2) ?_
        refine Tiles.cons (by decide) _ _ (k0_off110_eq i 2) ?_
        refine Tiles.cons (by decide) _ _ (k0_off125_eq i 1) ?_
        refine Tiles.cons (by decide) _ _ (k0_off124_eq i 1) ?_
        refine Tiles.cons (by decide) _ _ (k0_off123_eq i 1) ?_
        refine Tiles.cons (by decide) _ _ (k0_off122_eq i 1) ?_
        refine Tiles.cons (by decide) _ _ (k0_off121_eq i 1) ?_
        refine Tiles.cons (by decide) _ _ (k0_off120_eq i 1) ?_
        refine Tiles.cons (by decide) _ _ (k0_off119_eq i 1) ?_
        refine Tiles.cons (by decide) _ _ (k0_off118_eq i 1) ?_
        refine Tiles.cons (by decide) _ _ (k0_off117_eq i 1) ?_
        refine Tiles.cons (by decide) _ _ (k0_off116_eq i 1) ?_
        refine Tiles.cons (by decide) _ _ (k0_off115_eq i 1) ?_
        refine Tiles.cons (by decide) _ _ (k0_off114_eq i 1) ?_
        refine Tiles.cons (by decide) _ _ (k0_off113_eq i 1) ?_
        refine Tiles.cons (by decide) _ _ (k0_off112_eq i 1) ?_
        refine Tiles.cons (by decide) _ _ (k0_off111_eq i 1) ?_
        refine Tiles.cons (by decide) _ _ (k0_off110_eq i 1) ?_
        refine Tiles.cons (by decide) _ _ (k0_off125_eq i 0) ?_
        refine Tiles.cons (by decide) _ _ (k0_off124_eq i 0) ?_
        refine Tiles.cons (by decide) _ _ (k0_off123_eq i 0) ?_
        refine Tiles.cons (by decide) _ _ (k0_off122_eq i 0) ?_
        refine Tiles.cons (by decide) _ _ (k0_off121_eq i 0) ?_
        refine Tiles.cons (by decide) _ _ (k0_off120_eq i 0) ?_
        refine Tiles.cons (by decide) _ _ (k0_off119_eq i 0) ?_
        refine Tiles.cons (by decide) _ _ (k0_off118_eq i 0) ?_
        refine Tiles.cons (by decide) _ _ (k0_off117_eq i 0) ?_
        refine Tiles.cons (by decide) _ _ (k0_off116_eq i 0) ?_
        refine Tiles.cons (by decide) _ _ (k0_off115_eq i 0) ?_
        refine Tiles.cons (by decide) _ _ (k0_off114_eq i 0) ?_
        refine Tiles.cons (by decide) _ _ (k0_off113_eq i 0) ?_
        refine Tiles.cons (by decide) _ _ (k0_off112_eq i 0) ?_
        refine Tiles.cons (by decide) _ _ (k0_off111_eq i 0) ?_
        exact Tiles.cons (by decide) _ _ (k0_off110_eq i 0) .nil
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [H30]; · iexists _; isplitl [H30]; (iexact H30); ipureintro; exact h30
      isplitl [H31]; · iexists _; isplitl [H31]; (iexact H31); ipureintro; exact h31
      isplitl [HS27]; · iexact HS27
      isplitl [HS28]; · iexact HS28
      iexists _; iexact HO
    · rw [dif_neg h4]
      iintro ⟨H2, H3, H4, H5, H6, H7, H8, H10, H12, H9, H11, H13, ⟨%f14, H14⟩, ⟨%f15, H15⟩, ⟨%f16, H16⟩, ⟨%f17, H17⟩, ⟨%f18, H18⟩, ⟨%f19, H19⟩, H20, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30, %h30⟩, ⟨%f31, H31, %h31⟩, HS27, HS28, ⟨%W, HO⟩⟩
      iapply (hj5 _)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexact H10
      isplitl [H12]; · iexact H12
      isplitl [H9]; · iexact H9
      isplitl [H11]; · iexact H11
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; isplitl [H20]; (iexact H20); ipureintro; exact hn4 h4
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [H30]; · iexists _; isplitl [H30]; (iexact H30); ipureintro; exact h30
      isplitl [H31]; · iexists _; isplitl [H31]; (iexact H31); ipureintro; exact h31
      isplitl [HS27]; · iexact HS27
      isplitl [HS28]; · iexact HS28
      iexists _; iexact HO
  clear_value j4
  have hj3 : ∀ r, iprop(pt c arg2 f2 ∗ pt c arg3 f3 ∗ pt c arg4 f4 ∗ pt c arg5 f5 ∗ pt c arg6 f6 ∗ pt c arg7 f7 ∗ pt c arg8 f8 ∗ pt c arg10 f10 ∗ pt c arg12 f12 ∗ pt c w9 f9 ∗ pt c w11 f11 ∗ pt c arg13 f13 ∗ ex (F := F) c arg14 ∗ ex (F := F) c arg15 ∗ ex (F := F) c arg16 ∗ ex (F := F) c arg17 ∗ ex (F := F) c arg18 ∗ ex (F := F) c arg19 ∗ pt c w20 f20 ∗ ex (F := F) c w21 ∗ ex (F := F) c w22 ∗ ex (F := F) c w23 ∗ ex (F := F) c w24 ∗ ex (F := F) c w25 ∗ ex (F := F) c w26 ∗ ex (F := F) c w27 ∗ ex (F := F) c w28 ∗ ex (F := F) c w29 ∗ (∃ f : Buf (Elt F) (w30.view.loc (c : Thread nD τ)), pt c w30 f ∗ ⌜bnd w30 192 f⌝) ∗ (∃ f : Buf (Elt F) (w31.view.loc (c : Thread nD τ)), pt c w31 f ∗ ⌜bnd w31 192 f⌝) ∗ semVal ((c : Thread nD τ), SemLoc.dma 27) 0 ∗ semVal ((c : Thread nD τ), SemLoc.dma 28) 0 ∗ (∃ W, owes (c : Thread nD τ) 0 W)) ⊢ wp frame (wpE (defs₀ (F := F)) Variants.none (c : Thread nD τ) none) Set.univ (j3 r) (fun _ => iprop(pt c arg2 f2 ∗ pt c arg3 f3 ∗ pt c arg4 f4 ∗ pt c arg5 f5 ∗ pt c arg6 f6 ∗ pt c arg7 f7 ∗ pt c arg8 f8 ∗ pt c arg10 f10 ∗ pt c arg12 f12 ∗ pt c w9 f9 ∗ pt c w11 f11 ∗ (∃ f : Buf (Elt F) (arg13.view.loc (c : Thread nD τ)), pt c arg13 f ∗ ⌜P13 f⌝) ∗ ex (F := F) c arg14 ∗ ex (F := F) c arg15 ∗ ex (F := F) c arg16 ∗ ex (F := F) c arg17 ∗ ex (F := F) c arg18 ∗ ex (F := F) c arg19 ∗ (∃ f : Buf (Elt F) (w20.view.loc (c : Thread nD τ)), pt c w20 f ∗ ⌜P20 f⌝) ∗ ex (F := F) c w21 ∗ ex (F := F) c w22 ∗ ex (F := F) c w23 ∗ ex (F := F) c w24 ∗ ex (F := F) c w25 ∗ ex (F := F) c w26 ∗ ex (F := F) c w27 ∗ ex (F := F) c w28 ∗ ex (F := F) c w29 ∗ (∃ f : Buf (Elt F) (w30.view.loc (c : Thread nD τ)), pt c w30 f ∗ ⌜bnd w30 192 f⌝) ∗ (∃ f : Buf (Elt F) (w31.view.loc (c : Thread nD τ)), pt c w31 f ∗ ⌜bnd w31 192 f⌝) ∗ semVal ((c : Thread nD τ), SemLoc.dma 27) 0 ∗ semVal ((c : Thread nD τ), SemLoc.dma 28) 0 ∗ (∃ W, owes (c : Thread nD τ) 0 W))) := by
    intro r
    unfold j3
    by_cases h3 : k0_cond3 i = 1#1
    · rw [dif_pos h3]
      iintro ⟨H2, H3, H4, H5, H6, H7, H8, H10, H12, H9, H11, H13, ⟨%f14, H14⟩, ⟨%f15, H15⟩, ⟨%f16, H16⟩, ⟨%f17, H17⟩, ⟨%f18, H18⟩, ⟨%f19, H19⟩, H20, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30, %h30⟩, ⟨%f31, H31, %h31⟩, HS27, HS28, ⟨%W, HO⟩⟩
      sl_exec_parts
      iapply (hj4 _)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexact H10
      isplitl [H12]; · iexact H12
      isplitl [H9]; · iexact H9
      isplitl [H11]; · iexact H11
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [H30]; · iexists _; isplitl [H30]; (iexact H30); ipureintro; exact h30
      isplitl [H31]; · iexists _; isplitl [H31]; (iexact H31); ipureintro; exact h31
      isplitl [HS27]; · iexact HS27
      isplitl [HS28]; · iexact HS28
      iexists _; iexact HO
    · rw [dif_neg h3]
      iintro ⟨H2, H3, H4, H5, H6, H7, H8, H10, H12, H9, H11, H13, ⟨%f14, H14⟩, ⟨%f15, H15⟩, ⟨%f16, H16⟩, ⟨%f17, H17⟩, ⟨%f18, H18⟩, ⟨%f19, H19⟩, H20, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30, %h30⟩, ⟨%f31, H31, %h31⟩, HS27, HS28, ⟨%W, HO⟩⟩
      iapply (hj4 _)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexact H10
      isplitl [H12]; · iexact H12
      isplitl [H9]; · iexact H9
      isplitl [H11]; · iexact H11
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [H30]; · iexists _; isplitl [H30]; (iexact H30); ipureintro; exact h30
      isplitl [H31]; · iexists _; isplitl [H31]; (iexact H31); ipureintro; exact h31
      isplitl [HS27]; · iexact HS27
      isplitl [HS28]; · iexact HS28
      iexists _; iexact HO
  clear_value j3
  have hj2 : ∀ r, iprop(pt c arg2 f2 ∗ pt c arg3 f3 ∗ pt c arg4 f4 ∗ pt c arg5 f5 ∗ pt c arg6 f6 ∗ pt c arg7 f7 ∗ pt c arg8 f8 ∗ pt c arg10 f10 ∗ pt c arg12 f12 ∗ pt c w9 f9 ∗ pt c w11 f11 ∗ pt c arg13 f13 ∗ ex (F := F) c arg14 ∗ ex (F := F) c arg15 ∗ ex (F := F) c arg16 ∗ ex (F := F) c arg17 ∗ ex (F := F) c arg18 ∗ ex (F := F) c arg19 ∗ pt c w20 f20 ∗ ex (F := F) c w21 ∗ ex (F := F) c w22 ∗ ex (F := F) c w23 ∗ ex (F := F) c w24 ∗ ex (F := F) c w25 ∗ ex (F := F) c w26 ∗ ex (F := F) c w27 ∗ ex (F := F) c w28 ∗ ex (F := F) c w29 ∗ (∃ f : Buf (Elt F) (w30.view.loc (c : Thread nD τ)), pt c w30 f ∗ ⌜bnd w30 192 f⌝) ∗ (∃ f : Buf (Elt F) (w31.view.loc (c : Thread nD τ)), pt c w31 f ∗ ⌜bnd w31 192 f⌝) ∗ semVal ((c : Thread nD τ), SemLoc.dma 27) 0 ∗ semVal ((c : Thread nD τ), SemLoc.dma 28) 0 ∗ (∃ W, owes (c : Thread nD τ) 0 W)) ⊢ wp frame (wpE (defs₀ (F := F)) Variants.none (c : Thread nD τ) none) Set.univ (j2 r) (fun _ => iprop(pt c arg2 f2 ∗ pt c arg3 f3 ∗ pt c arg4 f4 ∗ pt c arg5 f5 ∗ pt c arg6 f6 ∗ pt c arg7 f7 ∗ pt c arg8 f8 ∗ pt c arg10 f10 ∗ pt c arg12 f12 ∗ pt c w9 f9 ∗ pt c w11 f11 ∗ (∃ f : Buf (Elt F) (arg13.view.loc (c : Thread nD τ)), pt c arg13 f ∗ ⌜P13 f⌝) ∗ ex (F := F) c arg14 ∗ ex (F := F) c arg15 ∗ ex (F := F) c arg16 ∗ ex (F := F) c arg17 ∗ ex (F := F) c arg18 ∗ ex (F := F) c arg19 ∗ (∃ f : Buf (Elt F) (w20.view.loc (c : Thread nD τ)), pt c w20 f ∗ ⌜P20 f⌝) ∗ ex (F := F) c w21 ∗ ex (F := F) c w22 ∗ ex (F := F) c w23 ∗ ex (F := F) c w24 ∗ ex (F := F) c w25 ∗ ex (F := F) c w26 ∗ ex (F := F) c w27 ∗ ex (F := F) c w28 ∗ ex (F := F) c w29 ∗ (∃ f : Buf (Elt F) (w30.view.loc (c : Thread nD τ)), pt c w30 f ∗ ⌜bnd w30 192 f⌝) ∗ (∃ f : Buf (Elt F) (w31.view.loc (c : Thread nD τ)), pt c w31 f ∗ ⌜bnd w31 192 f⌝) ∗ semVal ((c : Thread nD τ), SemLoc.dma 27) 0 ∗ semVal ((c : Thread nD τ), SemLoc.dma 28) 0 ∗ (∃ W, owes (c : Thread nD τ) 0 W))) := by
    intro r
    unfold j2
    by_cases h2 : k0_cond2 i = 1#1
    · rw [dif_pos h2]
      iintro ⟨H2, H3, H4, H5, H6, H7, H8, H10, H12, H9, H11, H13, ⟨%f14, H14⟩, ⟨%f15, H15⟩, ⟨%f16, H16⟩, ⟨%f17, H17⟩, ⟨%f18, H18⟩, ⟨%f19, H19⟩, H20, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30, %h30⟩, ⟨%f31, H31, %h31⟩, HS27, HS28, ⟨%W, HO⟩⟩
      sl_exec_parts
      iapply (hj3 _)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexact H10
      isplitl [H12]; · iexact H12
      isplitl [H9]; · iexact H9
      isplitl [H11]; · iexact H11
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [H30]; · iexists _; isplitl [H30]; (iexact H30); ipureintro; exact h30
      isplitl [H31]; · iexists _; isplitl [H31]; (iexact H31); ipureintro; exact h31
      isplitl [HS27]; · iexact HS27
      isplitl [HS28]; · iexact HS28
      iexists _; iexact HO
    · rw [dif_neg h2]
      iintro ⟨H2, H3, H4, H5, H6, H7, H8, H10, H12, H9, H11, H13, ⟨%f14, H14⟩, ⟨%f15, H15⟩, ⟨%f16, H16⟩, ⟨%f17, H17⟩, ⟨%f18, H18⟩, ⟨%f19, H19⟩, H20, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30, %h30⟩, ⟨%f31, H31, %h31⟩, HS27, HS28, ⟨%W, HO⟩⟩
      iapply (hj3 _)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexact H10
      isplitl [H12]; · iexact H12
      isplitl [H9]; · iexact H9
      isplitl [H11]; · iexact H11
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [H30]; · iexists _; isplitl [H30]; (iexact H30); ipureintro; exact h30
      isplitl [H31]; · iexists _; isplitl [H31]; (iexact H31); ipureintro; exact h31
      isplitl [HS27]; · iexact HS27
      isplitl [HS28]; · iexact HS28
      iexists _; iexact HO
  clear_value j2
  by_cases h1 : k0_cond1 i = 1#1
  · rw [dif_pos h1]
    have _plan : Transfers.BatchOf (c : Thread nD τ) (SemLoc.dma (sig := sig) 27) 14 (windows := true) := trivial
    have _plan' : Transfers.BatchOf (c : Thread nD τ) (SemLoc.dma (sig := sig) 28) 14 (windows := true) := trivial
    iintro ⟨H2, H3, H4, H5, H6, H7, H8, H10, H12, H9, H11, H13, ⟨%f14, H14⟩, ⟨%f15, H15⟩, ⟨%f16, H16⟩, ⟨%f17, H17⟩, ⟨%f18, H18⟩, ⟨%f19, H19⟩, H20, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30, %h30⟩, ⟨%f31, H31, %h31⟩, HS27, HS28, ⟨%W, HO⟩⟩
    have b30 := bnd_zero w30 f30
    have b31 := bnd_zero w31 f31
    ihave H9 := (toks c w9 f9).1 $$ H9
    icases H9 with ⟨H9, T9_0, T9_1, T9_2, T9_3, T9_4, T9_5, T9_6, T9_7, T9_8, T9_9, T9_10, T9_11, T9_12⟩
    ihave H11 := (toks c w11 f11).1 $$ H11
    icases H11 with ⟨H11, T11_0, T11_1, T11_2, T11_3, T11_4, T11_5, T11_6, T11_7, T11_8, T11_9, T11_10, T11_11, T11_12⟩
    set_option sl_exec.stopBefore "k0_part25" in sl_exec_parts (disch := first | ((with_reducible refine c1 _ ?_); exact hadp _) | ((with_reducible refine c2 _ ?_); exact hadp _) | ((with_reducible refine c3 _ ?_); exact hadp _) | ((with_reducible refine c4 _ ?_); exact hadp _) | ((with_reducible refine c5 _ ?_); exact hadp _) | ((with_reducible refine c6 _ ?_); exact hadp _) | ((with_reducible refine c7 _ ?_); exact hadp _) | ((with_reducible refine c8 _ ?_); exact hadp _) | ((with_reducible refine c9 _ ?_); exact hadp _) | ((with_reducible refine c10 _ ?_); exact hadp _) | ((with_reducible refine c11 _ ?_); exact hadp _) | ((with_reducible refine c12 _ ?_); exact hadp _) | ((with_reducible refine c13 _ ?_); exact hadp _) | ((with_reducible refine c14 _ ?_); exact hadp _) | ((with_reducible refine c15 _ ?_); exact hadp _) | ((with_reducible refine c16 _ ?_); exact hadp _) | ((with_reducible refine c17 _ ?_); exact hadp _) | ((with_reducible refine c18 _ ?_); exact hadp _) | ((with_reducible refine c19 _ ?_); exact hadp _) | ((with_reducible refine c20 _ ?_); exact hadp _) | ((with_reducible refine c21 _ ?_); exact hadp _) | ((with_reducible refine c22 _ ?_); exact hadp _) | ((with_reducible refine c23 _ ?_); exact hadp _) | ((with_reducible refine c24 _ ?_); exact hadp _) | ((with_reducible refine c25 _ ?_); exact hadp _) | ((with_reducible refine c26 _ ?_); exact hadp _) | ((with_reducible refine c27 _ ?_); exact hadp _) | ((with_reducible refine c28 _ ?_); exact hadp _) | ((with_reducible refine c29 _ ?_); exact hadp _) | ((with_reducible refine c30 _ ?_); exact hadp _) | ((with_reducible refine c31 _ ?_); exact hadp _) | ((with_reducible refine c32 _ ?_); exact hadp _) | ((with_reducible refine c33 _ ?_); exact hadp _) | ((with_reducible refine c34 _ ?_); exact hadp _) | ((with_reducible refine c35 _ ?_); exact hadp _) | ((with_reducible refine c36 _ ?_); exact hadp _) | ((with_reducible refine c37 _ ?_); exact hadp _) | ((with_reducible refine c38 _ ?_); exact hadp _) | ((with_reducible refine c39 _ ?_); exact hadp _) | ((with_reducible refine c40 _ ?_); exact hadp _) | ((with_reducible refine c41 _ ?_); exact hadp _) | ((with_reducible refine c42 _ ?_); exact hadp _) | ((with_reducible refine c43 _ ?_); exact hadp _) | ((with_reducible refine c44 _ ?_); exact hadp _) | ((with_reducible refine c45 _ ?_); exact hadp _) | ((with_reducible refine c46 _ ?_); exact hadp _) | ((with_reducible refine c47 _ ?_); exact hadp _) | ((with_reducible refine c48 _ ?_); exact hadp _) | ((with_reducible refine c49 _ ?_); exact hadp _) | ((with_reducible refine c50 _ ?_); exact hadp _) | ((with_reducible refine c51 _ ?_); exact hadp _) | ((with_reducible refine c52 _ ?_); exact hadp _) | ((with_reducible refine c53 _ ?_); exact hadp _) | ((with_reducible refine c54 _ ?_); exact hadp _) | ((with_reducible refine c55 _ ?_); exact hadp _) | ((with_reducible refine c56 _ ?_); exact hadp _) | ((with_reducible refine c57 _ ?_); exact hadp _) | ((with_reducible refine c58 _ ?_); exact hadp _))
    ihave H24 := (forget c w24 _) $$ H24
    icases H24 with ⟨%g24, H24⟩
    ihave H25 := (forget c w25 _) $$ H25
    icases H25 with ⟨%g25, H25⟩
    sl_exec_parts (disch := first | ((with_reducible refine c1 _ ?_); exact hadp _) | ((with_reducible refine c2 _ ?_); exact hadp _) | ((with_reducible refine c3 _ ?_); exact hadp _) | ((with_reducible refine c4 _ ?_); exact hadp _) | ((with_reducible refine c5 _ ?_); exact hadp _) | ((with_reducible refine c6 _ ?_); exact hadp _) | ((with_reducible refine c7 _ ?_); exact hadp _) | ((with_reducible refine c8 _ ?_); exact hadp _) | ((with_reducible refine c9 _ ?_); exact hadp _) | ((with_reducible refine c10 _ ?_); exact hadp _) | ((with_reducible refine c11 _ ?_); exact hadp _) | ((with_reducible refine c12 _ ?_); exact hadp _) | ((with_reducible refine c13 _ ?_); exact hadp _) | ((with_reducible refine c14 _ ?_); exact hadp _) | ((with_reducible refine c15 _ ?_); exact hadp _) | ((with_reducible refine c16 _ ?_); exact hadp _) | ((with_reducible refine c17 _ ?_); exact hadp _) | ((with_reducible refine c18 _ ?_); exact hadp _) | ((with_reducible refine c19 _ ?_); exact hadp _) | ((with_reducible refine c20 _ ?_); exact hadp _) | ((with_reducible refine c21 _ ?_); exact hadp _) | ((with_reducible refine c22 _ ?_); exact hadp _) | ((with_reducible refine c23 _ ?_); exact hadp _) | ((with_reducible refine c24 _ ?_); exact hadp _) | ((with_reducible refine c25 _ ?_); exact hadp _) | ((with_reducible refine c26 _ ?_); exact hadp _) | ((with_reducible refine c27 _ ?_); exact hadp _) | ((with_reducible refine c28 _ ?_); exact hadp _) | ((with_reducible refine c29 _ ?_); exact hadp _) | ((with_reducible refine c30 _ ?_); exact hadp _) | ((with_reducible refine c31 _ ?_); exact hadp _) | ((with_reducible refine c32 _ ?_); exact hadp _) | ((with_reducible refine c33 _ ?_); exact hadp _) | ((with_reducible refine c34 _ ?_); exact hadp _) | ((with_reducible refine c35 _ ?_); exact hadp _) | ((with_reducible refine c36 _ ?_); exact hadp _) | ((with_reducible refine c37 _ ?_); exact hadp _) | ((with_reducible refine c38 _ ?_); exact hadp _) | ((with_reducible refine c39 _ ?_); exact hadp _) | ((with_reducible refine c40 _ ?_); exact hadp _) | ((with_reducible refine c41 _ ?_); exact hadp _) | ((with_reducible refine c42 _ ?_); exact hadp _) | ((with_reducible refine c43 _ ?_); exact hadp _) | ((with_reducible refine c44 _ ?_); exact hadp _) | ((with_reducible refine c45 _ ?_); exact hadp _) | ((with_reducible refine c46 _ ?_); exact hadp _) | ((with_reducible refine c47 _ ?_); exact hadp _) | ((with_reducible refine c48 _ ?_); exact hadp _) | ((with_reducible refine c49 _ ?_); exact hadp _) | ((with_reducible refine c50 _ ?_); exact hadp _) | ((with_reducible refine c51 _ ?_); exact hadp _) | ((with_reducible refine c52 _ ?_); exact hadp _) | ((with_reducible refine c53 _ ?_); exact hadp _) | ((with_reducible refine c54 _ ?_); exact hadp _) | ((with_reducible refine c55 _ ?_); exact hadp _) | ((with_reducible refine c56 _ ?_); exact hadp _) | ((with_reducible refine c57 _ ?_); exact hadp _) | ((with_reducible refine c58 _ ?_); exact hadp _))
    ihave H9 := (toks c w9 f9).2 $$ [H9 T9_0 T9_1 T9_2 T9_3 T9_4 T9_5 T9_6 T9_7 T9_8 T9_9 T9_10 T9_11 T9_12]
    · isplitl [H9]; · iexact H9
      isplitl [T9_0]; · iexact T9_0
      isplitl [T9_1]; · iexact T9_1
      isplitl [T9_2]; · iexact T9_2
      isplitl [T9_3]; · iexact T9_3
      isplitl [T9_4]; · iexact T9_4
      isplitl [T9_5]; · iexact T9_5
      isplitl [T9_6]; · iexact T9_6
      isplitl [T9_7]; · iexact T9_7
      isplitl [T9_8]; · iexact T9_8
      isplitl [T9_9]; · iexact T9_9
      isplitl [T9_10]; · iexact T9_10
      isplitl [T9_11]; · iexact T9_11
      iexact T9_12
    ihave H11 := (toks c w11 f11).2 $$ [H11 T11_0 T11_1 T11_2 T11_3 T11_4 T11_5 T11_6 T11_7 T11_8 T11_9 T11_10 T11_11 T11_12]
    · isplitl [H11]; · iexact H11
      isplitl [T11_0]; · iexact T11_0
      isplitl [T11_1]; · iexact T11_1
      isplitl [T11_2]; · iexact T11_2
      isplitl [T11_3]; · iexact T11_3
      isplitl [T11_4]; · iexact T11_4
      isplitl [T11_5]; · iexact T11_5
      isplitl [T11_6]; · iexact T11_6
      isplitl [T11_7]; · iexact T11_7
      isplitl [T11_8]; · iexact T11_8
      isplitl [T11_9]; · iexact T11_9
      isplitl [T11_10]; · iexact T11_10
      isplitl [T11_11]; · iexact T11_11
      iexact T11_12
    iapply (hj2 _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]; · iexact H10
    isplitl [H12]; · iexact H12
    isplitl [H9]; · iexact H9
    isplitl [H11]; · iexact H11
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; isplitl [H30]; (iexact H30); ipureintro; exact hL2
    isplitl [H31]; · iexists _; isplitl [H31]; (iexact H31); ipureintro; exact hL4
    isplitl [HS27]; · iexact HS27
    isplitl [HS28]; · iexact HS28
    iexists _; iexact HO
  · rw [dif_neg h1]
    iintro ⟨H2, H3, H4, H5, H6, H7, H8, H10, H12, H9, H11, H13, ⟨%f14, H14⟩, ⟨%f15, H15⟩, ⟨%f16, H16⟩, ⟨%f17, H17⟩, ⟨%f18, H18⟩, ⟨%f19, H19⟩, H20, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30, %h30⟩, ⟨%f31, H31, %h31⟩, HS27, HS28, ⟨%W, HO⟩⟩
    iapply (hj2 _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]; · iexact H10
    isplitl [H12]; · iexact H12
    isplitl [H9]; · iexact H9
    isplitl [H11]; · iexact H11
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; isplitl [H30]; (iexact H30); ipureintro; exact (h30 h1)
    isplitl [H31]; · iexists _; isplitl [H31]; (iexact H31); ipureintro; exact (h31 h1)
    isplitl [HS27]; · iexact HS27
    isplitl [HS28]; · iexact HS28
    iexists _; iexact HO

end Cert.KernelIdeal.Hand
-- ==== Proof.KIWeights.lean ====
/-
  The weight scratch of the kernel: what the stores of one point leave in it, and what it holds before each point.
-/
module

public import proofs.«01_k».proof.Proof.KIBody
public import proofs.«01_k».proof.Proof.KITile
public import proofs.«01_k».proof.Proof.Gen.KernelIdeal.Frame
public import Idealize.ShloMosaic.Lib.ValueIdxCore
public import Idealize.ShloMosaic.Lib.Writes

@[expose] public section

set_option maxRecDepth 65536

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx (ix2)
open Idealize.ShloMosaic.Pipeline (Dat)

variable {F : FTy → Type} [FloatOps F] [∀ e, Nonempty (Elt F e)]

/-- Tile `n` of the weights, of a point's blocks of packed words, zero points and scales. -/
def tileB (B4 : Vec F S2048x128 .i32) (B5 : Vec F S16x128 .i32) (B6 : Vec F S16x1024 .f32) (n : ℕ) (hn : n < 128) : FVec F S128x128 .bf16 :=
  tile (n / 16) (n % 16) (Nat.mod_lt _ (by decide)) (fun x => B4 ((rowsOf (n % 16) 0 (Nat.mod_lt _ (by decide)) (by decide)).idx x))
    (fun x => B4 ((rowsOf (n % 16) 1 (Nat.mod_lt _ (by decide)) (by decide)).idx x)) (fun x => B5 (zerosOf.idx x))
    (fun x => B6 ((scalesOf (n / 16) (by omega)).idx x))

/-- The tile does not depend on how its number is written. -/
theorem tileB_congr (B4 : Vec F S2048x128 .i32) (B5 : Vec F S16x128 .i32) (B6 : Vec F S16x1024 .f32) {n n' : ℕ} (e : n = n') (hn : n < 128) (hn' : n' < 128) :
    tileB (F := F) B4 B5 B6 n hn = tileB B4 B5 B6 n' hn' := by subst e; rfl

/-- Entry (r, l) of the weights of a point's blocks. -/
def wblk (B4 : Vec F S2048x128 .i32) (B5 : Vec F S16x128 .i32) (B6 : Vec F S16x1024 .f32) (r l : ℕ) (hr : r < 2048) (hl : l < 1024) : Elt F .bf16 :=
  tileB B4 B5 B6 (16 * (l / 128) + r / 128) (by omega) (ix2 ⟨r % 128, Nat.mod_lt _ (by decide)⟩ ⟨l % 128, Nat.mod_lt _ (by decide)⟩)

theorem wblk_congr (B4 : Vec F S2048x128 .i32) (B5 : Vec F S16x128 .i32) (B6 : Vec F S16x1024 .f32) {r l r' l' : ℕ} (er : r = r') (el : l = l')
    (hr : r < 2048) (hl : l < 1024) (hr' : r' < 2048) (hl' : l' < 1024) : wblk (F := F) B4 B5 B6 r l hr hl = wblk B4 B5 B6 r' l' hr' hl' := by
  subst er; subst el; rfl

section tiles
variable (i : grid0.Coords) (arg6 : Memref sig .tc .vmem S2048x128 .i32) (arg7 : Memref sig .tc .vmem S16x128 .i32) (arg8 : Memref sig .tc .vmem S16x1024 .f32) (c : Dev nD)
  (f6 : Buf (Elt F) (arg6.view.loc (c : Thread nD τ))) (f7 : Buf (Elt F) (arg7.view.loc (c : Thread nD τ))) (f8 : Buf (Elt F) (arg8.view.loc (c : Thread nD τ)))
  (B4 : Vec F S2048x128 .i32) (B5 : Vec F S16x128 .i32) (B6 : Vec F S16x1024 .f32)

theorem tileAt_eq (e6 : arg6.view.read (Elt F) f6 = B4) (e7 : arg7.view.read (Elt F) f7 = B5) (e8 : arg8.view.read (Elt F) f8 = B6) (n : ℕ) (hn : n < 128) :
    tileAt arg6 arg7 arg8 c f6 f7 f8 n hn = tileB B4 B5 B6 n hn := by
  subst e6; subst e7; subst e8; rfl

/-- The weights of the point's blocks, at any index of the scratch. -/
def gblk (y : S2048x8192.Idx) : Elt F .bf16 := wblk B4 B5 B6 (y 0).val ((y 1).val % 1024) (y 0).isLt (Nat.mod_lt _ (by decide))

/-- Every store of a point puts the weights where it stores. -/
theorem Tiles.agree (e6 : arg6.view.read (Elt F) f6 = B4) (e7 : arg7.view.read (Elt F) f7 = B5) (e8 : arg8.view.read (Elt F) f8 = B6) {n : ℕ} {L}
    (h : Tiles i arg6 arg7 arg8 c f6 f7 f8 n L) : ∀ p ∈ L, ∀ x : p.1.shape.Idx, p.2 x = gblk B4 B5 B6 (p.1.emb x) := by
  induction h with
  | nil => intro p hp; exact absurd hp List.not_mem_nil
  | @cons n L hn off inb hoff h ih =>
    intro p hp
    rcases List.mem_cons.mp hp with rfl | hp
    · intro x
      have hx0 : (x 0).val < 128 := (x 0).isLt
      have hx1 : (x 1).val < 128 := (x 1).isLt
      have hi : (i 1).val < 8 := (i 1).isLt
      have h0 : (((Rect.unit (s := S2048x8192) off S128x128.size inb).emb x) 0).val = 128 * (n % 16) + (x 0).val := by
        rw [Rect.emb_apply]; subst hoff; show 128 * (n % 16) + 1 * (x 0).val = _; omega
      have h1 : (((Rect.unit (s := S2048x8192) off S128x128.size inb).emb x) 1).val = 1024 * (i 1).val + 128 * (n / 16) + (x 1).val := by
        rw [Rect.emb_apply]; subst hoff; show 1024 * (i 1).val + 128 * (n / 16) + 1 * (x 1).val = _; omega
      show tileAt arg6 arg7 arg8 c f6 f7 f8 n hn x = _
      rw [tileAt_eq arg6 arg7 arg8 c f6 f7 f8 B4 B5 B6 e6 e7 e8]
      refine Eq.trans ?_ (wblk_congr B4 B5 B6 h0 (show (((Rect.unit (s := S2048x8192) off S128x128.size inb).emb x) 1).val % 1024 = 128 * (n / 16) + (x 1).val by rw [h1]; omega) (by rw [h0]; omega) (Nat.mod_lt _ (by decide)) (by omega) (by omega)).symm
      unfold wblk
      rw [tileB_congr B4 B5 B6 (show 16 * ((128 * (n / 16) + (x 1).val) / 128) + (128 * (n % 16) + (x 0).val) / 128 = n by omega) _ hn]
      congr 1
      funext d
      match d with
      | ⟨0, _⟩ => exact Fin.ext (show (x 0).val = (128 * (n % 16) + (x 0).val) % 128 by omega)
      | ⟨1, _⟩ => exact Fin.ext (show (x 1).val = (128 * (n / 16) + (x 1).val) % 128 by omega)
    · exact ih p hp

/-- The stores of a point lie in the point's columns. -/
theorem Tiles.inside {n : ℕ} {L} (h : Tiles i arg6 arg7 arg8 c f6 f7 f8 n L) : ∀ p ∈ L, ∀ y ∈ p.1.set, (y 1).val / 1024 = (i 1).val := by
  induction h with
  | nil => intro p hp; exact absurd hp List.not_mem_nil
  | @cons n L hn off inb hoff h ih =>
    intro p hp
    rcases List.mem_cons.mp hp with rfl | hp
    · intro y hy
      have h1 := (Rect.mem_set_unit (inb := inb)).mp hy 1
      subst hoff
      have h2 : 1024 * (i 1).val + 128 * (n / 16) ≤ (y 1).val ∧ (y 1).val < 1024 * (i 1).val + 128 * (n / 16) + 128 := h1
      omega
    · exact ih p hp

/-- The first `n` stores cover the first `n` tiles. -/
theorem Tiles.covers {n : ℕ} {L} (h : Tiles i arg6 arg7 arg8 c f6 f7 f8 n L) :
    ∀ y : S2048x8192.Idx, (y 1).val / 1024 = (i 1).val → 16 * ((y 1).val % 1024 / 128) + (y 0).val / 128 < n → ∃ p ∈ L, y ∈ p.1.set := by
  induction h with
  | nil => intro y _ hn; exact absurd hn (Nat.not_lt_zero _)
  | @cons n L hn off inb hoff h ih =>
    intro y hy hlt
    by_cases hk : 16 * ((y 1).val % 1024 / 128) + (y 0).val / 128 < n
    · obtain ⟨p, hp, hm⟩ := ih y hy hk
      exact ⟨p, List.mem_cons_of_mem _ hp, hm⟩
    · refine ⟨_, List.mem_cons_self, ?_⟩
      have hy0 : (y 0).val < 2048 := (y 0).isLt
      refine (Rect.mem_set_unit (inb := inb)).mpr fun a => ?_
      subst hoff
      match a with
      | ⟨0, _⟩ => show 128 * (n % 16) ≤ (y 0).val ∧ (y 0).val < 128 * (n % 16) + 128; omega
      | ⟨1, _⟩ => show 1024 * (i 1).val + 128 * (n / 16) ≤ (y 1).val ∧ (y 1).val < 1024 * (i 1).val + 128 * (n / 16) + 128; omega

/-- The scratch after a point's stores: the weights in the point's columns, what it was elsewhere. -/
theorem Tiles.read (e6 : arg6.view.read (Elt F) f6 = B4) (e7 : arg7.view.read (Elt F) f7 = B5) (e8 : arg8.view.read (Elt F) f8 = B6) {L}
    (h : Tiles i arg6 arg7 arg8 c f6 f7 f8 128 L) (f20 : Buf (Elt F) (w20.view.loc (c : Thread nD τ))) (y : S2048x8192.Idx) :
    w20.view.read (Elt F) (w20.view.writes (Elt F) f20 L) y = if (y 1).val / 1024 = (i 1).val then gblk B4 B5 B6 y else w20.view.read (Elt F) f20 y := by
  split
  · rename_i hy
    refine View.read_writes_apply_of_pieces w20.view f20 (gblk B4 B5 B6) L (h.agree i arg6 arg7 arg8 c f6 f7 f8 B4 B5 B6 e6 e7 e8) y (h.covers i arg6 arg7 arg8 c f6 f7 f8 y hy ?_)
    have hy0 : (y 0).val < 2048 := (y 0).isLt
    omega
  · rename_i hy
    exact View.read_writes_apply_of_forall_not_mem w20.view f20 y L fun p hp hm => hy (h.inside i arg6 arg7 arg8 c f6 f7 f8 p hp y hm)
end tiles

variable (m : (ℓ : Loc nD τ sig) → Buf (Elt F) ℓ)

/-- The grid's point `t` is (t / 8, t % 8). -/
theorem coords1 : ∀ t : Fin cfg0.N, ((grid0.coords t) 1).val = t.val % 8 := by decide
/-- The weights are computed at the first eight points. -/
theorem cond4_iff : ∀ t : Fin cfg0.N, k0_cond4 (grid0.coords t) = 1#1 ↔ t.val < 8 := by decide
/-- The products are computed at all but the last eight. -/
theorem cond6_iff : ∀ t : Fin cfg0.N, k0_cond6 (grid0.coords t) = 1#1 ↔ t.val < 48 := by decide

/-- The point among the first eight that computes the weights of column `l`. -/
def tw (l : ℕ) (hl : l < 8192) : Fin cfg0.N := ⟨l / 1024, lt_of_lt_of_le (show l / 1024 < 8 by omega) (by decide)⟩

/-- The weights, dequantised. -/
def Wd (c : Dev nD) (y : S2048x8192.Idx) : Elt F .bf16 :=
  gblk (iblk m c 4 (tw (y 1).val (y 1).isLt)) (iblk m c 5 (tw (y 1).val (y 1).isLt)) (iblk m c 6 (tw (y 1).val (y 1).isLt)) y

/-- What the weight scratch holds before point `t`: the weights of the columns of the points before it. -/
def inv20 (c : Dev nD) (t : ℕ) (f : Buf (Elt F) (w20.view.loc (c : Thread nD τ))) : Prop :=
  ∀ y : S2048x8192.Idx, (y 1).val / 1024 < t → w20.view.read (Elt F) f y = Wd m c y

theorem inv20_zero (c : Dev nD) (f) : inv20 m c 0 f := fun y h => absurd h (Nat.not_lt_zero _)

/-- A point past the first eight leaves the weights. -/
theorem inv20_keep (c : Dev nD) (t : Fin cfg0.N) (f) (h4 : k0_cond4 (grid0.coords t) ≠ 1#1) (h : inv20 m c t.val f) : inv20 m c (t.val + 1) f := fun y hy => by
  have h8 : ¬ t.val < 8 := fun hh => h4 ((cond4_iff t).mpr hh)
  have hy1 : (y 1).val < 8192 := (y 1).isLt
  exact h y (by omega)

/-- One of the first eight adds its columns. -/
theorem inv20_step (c : Dev nD) (t : Fin cfg0.N) (arg6 arg7 arg8) (f6 f7 f8) (L f)
    (e6 : arg6.view.read (Elt F) f6 = iblk m c 4 t) (e7 : arg7.view.read (Elt F) f7 = iblk m c 5 t) (e8 : arg8.view.read (Elt F) f8 = iblk m c 6 t)
    (h : inv20 m c t.val f) (hT : Tiles (grid0.coords t) arg6 arg7 arg8 c f6 f7 f8 128 L) (h4 : k0_cond4 (grid0.coords t) = 1#1) :
    inv20 m c (t.val + 1) (w20.view.writes (Elt F) f L) := fun y hy => by
  have h8 := (cond4_iff t).mp h4
  have hc := coords1 t
  rw [Tiles.read (grid0.coords t) arg6 arg7 arg8 c f6 f7 f8 _ _ _ e6 e7 e8 hT f y]
  split
  · rename_i hi
    have ht : tw (y 1).val (y 1).isLt = t := Fin.ext (show (y 1).val / 1024 = t.val by omega)
    unfold Wd
    rw [ht]
  · rename_i hi
    exact h y (by omega)

/-- The block of the base product that a point leaves in its staging buffer. -/
def yblk (c : Dev nD) (t : Fin cfg0.N) : Vec F S256x1024 .bf16 :=
  k0_pay527 (iblk m c 3 t) (fun x => Wd m c (ix2 (x 0) ⟨1024 * (t.val % 8) + (x 1).val, by have h : (x 1).val < 1024 := (x 1).isLt; omega⟩))

/-- A point's block; the last eight leave the block of the point before them. -/
def yout (c : Dev nD) (t : Fin cfg0.N) : Vec F S256x1024 .bf16 := yblk m c ⟨min t.val 47, lt_of_le_of_lt (Nat.min_le_left _ _) t.isLt⟩

theorem off126_eq : ∀ t : Fin cfg0.N, k0_off126 (grid0.coords t) = ![0, 1024 * (t.val % 8)] := by decide

/-- The block a point stores, read back. -/
theorem yout_stored (c : Dev nD) (t : Fin cfg0.N) (arg5 : Memref sig .tc .vmem S256x2048 .bf16) (arg13 : Memref sig .tc .vmem S256x1024 .bf16) (f5 : Buf (Elt F) (arg5.view.loc (c : Thread nD τ))) (f13 : Buf (Elt F) (arg13.view.loc (c : Thread nD τ))) (g20 : Buf (Elt F) (w20.view.loc (c : Thread nD τ))) (h6 : k0_cond6 (grid0.coords t) = 1#1)
    (e5 : arg5.view.read (Elt F) f5 = iblk m c 3 t) (h : inv20 m c (t.val + 1) g20) :
    arg13.view.read (Elt F) (arg13.view.writes (Elt F) f13 [⟨Rect.unit (s := S256x1024) ![0, 0] S256x1024.size inb_S256x1024_S256x1024_0_0,
      k0_pay527 (arg5.view.readAt (Elt F) (Rect.unit (s := S256x2048) ![0, 0] S256x2048.size inb_S256x2048_S256x2048_0_0).toLoadRect f5)
        (w20.view.readAt (Elt F) (Rect.unit (s := S2048x8192) (k0_off126 (grid0.coords t)) S2048x1024.size (k0_off126_inb (grid0.coords t) h6)).toLoadRect g20)⟩])
      = yout m c t := by
  have h48 := (cond6_iff t).mp h6
  have hx : arg5.view.readAt (Elt F) (Rect.unit (s := S256x2048) ![0, 0] S256x2048.size inb_S256x2048_S256x2048_0_0).toLoadRect f5 = iblk m c 3 t := by
    rw [← e5]
    funext x
    show arg5.view.read (Elt F) f5 _ = arg5.view.read (Elt F) f5 x
    congr 1
    funext d
    match d with
    | ⟨0, _⟩ => exact Fin.ext (show 0 + 1 * (x 0).val = (x 0).val by omega)
    | ⟨1, _⟩ => exact Fin.ext (show 0 + 1 * (x 1).val = (x 1).val by omega)
  have hw : w20.view.readAt (Elt F) (Rect.unit (s := S2048x8192) (k0_off126 (grid0.coords t)) S2048x1024.size (k0_off126_inb (grid0.coords t) h6)).toLoadRect g20
      = fun x => Wd m c (ix2 (x 0) ⟨1024 * (t.val % 8) + (x 1).val, by have h : (x 1).val < 1024 := (x 1).isLt; omega⟩) := by
    funext x
    have hx1 : (x 1).val < 1024 := (x 1).isLt
    have ei : (Rect.unit (s := S2048x8192) (k0_off126 (grid0.coords t)) S2048x1024.size (k0_off126_inb (grid0.coords t) h6)).toLoadRect.idx x
        = ix2 (x 0) ⟨1024 * (t.val % 8) + (x 1).val, by omega⟩ := by
      funext d
      match d with
      | ⟨0, _⟩ =>
        refine Fin.ext ?_
        show (k0_off126 (grid0.coords t)) 0 + 1 * (x 0).val = (x 0).val
        have o : (k0_off126 (grid0.coords t)) 0 = 0 := congrFun (off126_eq t) 0
        omega
      | ⟨1, _⟩ =>
        refine Fin.ext ?_
        show (k0_off126 (grid0.coords t)) 1 + 1 * (x 1).val = 1024 * (t.val % 8) + (x 1).val
        have o : (k0_off126 (grid0.coords t)) 1 = 1024 * (t.val % 8) := congrFun (off126_eq t) 1
        omega
    show w20.view.read (Elt F) g20 _ = _
    rw [ei]
    exact h _ (show (1024 * (t.val % 8) + (x 1).val) / 1024 < t.val + 1 by omega)
  rw [hx, hw]
  have ht : (⟨min t.val 47, lt_of_le_of_lt (Nat.min_le_left _ _) t.isLt⟩ : Fin cfg0.N) = t := Fin.ext (show min t.val 47 = t.val by omega)
  unfold yout
  rw [ht]
  funext y
  have ey : (Rect.unit (s := S256x1024) ![0, 0] S256x1024.size inb_S256x1024_S256x1024_0_0).emb y = y := by
    funext d
    match d with
    | ⟨0, _⟩ => exact Fin.ext (show 0 + 1 * (y 0).val = (y 0).val by omega)
    | ⟨1, _⟩ => exact Fin.ext (show 0 + 1 * (y 1).val = (y 1).val by omega)
  have hs := View.read_writes_cons_emb arg13.view f13 (Rect.unit (s := S256x1024) ![0, 0] S256x1024.size inb_S256x1024_S256x1024_0_0) (yblk m c t) [] y
  rw [ey] at hs
  exact hs

/-- The last eight points leave the block that they find. -/
theorem yout_keep (c : Dev nD) (t : Fin cfg0.N) (h6 : k0_cond6 (grid0.coords t) ≠ 1#1) (ht : t.val - 1 < cfg0.N) : yout m c ⟨t.val - 1, ht⟩ = yout m c t := by
  have h48 : ¬ t.val < 48 := fun hh => h6 ((cond6_iff t).mpr hh)
  unfold yout
  congr 1
  exact Fin.ext (show min (t.val - 1) 47 = min t.val 47 by omega)

end Cert.KernelIdeal.Hand
-- ==== Proof.KIPrep.lean ====
module

public import proofs.«01_k».proof.Proof.KIBody
public import proofs.«01_k».proof.Proof.KIWeights
public import proofs.«01_k».proof.Proof.Gen.KernelIdeal.Skeleton
public import Idealize.ShloMosaic.Lib.Pipeline.Frame
public import Idealize.ShloMosaic.Lib.Tactic
public import Idealize.ShloMosaic.Lib.Transfers

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-- The two transfer semaphores that the kernel owns, by their numbers in the pool. -/
abbrev osem0 : Fin 2 → SemLoc sig := fun j => (![SemLoc.dma 27, SemLoc.dma 28] : Fin 2 → SemLoc sig) j
/-- They are the kernel's own and distinct. -/
theorem ownSemFacts0 : Pipeline.OwnSemFacts spec0 osem0 := by decide
/-- The two of them conjoined. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 27) 0 ∗ semVal ((c : Thread nD τ), SemLoc.dma 28) 0) := by
  rw [Pipeline.ownSems0_eq_of_list c osem0 [0, 1] (by decide) (by decide)]; rfl
/-- The two arrays left in HBM that the kernel copies from. -/
def H0 : Finset (Ref sig .tc) := {main_v0, main_arg6}
/-- No window stages them. -/
theorem H0_sub : H0 ⊆ Pipeline.restRefs sig spec0 := by decide
/-- The two of them conjoined. -/
theorem hbmPts0_eq (c : Dev nD) :
    (bigSep H0 (fun b => ((c : Thread nD τ).loc b) ↦{fullShare} V m c b) : sProp 𝕄) = iprop(pt c w9 (V m c main_v0) ∗ pt c w11 (V m c main_arg6)) := by
  rw [BI.bigSep_eq_bigSepL_of_eq [main_v0, main_arg6] (by decide) (by decide)]; rfl

/-- What is kept from point to point: the arrays in HBM, the scratch buffers (the two tables of segment numbers bounded
    once the first point has filled them), the two semaphores at zero. -/
def Inv (c : Dev nD) (t : ℕ) : sProp 𝕄 :=
  iprop((∃ r, prngReg c r) ∗ pt c w9 (V m c main_v0) ∗ pt c w11 (V m c main_arg6)
    ∗ (∃ f : Buf (Elt F) (w20.view.loc (c : Thread nD τ)), pt c w20 f ∗ ⌜inv20 m c t f⌝)
    ∗ ex (F := F) c w21 ∗ ex (F := F) c w22 ∗ ex (F := F) c w23 ∗ ex (F := F) c w24 ∗ ex (F := F) c w25 ∗ ex (F := F) c w26 ∗ ex (F := F) c w27 ∗ ex (F := F) c w28 ∗ ex (F := F) c w29
    ∗ (∃ f : Buf (Elt F) (w30.view.loc (c : Thread nD τ)), pt c w30 f ∗ ⌜0 < t → bnd w30 192 f⌝) ∗ (∃ f : Buf (Elt F) (w31.view.loc (c : Thread nD τ)), pt c w31 f ∗ ⌜0 < t → bnd w31 192 f⌝)
    ∗ semVal ((c : Thread nD τ), SemLoc.dma 27) 0 ∗ semVal ((c : Thread nD τ), SemLoc.dma 28) 0)

/-- The launch hands the invariant over. -/
theorem inv_in (c : Dev nD) : Pipeline.ΦD osem0 spec0 H0 (V m) c ⊢ Inv m c 0 := by
  rw [Pipeline.ΦD_eq, scopedRest0_eq, ownSems00_eq, hbmPts0_eq]
  unfold Inv
  iintro ⟨⟨H20, H21, H22, H23, H24, H25, H26, H27, H28, H29, H30, H31⟩, Hr, ⟨HS27, HS28⟩, H9, H11⟩
  icases H20 with ⟨%f20, H20⟩
  icases H30 with ⟨%f30, H30⟩
  icases H31 with ⟨%f31, H31⟩
  isplitl [Hr]; · iexact Hr
  isplitl [H9]; · iexact H9
  isplitl [H11]; · iexact H11
  isplitl [H20]; · iexists f20; isplitl [H20]; (iexact H20); ipureintro; exact inv20_zero m c f20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexists f30; isplitl [H30]; (iexact H30); ipureintro; intro h; exact absurd h (by omega)
  isplitl [H31]; · iexists f31; isplitl [H31]; (iexact H31); ipureintro; intro h; exact absurd h (by omega)
  isplitl [HS27]; · iexact HS27
  iexact HS28

/-- The invariant gives back what the launch handed over. -/
theorem inv_out (c : Dev nD) (t : ℕ) : Inv m c t ⊢ Pipeline.ΦD osem0 spec0 H0 (V m) c := by
  rw [Pipeline.ΦD_eq, scopedRest0_eq, ownSems00_eq, hbmPts0_eq]
  unfold Inv
  iintro ⟨Hr, H9, H11, ⟨%f20, H20, %h20⟩, H21, H22, H23, H24, H25, H26, H27, H28, H29, ⟨%f30, H30, %h30⟩, ⟨%f31, H31, %h31⟩, HS27, HS28⟩
  isplitl [H20 H21 H22 H23 H24 H25 H26 H27 H28 H29 H30 H31]
  · isplitl [H20]; · iexists f20; iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexists f30; iexact H30
    iexists f31; iexact H31
  isplitl [Hr]; · iexact Hr
  isplitl [HS27 HS28]
  · isplitl [HS27]; · iexact HS27
    iexact HS28
  isplitl [H9]; · iexact H9
  iexact H11

/-- The windows of which nothing is said. -/
def forgets0 : Fin 16 → Bool := fun w => decide (10 ≤ w.val)

/-- The data of the pipeline's run on core `c`. -/
def dats (_ : Fin 1) (c : Dev nD) : Dat τ (Elt F) Unit ℕ (Pipeline.UD sig nD τ) ℕ cfg0 c where
  A w := V m c (Pipeline.arrRef spec0 w)
  after w := match w with
    | 0 => iblk m c 0
    | 1 => iblk m c 1
    | 2 => iblk m c 2
    | 3 => iblk m c 3
    | 4 => iblk m c 4
    | 5 => iblk m c 5
    | 6 => iblk m c 6
    | 7 => iblk m c 7
    | 8 => iblk m c 8
    | 9 => yout m c
    | 10 => Pipeline.Dat.unnamed (cfg := cfg0) 10
    | 11 => Pipeline.Dat.unnamed (cfg := cfg0) 11
    | 12 => Pipeline.Dat.unnamed (cfg := cfg0) 12
    | 13 => Pipeline.Dat.unnamed (cfg := cfg0) 13
    | 14 => Pipeline.Dat.unnamed (cfg := cfg0) 14
    | 15 => Pipeline.Dat.unnamed (cfg := cfg0) 15
    | ⟨_ + 16, h⟩ => absurd h (Nat.not_lt.2 (Nat.le_add_left _ _))
  Φ t := Inv m c t.val
  q _ := fullShare
  owed _ := 0

/-- The arrays are those the region finds. -/
theorem A_eq (c : Dev nD) (w : Fin cfg0.W) : (dats m 0 c).A w = V m c (Pipeline.arrRef spec0 w) := by dsimp only [dats]
/-- Input window 0 holds its block at every point. -/
theorem bef_0 (c : Dev nD) (t : Fin cfg0.N) (d) : (dats m 0 c).before 0 t d = iblk m c 0 t :=
  ((dats m 0 c).before_in_eq_fetched 0 rfl (fun _ => rfl) (fun _ _ _ => rfl) (fun t => by dsimp only [dats]; unfold Dat.blockOf iblk; rfl) t d).trans
    (by unfold Dat.fetched Dat.blockOf iblk; rfl)
/-- Input window 1 holds its block at every point. -/
theorem bef_1 (c : Dev nD) (t : Fin cfg0.N) (d) : (dats m 0 c).before 1 t d = iblk m c 1 t :=
  ((dats m 0 c).before_in_eq_fetched 1 rfl (fun _ => rfl) (fun _ _ _ => rfl) (fun t => by dsimp only [dats]; unfold Dat.blockOf iblk; rfl) t d).trans
    (by unfold Dat.fetched Dat.blockOf iblk; rfl)
/-- Input window 2 holds its block at every point. -/
theorem bef_2 (c : Dev nD) (t : Fin cfg0.N) (d) : (dats m 0 c).before 2 t d = iblk m c 2 t :=
  ((dats m 0 c).before_in_eq_fetched 2 rfl (fun _ => rfl) (fun _ _ _ => rfl) (fun t => by dsimp only [dats]; unfold Dat.blockOf iblk; rfl) t d).trans
    (by unfold Dat.fetched Dat.blockOf iblk; rfl)
/-- Input window 3 holds its block at every point. -/
theorem bef_3 (c : Dev nD) (t : Fin cfg0.N) (d) : (dats m 0 c).before 3 t d = iblk m c 3 t :=
  ((dats m 0 c).before_in_eq_fetched 3 rfl (fun _ => rfl) (fun _ _ _ => rfl) (fun t => by dsimp only [dats]; unfold Dat.blockOf iblk; rfl) t d).trans
    (by unfold Dat.fetched Dat.blockOf iblk; rfl)
/-- Input window 4 holds its block at every point. -/
theorem bef_4 (c : Dev nD) (t : Fin cfg0.N) (d) : (dats m 0 c).before 4 t d = iblk m c 4 t :=
  ((dats m 0 c).before_in_eq_fetched 4 rfl (fun _ => rfl) (fun _ _ _ => rfl) (fun t => by dsimp only [dats]; unfold Dat.blockOf iblk; rfl) t d).trans
    (by unfold Dat.fetched Dat.blockOf iblk; rfl)
/-- Input window 5 holds its block at every point. -/
theorem bef_5 (c : Dev nD) (t : Fin cfg0.N) (d) : (dats m 0 c).before 5 t d = iblk m c 5 t :=
  ((dats m 0 c).before_in_eq_fetched 5 rfl (fun _ => rfl) (fun _ _ _ => rfl) (fun t => by dsimp only [dats]; unfold Dat.blockOf iblk; rfl) t d).trans
    (by unfold Dat.fetched Dat.blockOf iblk; rfl)
/-- Input window 6 holds its block at every point. -/
theorem bef_6 (c : Dev nD) (t : Fin cfg0.N) (d) : (dats m 0 c).before 6 t d = iblk m c 6 t :=
  ((dats m 0 c).before_in_eq_fetched 6 rfl (fun _ => rfl) (fun _ _ _ => rfl) (fun t => by dsimp only [dats]; unfold Dat.blockOf iblk; rfl) t d).trans
    (by unfold Dat.fetched Dat.blockOf iblk; rfl)
/-- Input window 7 holds its block at every point. -/
theorem bef_7 (c : Dev nD) (t : Fin cfg0.N) (d) : (dats m 0 c).before 7 t d = iblk m c 7 t :=
  ((dats m 0 c).before_in_eq_fetched 7 rfl (fun _ => rfl) (fun _ _ _ => rfl) (fun t => by dsimp only [dats]; unfold Dat.blockOf iblk; rfl) t d).trans
    (by unfold Dat.fetched Dat.blockOf iblk; rfl)
/-- Input window 8 holds its block at every point. -/
theorem bef_8 (c : Dev nD) (t : Fin cfg0.N) (d) : (dats m 0 c).before 8 t d = iblk m c 8 t :=
  ((dats m 0 c).before_in_eq_fetched 8 rfl (fun _ => rfl) (fun _ _ _ => rfl) (fun t => by dsimp only [dats]; unfold Dat.blockOf iblk; rfl) t d).trans
    (by unfold Dat.fetched Dat.blockOf iblk; rfl)

/-- Through the last eight points the base product's last block stays in its staging buffer. -/
theorem flush9 : ∀ t : Fin cfg0.N, ¬ t.val < 48 → (cfg0.win 9).flush ⟨t.val - 1, Nat.lt_of_le_of_lt (Nat.sub_le _ _) t.isLt⟩ = false := by decide
/-- The last eight points store nothing there. -/
theorem idle9 : ∀ t : Fin cfg0.N, cfg0.idle 9 (cfg0.grid.coords t) = !decide (t.val < 48) := by decide
/-- A point that computes no product finds the block that it leaves. -/
theorem bef_9 (c : Dev nD) (n : ℕ) : ∀ (t : Fin cfg0.N), t.val = 48 + n → ∀ d, (dats m 0 c).before 9 t d = yout m c t := by
  induction n with
  | zero =>
    intro t ht d
    rw [(dats m 0 c).before_of_pos 9 t (by omega) ((cfg0.win 9).fetch_out rfl t) d, flush9 t (by omega), if_neg Bool.false_ne_true]
    unfold Dat.left
    rw [idle9, show (!decide (t.val - 1 < 48)) = false by rw [decide_eq_true (by omega)]; rfl]
    show (dats m 0 c).kept 9 _ d = _
    unfold Dat.kept
    rw [Pipeline.fill_of_clip_none (cfg := cfg0) 9 _ (fun _ => rfl) d ((dats m 0 c).after 9 _), Pipeline.Window.fill_cut]
    show yout m c _ = _
    unfold yout
    congr 1
    exact Fin.ext (show min (t.val - 1) 47 = min t.val 47 by omega)
  | succ n ih =>
    intro t ht d
    rw [(dats m 0 c).before_of_pos 9 t (by omega) ((cfg0.win 9).fetch_out rfl t) d, flush9 t (by omega), if_neg Bool.false_ne_true]
    unfold Dat.left
    rw [idle9, show (!decide (t.val - 1 < 48)) = true by rw [decide_eq_false (by omega)]; rfl]
    show (dats m 0 c).before 9 _ d = _
    rw [ih _ (show t.val - 1 = 48 + n by omega) d]
    unfold yout
    congr 1
    exact Fin.ext (show min (t.val - 1) 47 = min t.val 47 by omega)
/-- What the last eight points find is what they leave. -/
theorem bef_9' (c : Dev nD) (t : Fin cfg0.N) (h6 : k0_cond6 (grid0.coords t) ≠ 1#1) (d) : (dats m 0 c).before 9 t d = yout m c t := by
  have h48 : ¬ t.val < 48 := fun hh => h6 ((cond6_iff t).mpr hh)
  exact bef_9 m c (t.val - 48) t (by omega) d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ X, owns (c : Thread nD τ) (st0_10 t) fullShare X)
    ∗ (∃ X, owns (c : Thread nD τ) (st0_11 t) fullShare X)
    ∗ (∃ X, owns (c : Thread nD τ) (st0_12 t) fullShare X)
    ∗ (∃ X, owns (c : Thread nD τ) (st0_13 t) fullShare X)
    ∗ (∃ X, owns (c : Thread nD τ) (st0_14 t) fullShare X)
    ∗ (∃ X, owns (c : Thread nD τ) (st0_15 t) fullShare X))
/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (dats m 0 c).leavesExact 9 t
    ∗ (∃ X, owns (c : Thread nD τ) (st0_10 t) fullShare X)
    ∗ (∃ X, owns (c : Thread nD τ) (st0_11 t) fullShare X)
    ∗ (∃ X, owns (c : Thread nD τ) (st0_12 t) fullShare X)
    ∗ (∃ X, owns (c : Thread nD τ) (st0_13 t) fullShare X)
    ∗ (∃ X, owns (c : Thread nD τ) (st0_14 t) fullShare X)
    ∗ (∃ X, owns (c : Thread nD τ) (st0_15 t) fullShare X))

/-- The block that a point leaves is as the loop asks. -/
theorem leaves_9 (c : Dev nD) (t : Fin cfg0.N) :
    (owns (c : Thread nD τ) (st0_9 t) fullShare (yout m c t) : sProp 𝕄) ⊢ (dats m 0 c).leavesExact 9 t := by
  have h : ∀ d, (¬ t.val < 48) → (dats m 0 c).before 9 t d = yout m c t := fun d h => bef_9 m c (t.val - 48) t (by omega) d
  have hi := idle9 t
  unfold Dat.leavesExact
  by_cases h48 : t.val < 48
  · rw [hi, decide_eq_true h48]; exact .rfl
  · rw [hi, decide_eq_false h48]
    show _ ⊢ (match (cfg0.win 9).flush t with
    | false => iprop(∃ d, owns (c : Thread nD τ) (st0_9 t) fullShare ((dats m 0 c).before 9 t d))
    | true => owns (c : Thread nD τ) (st0_9 t) fullShare ((dats m 0 c).after 9 t) : sProp 𝕄)
    cases (cfg0.win 9).flush t
    · iintro H
      iexists yout m c t
      rw [h _ h48]
      iexact H
    · exact .rfl

/-- The first point is where the tables are filled. -/
theorem cond1_zero : ∀ t : Fin cfg0.N, k0_cond1 (grid0.coords t) ≠ 1#1 → 0 < t.val := by decide

/-- A window's block reads entries of its array. -/
theorem read_lt {sp : Space} {S : Shape} (c : Dev nD) (M : Memref sig .tc sp S .i32) (f : Buf (Elt F) (M.view.loc (c : Thread nD τ))) (X)
    (h : M.view.read (Elt F) f = X) (hX : ∀ x, (show BitVec 32 from X x).toInt < (24 : ℕ)) :
    ∀ x, (show BitVec 32 from M.view.read (Elt F) f x).toInt < (24 : ℕ) := by subst h; exact hX

end Cert.KernelIdeal.Hand
-- ==== Proof.KIRun.lean ====
module

public import proofs.«01_k».proof.Proof.KIPrep
public import proofs.«01_k».proof.Proof.KIWeights
public import proofs.«01_k».proof.Proof.Gen.KernelIdeal.Skeleton
public import Idealize.ShloMosaic.Lib.Pipeline.Frame
public import Idealize.ShloMosaic.Lib.Tactic
public import Idealize.ShloMosaic.Lib.Transfers

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-- A staging buffer held at contents is the points-to of its whole buffer. -/
theorem owns_pt {sp : Space} {S : Shape} {e : EltTy} (c : Dev nD) (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns; rw [h.set_eq_univ]

variable (hadp : ∀ (c : Dev nD) x, (show BitVec 32 from V m c main_arg10 x).toInt < (24 : ℕ))
include hadp
/-- The block of the segments' adapters is in range. -/
theorem iblk1_lt (c : Dev nD) (t : Fin cfg0.N) : ∀ x, (show BitVec 32 from iblk m c 1 t x).toInt < (24 : ℕ) := fun x => by
  unfold iblk
  exact hadp c _

set_option maxHeartbeats 4000000 in
/-- The body at a point: the invariant opened, the body run, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = Inv m c (t.val + 1) from rfl,
    show (dats m 0 c).owesAt () t.succ = (dats m 0 c).owesAt () t.castSucc from rfl,
    show (dats m 0 c).Φ t.castSucc = Inv m c t.val from rfl]
  simp only [bef_0, bef_1, bef_2, bef_3, bef_4, bef_5, bef_6, bef_7, bef_8]
  have o0 := owns_pt (F := F) c (st0_0 t) (hstage0_0 ((cfg0.slots t 0).cast nbuf0_0))
  have o1 := owns_pt (F := F) c (st0_1 t) (hstage0_1 ((cfg0.slots t 1).cast nbuf0_1))
  have o2 := owns_pt (F := F) c (st0_2 t) (hstage0_2 ((cfg0.slots t 2).cast nbuf0_2))
  have o3 := owns_pt (F := F) c (st0_3 t) (hstage0_3 ((cfg0.slots t 3).cast nbuf0_3))
  have o4 := owns_pt (F := F) c (st0_4 t) (hstage0_4 ((cfg0.slots t 4).cast nbuf0_4))
  have o5 := owns_pt (F := F) c (st0_5 t) (hstage0_5 ((cfg0.slots t 5).cast nbuf0_5))
  have o6 := owns_pt (F := F) c (st0_6 t) (hstage0_6 ((cfg0.slots t 6).cast nbuf0_6))
  have o7 := owns_pt (F := F) c (st0_7 t) (hstage0_7 ((cfg0.slots t 7).cast nbuf0_7))
  have o8 := owns_pt (F := F) c (st0_8 t) (hstage0_8 ((cfg0.slots t 8).cast nbuf0_8))
  have o9 := owns_pt (F := F) c (st0_9 t) (hstage0_9 ((cfg0.slots t 9).cast nbuf0_9))
  have o10 := owns_pt (F := F) c (st0_10 t) (hstage0_10 ((cfg0.slots t 10).cast nbuf0_10))
  have o11 := owns_pt (F := F) c (st0_11 t) (hstage0_11 ((cfg0.slots t 11).cast nbuf0_11))
  have o12 := owns_pt (F := F) c (st0_12 t) (hstage0_12 ((cfg0.slots t 12).cast nbuf0_12))
  have o13 := owns_pt (F := F) c (st0_13 t) (hstage0_13 ((cfg0.slots t 13).cast nbuf0_13))
  have o14 := owns_pt (F := F) c (st0_14 t) (hstage0_14 ((cfg0.slots t 14).cast nbuf0_14))
  have o15 := owns_pt (F := F) c (st0_15 t) (hstage0_15 ((cfg0.slots t 15).cast nbuf0_15))
  simp only [o0, o1, o2, o3, o4, o5, o6, o7, o8, o9, o10, o11, o12, o13, o14, o15]
  unfold Inv Dat.owesAt Pipeline.owesWithin bodyAt0
  rw [show (dats m 0 c).owed t.castSucc = 0 from rfl]
  iintro ⟨⟨Hr, H9, H11, ⟨%f20, H20, %h20⟩, H21, H22, H23, H24, H25, H26, H27, H28, H29, ⟨%f30, H30, %h30⟩, ⟨%f31, H31, %h31⟩, HS27, HS28⟩, ⟨%W, %hW, HO⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d10, %f10, %e10, H10⟩, ⟨%d12, %f12, %e12, H12⟩, ⟨%d13, %f13, %e13, H13⟩, ⟨%d14, %f14, %e14, H14⟩, ⟨%d15, %f15, %e15, H15⟩, ⟨%d16, %f16, %e16, H16⟩, ⟨%d17, %f17, %e17, H17⟩, ⟨%d18, %f18, %e18, H18⟩, ⟨%d19, %f19, %e19, H19⟩⟩
  have had := read_lt c (st0_1 t) f3 (iblk m c 1 t) e3 (iblk1_lt m hadp c t)
  have hn4 : k0_cond4 (grid0.coords t) ≠ 1#1 → inv20 m c (t.val + 1) f20 := fun h4 => inv20_keep m c t f20 h4 h20
  have hn6 : k0_cond6 (grid0.coords t) ≠ 1#1 → (st0_9 t).view.read (Elt F) f13 = yout m c t := fun h6 => e13.trans (bef_9' m c t h6 d13)
  have hv4 : ∀ L, Tiles (grid0.coords t) (st0_4 t) (st0_5 t) (st0_6 t) c f6 f7 f8 128 L → k0_cond4 (grid0.coords t) = 1#1 → inv20 m c (t.val + 1) (w20.view.writes (Elt F) f20 L) :=
    fun L hT h4 => inv20_step m c t (st0_4 t) (st0_5 t) (st0_6 t) f6 f7 f8 L f20 e6 e7 e8 h20 hT h4
  have hv6 := fun (g20 : Buf (Elt F) (w20.view.loc (c : Thread nD τ))) (hg : inv20 m c (t.val + 1) g20) (h6 : k0_cond6 (grid0.coords t) = 1#1) =>
    yout_stored m c t (st0_3 t) (st0_9 t) f5 f13 g20 h6 e5 hg
  have hrun := body_run (F := F) (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15))
    c f2 f3 f4 f5 f6 f7 f8 f10 f12 (V m c main_v0) (V m c main_arg6) f13 f20
    had (inv20 m c (t.val + 1)) (fun f => (st0_9 t).view.read (Elt F) f = yout m c t) hn4 hn6 hv4 hv6
  iapply (wp_wand_r frame (wpE (defs₀ (F := F)) Variants.none (c : Thread nD τ) none) Set.univ)
  isplitl [H2 H3 H4 H5 H6 H7 H8 H9 H10 H11 H12 H13 H14 H15 H16 H17 H18 H19 H20 H21 H22 H23 H24 H25 H26 H27 H28 H29 H30 H31 HS27 HS28 HO]
  · iapply hrun
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]; · iexact H10
    isplitl [H12]; · iexact H12
    isplitl [H9]; · iexact H9
    isplitl [H11]; · iexact H11
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexists f30; isplitl [H30]; (iexact H30); ipureintro; exact fun h => h30 (cond1_zero t h)
    isplitl [H31]; · iexists f31; isplitl [H31]; (iexact H31); ipureintro; exact fun h => h31 (cond1_zero t h)
    isplitl [HS27]; · iexact HS27
    isplitl [HS28]; · iexact HS28
    iexists W; iexact HO
  iintro %a ⟨H2, H3, H4, H5, H6, H7, H8, H10, H12, H9, H11, ⟨%g13, H13, %h13⟩, ⟨%g14, H14⟩, ⟨%g15, H15⟩, ⟨%g16, H16⟩, ⟨%g17, H17⟩, ⟨%g18, H18⟩, ⟨%g19, H19⟩, ⟨%g20, H20, %k20⟩, H21, H22, H23, H24, H25, H26, H27, H28, H29, ⟨%g30, H30, %k30⟩, ⟨%g31, H31, %k31⟩, HS27, HS28, ⟨%W', HO⟩⟩
  isplitl [Hr H9 H11 H20 H21 H22 H23 H24 H25 H26 H27 H28 H29 H30 H31 HS27 HS28]
  · isplitl [Hr]; · iexact Hr
    isplitl [H9]; · iexact H9
    isplitl [H11]; · iexact H11
    isplitl [H20]; · iexists g20; isplitl [H20]; (iexact H20); ipureintro; exact k20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexists g30; isplitl [H30]; (iexact H30); ipureintro; exact fun _ => k30
    isplitl [H31]; · iexists g31; isplitl [H31]; (iexact H31); ipureintro; exact fun _ => k31
    isplitl [HS27]; · iexact HS27
    iexact HS28
  isplitl [HO]
  · iexists W'; isplitr; · ipureintro; exact fun _ _ => Or.inl trivial
    iexact HO
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists f5; isplitr; swap; · iexact H5
    ipureintro; exact e5
  isplitl [H6]
  · iexists f6; isplitr; swap; · iexact H6
    ipureintro; exact e6
  isplitl [H7]
  · iexists f7; isplitr; swap; · iexact H7
    ipureintro; exact e7
  isplitl [H8]
  · iexists f8; isplitr; swap; · iexact H8
    ipureintro; exact e8
  isplitl [H10]
  · iexists f10; isplitr; swap; · iexact H10
    ipureintro; exact e10
  isplitl [H12]
  · iexists f12; isplitr; swap; · iexact H12
    ipureintro; exact e12
  isplitl [H13]
  · iapply (leaves_9 m c t)
    rw [o9]
    iexists g13; isplitr; swap; · iexact H13
    ipureintro; exact h13
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

omit hadp in
/-- The body table's row at a point is the body. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) :
    BodyObligation (dats (F := F) m 0 c) (defs₀ (F := F)) Variants.none () Set.univ forgets0 := fun t => by
  rw [bigSep_W0, bigSep_W0, defs₀_row]
  exact triple_restated (sound_body m hadp c t) rfl .rfl fun _ => .rfl

omit hadp in
/-- The host operations up to the region. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every weakly fair execution ends, with the arrays as the pipeline's data say and the counters at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m hadp c).loose) (hshare := fun c => (dats m 0 c).share_full fun _ => rfl)
    (howed := fun _ _ => rfl) (V := V m) (hmain := hmainD m Variants.none) (hA := A_eq m)
    (hin := fun c => inv_in m c) (hout := fun c => inv_out m c _)

end Cert.KernelIdeal.Hand
-- ==== Proof.KIFrame.lean ====
module

public import proofs.«01_k».proof.Proof.KIRun
public import proofs.«01_k».proof.Proof.Gen.KernelIdeal.Frame

@[expose] public section

set_option maxRecDepth 65536

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F] [∀ e, Nonempty (Elt F e)]
variable (m : (ℓ : Loc nD τ sig) → Buf (Elt F) ℓ) (ρ : Dev nD → PrngReg)

/-- A window that the body only reads ends with the array it began with. -/
theorem in_of (c : Dev nD) (w : Fin cfg0.W) (hw : (cfg0.win w).isOut = false) (hf : forgets0 w = false) (X)
    (h : ((dats m 0 c).toRForget forgets0).ArrAt w cfg0.N X) : X = V m c (Pipeline.arrRef spec0 w) :=
  (((dats m 0 c).toRForget_arrAt_iff hf cfg0.N X).mp h).trans (((dats m 0 c).arrAt_in w hw _).trans (A_eq m c w))

/-- The arguments at the end of a run are those it began with. -/
theorem args_of (r : PUnit × MemSt nD τ sig (Elt F))
    (h : Pipeline.RDat.FramePost (cfgs 0) (fun c => (dats m 0 c).toRForget forgets0) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨(in_of m c 3 rfl rfl _ ((h c).1 3)).trans (V_main_arg0 m c),
    (in_of m c 4 rfl rfl _ ((h c).1 4)).trans (V_main_arg1 m c),
    (in_of m c 5 rfl rfl _ ((h c).1 5)).trans (V_main_arg2 m c),
    (in_of m c 6 rfl rfl _ ((h c).1 6)).trans (V_main_arg3 m c),
    ((h c).2 main_arg4 (Pipeline.mem_restRefs_of main_arg4 (by decide) (by decide))).trans (V_main_arg4 m c),
    (in_of m c 7 rfl rfl _ ((h c).1 7)).trans (V_main_arg5 m c),
    ((h c).2 main_arg6 (Pipeline.mem_restRefs_of main_arg6 (by decide) (by decide))).trans (V_main_arg6 m c),
    (in_of m c 8 rfl rfl _ ((h c).1 8)).trans (V_main_arg7 m c),
    (in_of m c 2 rfl rfl _ ((h c).1 2)).trans (V_main_arg8 m c),
    (in_of m c 0 rfl rfl _ ((h c).1 0)).trans (V_main_arg9 m c),
    (in_of m c 1 rfl rfl _ ((h c).1 1)).trans (V_main_arg10 m c)⟩

end Cert.KernelIdeal.Hand
-- ==== Proof.KIMath.lean ====
/-
  The dequantised weight tile read at an index, over the extended reals: the code of the packed word minus the zero
  point's code, times the group's scale.
-/
module

public import proofs.«01_k».proof.Proof.KITile
public import Idealize.ShloMosaic.Lib.BitcastPair
public import Idealize.ShloMosaic.Lib.ValueIdxCore
public import Idealize.ShloMosaic.Lib.Pipeline.Value
public import Idealize.ShloMosaic.Lib.KernelVsHost
public import Idealize.ShloMosaic.PureOps.Ideal
public import Mathlib.Tactic.IntervalCases
public import Mathlib.Tactic.FinCases
public import Mathlib.Tactic.NormNum

@[expose] public section

set_option maxRecDepth 65536

noncomputable section

namespace Cert.KernelIdeal.Hand

open Cert.KernelIdeal Cert.KernelIdeal.Gen
open Idealize.ShloMosaic Idealize.ShloMosaic.TcCoe
open Idealize.ShloMosaic.ValueIdx (ix2)

/-! ### The words -/

/-- The four-bit code number `j` of a packed word. -/
def nib (w : BitVec 32) (j : ℕ) : BitVec 32 := (w.sshiftRight (4 * j)) &&& 15#32

/-- The code's number for a lane. -/
def inv (p : ℕ) : ℕ := 4 * (p % 2) + p / 2 % 4

theorem nib_lt (w : BitVec 32) (j : ℕ) : (nib w j).toNat < 16 := by
  unfold nib
  rw [BitVec.toNat_and]
  exact lt_of_le_of_lt Nat.and_le_right (by decide)

/-- Half `s` of an even row's word and of the next row's, side by side. -/
def packed (s : ℕ) (A B : BitVec 32) : BitVec 32 :=
  if s = 0 then (A &&& 65535#32) ||| (B <<< 16) else (A >>> 16) ||| (B &&& 4294901760#32)

theorem packed_code (s t b : ℕ) (hs : s < 2) (ht : t < 4) (hb : b < 2) (A B : BitVec 32) :
    (((packed s A B >>> (4 * t)) &&& 983055#32) ||| 1124090624#32).extractLsb' (16 * b) 16
      = 17152#16 ||| BitVec.ofNat 16 (nib (if b = 0 then A else B) (4 * s + t)).toNat := by
  have e : ∀ w : BitVec 32, BitVec.ofNat 16 w.toNat = w.setWidth 16 := fun w => rfl
  rw [e]
  apply BitVec.eq_of_getLsbD_eq
  intro i hi
  interval_cases s <;> interval_cases t <;> interval_cases b <;> interval_cases i <;>
    simp [packed, nib, BitVec.getLsbD_extractLsb', BitVec.getLsbD_or, BitVec.getLsbD_and, BitVec.getLsbD_sshiftRight, BitVec.getElem_sshiftRight]

theorem ofBits_code : ∀ n : ℕ, n < 16 → Ideal.ofBits .bf16 (17152#16 ||| BitVec.ofNat 16 n) = ((128 + n : ℝ) : EReal) := by
  intro n hn
  interval_cases n <;> (simp [Ideal.ofBits, Ideal.ieee, -EReal.coe_mul, -EReal.coe_add]; try norm_num)

theorem toInt_sub_codes (a b : BitVec 32) (ha : a.toNat < 16) (hb : b.toNat < 16) :
    (a - b).toInt = (a.toNat : ℤ) - b.toNat := by
  rw [BitVec.toInt_sub, BitVec.toInt_eq_toNat_of_lt (by omega), BitVec.toInt_eq_toNat_of_lt (by omega)]
  rw [Int.bmod_eq_of_le] <;> omega

/-! ### Indices -/

theorem gather64_apply {α : Type} (x : S64x128.Idx → α) (idx : IVec S64x128 32) (a : Fin 64) (l : Fin 128) (q : Fin 128)
    (hq : (idx (ix2 a l)).toNat = q.val) : dynamicGather (s := S64x128) 1 x idx (ix2 a l) = x (ix2 a q) := by
  unfold dynamicGather
  refine congrArg x (funext fun b => ?_)
  match b with
  | ⟨0, _⟩ => rfl
  | ⟨1, _⟩ => exact Fin.ext (by show (idx (ix2 a l)).toNat % 128 = q.val; rw [hq]; exact Nat.mod_eq_of_lt q.isLt)

theorem gather16_apply {α : Type} (x : S16x128.Idx → α) (idx : IVec S16x128 32) (a : Fin 16) (l : Fin 128) (q : Fin 128)
    (hq : (idx (ix2 a l)).toNat = q.val) : dynamicGather (s := S16x128) 1 x idx (ix2 a l) = x (ix2 a q) := by
  unfold dynamicGather
  refine congrArg x (funext fun b => ?_)
  match b with
  | ⟨0, _⟩ => rfl
  | ⟨1, _⟩ => exact Fin.ext (by show (idx (ix2 a l)).toNat % 128 = q.val; rw [hq]; exact Nat.mod_eq_of_lt q.isLt)

theorem rotate64_apply {α : Type} (x : S64x128.Idx → α) (h) (a : Fin 64) (l q : Fin 128) (hq : q.val = (l.val + 64) % 128) :
    dynamicRotate (s := S64x128) 1 64#32 none x h (ix2 a l) = x (ix2 a q) := by
  refine dynamicRotate_apply _ _ _ _ _ _ fun b => ?_
  match b with
  | ⟨0, _⟩ => rfl
  | ⟨1, _⟩ => show q.val = (l.val + 128 - 64) % 128; omega

theorem rotate16_apply {α : Type} (x : S16x128.Idx → α) (h) (a : Fin 16) (l q : Fin 128) (hq : q.val = (l.val + 64) % 128) :
    dynamicRotate (s := S16x128) 1 64#32 none x h (ix2 a l) = x (ix2 a q) := by
  refine dynamicRotate_apply _ _ _ _ _ _ fun b => ?_
  match b with
  | ⟨0, _⟩ => rfl
  | ⟨1, _⟩ => show q.val = (l.val + 128 - 64) % 128; omega

theorem iota64_apply (a : Fin 64) (l : Fin 128) : iota .tc S64x128 32 [1] iota_S64x128_d1_w32 (ix2 a l) = BitVec.ofNat 32 l.val := by
  show BitVec.ofNat 32 (0 * 128 + l.val) = _
  rw [Nat.zero_mul, Nat.zero_add]
theorem iota16_apply (a : Fin 16) (l : Fin 128) : iota .tc S16x128 32 [1] iota_S16x128_d1_w32 (ix2 a l) = BitVec.ofNat 32 l.val := by
  show BitVec.ofNat 32 (0 * 128 + l.val) = _
  rw [Nat.zero_mul, Nat.zero_add]

/-- The lane arithmetic of the gather's index. -/
def gword (j : ℕ) (l : BitVec 32) : BitVec 32 :=
  let g := IntOp.addi (IntOp.addi (BitVec.ofNat 32 (16 * j)) (IntOp.shrsi .vector l 3#32)) (IntOp.muli 64#32 (IntOp.andi l 1#32))
  Scalar.select (IntOp.cmpi .slt g 0#32) (IntOp.addi g 128#32) g

theorem gword_toNat : ∀ j : Fin 4, ∀ l : Fin 128, (gword j.val (BitVec.ofNat 32 l.val)).toNat = 16 * j.val + l.val / 8 + 64 * (l.val % 2) := by
  decide +kernel

theorem gix64_apply (j : ℕ) (a : Fin 64) (l : Fin 128) : gix64 j (ix2 a l) = gword j (BitVec.ofNat 32 l.val) := by
  unfold gix64
  show (select (cmpi .slt (gath64 j) (broadcast S64x128 0#32)) (addi (gath64 j) (broadcast S64x128 128#32)) (gath64 j)) (Shape.reshapeEquiv _ (Shape.reshapeEquiv _ (ix2 a l))) = _
  rw [Shape.reshapeEquiv_reshapeEquiv, Shape.reshapeEquiv_self]
  show gword j (iota .tc S64x128 32 [1] iota_S64x128_d1_w32 (ix2 a l)) = _
  rw [iota64_apply]

theorem gix16_apply (j : ℕ) (a : Fin 16) (l : Fin 128) : gix16 j (ix2 a l) = gword j (BitVec.ofNat 32 l.val) := by
  unfold gix16
  show (select (cmpi .slt (gath16 j) (broadcast S16x128 0#32)) (addi (gath16 j) (broadcast S16x128 128#32)) (gath16 j)) (Shape.reshapeEquiv _ (Shape.reshapeEquiv _ (ix2 a l))) = _
  rw [Shape.reshapeEquiv_reshapeEquiv, Shape.reshapeEquiv_self]
  show gword j (iota .tc S16x128 32 [1] iota_S16x128_d1_w32 (ix2 a l)) = _
  rw [iota16_apply]

/-- The lane arithmetic of the shift. -/
def sword (l : BitVec 32) : BitVec 32 := IntOp.muli (IntOp.andi (IntOp.shrsi .vector l 1#32) 3#32) 4#32

theorem sword_toNat : ∀ l : Fin 128, sword (BitVec.ofNat 32 l.val) = BitVec.ofNat 32 (4 * (l.val / 2 % 4)) := by
  decide +kernel

theorem pay89_apply (a : Fin 64) (l : Fin 128) : k0_pay89 (ix2 a l) = BitVec.ofNat 32 (4 * (l.val / 2 % 4)) :=
  (show k0_pay89 (ix2 a l) = sword (BitVec.ofNat 32 l.val) from congrArg sword (iota64_apply a l)).trans (sword_toNat l)
theorem pay88_apply (a : Fin 16) (l : Fin 128) : k0_pay88 (ix2 a l) = BitVec.ofNat 32 (4 * (l.val / 2 % 4)) :=
  (show k0_pay88 (ix2 a l) = sword (BitVec.ofNat 32 l.val) from congrArg sword (iota16_apply a l)).trans (sword_toNat l)

theorem shrui_lit (x : BitVec 32) (t : ℕ) (ht : t < 32) : IntOp.shrui .vector x (BitVec.ofNat 32 t) = x >>> t := by
  unfold IntOp.shrui
  have : (BitVec.ofNat 32 t).toNat = t := by simp; omega
  rw [this, if_pos ht]
  rw [BitVec.ushiftRight_eq', this]

/-! ### The gathered words -/

theorem low_apply : ∀ l : Fin 128, IntOp.cmpi .slt (BitVec.ofNat 32 l.val) 64#32 = if l.val < 64 then 1#1 else 0#1 := by
  decide +kernel

theorem halfLo_apply (A B : IVec S64x128 32) (x : S64x128.Idx) : halfLo A B x = packed 0 (A x) (B x) := by
  show IntOp.ori (IntOp.andi (A x) 65535#32) (IntOp.shli .vector (B x) 16#32) = _
  simp [packed, IntOp.ori, IntOp.andi, IntOp.shli]
theorem halfHi_apply (A B : IVec S64x128 32) (x : S64x128.Idx) : halfHi A B x = packed 1 (A x) (B x) := by
  show IntOp.ori (IntOp.shrui .vector (A x) 16#32) (IntOp.andi (B x) 4294901760#32) = _
  simp [packed, IntOp.ori, IntOp.andi, IntOp.shrui]

/-- Lane `l` of the rearranged words: half `l / 64` of word `l % 64` of the chosen half of the words. -/
theorem src64_apply (h : Bool) (A B : IVec S64x128 32) (a : Fin 64) (l q : Fin 128)
    (hq : q.val = l.val % 64 + (if h then 64 else 0)) :
    src64 h A B (ix2 a l) = packed (l.val / 64) (A (ix2 a q)) (B (ix2 a q)) := by
  have hl := l.isLt
  have lo : low64 (ix2 a l) = if l.val < 64 then 1#1 else 0#1 :=
    (congrArg (fun w => IntOp.cmpi .slt w 64#32) (iota64_apply a l)).trans (low_apply l)
  cases h
  · show Scalar.select (low64 (ix2 a l)) (halfLo A B (ix2 a l)) (dynamicRotate 1 64#32 none (halfHi A B) rotates_S64x128_d1 (ix2 a l)) = _
    simp only [Bool.false_eq_true, if_false] at hq
    rw [lo]
    by_cases hc : l.val < 64
    · have e : q = l := Fin.ext (by omega)
      rw [if_pos hc, e, halfLo_apply, show l.val / 64 = 0 by omega]; rfl
    · rw [if_neg hc, rotate64_apply _ _ a l q (by omega), halfHi_apply, show l.val / 64 = 1 by omega]; rfl
  · show Scalar.select (low64 (ix2 a l)) (dynamicRotate 1 64#32 none (halfLo A B) rotates_S64x128_d1 (ix2 a l)) (halfHi A B (ix2 a l)) = _
    simp only [if_true] at hq
    rw [lo]
    by_cases hc : l.val < 64
    · rw [if_pos hc, rotate64_apply _ _ a l q (by omega), halfLo_apply, show l.val / 64 = 0 by omega]; rfl
    · have e : q = l := Fin.ext (by omega)
      rw [if_neg hc, e, halfHi_apply, show l.val / 64 = 1 by omega]; rfl

/-- Half `s` of a zero point's word. -/
def half (s : ℕ) (A : BitVec 32) : BitVec 32 := if s = 0 then A &&& 65535#32 else A >>> 16

theorem src16_apply (h : Bool) (Z : Vec Ideal S16x128 .i32) (a : Fin 16) (l q : Fin 128)
    (hq : q.val = l.val % 64 + (if h then 64 else 0)) :
    src16 (F := Ideal) h Z (ix2 a l) = half (l.val / 64) (Z (ix2 a q)) := by
  have hl := l.isLt
  have lo : k0_pay85 (ix2 a l) = if l.val < 64 then 1#1 else 0#1 :=
    (congrArg (fun w => IntOp.cmpi .slt w 64#32) (iota16_apply a l)).trans (low_apply l)
  have e83 : ∀ x, k0_pay83 (F := Ideal) Z x = half 0 (Z x) := fun x => rfl
  have e84 : ∀ x, k0_pay84 (F := Ideal) Z x = half 1 (Z x) := fun x => by
    show IntOp.shrui .vector (Z x) 16#32 = _
    simp [half, IntOp.shrui]
  cases h
  · show Scalar.select (k0_pay85 (ix2 a l)) (k0_pay83 (F := Ideal) Z (ix2 a l)) (dynamicRotate 1 64#32 none (k0_pay84 (F := Ideal) Z) rotates_S16x128_d1 (ix2 a l)) = _
    simp only [Bool.false_eq_true, if_false] at hq
    rw [lo]
    by_cases hc : l.val < 64
    · have e : q = l := Fin.ext (by omega)
      rw [if_pos hc, e, e83, show l.val / 64 = 0 by omega]; rfl
    · rw [if_neg hc, rotate16_apply _ _ a l q (by omega), e84, show l.val / 64 = 1 by omega]; rfl
  · show Scalar.select (k0_pay85 (ix2 a l)) (dynamicRotate 1 64#32 none (k0_pay83 (F := Ideal) Z) rotates_S16x128_d1 (ix2 a l)) (k0_pay84 (F := Ideal) Z (ix2 a l)) = _
    simp only [if_true] at hq
    rw [lo]
    by_cases hc : l.val < 64
    · rw [if_pos hc, rotate16_apply _ _ a l q (by omega), e83, show l.val / 64 = 0 by omega]; rfl
    · have e : q = l := Fin.ext (by omega)
      rw [if_neg hc, e, e84, show l.val / 64 = 1 by omega]; rfl

/-- The word that holds lane `l` of chunk `k`. -/
def wcol (k : ℕ) (hk : k < 8) (l : Fin 128) : Fin 128 := ⟨16 * k + l.val / 8, by omega⟩

theorem gath_lane (k : ℕ) (hk : k < 8) (l : Fin 128) : 16 * (k % 4) + l.val / 8 + 64 * (l.val % 2) < 128 := by omega

theorem code64_apply (k : ℕ) (hk : k < 8) (A B : IVec S64x128 32) (a : Fin 64) (l : Fin 128) :
    code64 k A B (ix2 a l) = ((packed (l.val % 2) (A (ix2 a (wcol k hk l))) (B (ix2 a (wcol k hk l))) >>> (4 * (l.val / 2 % 4))) &&& 983055#32) ||| 1124090624#32 := by
  show IntOp.ori (IntOp.andi (IntOp.shrui .vector (dynamicGather (s := S64x128) 1 (src64 (decide (4 ≤ k)) A B) (gix64 (k % 4)) (ix2 a l)) (k0_pay89 (ix2 a l))) 983055#32) 1124090624#32 = _
  have hlane := gath_lane k hk l
  rw [gather64_apply _ _ a l ⟨_, hlane⟩ (by rw [gix64_apply]; exact gword_toNat ⟨k % 4, by omega⟩ l), pay89_apply, shrui_lit _ _ (by omega),
    src64_apply _ A B a ⟨_, hlane⟩ (wcol k hk l) (by
      show 16 * k + l.val / 8 = (16 * (k % 4) + l.val / 8 + 64 * (l.val % 2)) % 64 + _
      have hl := l.isLt
      by_cases h4 : 4 ≤ k <;> simp only [h4, decide_true, decide_false, if_true, Bool.false_eq_true, if_false] <;> omega)]
  rw [show (16 * (k % 4) + l.val / 8 + 64 * (l.val % 2)) / 64 = l.val % 2 by have hl := l.isLt; omega]
  rfl

theorem half_code (s t b : ℕ) (hs : s < 2) (ht : t < 4) (hb : b < 2) (A : BitVec 32) :
    ((((half s A >>> (4 * t)) &&& 15#32) ||| (((half s A >>> (4 * t)) &&& 15#32) <<< 16)) ||| 1124090624#32).extractLsb' (16 * b) 16
      = 17152#16 ||| BitVec.ofNat 16 (nib A (4 * s + t)).toNat := by
  have e : ∀ w : BitVec 32, BitVec.ofNat 16 w.toNat = w.setWidth 16 := fun w => rfl
  rw [e]
  apply BitVec.eq_of_getLsbD_eq
  intro i hi
  interval_cases s <;> interval_cases t <;> interval_cases b <;> interval_cases i <;>
    simp [half, nib, BitVec.getLsbD_extractLsb', BitVec.getLsbD_or, BitVec.getLsbD_and, BitVec.getLsbD_sshiftRight, BitVec.getElem_sshiftRight]

theorem zero16_apply (k : ℕ) (hk : k < 8) (Z : Vec Ideal S16x128 .i32) (a : Fin 16) (l : Fin 128) :
    zero16 (F := Ideal) k Z (ix2 a l) = (((half (l.val % 2) (Z (ix2 a (wcol k hk l))) >>> (4 * (l.val / 2 % 4))) &&& 15#32)
      ||| (((half (l.val % 2) (Z (ix2 a (wcol k hk l))) >>> (4 * (l.val / 2 % 4))) &&& 15#32) <<< 16)) ||| 1124090624#32 := by
  have key : IntOp.shrui .vector (dynamicGather (s := S16x128) 1 (src16 (F := Ideal) (decide (4 ≤ k)) Z) (gix16 (k % 4)) (ix2 a l)) (k0_pay88 (ix2 a l))
      = half (l.val % 2) (Z (ix2 a (wcol k hk l))) >>> (4 * (l.val / 2 % 4)) := by
    have hlane := gath_lane k hk l
    rw [gather16_apply _ _ a l ⟨_, hlane⟩ (by rw [gix16_apply]; exact gword_toNat ⟨k % 4, by omega⟩ l), pay88_apply, shrui_lit _ _ (by omega),
      src16_apply _ Z a ⟨_, hlane⟩ (wcol k hk l) (by
        show 16 * k + l.val / 8 = (16 * (k % 4) + l.val / 8 + 64 * (l.val % 2)) % 64 + _
        have hl := l.isLt
        by_cases h4 : 4 ≤ k <;> simp only [h4, decide_true, decide_false, if_true, Bool.false_eq_true, if_false] <;> omega)]
    rw [show (16 * (k % 4) + l.val / 8 + 64 * (l.val % 2)) / 64 = l.val % 2 by have hl := l.isLt; omega]
  show IntOp.ori (IntOp.ori (IntOp.andi (IntOp.shrui .vector (dynamicGather (s := S16x128) 1 (src16 (F := Ideal) (decide (4 ≤ k)) Z) (gix16 (k % 4)) (ix2 a l)) (k0_pay88 (ix2 a l))) 15#32)
    (IntOp.shli .vector (IntOp.andi (IntOp.shrui .vector (dynamicGather (s := S16x128) 1 (src16 (F := Ideal) (decide (4 ≤ k)) Z) (gix16 (k % 4)) (ix2 a l)) (k0_pay88 (ix2 a l))) 15#32) 16#32)) 1124090624#32 = _
  rw [key]
  simp [IntOp.ori, IntOp.andi, IntOp.shli]

/-! ### The tile -/

theorem bitcast64_apply (x : S64x128.Idx → BitVec 32) (h) (r l : Fin 128) (a : Fin 64) (ha : a.val = r.val / 2) :
    bitcast S128x128 16 x h (ix2 r l) = (x (ix2 a l)).extractLsb' (16 * (r.val % 2)) 16 := by
  have e : S128x128.row (ix2 r l) = r.val := rfl
  refine (bitcast_32_16 x h (ix2 r l)).trans ?_
  show (x _).extractLsb' (16 * (r.val % 2)) 16 = _
  refine congrArg (fun y => (x y).extractLsb' (16 * (r.val % 2)) 16) ?_
  funext c
  match c with
  | ⟨0, _⟩ => exact Fin.ext ((h.srcIdx_row _ _ _ ⟨0, Nat.zero_lt_two⟩ rfl).trans (e ▸ ha.symm))
  | ⟨1, _⟩ => exact Fin.ext (h.srcIdx_other _ _ _ ⟨1, Nat.one_lt_two⟩ (by show ¬ 1 + 2 = 2; omega))

theorem inv_lt (l : ℕ) : inv l < 8 := by unfold inv; omega

/-- The dequantised weight at row `r` and lane `l` of the tile. -/
theorem tile_apply (k g : ℕ) (hk : k < 8) (hg : g < 16) (A B : IVec S64x128 32) (Z : Vec Ideal S16x128 .i32) (S : Vec Ideal S16x128 .f32)
    (r l : Fin 128) (a : Fin 64) (ha : a.val = r.val / 2) :
    tile (F := Ideal) k g hg A B Z S (ix2 r l)
      = ((((nib ((if r.val % 2 = 0 then A else B) (ix2 a (wcol k hk l))) (inv l.val) - nib (Z (ix2 ⟨g, hg⟩ (wcol k hk l))) (inv l.val)).toInt : ℝ) : EReal)
          * (S (ix2 ⟨g, hg⟩ l) : EReal) : EReal) := by
  have hq : (bitcastToFloat (F := Ideal) .bf16 (bitcast S128x128 16 (code64 k A B) bitcasts_S64x128_w32_S128x128_w16)) (ix2 r l)
      = ((128 + ((nib ((if r.val % 2 = 0 then A else B) (ix2 a (wcol k hk l))) (inv l.val)).toNat : ℕ) : ℝ) : EReal) := by
    show Ideal.ofBits .bf16 (bitcast S128x128 16 (code64 k A B) bitcasts_S64x128_w32_S128x128_w16 (ix2 r l)) = _
    rw [bitcast64_apply _ _ r l a ha, code64_apply k hk, packed_code _ _ _ (by omega) (by omega) (by omega), ofBits_code _ (nib_lt _ _)]
    unfold inv
    split <;> rfl
  have hz : (bitcastToFloat (F := Ideal) .bf16 (bitcast S128x128 16 (broadcastTo S64x128 (shapeCast S1x128 (extractStridedSlice S1x128 ![g, 0] (zero16 (F := Ideal) k Z) (slices_row g hg)) shapeCasts_S1x128_S1x128) broadcasts_S1x128_S64x128) bitcasts_S64x128_w32_S128x128_w16)) (ix2 r l)
      = ((128 + ((nib (Z (ix2 ⟨g, hg⟩ (wcol k hk l))) (inv l.val)).toNat : ℕ) : ℝ) : EReal) := by
    show Ideal.ofBits .bf16 (bitcast S128x128 16 _ bitcasts_S64x128_w32_S128x128_w16 (ix2 r l)) = _
    rw [bitcast64_apply _ _ r l a ha, broadcastTo_apply _ _ _ (ix2 (0 : Fin 1) l) (by intro b; fin_cases b <;> simp [ix2])]
    show Ideal.ofBits .bf16 ((extractStridedSlice S1x128 ![g, 0] (zero16 (F := Ideal) k Z) (slices_row g hg) (Shape.reshapeEquiv _ (ix2 (0 : Fin 1) l))).extractLsb' (16 * (r.val % 2)) 16) = _
    rw [Shape.reshapeEquiv_self, extractStridedSlice_apply _ _ _ _ (ix2 (⟨g, hg⟩ : Fin 16) l) (by intro b; fin_cases b <;> simp [ix2]), zero16_apply k hk,
      half_code _ _ _ (by omega) (by omega) (by omega), ofBits_code _ (nib_lt _ _)]
    rfl
  have hs : broadcastTo S128x128 (extractStridedSlice S1x128 ![g, 0] S (slices_row g hg)) broadcasts_S1x128_S128x128 (ix2 r l) = S (ix2 ⟨g, hg⟩ l) := by
    rw [broadcastTo_apply _ _ _ (ix2 (0 : Fin 1) l) (by intro b; fin_cases b <;> simp [ix2]),
      extractStridedSlice_apply _ _ _ _ (ix2 (⟨g, hg⟩ : Fin 16) l) (by intro b; fin_cases b <;> simp [ix2])]
  unfold tile
  rw [show ∀ (x : FVec Ideal S128x128 .bf16) h, shapeCast S128x128 x h (ix2 r l) = x (ix2 r l) from fun x h => congrArg x (Shape.reshapeEquiv_self _ _)]
  show ((_ : EReal) - (_ : EReal)) * (_ : EReal) = _
  rw [hq, hz, hs, ← EReal.coe_sub, toInt_sub_codes _ _ (nib_lt _ _) (nib_lt _ _)]
  congr 2
  push_cast
  ring

end Cert.KernelIdeal.Hand
-- ==== Proof.Spec.lean ====
/-
  The base product as a plain sum: what a dequantised weight is, and what the output array holds.
-/
module

public import proofs.«01_k».proof.Proof.KIMath

@[expose] public section

noncomputable section

namespace Cert.Spec

open Idealize.ShloMosaic
open Idealize.ShloMosaic.ValueIdx (ix2)
open Cert.KernelIdeal.Hand (nib inv)

/-- The weight of row `k` and column `c`: the code of the packed word less the zero point's, times the scale of the row's group. -/
def wval (q : (⟨2, ![2048, 1024]⟩ : Shape).Idx → BitVec 32) (z : (⟨2, ![16, 1024]⟩ : Shape).Idx → BitVec 32) (s : (⟨2, ![16, 8192]⟩ : Shape).Idx → EReal)
    (k : Fin 2048) (c : Fin 8192) : EReal :=
  ((((nib (q (ix2 k (⟨c.val / 8, by omega⟩ : Fin 1024))) (inv (c.val % 8))
      - nib (z (ix2 (⟨k.val / 128, by omega⟩ : Fin 16) (⟨c.val / 8, by omega⟩ : Fin 1024))) (inv (c.val % 8))).toInt : ℝ) : EReal)
    * s (ix2 (⟨k.val / 128, by omega⟩ : Fin 16) c))

/-- The base product. -/
def base (x : (⟨2, ![1536, 2048]⟩ : Shape).Idx → EReal) (q : (⟨2, ![2048, 1024]⟩ : Shape).Idx → BitVec 32) (z : (⟨2, ![16, 1024]⟩ : Shape).Idx → BitVec 32)
    (s : (⟨2, ![16, 8192]⟩ : Shape).Idx → EReal) (y : (⟨2, ![1536, 8192]⟩ : Shape).Idx) : EReal :=
  ∑ k : Fin 2048, x (ix2 (y 0) k) * wval q z s k (y 1)

end Cert.Spec
-- ==== Proof.KIValue.lean ====
/-
  The kernel's base product over the extended reals: the blocks the points write back are those of the plain sum.
-/
module

public import proofs.«01_k».proof.Proof.Spec
public import proofs.«01_k».proof.Proof.KIRun
public import Idealize.ShloMosaic.Lib.MatmulPlain
public import Idealize.ShloMosaic.Lib.Pipeline.ValueKit.Geometry

@[expose] public section

set_option maxRecDepth 65536

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx (ix2)
open Idealize.ShloMosaic.Pipeline (Dat)
open Cert.Spec (wval base)

/-- A block's weight, read off the block's words, zero points and scales. -/
theorem wblk_apply (B4 : Vec Ideal S2048x128 .i32) (B5 : Vec Ideal S16x128 .i32) (B6 : Vec Ideal S16x1024 .f32) (r l : ℕ) (hr : r < 2048) (hl : l < 1024) :
    wblk (F := Ideal) B4 B5 B6 r l hr hl
      = ((((nib (B4 (ix2 (⟨r, hr⟩ : Fin 2048) (⟨l / 8, by omega⟩ : Fin 128))) (inv (l % 8))
          - nib (B5 (ix2 (⟨r / 128, by omega⟩ : Fin 16) (⟨l / 8, by omega⟩ : Fin 128))) (inv (l % 8))).toInt : ℝ) : EReal)
        * (B6 (ix2 (⟨r / 128, by omega⟩ : Fin 16) (⟨l, hl⟩ : Fin 1024)) : EReal) : EReal) := by
  have hk : (16 * (l / 128) + r / 128) / 16 < 8 := by omega
  have hg : (16 * (l / 128) + r / 128) % 16 < 16 := Nat.mod_lt _ (by decide)
  have ei : inv (l % 128) = inv (l % 8) := by unfold inv; omega
  unfold wblk tileB
  refine (tile_apply _ _ hk hg _ _ _ _ (⟨r % 128, Nat.mod_lt _ (by decide)⟩ : Fin 128) (⟨l % 128, Nat.mod_lt _ (by decide)⟩ : Fin 128) ⟨r % 128 / 2, by omega⟩ rfl).trans ?_
  refine congrArg₂ (fun a b : EReal => a * b) (congrArg (fun i : ℤ => ((i : ℝ) : EReal)) (congrArg BitVec.toInt (congrArg₂ (fun a b : BitVec 32 => a - b) (congrArg₂ nib ?_ ei) (congrArg₂ nib ?_ ei)))) ?_
  · split
    · rename_i h
      have h : r % 128 % 2 = 0 := h
      show B4 _ = B4 _
      congr 1
      funext d
      match d with
      | ⟨0, _⟩ => exact Fin.ext (show (128 * ((16 * (l / 128) + r / 128) % 16) + 0) + 2 * (r % 128 / 2) = r by omega)
      | ⟨1, _⟩ => exact Fin.ext (show 0 + 1 * (16 * ((16 * (l / 128) + r / 128) / 16) + l % 128 / 8) = l / 8 by omega)
    · rename_i h
      have h : ¬ r % 128 % 2 = 0 := h
      show B4 _ = B4 _
      congr 1
      funext d
      match d with
      | ⟨0, _⟩ => exact Fin.ext (show (128 * ((16 * (l / 128) + r / 128) % 16) + 1) + 2 * (r % 128 / 2) = r by omega)
      | ⟨1, _⟩ => exact Fin.ext (show 0 + 1 * (16 * ((16 * (l / 128) + r / 128) / 16) + l % 128 / 8) = l / 8 by omega)
  · show B5 _ = B5 _
    congr 1
    funext d
    match d with
    | ⟨0, _⟩ => exact Fin.ext (show 0 + 1 * ((16 * (l / 128) + r / 128) % 16) = r / 128 by omega)
    | ⟨1, _⟩ => exact Fin.ext (show 0 + 1 * (16 * ((16 * (l / 128) + r / 128) / 16) + l % 128 / 8) = l / 8 by omega)
  · show B6 _ = B6 _
    congr 1
    funext d
    match d with
    | ⟨0, _⟩ => exact Fin.ext (show 0 + 1 * ((16 * (l / 128) + r / 128) % 16) = r / 128 by omega)
    | ⟨1, _⟩ => exact Fin.ext (show 128 * ((16 * (l / 128) + r / 128) / 16) + 1 * (l % 128) = l by omega)

/-- The product of one block of rows with one block of columns. -/
theorem pay527_apply (x : Vec Ideal S256x2048 .bf16) (w : Vec Ideal S2048x1024 .bf16) (r : Fin 256) (l : Fin 1024) :
    k0_pay527 (F := Ideal) x w (ix2 r l) = (∑ k : Fin 2048, (x (ix2 r k) : EReal) * (w (ix2 k l) : EReal) : EReal) := by
  refine (Ideal.matmul_plain_apply (φ₁ := .bf16) (φ₂ := .bf16) none x w (constant (F := Ideal) S256x1024 .f32 0x00000000#32) r l).trans ?_
  have h0 : (constant (F := Ideal) S256x1024 .f32 0x00000000#32) (ix2 r l) = (0 : EReal) := Ideal.ofBits_zero_f32
  rw [h0]
  exact zero_add _

variable (m : (ℓ : Loc nD τ sig) → Buf (Elt Ideal) ℓ)

theorem index3 : ∀ t : Fin cfg0.N, win0_3.index t = ![min (t.val / 8) 5, 0] := (by decide +kernel : ∀ t : Fin grid0.N, _)
theorem index4 : ∀ t : Fin cfg0.N, win0_4.index t = ![0, min t.val 7] := (by decide +kernel : ∀ t : Fin grid0.N, _)
theorem index5 : ∀ t : Fin cfg0.N, win0_5.index t = ![0, min t.val 7] := (by decide +kernel : ∀ t : Fin grid0.N, _)
theorem index6 : ∀ t : Fin cfg0.N, win0_6.index t = ![0, min t.val 7] := (by decide +kernel : ∀ t : Fin grid0.N, _)
theorem index9 : ∀ t : Fin cfg0.N, win0_9.index t = ![min t.val 47 / 8, min t.val 47 % 8] := (by decide +kernel : ∀ t : Fin grid0.N, _)

theorem iblk3_apply (c : Dev nD) (t : Fin cfg0.N) (r : Fin 256) (k : Fin 2048) :
    iblk m c 3 t (ix2 r k) = V m c main_arg0 (ix2 (⟨256 * min (t.val / 8) 5 + r.val, by omega⟩ : Fin 1536) k) := by
  blk_simp [iblk]
  congr 1
  blk_ext [index3]
  show min (t.val / 8) 5 * 256 + r.val = _
  omega

theorem iblk4_apply (c : Dev nD) (t : Fin cfg0.N) (r : Fin 2048) (l : Fin 128) :
    iblk m c 4 t (ix2 r l) = V m c main_arg1 (ix2 r (⟨128 * min t.val 7 + l.val, by omega⟩ : Fin 1024)) := by
  blk_simp [iblk]
  congr 1
  blk_ext [index4]
  show min t.val 7 * 128 + l.val = _
  omega

theorem iblk5_apply (c : Dev nD) (t : Fin cfg0.N) (r : Fin 16) (l : Fin 128) :
    iblk m c 5 t (ix2 r l) = V m c main_arg2 (ix2 r (⟨128 * min t.val 7 + l.val, by omega⟩ : Fin 1024)) := by
  blk_simp [iblk]
  congr 1
  blk_ext [index5]
  show min t.val 7 * 128 + l.val = _
  omega

theorem iblk6_apply (c : Dev nD) (t : Fin cfg0.N) (r : Fin 16) (l : Fin 1024) :
    iblk m c 6 t (ix2 r l) = V m c main_arg3 (ix2 r (⟨1024 * min t.val 7 + l.val, by omega⟩ : Fin 8192)) := by
  blk_simp [iblk]
  congr 1
  blk_ext [index6]
  show min t.val 7 * 1024 + l.val = _
  omega

/-- The scratch's weights are the plain weights. -/
theorem Wd_apply (c : Dev nD) (k : Fin 2048) (l : Fin 8192) :
    Wd m c (ix2 k l) = wval (V m c main_arg1) (V m c main_arg2) (V m c main_arg3) k l := by
  have hl := l.isLt
  have hk := k.isLt
  have hi : l.val % 1024 % 8 = l.val % 8 := by omega
  show wblk (F := Ideal) (iblk m c 4 (tw l.val l.isLt)) (iblk m c 5 (tw l.val l.isLt)) (iblk m c 6 (tw l.val l.isLt)) k.val (l.val % 1024) k.isLt (Nat.mod_lt _ (by decide)) = _
  refine (wblk_apply _ _ _ k.val (l.val % 1024) k.isLt (Nat.mod_lt _ (by decide))).trans ?_
  refine congrArg₂ (fun a b : EReal => a * b) (congrArg (fun i : ℤ => ((i : ℝ) : EReal)) (congrArg BitVec.toInt (congrArg₂ (fun a b : BitVec 32 => a - b)
    (congrArg₂ nib ?_ (congrArg inv hi)) (congrArg₂ nib ?_ (congrArg inv hi))))) ?_
  · refine (iblk4_apply m c (tw l.val l.isLt) k ⟨l.val % 1024 / 8, by omega⟩).trans (congrArg (V m c main_arg1) (congrArg (ix2 k) (Fin.ext ?_)))
    show 128 * min (l.val / 1024) 7 + l.val % 1024 / 8 = l.val / 8
    omega
  · refine (iblk5_apply m c (tw l.val l.isLt) ⟨k.val / 128, by omega⟩ ⟨l.val % 1024 / 8, by omega⟩).trans (congrArg (V m c main_arg2) (congrArg (ix2 _) (Fin.ext ?_)))
    show 128 * min (l.val / 1024) 7 + l.val % 1024 / 8 = l.val / 8
    omega
  · refine (iblk6_apply m c (tw l.val l.isLt) ⟨k.val / 128, by omega⟩ ⟨l.val % 1024, Nat.mod_lt _ (by decide)⟩).trans (congrArg (V m c main_arg3) (congrArg (ix2 _) (Fin.ext ?_)))
    show 1024 * min (l.val / 1024) 7 + l.val % 1024 = l.val
    omega

/-- A point's block of the product. -/
theorem yblk_apply (c : Dev nD) (t : Fin cfg0.N) (r : Fin 256) (l : Fin 1024) :
    yblk m c t (ix2 r l) = base (V m c main_arg0) (V m c main_arg1) (V m c main_arg2) (V m c main_arg3)
      (ix2 (⟨256 * min (t.val / 8) 5 + r.val, by omega⟩ : Fin 1536) (⟨1024 * (t.val % 8) + l.val, by omega⟩ : Fin 8192)) := by
  unfold yblk
  exact (pay527_apply _ _ r l).trans (Finset.sum_congr rfl fun k _ => congrArg₂ (fun a b : EReal => a * b) (iblk3_apply m c t r k) (Wd_apply m c k _))

/-- The output array at the end of the run is the base product. -/
theorem final_9 (c : Dev nD) :
    (dats m 0 c).arrAt 9 cfg0.N = base (V m c main_arg0) (V m c main_arg1) (V m c main_arg2) (V m c main_arg3) := by
  refine (dats m 0 c).arrAt_eq_of_covers 9 _ (by decide +kernel) fun t hf y => ?_
  have h0 : (y 0).val < 256 := (y 0).isLt
  have h1 : (y 1).val < 1024 := (y 1).isLt
  have ht := t.isLt
  blk_simp
  have ey : y = ix2 (⟨(y 0).val, h0⟩ : Fin 256) (⟨(y 1).val, h1⟩ : Fin 1024) := by
    funext d
    match d with
    | ⟨0, _⟩ => rfl
    | ⟨1, _⟩ => rfl
  show yblk m c ⟨min t.val 47, _⟩ y = _
  rw [ey, yblk_apply]
  congr 1
  blk_ext [index9]

/-- The kernel's result. -/
theorem result_of (r : PUnit × MemSt nD τ sig (Elt Ideal))
    (h : Pipeline.RDat.FramePost (cfgs 0) (fun c => (dats m 0 c).toRForget forgets0) (V m) r) (c : Dev nD) :
    r.2.mem ((c.tc : Thread nD τ).loc main_v1_0)
      = base (m ((c.tc : Thread nD τ).loc main_arg0)) (m ((c.tc : Thread nD τ).loc main_arg1)) (m ((c.tc : Thread nD τ).loc main_arg2)) (m ((c.tc : Thread nD τ).loc main_arg3)) := by
  have e := (((dats m 0 c).toRForget_arrAt_iff (fgt := forgets0) (w := 9) rfl cfg0.N _).mp ((h c).1 9)).trans (final_9 m c)
  rw [V_main_arg0, V_main_arg1, V_main_arg2, V_main_arg3] at e
  exact e

end Cert.KernelIdeal.Hand
-- ==== Proof.RValue.lean ====
/-
  The reference's result over the extended reals is the plain sum.
-/
module

public import proofs.«01_k».proof.Proof.Spec
public import proofs.«01_k».proof.Proof.Gen.ReferenceIdeal.Run
public import Idealize.ShloMosaic.Lib.StackMember
public import Idealize.ShloMosaic.Lib.Pointwise.SelectCore
public import Idealize.ShloMosaic.Lib.Pipeline.Value

@[expose] public section

set_option maxRecDepth 65536

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo
open Cert.Spec (wval base)
open Cert.KernelIdeal.Hand (nib)

/-- A row of each group, repeated over the group's rows. -/
def grp {α : Type} (v : S16x1024.Idx → α) : S2048x1024.Idx → α :=
  shapeCast S2048x1024 (broadcastInDim S16x128x1024 ![0, 2] bcast_S16x1024_S16x128x1024_0_2 v) shapeCasts_S16x128x1024_S2048x1024

theorem grp_apply {α : Type} (v : S16x1024.Idx → α) (k : Fin 2048) (w : Fin 1024) : grp v (ValueIdx.ix2 k w) = v (ValueIdx.ix2 (⟨k.val / 128, by omega⟩ : Fin 16) w) := by
  unfold grp
  refine (shapeCast_apply _ _ (ValueIdx.ix2 k w) (ValueIdx.ix3 (⟨k.val / 128, by omega⟩ : Fin 16) (⟨k.val % 128, Nat.mod_lt _ (by decide)⟩ : Fin 128) w) ?_).trans ?_
  · refine (Shape.rowMajor_val_three (d := ![16, 128, 1024]) _).trans (Eq.trans ?_ (Shape.rowMajor_val_two (d := ![2048, 1024]) _).symm)
    show (k.val / 128 * 128 + k.val % 128) * 1024 + w.val = k.val * 1024 + w.val
    omega
  · refine broadcastInDim_apply _ _ _ _ _ fun a => ?_
    match a with
    | ⟨0, _⟩ => rfl
    | ⟨1, _⟩ => rfl

/-- The codes at one shift of an array of packed words. -/
def codes {S : Shape} (h : (⟨0, ![]⟩ : Shape).BroadcastsInDim S ![]) (v : IVec S 32) (sh : BitVec 32) : IVec S 32 :=
  andi (Host.shrsi v (broadcastInDim S ![] h (constantI S_ 32 sh))) (broadcastInDim S ![] h (constantI S_ 32 15#32))

theorem shr_lit (x : BitVec 32) (t : ℕ) (ht : t < 8) : IntOp.shrsi .host x (BitVec.ofNat 32 (4 * t)) = x.sshiftRight (4 * t) := by
  have e : (BitVec.ofNat 32 (4 * t)).toNat = 4 * t := by
    rw [BitVec.toNat_ofNat]; omega
  unfold IntOp.shrsi
  rw [if_pos (by omega), BitVec.sshiftRight', e]

theorem codes_apply {S : Shape} (h : (⟨0, ![]⟩ : Shape).BroadcastsInDim S ![]) (v : IVec S 32) (t : ℕ) (ht : t < 8) (j : S.Idx) :
    codes h v (BitVec.ofNat 32 (4 * t)) j = nib (v j) t := by
  show IntOp.andi (IntOp.shrsi .host (v j) (BitVec.ofNat 32 (4 * t))) 15#32 = _
  rw [shr_lit _ _ ht]
  rfl

theorem sliced (p : Fin 8) : S16x8192.SlicesBy (![0, p.val] : Fin 2 → ℕ) ![1, 8] S16x1024 := by
  match p with
  | 0 => exact slicesBy_S16x8192_S16x1024_0s1_0s8
  | 1 => exact slicesBy_S16x8192_S16x1024_0s1_1s8
  | 2 => exact slicesBy_S16x8192_S16x1024_0s1_2s8
  | 3 => exact slicesBy_S16x8192_S16x1024_0s1_3s8
  | 4 => exact slicesBy_S16x8192_S16x1024_0s1_4s8
  | 5 => exact slicesBy_S16x8192_S16x1024_0s1_5s8
  | 6 => exact slicesBy_S16x8192_S16x1024_0s1_6s8
  | 7 => exact slicesBy_S16x8192_S16x1024_0s1_7s8

/-- The weights of the columns 8 w + p. -/
def wcols (q : IVec S2048x1024 32) (z : IVec S16x1024 32) (s : FVec Ideal S16x8192 .f32) (p : Fin 8) : FVec Ideal S2048x1024 .bf16 :=
  truncf .bf16 (mulf (sitofp .f32 (subi (codes bcast_S_S2048x1024 q (BitVec.ofNat 32 (4 * Cert.KernelIdeal.Hand.inv p.val))) (grp (codes bcast_S_S16x1024 z (BitVec.ofNat 32 (4 * Cert.KernelIdeal.Hand.inv p.val))))))
    (grp (Host.slice S16x1024 ![0, p.val] ![1, 8] s (sliced p)))) bitsLt_bf16_f32

theorem inv_lt8 (p : ℕ) : Cert.KernelIdeal.Hand.inv p < 8 := by unfold Cert.KernelIdeal.Hand.inv; omega

theorem wcols_apply (q : IVec S2048x1024 32) (z : IVec S16x1024 32) (s : FVec Ideal S16x8192 .f32) (k : Fin 2048) (c : Fin 8192) :
    wcols q z s ⟨c.val % 8, Nat.mod_lt _ (by decide)⟩ (ValueIdx.ix2 k (⟨c.val / 8, by omega⟩ : Fin 1024)) = wval q z s k c := by
  show (((((codes bcast_S_S2048x1024 q (BitVec.ofNat 32 (4 * Cert.KernelIdeal.Hand.inv (c.val % 8))) (ValueIdx.ix2 k (⟨c.val / 8, by omega⟩ : Fin 1024)))
    - (grp (codes bcast_S_S16x1024 z (BitVec.ofNat 32 (4 * Cert.KernelIdeal.Hand.inv (c.val % 8)))) (ValueIdx.ix2 k (⟨c.val / 8, by omega⟩ : Fin 1024)))).toInt : ℝ) : EReal)
    * (grp (Host.slice S16x1024 ![0, c.val % 8] ![1, 8] s (sliced ⟨c.val % 8, Nat.mod_lt _ (by decide)⟩)) (ValueIdx.ix2 k (⟨c.val / 8, by omega⟩ : Fin 1024))) : EReal) = _
  rw [grp_apply, grp_apply, codes_apply _ _ _ (inv_lt8 _), codes_apply _ _ _ (inv_lt8 _)]
  refine congrArg (fun b : EReal => _ * b) ?_
  show s _ = s _
  congr 1
  funext d
  match d with
  | ⟨0, _⟩ => exact Fin.ext (show 0 + 1 * (k.val / 128) = k.val / 128 by omega)
  | ⟨1, _⟩ => exact Fin.ext (show c.val % 8 + 8 * (c.val / 8) = c.val by omega)

/-- The products of the columns 8 w + p. -/
def ycols (x : FVec Ideal S1536x2048 .bf16) (q : IVec S2048x1024 32) (z : IVec S16x1024 32) (s : FVec Ideal S16x8192 .f32) (p : Fin 8) : FVec Ideal S1536x1024x1 .f32 :=
  broadcastInDim S1536x1024x1 ![0, 1] bcast_S1536x1024_S1536x1024x1_0_1
    (Host.dotGeneral dot_S1536x2048_S2048x1024_S1536x1024_1_0_0_1_n_n none x (wcols q z s p))

theorem ycols_apply (x : FVec Ideal S1536x2048 .bf16) (q : IVec S2048x1024 32) (z : IVec S16x1024 32) (s : FVec Ideal S16x8192 .f32) (r : Fin 1536) (c : Fin 8192)
    (j : S1536x1024x1.Idx) (h0 : (j 0).val = r.val) (h1 : (j 1).val = c.val / 8) :
    ycols x q z s ⟨c.val % 8, Nat.mod_lt _ (by decide)⟩ j = base x q z s (ValueIdx.ix2 r c) := by
  unfold ycols
  refine (broadcastInDim_apply _ _ _ j (ValueIdx.ix2 r (⟨c.val / 8, by omega⟩ : Fin 1024)) fun a => ?_).trans ?_
  · match a with
    | ⟨0, _⟩ => exact h0.symm
    | ⟨1, _⟩ => exact h1.symm
  · refine (StackMember.dotGeneral_plain_apply (φ₁ := .bf16) (φ₂ := .bf16) none x (wcols q z s ⟨c.val % 8, Nat.mod_lt _ (by decide)⟩) r (⟨c.val / 8, by omega⟩ : Fin 1024)).trans ?_
    exact Finset.sum_congr rfl fun k _ => congrArg (fun b : EReal => x (ValueIdx.ix2 r k) * b) (wcols_apply q z s k c)

/-- Eight columns side by side, read at an index. -/
theorem cat_apply (f : Fin 8 → S1536x1024x1.Idx → EReal)
    (h : Shape.Concatenates ((List.ofFn fun p : Fin 8 => (⟨S1536x1024x1, f p⟩ : (s : Shape) × (s.Idx → EReal))).map (·.1)) S1536x1024x8 2) (r : Fin 1536) (w : Fin 1024) (p : Fin 8) :
    ∃ j : S1536x1024x1.Idx, (j 0).val = r.val ∧ (j 1).val = w.val ∧
      concatenate S1536x1024x8 2 (List.ofFn fun p : Fin 8 => (⟨S1536x1024x1, f p⟩ : (s : Shape) × (s.Idx → EReal))) h (ValueIdx.ix3 r w p) = f p j :=
  ⟨_, rfl, rfl, concatenate_ofFn_unit_apply' (2 : Fin S1536x1024x8.rank) f h rfl (ValueIdx.ix3 r w p)⟩

theorem res_eq (V0 : Valuation τ sig (Elt Ideal)) (r : Fin 1536) (c : Fin 8192) :
    res_main_v152 V0 (ValueIdx.ix3 r (⟨c.val / 8, by omega⟩ : Fin 1024) (⟨c.val % 8, Nat.mod_lt _ (by decide)⟩ : Fin 8))
      = base (V0 (Proc.devRef .tc main_arg0)) (V0 (Proc.devRef .tc main_arg1)) (V0 (Proc.devRef .tc main_arg2)) (V0 (Proc.devRef .tc main_arg3)) (ValueIdx.ix2 r c) := by
  have e : res_main_v152 V0 = concatenate S1536x1024x8 2 (List.ofFn fun p : Fin 8 => (⟨S1536x1024x1, ycols (V0 (Proc.devRef .tc main_arg0)) (V0 (Proc.devRef .tc main_arg1)) (V0 (Proc.devRef .tc main_arg2)) (V0 (Proc.devRef .tc main_arg3)) p⟩ : (s : Shape) × (s.Idx → EReal)))
      concatenates_S1536x1024x1_S1536x1024x1_S1536x1024x1_S1536x1024x1_S1536x1024x1_S1536x1024x1_S1536x1024x1_S1536x1024x1_S1536x1024x8_d2 := rfl
  rw [e]
  obtain ⟨j, h0, h1, hj⟩ := cat_apply (fun p => ycols (V0 (Proc.devRef .tc main_arg0)) (V0 (Proc.devRef .tc main_arg1)) (V0 (Proc.devRef .tc main_arg2)) (V0 (Proc.devRef .tc main_arg3)) p)
    concatenates_S1536x1024x1_S1536x1024x1_S1536x1024x1_S1536x1024x1_S1536x1024x1_S1536x1024x1_S1536x1024x1_S1536x1024x1_S1536x1024x8_d2 r (⟨c.val / 8, by omega⟩ : Fin 1024) (⟨c.val % 8, Nat.mod_lt _ (by decide)⟩ : Fin 8)
  exact hj.trans (ycols_apply _ _ _ _ r c j h0 h1)

/-- The reference's result. -/
theorem result_eq (V0 : Valuation τ sig (Elt Ideal)) :
    truncf .bf16 (shapeCast S1536x8192 (res_main_v152 V0) shapeCasts_S1536x1024x8_S1536x8192) bitsLt_bf16_f32
      = base (V0 (Proc.devRef .tc main_arg0)) (V0 (Proc.devRef .tc main_arg1)) (V0 (Proc.devRef .tc main_arg2)) (V0 (Proc.devRef .tc main_arg3)) := by
  funext y
  have ey : y = ValueIdx.ix2 (y 0 : Fin 1536) (y 1 : Fin 8192) := by
    funext d
    match d with
    | ⟨0, _⟩ => rfl
    | ⟨1, _⟩ => rfl
  show shapeCast S1536x8192 (res_main_v152 V0) shapeCasts_S1536x1024x8_S1536x8192 y = _
  have h1 : (y 1).val < 8192 := (y 1).isLt
  rw [ey]
  refine (shapeCast_apply _ _ (ValueIdx.ix2 (y 0 : Fin 1536) (y 1 : Fin 8192)) (ValueIdx.ix3 (y 0 : Fin 1536) (⟨(y 1).val / 8, by omega⟩ : Fin 1024) (⟨(y 1).val % 8, Nat.mod_lt _ (by decide)⟩ : Fin 8)) ?_).trans (res_eq V0 (y 0) (y 1))
  refine (Shape.rowMajor_val_three (d := ![1536, 1024, 8]) _).trans (Eq.trans ?_ (Shape.rowMajor_val_two (d := ![1536, 8192]) _).symm)
  show ((y 0).val * 1024 + (y 1).val / 8) * 8 + (y 1).val % 8 = (y 0).val * 8192 + (y 1).val
  omega

end Cert.ReferenceIdeal.Hand
-- ==== Proof.lean ====
/- The proof of the claims: the frames of the three programs, and that the kernel's base product is the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_pre
public import proofs.«01_k».proof.Proof.Pre
public import proofs.«01_k».proof.Proof.KFrame
public import proofs.«01_k».proof.Proof.KIFrame
public import proofs.«01_k».proof.Proof.KIValue
public import proofs.«01_k».proof.Proof.RValue
public import Idealize.ShloMosaic.Adequacy
public import Idealize.ShloMosaic.Init

@[expose] public section

set_option maxRecDepth 65536

noncomputable section

namespace Cert.Proof

open Idealize.ShloMosaic Idealize.ShloMosaic.TcCoe Idealize.SL.Sem

/-- The kernel's run over machine floats. -/
theorem kernel_adapters (m : (ℓ : Loc Cert.Kernel.nD Cert.Kernel.τ Cert.Kernel.sig) → Buf (Elt Bits) ℓ) (h : Cert.Pre_Kernel m) (c : Dev Cert.Kernel.nD) (x) :
    (show BitVec 32 from Cert.Kernel.Gen.V m c Cert.Kernel.main_arg10 x).toInt < (24 : ℕ) := by
  rw [Cert.Kernel.Gen.V_main_arg10 m c]
  exact lt_of_pre _ _ _ _ _ _ _ _ _ _ _ _ (congrFun (h c) (fun a => absurd a.isLt (Nat.not_lt_zero _))) x

/-- The kernel's run over the extended reals. -/
theorem kernelIdeal_adapters (m : (ℓ : Loc Cert.KernelIdeal.nD Cert.KernelIdeal.τ Cert.KernelIdeal.sig) → Buf (Elt Ideal) ℓ) (h : Cert.Pre_KernelIdeal m) (c : Dev Cert.KernelIdeal.nD) (x) :
    (show BitVec 32 from Cert.KernelIdeal.Gen.V m c Cert.KernelIdeal.main_arg10 x).toInt < (24 : ℕ) := by
  rw [Cert.KernelIdeal.Gen.V_main_arg10 m c]
  exact lt_of_pre _ _ _ _ _ _ _ _ _ _ _ _ (congrFun (h c) (fun a => absurd a.isLt (Nat.not_lt_zero _))) x

/-- The reference's result, of arguments that are the kernel's, is the plain sum of the kernel's arguments. -/
theorem reference_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (c : Dev Cert.ReferenceIdeal.nD) :
    truncf .bf16 (shapeCast Cert.ReferenceIdeal.S1536x8192 (Cert.ReferenceIdeal.Value.res_main_v152 (StableHlo.launchContents m' c)) Cert.ReferenceIdeal.Gen.facts.shapeCasts_S1536x1024x8_S1536x8192) Cert.ReferenceIdeal.Gen.facts.bitsLt_bf16_f32
      = Cert.Spec.base (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  obtain ⟨h0, h1, h2, h3, _⟩ := hagree c
  rw [← h0, ← h1, ← h2, ← h3]
  exact Cert.ReferenceIdeal.Hand.result_eq (StableHlo.launchContents m' c)

theorem claim : Cert.Claim := ⟨Cert.Kernel.Gen.facts, Cert.KernelIdeal.Gen.facts, Cert.ReferenceIdeal.Gen.facts, Cert.Pre_pre.Gen.facts,
  fun m g h => (θ_run _ _ _).mono (fun r hr => ⟨fun c => Cert.Kernel.Hand.args_of m r hr.1 c, hr.2⟩) (Cert.Kernel.Hand.run_main m g (kernel_adapters m h)),
  fun m g h => (θ_run _ _ _).mono (fun r hr => ⟨fun c => Cert.KernelIdeal.Hand.args_of m r hr.1 c, hr.2⟩) (Cert.KernelIdeal.Hand.run_main m g (kernelIdeal_adapters m h)),
  fun m g _ => (θ_run _ _ _).mono (fun r hr => ⟨fun c => (hr c).2, Idealize.ShloMosaic.sem_eq_zero_of_no_sems (by decide) r.2⟩) (Cert.ReferenceIdeal.Value.run (F := Ideal) m g),
  trivial,
  fun m g m' g' h hagree => ⟨fun c => Cert.Spec.base (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    (θ_run _ _ _).mono (fun r hr c => ⟨Cert.KernelIdeal.Hand.result_of m r hr.1 c, Cert.KernelIdeal.Hand.args_of m r hr.1 c⟩) (Cert.KernelIdeal.Hand.run_main m g (kernelIdeal_adapters m h)),
    (θ_run _ _ _).mono (fun r hr c => ⟨(hr c).1.trans (reference_result m m' hagree c), (hr c).2⟩) (Cert.ReferenceIdeal.Value.run (F := Ideal) m' g')⟩⟩

end Cert.Proof

end
